-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x280 : Shape := ⟨3, ![8, 4096, 280]⟩
abbrev S3x1120x280 : Shape := ⟨3, ![3, 1120, 280]⟩
abbrev S3x560x4 : Shape := ⟨3, ![3, 560, 4]⟩
abbrev S3x560 : Shape := ⟨2, ![3, 560]⟩
abbrev S3x50x560 : Shape := ⟨3, ![3, 50, 560]⟩
abbrev S3x560x18 : Shape := ⟨3, ![3, 560, 18]⟩
abbrev S3x560x16 : Shape := ⟨3, ![3, 560, 16]⟩
abbrev S3x280x560 : Shape := ⟨3, ![3, 280, 560]⟩
abbrev S1x1120x280 : Shape := ⟨3, ![1, 1120, 280]⟩
abbrev S1120x280 : Shape := ⟨2, ![1120, 280]⟩
abbrev S1x560x4 : Shape := ⟨3, ![1, 560, 4]⟩
abbrev S560x4 : Shape := ⟨2, ![560, 4]⟩
abbrev S1x560 : Shape := ⟨2, ![1, 560]⟩
abbrev S560 : Shape := ⟨1, ![560]⟩
abbrev S1x50x560 : Shape := ⟨3, ![1, 50, 560]⟩
abbrev S50x560 : Shape := ⟨2, ![50, 560]⟩
abbrev S1x560x18 : Shape := ⟨3, ![1, 560, 18]⟩
abbrev S560x18 : Shape := ⟨2, ![560, 18]⟩
abbrev S280x1120 : Shape := ⟨2, ![280, 1120]⟩
abbrev S560x50 : Shape := ⟨2, ![560, 50]⟩
abbrev S18x560 : Shape := ⟨2, ![18, 560]⟩
abbrev S8x4096x560 : Shape := ⟨3, ![8, 4096, 560]⟩
abbrev S8x4096x32 : Shape := ⟨3, ![8, 4096, 32]⟩
abbrev S1x560x16 : Shape := ⟨3, ![1, 560, 16]⟩
abbrev S560x16 : Shape := ⟨2, ![560, 16]⟩
abbrev S1x280x560 : Shape := ⟨3, ![1, 280, 560]⟩
abbrev S280x560 : Shape := ⟨2, ![280, 560]⟩
abbrev S16x560 : Shape := ⟨2, ![16, 560]⟩
abbrev S560x280 : Shape := ⟨2, ![560, 280]⟩
abbrev S1x512x280 : Shape := ⟨3, ![1, 512, 280]⟩
abbrev S1x512x560 : Shape := ⟨3, ![1, 512, 560]⟩
abbrev S1x512x32 : Shape := ⟨3, ![1, 512, 32]⟩
abbrev S520x560 : Shape := ⟨2, ![520, 560]⟩
abbrev S512x280 : Shape := ⟨2, ![512, 280]⟩
abbrev S512x1120 : Shape := ⟨2, ![512, 1120]⟩
abbrev S512x560 : Shape := ⟨2, ![512, 560]⟩
abbrev S8x560 : Shape := ⟨2, ![8, 560]⟩
abbrev S560x1 : Shape := ⟨2, ![560, 1]⟩
abbrev S512x50 : Shape := ⟨2, ![512, 50]⟩
abbrev S512x32 : Shape := ⟨2, ![512, 32]⟩
abbrev S512x18 : Shape := ⟨2, ![512, 18]⟩
abbrev S1x128x560 : Shape := ⟨3, ![1, 128, 560]⟩
abbrev S1x128x32 : Shape := ⟨3, ![1, 128, 32]⟩
abbrev S1x128x280 : Shape := ⟨3, ![1, 128, 280]⟩
abbrev S128x16x560 : Shape := ⟨3, ![128, 16, 560]⟩
abbrev S128x560 : Shape := ⟨2, ![128, 560]⟩
abbrev S128x32 : Shape := ⟨2, ![128, 32]⟩
abbrev S128x1x560 : Shape := ⟨3, ![128, 1, 560]⟩
abbrev S1x16x560 : Shape := ⟨3, ![1, 16, 560]⟩
abbrev S128x16 : Shape := ⟨2, ![128, 16]⟩
abbrev S128x16x1 : Shape := ⟨3, ![128, 16, 1]⟩
abbrev S16x2048 : Shape := ⟨2, ![16, 2048]⟩
abbrev S128x2048 : Shape := ⟨2, ![128, 2048]⟩
abbrev S2048x560 : Shape := ⟨2, ![2048, 560]⟩
abbrev S128x280 : Shape := ⟨2, ![128, 280]⟩

abbrev nBuf : Space → Nat
  | .hbm => 103
  | .vmem => 102
  | .smem => 0
  | _ => 0

abbrev bufTy : (tb : Table) → Fin (tcTables nBuf tb) → BufTy
  | .hbm, ⟨0, _⟩ => ⟨S8x4096x280, .f32⟩
  | .hbm, ⟨1, _⟩ => ⟨S3x1120x280, .f32⟩
  | .hbm, ⟨2, _⟩ => ⟨S3x560x4, .f32⟩
  | .hbm, ⟨3, _⟩ => ⟨S3x560, .f32⟩
  | .hbm, ⟨4, _⟩ => ⟨S3x50x560, .f32⟩
  | .hbm, ⟨5, _⟩ => ⟨S3x560x18, .f32⟩
  | .hbm, ⟨6, _⟩ => ⟨S3x560, .f32⟩
  | .hbm, ⟨7, _⟩ => ⟨S3x560x16, .f32⟩
  | .hbm, ⟨8, _⟩ => ⟨S3x560, .f32⟩
  | .hbm, ⟨9, _⟩ => ⟨S3x280x560, .f32⟩
  | .hbm, ⟨10, _⟩ => ⟨S1x1120x280, .f32⟩
  | .hbm, ⟨11, _⟩ => ⟨S1120x280, .f32⟩
  | .hbm, ⟨12, _⟩ => ⟨S1x560x4, .f32⟩
  | .hbm, ⟨13, _⟩ => ⟨S560x4, .f32⟩
  | .hbm, ⟨14, _⟩ => ⟨S1x560, .f32⟩
  | .hbm, ⟨15, _⟩ => ⟨S560, .f32⟩
  | .hbm, ⟨16, _⟩ => ⟨S1x50x560, .f32⟩
  | .hbm, ⟨17, _⟩ => ⟨S50x560, .f32⟩
  | .hbm, ⟨18, _⟩ => ⟨S1x560x18, .f32⟩
  | .hbm, ⟨19, _⟩ => ⟨S560x18, .f32⟩
  | .hbm, ⟨20, _⟩ => ⟨S1x560, .f32⟩
  | .hbm, ⟨21, _⟩ => ⟨S560, .f32⟩
  | .hbm, ⟨22, _⟩ => ⟨S280x1120, .f32⟩
  | .hbm, ⟨23, _⟩ => ⟨S1x560, .f32⟩
  | .hbm, ⟨24, _⟩ => ⟨S560x50, .f32⟩
  | .hbm, ⟨25, _⟩ => ⟨S18x560, .f32⟩
  | .hbm, ⟨26, _⟩ => ⟨S1x560, .f32⟩
  | .hbm, ⟨27, _⟩ => ⟨S8x4096x560, .f32⟩
  | .hbm, ⟨28, _⟩ => ⟨S8x4096x560, .f32⟩
  | .hbm, ⟨29, _⟩ => ⟨S8x4096x560, .f32⟩
  | .hbm, ⟨30, _⟩ => ⟨S8x4096x32, .f32⟩
  | .hbm, ⟨31, _⟩ => ⟨S1x560x16, .f32⟩
  | .hbm, ⟨32, _⟩ => ⟨S560x16, .f32⟩
  | .hbm, ⟨33, _⟩ => ⟨S1x560, .f32⟩
  | .hbm, ⟨34, _⟩ => ⟨S560, .f32⟩
  | .hbm, ⟨35, _⟩ => ⟨S1x280x560, .f32⟩
  | .hbm, ⟨36, _⟩ => ⟨S280x560, .f32⟩
  | .hbm, ⟨37, _⟩ => ⟨S16x560, .f32⟩
  | .hbm, ⟨38, _⟩ => ⟨S1x560, .f32⟩
  | .hbm, ⟨39, _⟩ => ⟨S560x280, .f32⟩
  | .hbm, ⟨40, _⟩ => ⟨S8x4096x280, .f32⟩
  | .hbm, ⟨41, _⟩ => ⟨S1x1120x280, .f32⟩
  | .hbm, ⟨42, _⟩ => ⟨S1120x280, .f32⟩
  | .hbm, ⟨43, _⟩ => ⟨S1x560x4, .f32⟩
  | .hbm, ⟨44, _⟩ => ⟨S560x4, .f32⟩
  | .hbm, ⟨45, _⟩ => ⟨S1x560, .f32⟩
  | .hbm, ⟨46, _⟩ => ⟨S560, .f32⟩
  | .hbm, ⟨47, _⟩ => ⟨S1x50x560, .f32⟩
  | .hbm, ⟨48, _⟩ => ⟨S50x560, .f32⟩
  | .hbm, ⟨49, _⟩ => ⟨S1x560x18, .f32⟩
  | .hbm, ⟨50, _⟩ => ⟨S560x18, .f32⟩
  | .hbm, ⟨51, _⟩ => ⟨S1x560, .f32⟩
  | .hbm, ⟨52, _⟩ => ⟨S560, .f32⟩
  | .hbm, ⟨53, _⟩ => ⟨S280x1120, .f32⟩
  | .hbm, ⟨54, _⟩ => ⟨S1x560, .f32⟩
  | .hbm, ⟨55, _⟩ => ⟨S560x50, .f32⟩
  | .hbm, ⟨56, _⟩ => ⟨S18x560, .f32⟩
  | .hbm, ⟨57, _⟩ => ⟨S1x560, .f32⟩
  | .hbm, ⟨58, _⟩ => ⟨S8x4096x560, .f32⟩
  | .hbm, ⟨59, _⟩ => ⟨S8x4096x560, .f32⟩
  | .hbm, ⟨60, _⟩ => ⟨S8x4096x560, .f32⟩
  | .hbm, ⟨61, _⟩ => ⟨S8x4096x32, .f32⟩
  | .hbm, ⟨62, _⟩ => ⟨S1x560x16, .f32⟩
  | .hbm, ⟨63, _⟩ => ⟨S560x16, .f32⟩
  | .hbm, ⟨64, _⟩ => ⟨S1x560, .f32⟩
  | .hbm, ⟨65, _⟩ => ⟨S560, .f32⟩
  | .hbm, ⟨66, _⟩ => ⟨S1x280x560, .f32⟩
  | .hbm, ⟨67, _⟩ => ⟨S280x560, .f32⟩
  | .hbm, ⟨68, _⟩ => ⟨S16x560, .f32⟩
  | .hbm, ⟨69, _⟩ => ⟨S1x560, .f32⟩
  | .hbm, ⟨70, _⟩ => ⟨S560x280, .f32⟩
  | .hbm, ⟨71, _⟩ => ⟨S8x4096x280, .f32⟩
  | .hbm, ⟨72, _⟩ => ⟨S1x1120x280, .f32⟩
  | .hbm, ⟨73, _⟩ => ⟨S1120x280, .f32⟩
  | .hbm, ⟨74, _⟩ => ⟨S1x560x4, .f32⟩
  | .hbm, ⟨75, _⟩ => ⟨S560x4, .f32⟩
  | .hbm, ⟨76, _⟩ => ⟨S1x560, .f32⟩
  | .hbm, ⟨77, _⟩ => ⟨S560, .f32⟩
  | .hbm, ⟨78, _⟩ => ⟨S1x50x560, .f32⟩
  | .hbm, ⟨79, _⟩ => ⟨S50x560, .f32⟩
  | .hbm, ⟨80, _⟩ => ⟨S1x560x18, .f32⟩
  | .hbm, ⟨81, _⟩ => ⟨S560x18, .f32⟩
  | .hbm, ⟨82, _⟩ => ⟨S1x560, .f32⟩
  | .hbm, ⟨83, _⟩ => ⟨S560, .f32⟩
  | .hbm, ⟨84, _⟩ => ⟨S280x1120, .f32⟩
  | .hbm, ⟨85, _⟩ => ⟨S1x560, .f32⟩
  | .hbm, ⟨86, _⟩ => ⟨S560x50, .f32⟩
  | .hbm, ⟨87, _⟩ => ⟨S18x560, .f32⟩
  | .hbm, ⟨88, _⟩ => ⟨S1x560, .f32⟩
  | .hbm, ⟨89, _⟩ => ⟨S8x4096x560, .f32⟩
  | .hbm, ⟨90, _⟩ => ⟨S8x4096x560, .f32⟩
  | .hbm, ⟨91, _⟩ => ⟨S8x4096x560, .f32⟩
  | .hbm, ⟨92, _⟩ => ⟨S8x4096x32, .f32⟩
  | .hbm, ⟨93, _⟩ => ⟨S1x560x16, .f32⟩
  | .hbm, ⟨94, _⟩ => ⟨S560x16, .f32⟩
  | .hbm, ⟨95, _⟩ => ⟨S1x560, .f32⟩
  | .hbm, ⟨96, _⟩ => ⟨S560, .f32⟩
  | .hbm, ⟨97, _⟩ => ⟨S1x280x560, .f32⟩
  | .hbm, ⟨98, _⟩ => ⟨S280x560, .f32⟩
  | .hbm, ⟨99, _⟩ => ⟨S16x560, .f32⟩
  | .hbm, ⟨100, _⟩ => ⟨S1x560, .f32⟩
  | .hbm, ⟨101, _⟩ => ⟨S560x280, .f32⟩
  | .hbm, ⟨102, _⟩ => ⟨S8x4096x280, .f32⟩
  | .local _ .vmem, ⟨0, _⟩ => ⟨S1x512x280, .f32⟩
  | .local _ .vmem, ⟨1, _⟩ => ⟨S1x512x280, .f32⟩
  | .local _ .vmem, ⟨2, _⟩ => ⟨S280x1120, .f32⟩
  | .local _ .vmem, ⟨3, _⟩ => ⟨S560x4, .f32⟩
  | .local _ .vmem, ⟨4, _⟩ => ⟨S1x560, .f32⟩
  | .local _ .vmem, ⟨5, _⟩ => ⟨S560x50, .f32⟩
  | .local _ .vmem, ⟨6, _⟩ => ⟨S18x560, .f32⟩
  | .local _ .vmem, ⟨7, _⟩ => ⟨S1x560, .f32⟩
  | .local _ .vmem, ⟨8, _⟩ => ⟨S1x512x560, .f32⟩
  | .local _ .vmem, ⟨9, _⟩ => ⟨S1x512x560, .f32⟩
  | .local _ .vmem, ⟨10, _⟩ => ⟨S1x512x560, .f32⟩
  | .local _ .vmem, ⟨11, _⟩ => ⟨S1x512x560, .f32⟩
  | .local _ .vmem, ⟨12, _⟩ => ⟨S1x512x560, .f32⟩
  | .local _ .vmem, ⟨13, _⟩ => ⟨S1x512x560, .f32⟩
  | .local _ .vmem, ⟨14, _⟩ => ⟨S1x512x32, .f32⟩
  | .local _ .vmem, ⟨15, _⟩ => ⟨S1x512x32, .f32⟩
  | .local _ .vmem, ⟨16, _⟩ => ⟨S520x560, .f32⟩
  | .local _ .vmem, ⟨17, _⟩ => ⟨S1x128x560, .f32⟩
  | .local _ .vmem, ⟨18, _⟩ => ⟨S1x128x560, .f32⟩
  | .local _ .vmem, ⟨19, _⟩ => ⟨S1x128x560, .f32⟩
  | .local _ .vmem, ⟨20, _⟩ => ⟨S1x128x560, .f32⟩
  | .local _ .vmem, ⟨21, _⟩ => ⟨S1x128x560, .f32⟩
  | .local _ .vmem, ⟨22, _⟩ => ⟨S1x128x560, .f32⟩
  | .local _ .vmem, ⟨23, _⟩ => ⟨S1x128x32, .f32⟩
  | .local _ .vmem, ⟨24, _⟩ => ⟨S1x128x32, .f32⟩
  | .local _ .vmem, ⟨25, _⟩ => ⟨S16x560, .f32⟩
  | .local _ .vmem, ⟨26, _⟩ => ⟨S1x560, .f32⟩
  | .local _ .vmem, ⟨27, _⟩ => ⟨S560x280, .f32⟩
  | .local _ .vmem, ⟨28, _⟩ => ⟨S1x128x280, .f32⟩
  | .local _ .vmem, ⟨29, _⟩ => ⟨S1x128x280, .f32⟩
  | .local _ .vmem, ⟨30, _⟩ => ⟨S16x560, .f32⟩
  | .local _ .vmem, ⟨31, _⟩ => ⟨S128x16x560, .f32⟩
  | .local _ .vmem, ⟨32, _⟩ => ⟨S128x16x560, .f32⟩
  | .local _ .vmem, ⟨33, _⟩ => ⟨S128x16x560, .f32⟩
  | .local _ .vmem, ⟨34, _⟩ => ⟨S1x512x280, .f32⟩
  | .local _ .vmem, ⟨35, _⟩ => ⟨S1x512x280, .f32⟩
  | .local _ .vmem, ⟨36, _⟩ => ⟨S280x1120, .f32⟩
  | .local _ .vmem, ⟨37, _⟩ => ⟨S560x4, .f32⟩
  | .local _ .vmem, ⟨38, _⟩ => ⟨S1x560, .f32⟩
  | .local _ .vmem, ⟨39, _⟩ => ⟨S560x50, .f32⟩
  | .local _ .vmem, ⟨40, _⟩ => ⟨S18x560, .f32⟩
  | .local _ .vmem, ⟨41, _⟩ => ⟨S1x560, .f32⟩
  | .local _ .vmem, ⟨42, _⟩ => ⟨S1x512x560, .f32⟩
  | .local _ .vmem, ⟨43, _⟩ => ⟨S1x512x560, .f32⟩
  | .local _ .vmem, ⟨44, _⟩ => ⟨S1x512x560, .f32⟩
  | .local _ .vmem, ⟨45, _⟩ => ⟨S1x512x560, .f32⟩
  | .local _ .vmem, ⟨46, _⟩ => ⟨S1x512x560, .f32⟩
  | .local _ .vmem, ⟨47, _⟩ => ⟨S1x512x560, .f32⟩
  | .local _ .vmem, ⟨48, _⟩ => ⟨S1x512x32, .f32⟩
  | .local _ .vmem, ⟨49, _⟩ => ⟨S1x512x32, .f32⟩
  | .local _ .vmem, ⟨50, _⟩ => ⟨S520x560, .f32⟩
  | .local _ .vmem, ⟨51, _⟩ => ⟨S1x128x560, .f32⟩
  | .local _ .vmem, ⟨52, _⟩ => ⟨S1x128x560, .f32⟩
  | .local _ .vmem, ⟨53, _⟩ => ⟨S1x128x560, .f32⟩
  | .local _ .vmem, ⟨54, _⟩ => ⟨S1x128x560, .f32⟩
  | .local _ .vmem, ⟨55, _⟩ => ⟨S1x128x560, .f32⟩
  | .local _ .vmem, ⟨56, _⟩ => ⟨S1x128x560, .f32⟩
  | .local _ .vmem, ⟨57, _⟩ => ⟨S1x128x32, .f32⟩
  | .local _ .vmem, ⟨58, _⟩ => ⟨S1x128x32, .f32⟩
  | .local _ .vmem, ⟨59, _⟩ => ⟨S16x560, .f32⟩
  | .local _ .vmem, ⟨60, _⟩ => ⟨S1x560, .f32⟩
  | .local _ .vmem, ⟨61, _⟩ => ⟨S560x280, .f32⟩
  | .local _ .vmem, ⟨62, _⟩ => ⟨S1x128x280, .f32⟩
  | .local _ .vmem, ⟨63, _⟩ => ⟨S1x128x280, .f32⟩
  | .local _ .vmem, ⟨64, _⟩ => ⟨S16x560, .f32⟩
  | .local _ .vmem, ⟨65, _⟩ => ⟨S128x16x560, .f32⟩
  | .local _ .vmem, ⟨66, _⟩ => ⟨S128x16x560, .f32⟩
  | .local _ .vmem, ⟨67, _⟩ => ⟨S128x16x560, .f32⟩
  | .local _ .vmem, ⟨68, _⟩ => ⟨S1x512x280, .f32⟩
  | .local _ .vmem, ⟨69, _⟩ => ⟨S1x512x280, .f32⟩
  | .local _ .vmem, ⟨70, _⟩ => ⟨S280x1120, .f32⟩
  | .local _ .vmem, ⟨71, _⟩ => ⟨S560x4, .f32⟩
  | .local _ .vmem, ⟨72, _⟩ => ⟨S1x560, .f32⟩
  | .local _ .vmem, ⟨73, _⟩ => ⟨S560x50, .f32⟩
  | .local _ .vmem, ⟨74, _⟩ => ⟨S18x560, .f32⟩
  | .local _ .vmem, ⟨75, _⟩ => ⟨S1x560, .f32⟩
  | .local _ .vmem, ⟨76, _⟩ => ⟨S1x512x560, .f32⟩
  | .local _ .vmem, ⟨77, _⟩ => ⟨S1x512x560, .f32⟩
  | .local _ .vmem, ⟨78, _⟩ => ⟨S1x512x560, .f32⟩
  | .local _ .vmem, ⟨79, _⟩ => ⟨S1x512x560, .f32⟩
  | .local _ .vmem, ⟨80, _⟩ => ⟨S1x512x560, .f32⟩
  | .local _ .vmem, ⟨81, _⟩ => ⟨S1x512x560, .f32⟩
  | .local _ .vmem, ⟨82, _⟩ => ⟨S1x512x32, .f32⟩
  | .local _ .vmem, ⟨83, _⟩ => ⟨S1x512x32, .f32⟩
  | .local _ .vmem, ⟨84, _⟩ => ⟨S520x560, .f32⟩
  | .local _ .vmem, ⟨85, _⟩ => ⟨S1x128x560, .f32⟩
  | .local _ .vmem, ⟨86, _⟩ => ⟨S1x128x560, .f32⟩
  | .local _ .vmem, ⟨87, _⟩ => ⟨S1x128x560, .f32⟩
  | .local _ .vmem, ⟨88, _⟩ => ⟨S1x128x560, .f32⟩
  | .local _ .vmem, ⟨89, _⟩ => ⟨S1x128x560, .f32⟩
  | .local _ .vmem, ⟨90, _⟩ => ⟨S1x128x560, .f32⟩
  | .local _ .vmem, ⟨91, _⟩ => ⟨S1x128x32, .f32⟩
  | .local _ .vmem, ⟨92, _⟩ => ⟨S1x128x32, .f32⟩
  | .local _ .vmem, ⟨93, _⟩ => ⟨S16x560, .f32⟩
  | .local _ .vmem, ⟨94, _⟩ => ⟨S1x560, .f32⟩
  | .local _ .vmem, ⟨95, _⟩ => ⟨S560x280, .f32⟩
  | .local _ .vmem, ⟨96, _⟩ => ⟨S1x128x280, .f32⟩
  | .local _ .vmem, ⟨97, _⟩ => ⟨S1x128x280, .f32⟩
  | .local _ .vmem, ⟨98, _⟩ => ⟨S16x560, .f32⟩
  | .local _ .vmem, ⟨99, _⟩ => ⟨S128x16x560, .f32⟩
  | .local _ .vmem, ⟨100, _⟩ => ⟨S128x16x560, .f32⟩
  | .local _ .vmem, ⟨101, _⟩ => ⟨S128x16x560, .f32⟩
  | _, _ => ⟨S8x4096x280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | _, _ => false

abbrev semScoped : Fin 0 → Bool
  | ⟨_, h⟩ => absurd h (Nat.not_lt_zero _)

abbrev dmaSemScoped : Fin 87 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | _ => false

abbrev sig : RefSig :=
  ofTc nBuf bufTy 0 87 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_call0_v17_0 : Ref sig .tc := ⟨.hbm, 27, rfl⟩
abbrev main_call0_v17_1 : Ref sig .tc := ⟨.hbm, 28, rfl⟩
abbrev main_call0_v17_2 : Ref sig .tc := ⟨.hbm, 29, rfl⟩
abbrev main_call0_v17_3 : Ref sig .tc := ⟨.hbm, 30, rfl⟩
abbrev main_call0_v18 : Ref sig .tc := ⟨.hbm, 31, rfl⟩
abbrev main_call0_v19 : Ref sig .tc := ⟨.hbm, 32, rfl⟩
abbrev main_call0_v20 : Ref sig .tc := ⟨.hbm, 33, rfl⟩
abbrev main_call0_v21 : Ref sig .tc := ⟨.hbm, 34, rfl⟩
abbrev main_call0_v22 : Ref sig .tc := ⟨.hbm, 35, rfl⟩
abbrev main_call0_v23 : Ref sig .tc := ⟨.hbm, 36, rfl⟩
abbrev main_call0_v24 : Ref sig .tc := ⟨.hbm, 37, rfl⟩
abbrev main_call0_v25 : Ref sig .tc := ⟨.hbm, 38, rfl⟩
abbrev main_call0_v26 : Ref sig .tc := ⟨.hbm, 39, rfl⟩
abbrev main_call0_v27 : Ref sig .tc := ⟨.hbm, 40, rfl⟩
abbrev main_call0_v28 : Ref sig .tc := ⟨.hbm, 41, rfl⟩
abbrev main_call0_v29 : Ref sig .tc := ⟨.hbm, 42, rfl⟩
abbrev main_call0_v30 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_call0_v42 : Ref sig .tc := ⟨.hbm, 55, rfl⟩
abbrev main_call0_v43 : Ref sig .tc := ⟨.hbm, 56, rfl⟩
abbrev main_call0_v44 : Ref sig .tc := ⟨.hbm, 57, rfl⟩
abbrev main_call0_v45_0 : Ref sig .tc := ⟨.hbm, 58, rfl⟩
abbrev main_call0_v45_1 : Ref sig .tc := ⟨.hbm, 59, rfl⟩
abbrev main_call0_v45_2 : Ref sig .tc := ⟨.hbm, 60, rfl⟩
abbrev main_call0_v45_3 : Ref sig .tc := ⟨.hbm, 61, rfl⟩
abbrev main_call0_v46 : Ref sig .tc := ⟨.hbm, 62, rfl⟩
abbrev main_call0_v47 : Ref sig .tc := ⟨.hbm, 63, rfl⟩
abbrev main_call0_v48 : Ref sig .tc := ⟨.hbm, 64, rfl⟩
abbrev main_call0_v49 : Ref sig .tc := ⟨.hbm, 65, rfl⟩
abbrev main_call0_v50 : Ref sig .tc := ⟨.hbm, 66, rfl⟩
abbrev main_call0_v51 : Ref sig .tc := ⟨.hbm, 67, rfl⟩
abbrev main_call0_v52 : Ref sig .tc := ⟨.hbm, 68, rfl⟩
abbrev main_call0_v53 : Ref sig .tc := ⟨.hbm, 69, rfl⟩
abbrev main_call0_v54 : Ref sig .tc := ⟨.hbm, 70, rfl⟩
abbrev main_call0_v55 : Ref sig .tc := ⟨.hbm, 71, rfl⟩
abbrev main_call0_v56 : Ref sig .tc := ⟨.hbm, 72, rfl⟩
abbrev main_call0_v57 : Ref sig .tc := ⟨.hbm, 73, rfl⟩
abbrev main_call0_v58 : Ref sig .tc := ⟨.hbm, 74, rfl⟩
abbrev main_call0_v59 : Ref sig .tc := ⟨.hbm, 75, rfl⟩
abbrev main_call0_v60 : Ref sig .tc := ⟨.hbm, 76, rfl⟩
abbrev main_call0_v61 : Ref sig .tc := ⟨.hbm, 77, rfl⟩
abbrev main_call0_v62 : Ref sig .tc := ⟨.hbm, 78, rfl⟩
abbrev main_call0_v63 : Ref sig .tc := ⟨.hbm, 79, rfl⟩
abbrev main_call0_v64 : Ref sig .tc := ⟨.hbm, 80, rfl⟩
abbrev main_call0_v65 : Ref sig .tc := ⟨.hbm, 81, rfl⟩
abbrev main_call0_v66 : Ref sig .tc := ⟨.hbm, 82, rfl⟩
abbrev main_call0_v67 : Ref sig .tc := ⟨.hbm, 83, rfl⟩
abbrev main_call0_v68 : Ref sig .tc := ⟨.hbm, 84, rfl⟩
abbrev main_call0_v69 : Ref sig .tc := ⟨.hbm, 85, rfl⟩
abbrev main_call0_v70 : Ref sig .tc := ⟨.hbm, 86, rfl⟩
abbrev main_call0_v71 : Ref sig .tc := ⟨.hbm, 87, rfl⟩
abbrev main_call0_v72 : Ref sig .tc := ⟨.hbm, 88, rfl⟩
abbrev main_call0_v73_0 : Ref sig .tc := ⟨.hbm, 89, rfl⟩
abbrev main_call0_v73_1 : Ref sig .tc := ⟨.hbm, 90, rfl⟩
abbrev main_call0_v73_2 : Ref sig .tc := ⟨.hbm, 91, rfl⟩
abbrev main_call0_v73_3 : Ref sig .tc := ⟨.hbm, 92, rfl⟩
abbrev main_call0_v74 : Ref sig .tc := ⟨.hbm, 93, rfl⟩
abbrev main_call0_v75 : Ref sig .tc := ⟨.hbm, 94, rfl⟩
abbrev main_call0_v76 : Ref sig .tc := ⟨.hbm, 95, rfl⟩
abbrev main_call0_v77 : Ref sig .tc := ⟨.hbm, 96, rfl⟩
abbrev main_call0_v78 : Ref sig .tc := ⟨.hbm, 97, rfl⟩
abbrev main_call0_v79 : Ref sig .tc := ⟨.hbm, 98, rfl⟩
abbrev main_call0_v80 : Ref sig .tc := ⟨.hbm, 99, rfl⟩
abbrev main_call0_v81 : Ref sig .tc := ⟨.hbm, 100, rfl⟩
abbrev main_call0_v82 : Ref sig .tc := ⟨.hbm, 101, rfl⟩
abbrev main_v0 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc1_scratch0 : Ref sig .tc := ⟨.vmem, 30, rfl⟩
abbrev cc1_scratch1 : Ref sig .tc := ⟨.vmem, 31, rfl⟩
abbrev cc1_scratch2 : Ref sig .tc := ⟨.vmem, 32, rfl⟩
abbrev cc1_scratch3 : Ref sig .tc := ⟨.vmem, 33, rfl⟩
abbrev cc2_stg0_0 : Ref sig .tc := ⟨.vmem, 34, rfl⟩
abbrev cc2_stg0_1 : Ref sig .tc := ⟨.vmem, 35, rfl⟩
abbrev cc2_stg1_0 : Ref sig .tc := ⟨.vmem, 36, rfl⟩
abbrev cc2_stg2_0 : Ref sig .tc := ⟨.vmem, 37, rfl⟩
abbrev cc2_stg3_0 : Ref sig .tc := ⟨.vmem, 38, rfl⟩
abbrev cc2_stg4_0 : Ref sig .tc := ⟨.vmem, 39, rfl⟩
abbrev cc2_stg5_0 : Ref sig .tc := ⟨.vmem, 40, rfl⟩
abbrev cc2_stg6_0 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg8_1 : Ref sig .tc := ⟨.vmem, 45, rfl⟩
abbrev cc2_stg9_0 : Ref sig .tc := ⟨.vmem, 46, rfl⟩
abbrev cc2_stg9_1 : Ref sig .tc := ⟨.vmem, 47, rfl⟩
abbrev cc2_stg10_0 : Ref sig .tc := ⟨.vmem, 48, rfl⟩
abbrev cc2_stg10_1 : Ref sig .tc := ⟨.vmem, 49, rfl⟩
abbrev cc2_scratch0 : Ref sig .tc := ⟨.vmem, 50, rfl⟩
abbrev cc3_stg0_0 : Ref sig .tc := ⟨.vmem, 51, rfl⟩
abbrev cc3_stg0_1 : Ref sig .tc := ⟨.vmem, 52, rfl⟩
abbrev cc3_stg1_0 : Ref sig .tc := ⟨.vmem, 53, rfl⟩
abbrev cc3_stg1_1 : Ref sig .tc := ⟨.vmem, 54, rfl⟩
abbrev cc3_stg2_0 : Ref sig .tc := ⟨.vmem, 55, rfl⟩
abbrev cc3_stg2_1 : Ref sig .tc := ⟨.vmem, 56, rfl⟩
abbrev cc3_stg3_0 : Ref sig .tc := ⟨.vmem, 57, rfl⟩
abbrev cc3_stg3_1 : Ref sig .tc := ⟨.vmem, 58, rfl⟩
abbrev cc3_stg4_0 : Ref sig .tc := ⟨.vmem, 59, rfl⟩
abbrev cc3_stg5_0 : Ref sig .tc := ⟨.vmem, 60, rfl⟩
abbrev cc3_stg6_0 : Ref sig .tc := ⟨.vmem, 61, rfl⟩
abbrev cc3_stg7_0 : Ref sig .tc := ⟨.vmem, 62, rfl⟩
abbrev cc3_stg7_1 : Ref sig .tc := ⟨.vmem, 63, rfl⟩
abbrev cc3_scratch0 : Ref sig .tc := ⟨.vmem, 64, rfl⟩
abbrev cc3_scratch1 : Ref sig .tc := ⟨.vmem, 65, rfl⟩
abbrev cc3_scratch2 : Ref sig .tc := ⟨.vmem, 66, rfl⟩
abbrev cc3_scratch3 : Ref sig .tc := ⟨.vmem, 67, rfl⟩
abbrev cc4_stg0_0 : Ref sig .tc := ⟨.vmem, 68, rfl⟩
abbrev cc4_stg0_1 : Ref sig .tc := ⟨.vmem, 69, rfl⟩
abbrev cc4_stg1_0 : Ref sig .tc := ⟨.vmem, 70, rfl⟩
abbrev cc4_stg2_0 : Ref sig .tc := ⟨.vmem, 71, rfl⟩
abbrev cc4_stg3_0 : Ref sig .tc := ⟨.vmem, 72, rfl⟩
abbrev cc4_stg4_0 : Ref sig .tc := ⟨.vmem, 73, rfl⟩
abbrev cc4_stg5_0 : Ref sig .tc := ⟨.vmem, 74, rfl⟩
abbrev cc4_stg6_0 : Ref sig .tc := ⟨.vmem, 75, rfl⟩
abbrev cc4_stg7_0 : Ref sig .tc := ⟨.vmem, 76, rfl⟩
abbrev cc4_stg7_1 : Ref sig .tc := ⟨.vmem, 77, rfl⟩
abbrev cc4_stg8_0 : Ref sig .tc := ⟨.vmem, 78, rfl⟩
abbrev cc4_stg8_1 : Ref sig .tc := ⟨.vmem, 79, rfl⟩
abbrev cc4_stg9_0 : Ref sig .tc := ⟨.vmem, 80, rfl⟩
abbrev cc4_stg9_1 : Ref sig .tc := ⟨.vmem, 81, rfl⟩
abbrev cc4_stg10_0 : Ref sig .tc := ⟨.vmem, 82, rfl⟩
abbrev cc4_stg10_1 : Ref sig .tc := ⟨.vmem, 83, rfl⟩
abbrev cc4_scratch0 : Ref sig .tc := ⟨.vmem, 84, rfl⟩
abbrev cc5_stg0_0 : Ref sig .tc := ⟨.vmem, 85, rfl⟩
abbrev cc5_stg0_1 : Ref sig .tc := ⟨.vmem, 86, rfl⟩
abbrev cc5_stg1_0 : Ref sig .tc := ⟨.vmem, 87, rfl⟩
abbrev cc5_stg1_1 : Ref sig .tc := ⟨.vmem, 88, rfl⟩
abbrev cc5_stg2_0 : Ref sig .tc := ⟨.vmem, 89, rfl⟩
abbrev cc5_stg2_1 : Ref sig .tc := ⟨.vmem, 90, rfl⟩
abbrev cc5_stg3_0 : Ref sig .tc := ⟨.vmem, 91, rfl⟩
abbrev cc5_stg3_1 : Ref sig .tc := ⟨.vmem, 92, rfl⟩
abbrev cc5_stg4_0 : Ref sig .tc := ⟨.vmem, 93, rfl⟩
abbrev cc5_stg5_0 : Ref sig .tc := ⟨.vmem, 94, rfl⟩
abbrev cc5_stg6_0 : Ref sig .tc := ⟨.vmem, 95, rfl⟩
abbrev cc5_stg7_0 : Ref sig .tc := ⟨.vmem, 96, rfl⟩
abbrev cc5_stg7_1 : Ref sig .tc := ⟨.vmem, 97, rfl⟩
abbrev cc5_scratch0 : Ref sig .tc := ⟨.vmem, 98, rfl⟩
abbrev cc5_scratch1 : Ref sig .tc := ⟨.vmem, 99, rfl⟩
abbrev cc5_scratch2 : Ref sig .tc := ⟨.vmem, 100, rfl⟩
abbrev cc5_scratch3 : Ref sig .tc := ⟨.vmem, 101, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem5_0 : DmaSem sig := 25
abbrev cc1_sem6_0 : DmaSem sig := 26
abbrev cc1_sem7_0 : DmaSem sig := 27
abbrev cc1_sem7_1 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem7_1 : DmaSem sig := 38
abbrev cc2_sem8_0 : DmaSem sig := 39
abbrev cc2_sem8_1 : DmaSem sig := 40
abbrev cc2_sem9_0 : DmaSem sig := 41
abbrev cc2_sem9_1 : DmaSem sig := 42
abbrev cc2_sem10_0 : DmaSem sig := 43
abbrev cc2_sem10_1 : DmaSem sig := 44
abbrev cc3_sem0_0 : DmaSem sig := 45
abbrev cc3_sem0_1 : DmaSem sig := 46
abbrev cc3_sem1_0 : DmaSem sig := 47
abbrev cc3_sem1_1 : DmaSem sig := 48
abbrev cc3_sem2_0 : DmaSem sig := 49
abbrev cc3_sem2_1 : DmaSem sig := 50
abbrev cc3_sem3_0 : DmaSem sig := 51
abbrev cc3_sem3_1 : DmaSem sig := 52
abbrev cc3_sem4_0 : DmaSem sig := 53
abbrev cc3_sem5_0 : DmaSem sig := 54
abbrev cc3_sem6_0 : DmaSem sig := 55
abbrev cc3_sem7_0 : DmaSem sig := 56
abbrev cc3_sem7_1 : DmaSem sig := 57
abbrev cc4_sem0_0 : DmaSem sig := 58
abbrev cc4_sem0_1 : DmaSem sig := 59
abbrev cc4_sem1_0 : DmaSem sig := 60
abbrev cc4_sem2_0 : DmaSem sig := 61
abbrev cc4_sem3_0 : DmaSem sig := 62
abbrev cc4_sem4_0 : DmaSem sig := 63
abbrev cc4_sem5_0 : DmaSem sig := 64
abbrev cc4_sem6_0 : DmaSem sig := 65
abbrev cc4_sem7_0 : DmaSem sig := 66
abbrev cc4_sem7_1 : DmaSem sig := 67
abbrev cc4_sem8_0 : DmaSem sig := 68
abbrev cc4_sem8_1 : DmaSem sig := 69
abbrev cc4_sem9_0 : DmaSem sig := 70
abbrev cc4_sem9_1 : DmaSem sig := 71
abbrev cc4_sem10_0 : DmaSem sig := 72
abbrev cc4_sem10_1 : DmaSem sig := 73
abbrev cc5_sem0_0 : DmaSem sig := 74
abbrev cc5_sem0_1 : DmaSem sig := 75
abbrev cc5_sem1_0 : DmaSem sig := 76
abbrev cc5_sem1_1 : DmaSem sig := 77
abbrev cc5_sem2_0 : DmaSem sig := 78
abbrev cc5_sem2_1 : DmaSem sig := 79
abbrev cc5_sem3_0 : DmaSem sig := 80
abbrev cc5_sem3_1 : DmaSem sig := 81
abbrev cc5_sem4_0 : DmaSem sig := 82
abbrev cc5_sem5_0 : DmaSem sig := 83
abbrev cc5_sem6_0 : DmaSem sig := 84
abbrev cc5_sem7_0 : DmaSem sig := 85
abbrev cc5_sem7_1 : DmaSem sig := 86

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S280x1120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S560x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x560 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S560x50 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S18x560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x560 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨2, ![8, 32], ![false, false]⟩

@[reducible] def k1_t1_loop : Scf.Loop 32 :=
  let c0_i32_17 : BitVec 32 := 0#32
  let c128_i32 : BitVec 32 := 128#32
  let v33 : BitVec 32 := Scalar.addi c0_i32_17 c128_i32
  let c1_i32 : BitVec 32 := 1#32
  ⟨c0_i32_17, v33, c1_i32⟩
def k1_off1 (k1_t1 : Fin k1_t1_loop.trips) : Fin 3 → Nat :=
  let c0_i32_17 : BitVec 32 := 0#32
  let c1_i32 : BitVec 32 := 1#32
  let arg14 : BitVec 32 := Scf.iv c0_i32_17 c1_i32 k1_t1
  let v75 : Index := Scalar.indexCast arg14
  let c0_36 : Index := 0#32
  let c0_37 : Index := 0#32
  ![v75.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x560 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x560 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x560 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S16x560 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x560 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S560x280 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x128x280 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_10 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x512x280 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S280x1120 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S560x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x560 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S560x50 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S18x560 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x560 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1x512x560 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 2 → Memref sig .tc .vmem S1x512x560 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true]

abbrev stage2_9 : Fin 2 → Memref sig .tc .vmem S1x512x560 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev stage2_10 : Fin 2 → Memref sig .tc .vmem S1x512x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true, true]

abbrev grid3 : Pipeline.Grid := ⟨2, ![8, 32], ![false, false]⟩

@[reducible] def k3_t1_loop : Scf.Loop 32 :=
  let c0_i32_17 : BitVec 32 := 0#32
  let c128_i32 : BitVec 32 := 128#32
  let v33 : BitVec 32 := Scalar.addi c0_i32_17 c128_i32
  let c1_i32 : BitVec 32 := 1#32
  ⟨c0_i32_17, v33, c1_i32⟩
def k3_off1 (k3_t1 : Fin k3_t1_loop.trips) : Fin 3 → Nat :=
  let c0_i32_17 : BitVec 32 := 0#32
  let c1_i32 : BitVec 32 := 1#32
  let arg14 : BitVec 32 := Scf.iv c0_i32_17 c1_i32 k3_t1
  let v75 : Index := Scalar.indexCast arg14
  let c0_36 : Index := 0#32
  let c0_37 : Index := 0#32
  ![v75.toNat, 0, 0]
def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x128x560 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x128x560 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x128x560 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x128x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 1 → Memref sig .tc .vmem S16x560 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x560 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S560x280 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 2 → Memref sig .tc .vmem S1x128x280 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev grid4 : Pipeline.Grid := ⟨2, ![8, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_8 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_9 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_10 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x512x280 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 1 → Memref sig .tc .vmem S280x1120 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, false]

abbrev stage4_2 : Fin 1 → Memref sig .tc .vmem S560x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x560 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S560x50 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S18x560 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S1x560 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S1x512x560 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 2 → Memref sig .tc .vmem S1x512x560 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true, true]

abbrev stage4_9 : Fin 2 → Memref sig .tc .vmem S1x512x560 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true, true]

abbrev stage4_10 : Fin 2 → Memref sig .tc .vmem S1x512x32 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true, true]

abbrev grid5 : Pipeline.Grid := ⟨2, ![8, 32], ![false, false]⟩

@[reducible] def k5_t1_loop : Scf.Loop 32 :=
  let c0_i32_17 : BitVec 32 := 0#32
  let c128_i32 : BitVec 32 := 128#32
  let v33 : BitVec 32 := Scalar.addi c0_i32_17 c128_i32
  let c1_i32 : BitVec 32 := 1#32
  ⟨c0_i32_17, v33, c1_i32⟩
def k5_off1 (k5_t1 : Fin k5_t1_loop.trips) : Fin 3 → Nat :=
  let c0_i32_17 : BitVec 32 := 0#32
  let c1_i32 : BitVec 32 := 1#32
  let arg14 : BitVec 32 := Scf.iv c0_i32_17 c1_i32 k5_t1
  let v75 : Index := Scalar.indexCast arg14
  let c0_36 : Index := 0#32
  let c0_37 : Index := 0#32
  ![v75.toNat, 0, 0]
def cc5_transform_0 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_3 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S1x128x560 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x128x560 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x128x560 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 2 → Memref sig .tc .vmem S1x128x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev stage5_4 : Fin 1 → Memref sig .tc .vmem S16x560 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S1x560 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S560x280 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S1x128x280 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]
-- ==== ReferenceIdeal.lean ====
abbrev S8x4096x280 : Shape := ⟨3, ![8, 4096, 280]⟩
abbrev S3x1120x280 : Shape := ⟨3, ![3, 1120, 280]⟩
abbrev S3x560x4 : Shape := ⟨3, ![3, 560, 4]⟩
abbrev S3x560 : Shape := ⟨2, ![3, 560]⟩
abbrev S3x50x560 : Shape := ⟨3, ![3, 50, 560]⟩
abbrev S3x560x18 : Shape := ⟨3, ![3, 560, 18]⟩
abbrev S3x560x16 : Shape := ⟨3, ![3, 560, 16]⟩
abbrev S3x280x560 : Shape := ⟨3, ![3, 280, 560]⟩
abbrev S1x1120x280 : Shape := ⟨3, ![1, 1120, 280]⟩
abbrev S1120x280 : Shape := ⟨2, ![1120, 280]⟩
abbrev S1x560x4 : Shape := ⟨3, ![1, 560, 4]⟩
abbrev S560x4 : Shape := ⟨2, ![560, 4]⟩
abbrev S1x560 : Shape := ⟨2, ![1, 560]⟩
abbrev S560 : Shape := ⟨1, ![560]⟩
abbrev S1x50x560 : Shape := ⟨3, ![1, 50, 560]⟩
abbrev S50x560 : Shape := ⟨2, ![50, 560]⟩
abbrev S1x560x18 : Shape := ⟨3, ![1, 560, 18]⟩
abbrev S560x18 : Shape := ⟨2, ![560, 18]⟩
abbrev S1x560x16 : Shape := ⟨3, ![1, 560, 16]⟩
abbrev S560x16 : Shape := ⟨2, ![560, 16]⟩
abbrev S1x280x560 : Shape := ⟨3, ![1, 280, 560]⟩
abbrev S280x560 : Shape := ⟨2, ![280, 560]⟩
abbrev S8x4096x1120 : Shape := ⟨3, ![8, 4096, 1120]⟩
abbrev S8x4096x560 : Shape := ⟨3, ![8, 4096, 560]⟩
abbrev S_ : Shape := ⟨0, ![]⟩
abbrev S8x4099x560 : Shape := ⟨3, ![8, 4099, 560]⟩
abbrev S560x1 : Shape := ⟨2, ![560, 1]⟩
abbrev S1x1x560 : Shape := ⟨3, ![1, 1, 560]⟩
abbrev S8x4096x50 : Shape := ⟨3, ![8, 4096, 50]⟩
abbrev S8x4096x18 : Shape := ⟨3, ![8, 4096, 18]⟩
abbrev S8x4096x16 : Shape := ⟨3, ![8, 4096, 16]⟩
abbrev S8x560x16 : Shape := ⟨3, ![8, 560, 16]⟩
abbrev S4096x8x560 : Shape := ⟨3, ![4096, 8, 560]⟩
abbrev S4096x8x16 : Shape := ⟨3, ![4096, 8, 16]⟩
abbrev S1x8x560 : Shape := ⟨3, ![1, 8, 560]⟩
abbrev S8x560 : Shape := ⟨2, ![8, 560]⟩
abbrev S1x8x16 : Shape := ⟨3, ![1, 8, 16]⟩
abbrev S8x16 : Shape := ⟨2, ![8, 16]⟩
abbrev S8x560x1 : Shape := ⟨3, ![8, 560, 1]⟩
abbrev S8x1x16 : Shape := ⟨3, ![8, 1, 16]⟩

abbrev nBuf : Space → Nat
  | .hbm => 496
  | .vmem => 0
  | .smem => 0
  | _ => 0

abbrev hbmTy0_0 (i : Nat) : BufTy := match i % 128 with
  | 0 => ⟨S8x4096x280, .f32⟩
  | 1 => ⟨S3x1120x280, .f32⟩
  | 2 => ⟨S3x560x4, .f32⟩
  | 3 => ⟨S3x560, .f32⟩
  | 4 => ⟨S3x50x560, .f32⟩
  | 5 => ⟨S3x560x18, .f32⟩
  | 6 => ⟨S3x560, .f32⟩
  | 7 => ⟨S3x560x16, .f32⟩
  | 8 => ⟨S3x560, .f32⟩
  | 9 => ⟨S3x280x560, .f32⟩
  | 10 => ⟨S1x1120x280, .f32⟩
  | 11 => ⟨S1120x280, .f32⟩
  | 12 => ⟨S1x560x4, .f32⟩
  | 13 => ⟨S560x4, .f32⟩
  | 14 => ⟨S1x560, .f32⟩
  | 15 => ⟨S560, .f32⟩
  | 16 => ⟨S1x50x560, .f32⟩
  | 17 => ⟨S50x560, .f32⟩
  | 18 => ⟨S1x560x18, .f32⟩
  | 19 => ⟨S560x18, .f32⟩
  | 20 => ⟨S1x560, .f32⟩
  | 21 => ⟨S560, .f32⟩
  | 22 => ⟨S1x560x16, .f32⟩
  | 23 => ⟨S560x16, .f32⟩
  | 24 => ⟨S1x560, .f32⟩
  | 25 => ⟨S560, .f32⟩
  | 26 => ⟨S1x280x560, .f32⟩
  | 27 => ⟨S280x560, .f32⟩
  | 28 => ⟨S8x4096x1120, .f32⟩
  | 29 => ⟨S8x4096x560, .f32⟩
  | 30 => ⟨S8x4096x560, .f32⟩
  | 31 => ⟨S_, .i32⟩
  | 32 => ⟨S_, .f32⟩
  | 33 => ⟨S8x4099x560, .f32⟩
  | 34 => ⟨S8x4096x560, .f32⟩
  | 35 => ⟨S560x1, .f32⟩
  | 36 => ⟨S560, .f32⟩
  | 37 => ⟨S1x1x560, .f32⟩
  | 38 => ⟨S8x4096x560, .f32⟩
  | 39 => ⟨S8x4096x560, .f32⟩
  | 40 => ⟨S_, .f32⟩
  | 41 => ⟨S8x4096x560, .f32⟩
  | 42 => ⟨S8x4096x560, .f32⟩
  | 43 => ⟨S8x4096x560, .f32⟩
  | 44 => ⟨S560x1, .f32⟩
  | 45 => ⟨S560, .f32⟩
  | 46 => ⟨S1x1x560, .f32⟩
  | 47 => ⟨S8x4096x560, .f32⟩
  | 48 => ⟨S8x4096x560, .f32⟩
  | 49 => ⟨S8x4096x560, .f32⟩
  | 50 => ⟨S8x4096x560, .f32⟩
  | 51 => ⟨S560x1, .f32⟩
  | 52 => ⟨S560, .f32⟩
  | 53 => ⟨S1x1x560, .f32⟩
  | 54 => ⟨S8x4096x560, .f32⟩
  | 55 => ⟨S8x4096x560, .f32⟩
  | 56 => ⟨S8x4096x560, .f32⟩
  | 57 => ⟨S8x4096x560, .f32⟩
  | 58 => ⟨S560x1, .f32⟩
  | 59 => ⟨S560, .f32⟩
  | 60 => ⟨S1x1x560, .f32⟩
  | 61 => ⟨S8x4096x560, .f32⟩
  | 62 => ⟨S8x4096x560, .f32⟩
  | 63 => ⟨S8x4096x560, .f32⟩
  | 64 => ⟨S1x1x560, .f32⟩
  | 65 => ⟨S8x4096x560, .f32⟩
  | 66 => ⟨S8x4096x560, .f32⟩
  | 67 => ⟨S8x4096x560, .f32⟩
  | 68 => ⟨S8x4096x560, .f32⟩
  | 69 => ⟨S_, .f32⟩
  | 70 => ⟨S8x4096x560, .f32⟩
  | 71 => ⟨S8x4096x560, .f32⟩
  | 72 => ⟨S_, .f32⟩
  | 73 => ⟨S8x4096x560, .f32⟩
  | 74 => ⟨S8x4096x560, .f32⟩
  | 75 => ⟨S8x4096x560, .f32⟩
  | 76 => ⟨S8x4096x50, .f32⟩
  | 77 => ⟨S8x4096x18, .f32⟩
  | 78 => ⟨S8x4096x16, .f32⟩
  | 79 => ⟨S8x4096x16, .f32⟩
  | 80 => ⟨S8x4096x560, .f32⟩
  | 81 => ⟨S1x1x560, .f32⟩
  | 82 => ⟨S8x4096x560, .f32⟩
  | 83 => ⟨S8x4096x560, .f32⟩
  | 84 => ⟨S_, .f32⟩
  | 85 => ⟨S8x4096x560, .f32⟩
  | 86 => ⟨S8x4096x560, .f32⟩
  | 87 => ⟨S8x4096x560, .f32⟩
  | 88 => ⟨S8x4096x560, .f32⟩
  | 89 => ⟨S8x4096x560, .i1⟩
  | 90 => ⟨S8x4096x560, .f32⟩
  | 91 => ⟨S8x4096x560, .f32⟩
  | 92 => ⟨S8x4096x560, .f32⟩
  | 93 => ⟨S8x4096x560, .f32⟩
  | 94 => ⟨S8x4096x560, .f32⟩
  | 95 => ⟨S8x4096x560, .f32⟩
  | 96 => ⟨S8x4096x560, .f32⟩
  | 97 => ⟨S8x4096x560, .f32⟩
  | 98 => ⟨S560x16, .f32⟩
  | 99 => ⟨S560x16, .f32⟩
  | 100 => ⟨S_, .f32⟩
  | 101 => ⟨S8x560x16, .f32⟩
  | 102 => ⟨S4096x8x560, .f32⟩
  | 103 => ⟨S4096x8x560, .f32⟩
  | 104 => ⟨S4096x8x16, .f32⟩
  | 105 => ⟨S4096x8x16, .f32⟩
  | 106 => ⟨S_, .f32⟩
  | 107 => ⟨S4096x8x560, .f32⟩
  | 108 => ⟨S_, .i32⟩
  | 109 => ⟨S4096x8x560, .f32⟩
  | 110 => ⟨S4096x8x560, .f32⟩
  | 111 => ⟨S4096x8x16, .f32⟩
  | 112 => ⟨S4096x8x16, .f32⟩
  | 113 => ⟨S560x16, .f32⟩
  | 114 => ⟨S_, .i32⟩
  | 115 => ⟨S8x560x16, .f32⟩
  | 116 => ⟨S4096x8x560, .f32⟩
  | 117 => ⟨S_, .i32⟩
  | 118 => ⟨S_, .i1⟩
  | 119 => ⟨S_, .i32⟩
  | 120 => ⟨S_, .i32⟩
  | 121 => ⟨S1x8x560, .f32⟩
  | 122 => ⟨S8x560, .f32⟩
  | 123 => ⟨S_, .i32⟩
  | 124 => ⟨S_, .i32⟩
  | 125 => ⟨S1x8x560, .f32⟩
  | 126 => ⟨S8x560, .f32⟩
  | 127 => ⟨S_, .i32⟩
  | _ => ⟨S8x4096x280, .f32⟩

abbrev hbmTy0_1 (i : Nat) : BufTy := match i % 128 with
  | 0 => ⟨S_, .i32⟩
  | 1 => ⟨S1x8x16, .f32⟩
  | 2 => ⟨S8x16, .f32⟩
  | 3 => ⟨S_, .i32⟩
  | 4 => ⟨S_, .i32⟩
  | 5 => ⟨S1x8x16, .f32⟩
  | 6 => ⟨S8x16, .f32⟩
  | 7 => ⟨S8x560x1, .f32⟩
  | 8 => ⟨S1x560x16, .f32⟩
  | 9 => ⟨S8x560x16, .f32⟩
  | 10 => ⟨S8x560x16, .f32⟩
  | 11 => ⟨S8x560x16, .f32⟩
  | 12 => ⟨S8x560x16, .f32⟩
  | 13 => ⟨S8x560x16, .f32⟩
  | 14 => ⟨S8x560, .f32⟩
  | 15 => ⟨S8x560x1, .f32⟩
  | 16 => ⟨S8x1x16, .f32⟩
  | 17 => ⟨S8x560x16, .f32⟩
  | 18 => ⟨S8x560x16, .f32⟩
  | 19 => ⟨S8x560x16, .f32⟩
  | 20 => ⟨S8x560x16, .f32⟩
  | 21 => ⟨S8x560, .f32⟩
  | 22 => ⟨S1x8x560, .f32⟩
  | 23 => ⟨S_, .i32⟩
  | 24 => ⟨S_, .i32⟩
  | 25 => ⟨S4096x8x560, .f32⟩
  | 26 => ⟨S_, .i32⟩
  | 27 => ⟨S_, .i32⟩
  | 28 => ⟨S8x4096x560, .f32⟩
  | 29 => ⟨S1x1x560, .f32⟩
  | 30 => ⟨S8x4096x560, .f32⟩
  | 31 => ⟨S8x4096x560, .f32⟩
  | 32 => ⟨S8x4096x560, .f32⟩
  | 33 => ⟨S8x4096x560, .f32⟩
  | 34 => ⟨S8x4096x560, .f32⟩
  | 35 => ⟨S_, .f32⟩
  | 36 => ⟨S8x4096x560, .f32⟩
  | 37 => ⟨S8x4096x560, .f32⟩
  | 38 => ⟨S_, .f32⟩
  | 39 => ⟨S8x4096x560, .f32⟩
  | 40 => ⟨S8x4096x560, .f32⟩
  | 41 => ⟨S8x4096x560, .f32⟩
  | 42 => ⟨S8x4096x560, .f32⟩
  | 43 => ⟨S8x4096x280, .f32⟩
  | 44 => ⟨S1x1120x280, .f32⟩
  | 45 => ⟨S1120x280, .f32⟩
  | 46 => ⟨S1x560x4, .f32⟩
  | 47 => ⟨S560x4, .f32⟩
  | 48 => ⟨S1x560, .f32⟩
  | 49 => ⟨S560, .f32⟩
  | 50 => ⟨S1x50x560, .f32⟩
  | 51 => ⟨S50x560, .f32⟩
  | 52 => ⟨S1x560x18, .f32⟩
  | 53 => ⟨S560x18, .f32⟩
  | 54 => ⟨S1x560, .f32⟩
  | 55 => ⟨S560, .f32⟩
  | 56 => ⟨S1x560x16, .f32⟩
  | 57 => ⟨S560x16, .f32⟩
  | 58 => ⟨S1x560, .f32⟩
  | 59 => ⟨S560, .f32⟩
  | 60 => ⟨S1x280x560, .f32⟩
  | 61 => ⟨S280x560, .f32⟩
  | 62 => ⟨S8x4096x1120, .f32⟩
  | 63 => ⟨S8x4096x560, .f32⟩
  | 64 => ⟨S8x4096x560, .f32⟩
  | 65 => ⟨S_, .i32⟩
  | 66 => ⟨S_, .f32⟩
  | 67 => ⟨S8x4099x560, .f32⟩
  | 68 => ⟨S8x4096x560, .f32⟩
  | 69 => ⟨S560x1, .f32⟩
  | 70 => ⟨S560, .f32⟩
  | 71 => ⟨S1x1x560, .f32⟩
  | 72 => ⟨S8x4096x560, .f32⟩
  | 73 => ⟨S8x4096x560, .f32⟩
  | 74 => ⟨S_, .f32⟩
  | 75 => ⟨S8x4096x560, .f32⟩
  | 76 => ⟨S8x4096x560, .f32⟩
  | 77 => ⟨S8x4096x560, .f32⟩
  | 78 => ⟨S560x1, .f32⟩
  | 79 => ⟨S560, .f32⟩
  | 80 => ⟨S1x1x560, .f32⟩
  | 81 => ⟨S8x4096x560, .f32⟩
  | 82 => ⟨S8x4096x560, .f32⟩
  | 83 => ⟨S8x4096x560, .f32⟩
  | 84 => ⟨S8x4096x560, .f32⟩
  | 85 => ⟨S560x1, .f32⟩
  | 86 => ⟨S560, .f32⟩
  | 87 => ⟨S1x1x560, .f32⟩
  | 88 => ⟨S8x4096x560, .f32⟩
  | 89 => ⟨S8x4096x560, .f32⟩
  | 90 => ⟨S8x4096x560, .f32⟩
  | 91 => ⟨S8x4096x560, .f32⟩
  | 92 => ⟨S560x1, .f32⟩
  | 93 => ⟨S560, .f32⟩
  | 94 => ⟨S1x1x560, .f32⟩
  | 95 => ⟨S8x4096x560, .f32⟩
  | 96 => ⟨S8x4096x560, .f32⟩
  | 97 => ⟨S8x4096x560, .f32⟩
  | 98 => ⟨S1x1x560, .f32⟩
  | 99 => ⟨S8x4096x560, .f32⟩
  | 100 => ⟨S8x4096x560, .f32⟩
  | 101 => ⟨S8x4096x560, .f32⟩
  | 102 => ⟨S8x4096x560, .f32⟩
  | 103 => ⟨S_, .f32⟩
  | 104 => ⟨S8x4096x560, .f32⟩
  | 105 => ⟨S8x4096x560, .f32⟩
  | 106 => ⟨S_, .f32⟩
  | 107 => ⟨S8x4096x560, .f32⟩
  | 108 => ⟨S8x4096x560, .f32⟩
  | 109 => ⟨S8x4096x560, .f32⟩
  | 110 => ⟨S8x4096x50, .f32⟩
  | 111 => ⟨S8x4096x18, .f32⟩
  | 112 => ⟨S8x4096x16, .f32⟩
  | 113 => ⟨S8x4096x16, .f32⟩
  | 114 => ⟨S8x4096x560, .f32⟩
  | 115 => ⟨S1x1x560, .f32⟩
  | 116 => ⟨S8x4096x560, .f32⟩
  | 117 => ⟨S8x4096x560, .f32⟩
  | 118 => ⟨S_, .f32⟩
  | 119 => ⟨S8x4096x560, .f32⟩
  | 120 => ⟨S8x4096x560, .f32⟩
  | 121 => ⟨S8x4096x560, .f32⟩
  | 122 => ⟨S8x4096x560, .f32⟩
  | 123 => ⟨S8x4096x560, .i1⟩
  | 124 => ⟨S8x4096x560, .f32⟩
  | 125 => ⟨S8x4096x560, .f32⟩
  | 126 => ⟨S8x4096x560, .f32⟩
  | 127 => ⟨S8x4096x560, .f32⟩
  | _ => ⟨S8x4096x280, .f32⟩

abbrev hbmTy0_2 (i : Nat) : BufTy := match i % 128 with
  | 0 => ⟨S8x4096x560, .f32⟩
  | 1 => ⟨S8x4096x560, .f32⟩
  | 2 => ⟨S8x4096x560, .f32⟩
  | 3 => ⟨S8x4096x560, .f32⟩
  | 4 => ⟨S560x16, .f32⟩
  | 5 => ⟨S560x16, .f32⟩
  | 6 => ⟨S_, .f32⟩
  | 7 => ⟨S8x560x16, .f32⟩
  | 8 => ⟨S4096x8x560, .f32⟩
  | 9 => ⟨S4096x8x560, .f32⟩
  | 10 => ⟨S4096x8x16, .f32⟩
  | 11 => ⟨S4096x8x16, .f32⟩
  | 12 => ⟨S_, .f32⟩
  | 13 => ⟨S4096x8x560, .f32⟩
  | 14 => ⟨S_, .i32⟩
  | 15 => ⟨S4096x8x560, .f32⟩
  | 16 => ⟨S4096x8x560, .f32⟩
  | 17 => ⟨S4096x8x16, .f32⟩
  | 18 => ⟨S4096x8x16, .f32⟩
  | 19 => ⟨S560x16, .f32⟩
  | 20 => ⟨S_, .i32⟩
  | 21 => ⟨S8x560x16, .f32⟩
  | 22 => ⟨S4096x8x560, .f32⟩
  | 23 => ⟨S_, .i32⟩
  | 24 => ⟨S_, .i1⟩
  | 25 => ⟨S_, .i32⟩
  | 26 => ⟨S_, .i32⟩
  | 27 => ⟨S1x8x560, .f32⟩
  | 28 => ⟨S8x560, .f32⟩
  | 29 => ⟨S_, .i32⟩
  | 30 => ⟨S_, .i32⟩
  | 31 => ⟨S1x8x560, .f32⟩
  | 32 => ⟨S8x560, .f32⟩
  | 33 => ⟨S_, .i32⟩
  | 34 => ⟨S_, .i32⟩
  | 35 => ⟨S1x8x16, .f32⟩
  | 36 => ⟨S8x16, .f32⟩
  | 37 => ⟨S_, .i32⟩
  | 38 => ⟨S_, .i32⟩
  | 39 => ⟨S1x8x16, .f32⟩
  | 40 => ⟨S8x16, .f32⟩
  | 41 => ⟨S8x560x1, .f32⟩
  | 42 => ⟨S1x560x16, .f32⟩
  | 43 => ⟨S8x560x16, .f32⟩
  | 44 => ⟨S8x560x16, .f32⟩
  | 45 => ⟨S8x560x16, .f32⟩
  | 46 => ⟨S8x560x16, .f32⟩
  | 47 => ⟨S8x560x16, .f32⟩
  | 48 => ⟨S8x560, .f32⟩
  | 49 => ⟨S8x560x1, .f32⟩
  | 50 => ⟨S8x1x16, .f32⟩
  | 51 => ⟨S8x560x16, .f32⟩
  | 52 => ⟨S8x560x16, .f32⟩
  | 53 => ⟨S8x560x16, .f32⟩
  | 54 => ⟨S8x560x16, .f32⟩
  | 55 => ⟨S8x560, .f32⟩
  | 56 => ⟨S1x8x560, .f32⟩
  | 57 => ⟨S_, .i32⟩
  | 58 => ⟨S_, .i32⟩
  | 59 => ⟨S4096x8x560, .f32⟩
  | 60 => ⟨S_, .i32⟩
  | 61 => ⟨S_, .i32⟩
  | 62 => ⟨S8x4096x560, .f32⟩
  | 63 => ⟨S1x1x560, .f32⟩
  | 64 => ⟨S8x4096x560, .f32⟩
  | 65 => ⟨S8x4096x560, .f32⟩
  | 66 => ⟨S8x4096x560, .f32⟩
  | 67 => ⟨S8x4096x560, .f32⟩
  | 68 => ⟨S8x4096x560, .f32⟩
  | 69 => ⟨S_, .f32⟩
  | 70 => ⟨S8x4096x560, .f32⟩
  | 71 => ⟨S8x4096x560, .f32⟩
  | 72 => ⟨S_, .f32⟩
  | 73 => ⟨S8x4096x560, .f32⟩
  | 74 => ⟨S8x4096x560, .f32⟩
  | 75 => ⟨S8x4096x560, .f32⟩
  | 76 => ⟨S8x4096x560, .f32⟩
  | 77 => ⟨S8x4096x280, .f32⟩
  | 78 => ⟨S1x1120x280, .f32⟩
  | 79 => ⟨S1120x280, .f32⟩
  | 80 => ⟨S1x560x4, .f32⟩
  | 81 => ⟨S560x4, .f32⟩
  | 82 => ⟨S1x560, .f32⟩
  | 83 => ⟨S560, .f32⟩
  | 84 => ⟨S1x50x560, .f32⟩
  | 85 => ⟨S50x560, .f32⟩
  | 86 => ⟨S1x560x18, .f32⟩
  | 87 => ⟨S560x18, .f32⟩
  | 88 => ⟨S1x560, .f32⟩
  | 89 => ⟨S560, .f32⟩
  | 90 => ⟨S1x560x16, .f32⟩
  | 91 => ⟨S560x16, .f32⟩
  | 92 => ⟨S1x560, .f32⟩
  | 93 => ⟨S560, .f32⟩
  | 94 => ⟨S1x280x560, .f32⟩
  | 95 => ⟨S280x560, .f32⟩
  | 96 => ⟨S8x4096x1120, .f32⟩
  | 97 => ⟨S8x4096x560, .f32⟩
  | 98 => ⟨S8x4096x560, .f32⟩
  | 99 => ⟨S_, .i32⟩
  | 100 => ⟨S_, .f32⟩
  | 101 => ⟨S8x4099x560, .f32⟩
  | 102 => ⟨S8x4096x560, .f32⟩
  | 103 => ⟨S560x1, .f32⟩
  | 104 => ⟨S560, .f32⟩
  | 105 => ⟨S1x1x560, .f32⟩
  | 106 => ⟨S8x4096x560, .f32⟩
  | 107 => ⟨S8x4096x560, .f32⟩
  | 108 => ⟨S_, .f32⟩
  | 109 => ⟨S8x4096x560, .f32⟩
  | 110 => ⟨S8x4096x560, .f32⟩
  | 111 => ⟨S8x4096x560, .f32⟩
  | 112 => ⟨S560x1, .f32⟩
  | 113 => ⟨S560, .f32⟩
  | 114 => ⟨S1x1x560, .f32⟩
  | 115 => ⟨S8x4096x560, .f32⟩
  | 116 => ⟨S8x4096x560, .f32⟩
  | 117 => ⟨S8x4096x560, .f32⟩
  | 118 => ⟨S8x4096x560, .f32⟩
  | 119 => ⟨S560x1, .f32⟩
  | 120 => ⟨S560, .f32⟩
  | 121 => ⟨S1x1x560, .f32⟩
  | 122 => ⟨S8x4096x560, .f32⟩
  | 123 => ⟨S8x4096x560, .f32⟩
  | 124 => ⟨S8x4096x560, .f32⟩
  | 125 => ⟨S8x4096x560, .f32⟩
  | 126 => ⟨S560x1, .f32⟩
  | 127 => ⟨S560, .f32⟩
  | _ => ⟨S8x4096x280, .f32⟩

abbrev hbmTy0_3 (i : Nat) : BufTy := match i % 128 with
  | 0 => ⟨S1x1x560, .f32⟩
  | 1 => ⟨S8x4096x560, .f32⟩
  | 2 => ⟨S8x4096x560, .f32⟩
  | 3 => ⟨S8x4096x560, .f32⟩
  | 4 => ⟨S1x1x560, .f32⟩
  | 5 => ⟨S8x4096x560, .f32⟩
  | 6 => ⟨S8x4096x560, .f32⟩
  | 7 => ⟨S8x4096x560, .f32⟩
  | 8 => ⟨S8x4096x560, .f32⟩
  | 9 => ⟨S_, .f32⟩
  | 10 => ⟨S8x4096x560, .f32⟩
  | 11 => ⟨S8x4096x560, .f32⟩
  | 12 => ⟨S_, .f32⟩
  | 13 => ⟨S8x4096x560, .f32⟩
  | 14 => ⟨S8x4096x560, .f32⟩
  | 15 => ⟨S8x4096x560, .f32⟩
  | 16 => ⟨S8x4096x50, .f32⟩
  | 17 => ⟨S8x4096x18, .f32⟩
  | 18 => ⟨S8x4096x16, .f32⟩
  | 19 => ⟨S8x4096x16, .f32⟩
  | 20 => ⟨S8x4096x560, .f32⟩
  | 21 => ⟨S1x1x560, .f32⟩
  | 22 => ⟨S8x4096x560, .f32⟩
  | 23 => ⟨S8x4096x560, .f32⟩
  | 24 => ⟨S_, .f32⟩
  | 25 => ⟨S8x4096x560, .f32⟩
  | 26 => ⟨S8x4096x560, .f32⟩
  | 27 => ⟨S8x4096x560, .f32⟩
  | 28 => ⟨S8x4096x560, .f32⟩
  | 29 => ⟨S8x4096x560, .i1⟩
  | 30 => ⟨S8x4096x560, .f32⟩
  | 31 => ⟨S8x4096x560, .f32⟩
  | 32 => ⟨S8x4096x560, .f32⟩
  | 33 => ⟨S8x4096x560, .f32⟩
  | 34 => ⟨S8x4096x560, .f32⟩
  | 35 => ⟨S8x4096x560, .f32⟩
  | 36 => ⟨S8x4096x560, .f32⟩
  | 37 => ⟨S8x4096x560, .f32⟩
  | 38 => ⟨S560x16, .f32⟩
  | 39 => ⟨S560x16, .f32⟩
  | 40 => ⟨S_, .f32⟩
  | 41 => ⟨S8x560x16, .f32⟩
  | 42 => ⟨S4096x8x560, .f32⟩
  | 43 => ⟨S4096x8x560, .f32⟩
  | 44 => ⟨S4096x8x16, .f32⟩
  | 45 => ⟨S4096x8x16, .f32⟩
  | 46 => ⟨S_, .f32⟩
  | 47 => ⟨S4096x8x560, .f32⟩
  | 48 => ⟨S_, .i32⟩
  | 49 => ⟨S4096x8x560, .f32⟩
  | 50 => ⟨S4096x8x560, .f32⟩
  | 51 => ⟨S4096x8x16, .f32⟩
  | 52 => ⟨S4096x8x16, .f32⟩
  | 53 => ⟨S560x16, .f32⟩
  | 54 => ⟨S_, .i32⟩
  | 55 => ⟨S8x560x16, .f32⟩
  | 56 => ⟨S4096x8x560, .f32⟩
  | 57 => ⟨S_, .i32⟩
  | 58 => ⟨S_, .i1⟩
  | 59 => ⟨S_, .i32⟩
  | 60 => ⟨S_, .i32⟩
  | 61 => ⟨S1x8x560, .f32⟩
  | 62 => ⟨S8x560, .f32⟩
  | 63 => ⟨S_, .i32⟩
  | 64 => ⟨S_, .i32⟩
  | 65 => ⟨S1x8x560, .f32⟩
  | 66 => ⟨S8x560, .f32⟩
  | 67 => ⟨S_, .i32⟩
  | 68 => ⟨S_, .i32⟩
  | 69 => ⟨S1x8x16, .f32⟩
  | 70 => ⟨S8x16, .f32⟩
  | 71 => ⟨S_, .i32⟩
  | 72 => ⟨S_, .i32⟩
  | 73 => ⟨S1x8x16, .f32⟩
  | 74 => ⟨S8x16, .f32⟩
  | 75 => ⟨S8x560x1, .f32⟩
  | 76 => ⟨S1x560x16, .f32⟩
  | 77 => ⟨S8x560x16, .f32⟩
  | 78 => ⟨S8x560x16, .f32⟩
  | 79 => ⟨S8x560x16, .f32⟩
  | 80 => ⟨S8x560x16, .f32⟩
  | 81 => ⟨S8x560x16, .f32⟩
  | 82 => ⟨S8x560, .f32⟩
  | 83 => ⟨S8x560x1, .f32⟩
  | 84 => ⟨S8x1x16, .f32⟩
  | 85 => ⟨S8x560x16, .f32⟩
  | 86 => ⟨S8x560x16, .f32⟩
  | 87 => ⟨S8x560x16, .f32⟩
  | 88 => ⟨S8x560x16, .f32⟩
  | 89 => ⟨S8x560, .f32⟩
  | 90 => ⟨S1x8x560, .f32⟩
  | 91 => ⟨S_, .i32⟩
  | 92 => ⟨S_, .i32⟩
  | 93 => ⟨S4096x8x560, .f32⟩
  | 94 => ⟨S_, .i32⟩
  | 95 => ⟨S_, .i32⟩
  | 96 => ⟨S8x4096x560, .f32⟩
  | 97 => ⟨S1x1x560, .f32⟩
  | 98 => ⟨S8x4096x560, .f32⟩
  | 99 => ⟨S8x4096x560, .f32⟩
  | 100 => ⟨S8x4096x560, .f32⟩
  | 101 => ⟨S8x4096x560, .f32⟩
  | 102 => ⟨S8x4096x560, .f32⟩
  | 103 => ⟨S_, .f32⟩
  | 104 => ⟨S8x4096x560, .f32⟩
  | 105 => ⟨S8x4096x560, .f32⟩
  | 106 => ⟨S_, .f32⟩
  | 107 => ⟨S8x4096x560, .f32⟩
  | 108 => ⟨S8x4096x560, .f32⟩
  | 109 => ⟨S8x4096x560, .f32⟩
  | 110 => ⟨S8x4096x560, .f32⟩
  | 111 => ⟨S8x4096x280, .f32⟩
  | _ => ⟨S8x4096x280, .f32⟩

abbrev hbmTy (i : Nat) : BufTy := match i / 128 with
  | 0 => hbmTy0_0 i
  | 1 => hbmTy0_1 i
  | 2 => hbmTy0_2 i
  | 3 => hbmTy0_3 i
  | _ => ⟨S8x4096x280, .f32⟩

abbrev bufTy : (tb : Table) → Fin (tcTables nBuf tb) → BufTy
  | .hbm, ⟨i, _⟩ => hbmTy i
  | _, _ => ⟨S8x4096x280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_call1_v0 : Ref sig .tc := ⟨.hbm, 67, rfl⟩
abbrev main_call1_v1 : Ref sig .tc := ⟨.hbm, 68, rfl⟩
abbrev main_call1_cst : Ref sig .tc := ⟨.hbm, 69, rfl⟩
abbrev main_call1_v2 : Ref sig .tc := ⟨.hbm, 70, rfl⟩
abbrev main_call1_v3 : Ref sig .tc := ⟨.hbm, 71, rfl⟩
abbrev main_call1_cst_0 : Ref sig .tc := ⟨.hbm, 72, rfl⟩
abbrev main_call1_v4 : Ref sig .tc := ⟨.hbm, 73, rfl⟩
abbrev main_call1_v5 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_0 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_1 : Ref sig .tc := ⟨.hbm, 106, rfl⟩
abbrev main_v71 : Ref sig .tc := ⟨.hbm, 107, rfl⟩
abbrev main_c_2 : Ref sig .tc := ⟨.hbm, 108, rfl⟩
abbrev main_v72_0 : Ref sig .tc := ⟨.hbm, 109, rfl⟩
abbrev main_v72_1 : Ref sig .tc := ⟨.hbm, 110, rfl⟩
abbrev main_v72_2 : Ref sig .tc := ⟨.hbm, 111, rfl⟩
abbrev main_v72_3 : Ref sig .tc := ⟨.hbm, 112, rfl⟩
abbrev main_v72_4 : Ref sig .tc := ⟨.hbm, 113, rfl⟩
abbrev main_v72_5 : Ref sig .tc := ⟨.hbm, 114, rfl⟩
abbrev main_v72_6 : Ref sig .tc := ⟨.hbm, 115, rfl⟩
abbrev main_v72_7 : Ref sig .tc := ⟨.hbm, 116, rfl⟩
abbrev main_while0c_c_20 : Ref sig .tc := ⟨.hbm, 117, rfl⟩
abbrev main_while0c_v243 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_v0 : Ref sig .tc := ⟨.hbm, 121, rfl⟩
abbrev main_while0b_v243 : Ref sig .tc := ⟨.hbm, 122, rfl⟩
abbrev main_while0b_call4_c : Ref sig .tc := ⟨.hbm, 123, rfl⟩
abbrev main_while0b_call4_c_0 : Ref sig .tc := ⟨.hbm, 124, rfl⟩
abbrev main_while0b_call4_v0 : Ref sig .tc := ⟨.hbm, 125, rfl⟩
abbrev main_while0b_v244 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_v0 : Ref sig .tc := ⟨.hbm, 129, rfl⟩
abbrev main_while0b_v245 : Ref sig .tc := ⟨.hbm, 130, rfl⟩
abbrev main_while0b_call6_c : Ref sig .tc := ⟨.hbm, 131, rfl⟩
abbrev main_while0b_call6_c_0 : Ref sig .tc := ⟨.hbm, 132, rfl⟩
abbrev main_while0b_call6_v0 : Ref sig .tc := ⟨.hbm, 133, rfl⟩
abbrev main_while0b_v246 : Ref sig .tc := ⟨.hbm, 134, rfl⟩
abbrev main_while0b_v247 : Ref sig .tc := ⟨.hbm, 135, rfl⟩
abbrev main_while0b_v248 : Ref sig .tc := ⟨.hbm, 136, rfl⟩
abbrev main_while0b_v249 : Ref sig .tc := ⟨.hbm, 137, rfl⟩
abbrev main_while0b_v250 : Ref sig .tc := ⟨.hbm, 138, rfl⟩
abbrev main_while0b_v251 : Ref sig .tc := ⟨.hbm, 139, rfl⟩
abbrev main_while0b_v252 : Ref sig .tc := ⟨.hbm, 140, rfl⟩
abbrev main_while0b_v253 : Ref sig .tc := ⟨.hbm, 141, rfl⟩
abbrev main_while0b_v254 : Ref sig .tc := ⟨.hbm, 142, rfl⟩
abbrev main_while0b_v255 : Ref sig .tc := ⟨.hbm, 143, rfl⟩
abbrev main_while0b_v256 : Ref sig .tc := ⟨.hbm, 144, rfl⟩
abbrev main_while0b_v257 : Ref sig .tc := ⟨.hbm, 145, rfl⟩
abbrev main_while0b_v258 : Ref sig .tc := ⟨.hbm, 146, rfl⟩
abbrev main_while0b_v259 : Ref sig .tc := ⟨.hbm, 147, rfl⟩
abbrev main_while0b_v260 : Ref sig .tc := ⟨.hbm, 148, rfl⟩
abbrev main_while0b_v261 : Ref sig .tc := ⟨.hbm, 149, rfl⟩
abbrev main_while0b_call7_v0 : Ref sig .tc := ⟨.hbm, 150, rfl⟩
abbrev main_while0b_call7_c : Ref sig .tc := ⟨.hbm, 151, rfl⟩
abbrev main_while0b_call7_c_0 : Ref sig .tc := ⟨.hbm, 152, rfl⟩
abbrev main_while0b_v262 : Ref sig .tc := ⟨.hbm, 153, rfl⟩
abbrev main_while0b_c_20 : Ref sig .tc := ⟨.hbm, 154, rfl⟩
abbrev main_while0b_v263 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v78 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩
abbrev main_v95 : Ref sig .tc := ⟨.hbm, 186, rfl⟩
abbrev main_v96 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_c_3 : Ref sig .tc := ⟨.hbm, 193, rfl⟩
abbrev main_call9_v0 : Ref sig .tc := ⟨.hbm, 194, rfl⟩
abbrev main_v102 : Ref sig .tc := ⟨.hbm, 195, rfl⟩
abbrev main_v103 : Ref sig .tc := ⟨.hbm, 196, rfl⟩
abbrev main_v104 : Ref sig .tc := ⟨.hbm, 197, rfl⟩
abbrev main_v105 : Ref sig .tc := ⟨.hbm, 198, rfl⟩
abbrev main_v106 : Ref sig .tc := ⟨.hbm, 199, rfl⟩
abbrev main_v107 : Ref sig .tc := ⟨.hbm, 200, rfl⟩
abbrev main_v108 : Ref sig .tc := ⟨.hbm, 201, rfl⟩
abbrev main_cst_4 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_call10_v0 : Ref sig .tc := ⟨.hbm, 229, rfl⟩
abbrev main_call10_v1 : Ref sig .tc := ⟨.hbm, 230, rfl⟩
abbrev main_call10_cst : Ref sig .tc := ⟨.hbm, 231, rfl⟩
abbrev main_call10_v2 : Ref sig .tc := ⟨.hbm, 232, rfl⟩
abbrev main_call10_v3 : Ref sig .tc := ⟨.hbm, 233, rfl⟩
abbrev main_call10_cst_0 : Ref sig .tc := ⟨.hbm, 234, rfl⟩
abbrev main_call10_v4 : Ref sig .tc := ⟨.hbm, 235, rfl⟩
abbrev main_call10_v5 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_call11_cst : Ref sig .tc := ⟨.hbm, 246, rfl⟩
abbrev main_call11_v0 : Ref sig .tc := ⟨.hbm, 247, rfl⟩
abbrev main_call11_v1 : Ref sig .tc := ⟨.hbm, 248, rfl⟩
abbrev main_call11_v2 : Ref sig .tc := ⟨.hbm, 249, rfl⟩
abbrev main_call11_v3 : Ref sig .tc := ⟨.hbm, 250, rfl⟩
abbrev main_call11_v4 : Ref sig .tc := ⟨.hbm, 251, rfl⟩
abbrev main_call11_v5 : Ref sig .tc := ⟨.hbm, 252, rfl⟩
abbrev main_call11_v6 : Ref sig .tc := ⟨.hbm, 253, rfl⟩
abbrev main_call11_v7 : Ref sig .tc := ⟨.hbm, 254, rfl⟩
abbrev main_call11_v8 : Ref sig .tc := ⟨.hbm, 255, rfl⟩
abbrev main_call11_v9 : Ref sig .tc := ⟨.hbm, 256, rfl⟩
abbrev main_call11_v10 : Ref sig .tc := ⟨.hbm, 257, rfl⟩
abbrev main_call11_v11 : Ref sig .tc := ⟨.hbm, 258, rfl⟩
abbrev main_v144 : Ref sig .tc := ⟨.hbm, 259, rfl⟩
abbrev main_v145 : Ref sig .tc := ⟨.hbm, 260, rfl⟩
abbrev main_v146 : Ref sig .tc := ⟨.hbm, 261, rfl⟩
abbrev main_cst_5 : Ref sig .tc := ⟨.hbm, 262, rfl⟩
abbrev main_v147 : Ref sig .tc := ⟨.hbm, 263, rfl⟩
abbrev main_v148 : Ref sig .tc := ⟨.hbm, 264, rfl⟩
abbrev main_v149 : Ref sig .tc := ⟨.hbm, 265, rfl⟩
abbrev main_v150 : Ref sig .tc := ⟨.hbm, 266, rfl⟩
abbrev main_v151 : Ref sig .tc := ⟨.hbm, 267, rfl⟩
abbrev main_cst_6 : Ref sig .tc := ⟨.hbm, 268, rfl⟩
abbrev main_v152 : Ref sig .tc := ⟨.hbm, 269, rfl⟩
abbrev main_c_7 : Ref sig .tc := ⟨.hbm, 270, rfl⟩
abbrev main_v153_0 : Ref sig .tc := ⟨.hbm, 271, rfl⟩
abbrev main_v153_1 : Ref sig .tc := ⟨.hbm, 272, rfl⟩
abbrev main_v153_2 : Ref sig .tc := ⟨.hbm, 273, rfl⟩
abbrev main_v153_3 : Ref sig .tc := ⟨.hbm, 274, rfl⟩
abbrev main_v153_4 : Ref sig .tc := ⟨.hbm, 275, rfl⟩
abbrev main_v153_5 : Ref sig .tc := ⟨.hbm, 276, rfl⟩
abbrev main_v153_6 : Ref sig .tc := ⟨.hbm, 277, rfl⟩
abbrev main_v153_7 : Ref sig .tc := ⟨.hbm, 278, rfl⟩
abbrev main_while1c_c_20 : Ref sig .tc := ⟨.hbm, 279, rfl⟩
abbrev main_while1c_v243 : Ref sig .tc := ⟨.hbm, 280, rfl⟩
abbrev main_while1b_call12_c : Ref sig .tc := ⟨.hbm, 281, rfl⟩
abbrev main_while1b_call12_c_0 : Ref sig .tc := ⟨.hbm, 282, rfl⟩
abbrev main_while1b_call12_v0 : Ref sig .tc := ⟨.hbm, 283, rfl⟩
abbrev main_while1b_v243 : Ref sig .tc := ⟨.hbm, 284, rfl⟩
abbrev main_while1b_call13_c : Ref sig .tc := ⟨.hbm, 285, rfl⟩
abbrev main_while1b_call13_c_0 : Ref sig .tc := ⟨.hbm, 286, rfl⟩
abbrev main_while1b_call13_v0 : Ref sig .tc := ⟨.hbm, 287, rfl⟩
abbrev main_while1b_v244 : Ref sig .tc := ⟨.hbm, 288, rfl⟩
abbrev main_while1b_call14_c : Ref sig .tc := ⟨.hbm, 289, rfl⟩
abbrev main_while1b_call14_c_0 : Ref sig .tc := ⟨.hbm, 290, rfl⟩
abbrev main_while1b_call14_v0 : Ref sig .tc := ⟨.hbm, 291, rfl⟩
abbrev main_while1b_v245 : Ref sig .tc := ⟨.hbm, 292, rfl⟩
abbrev main_while1b_call15_c : Ref sig .tc := ⟨.hbm, 293, rfl⟩
abbrev main_while1b_call15_c_0 : Ref sig .tc := ⟨.hbm, 294, rfl⟩
abbrev main_while1b_call15_v0 : Ref sig .tc := ⟨.hbm, 295, rfl⟩
abbrev main_while1b_v246 : Ref sig .tc := ⟨.hbm, 296, rfl⟩
abbrev main_while1b_v247 : Ref sig .tc := ⟨.hbm, 297, rfl⟩
abbrev main_while1b_v248 : Ref sig .tc := ⟨.hbm, 298, rfl⟩
abbrev main_while1b_v249 : Ref sig .tc := ⟨.hbm, 299, rfl⟩
abbrev main_while1b_v250 : Ref sig .tc := ⟨.hbm, 300, rfl⟩
abbrev main_while1b_v251 : Ref sig .tc := ⟨.hbm, 301, rfl⟩
abbrev main_while1b_v252 : Ref sig .tc := ⟨.hbm, 302, rfl⟩
abbrev main_while1b_v253 : Ref sig .tc := ⟨.hbm, 303, rfl⟩
abbrev main_while1b_v254 : Ref sig .tc := ⟨.hbm, 304, rfl⟩
abbrev main_while1b_v255 : Ref sig .tc := ⟨.hbm, 305, rfl⟩
abbrev main_while1b_v256 : Ref sig .tc := ⟨.hbm, 306, rfl⟩
abbrev main_while1b_v257 : Ref sig .tc := ⟨.hbm, 307, rfl⟩
abbrev main_while1b_v258 : Ref sig .tc := ⟨.hbm, 308, rfl⟩
abbrev main_while1b_v259 : Ref sig .tc := ⟨.hbm, 309, rfl⟩
abbrev main_while1b_v260 : Ref sig .tc := ⟨.hbm, 310, rfl⟩
abbrev main_while1b_v261 : Ref sig .tc := ⟨.hbm, 311, rfl⟩
abbrev main_while1b_call16_v0 : Ref sig .tc := ⟨.hbm, 312, rfl⟩
abbrev main_while1b_call16_c : Ref sig .tc := ⟨.hbm, 313, rfl⟩
abbrev main_while1b_call16_c_0 : Ref sig .tc := ⟨.hbm, 314, rfl⟩
abbrev main_while1b_v262 : Ref sig .tc := ⟨.hbm, 315, rfl⟩
abbrev main_while1b_c_20 : Ref sig .tc := ⟨.hbm, 316, rfl⟩
abbrev main_while1b_v263 : Ref sig .tc := ⟨.hbm, 317, rfl⟩
abbrev main_v154 : Ref sig .tc := ⟨.hbm, 318, rfl⟩
abbrev main_v155 : Ref sig .tc := ⟨.hbm, 319, rfl⟩
abbrev main_v156 : Ref sig .tc := ⟨.hbm, 320, rfl⟩
abbrev main_v157 : Ref sig .tc := ⟨.hbm, 321, rfl⟩
abbrev main_v158 : Ref sig .tc := ⟨.hbm, 322, rfl⟩
abbrev main_call17_v0 : Ref sig .tc := ⟨.hbm, 323, rfl⟩
abbrev main_call17_v1 : Ref sig .tc := ⟨.hbm, 324, rfl⟩
abbrev main_call17_cst : Ref sig .tc := ⟨.hbm, 325, rfl⟩
abbrev main_call17_v2 : Ref sig .tc := ⟨.hbm, 326, rfl⟩
abbrev main_call17_v3 : Ref sig .tc := ⟨.hbm, 327, rfl⟩
abbrev main_call17_cst_0 : Ref sig .tc := ⟨.hbm, 328, rfl⟩
abbrev main_call17_v4 : Ref sig .tc := ⟨.hbm, 329, rfl⟩
abbrev main_call17_v5 : Ref sig .tc := ⟨.hbm, 330, rfl⟩
abbrev main_v159 : Ref sig .tc := ⟨.hbm, 331, rfl⟩
abbrev main_v160 : Ref sig .tc := ⟨.hbm, 332, rfl⟩
abbrev main_v161 : Ref sig .tc := ⟨.hbm, 333, rfl⟩
abbrev main_v162 : Ref sig .tc := ⟨.hbm, 334, rfl⟩
abbrev main_v163 : Ref sig .tc := ⟨.hbm, 335, rfl⟩
abbrev main_v164 : Ref sig .tc := ⟨.hbm, 336, rfl⟩
abbrev main_v165 : Ref sig .tc := ⟨.hbm, 337, rfl⟩
abbrev main_v166 : Ref sig .tc := ⟨.hbm, 338, rfl⟩
abbrev main_v167 : Ref sig .tc := ⟨.hbm, 339, rfl⟩
abbrev main_v168 : Ref sig .tc := ⟨.hbm, 340, rfl⟩
abbrev main_v169 : Ref sig .tc := ⟨.hbm, 341, rfl⟩
abbrev main_v170 : Ref sig .tc := ⟨.hbm, 342, rfl⟩
abbrev main_v171 : Ref sig .tc := ⟨.hbm, 343, rfl⟩
abbrev main_v172 : Ref sig .tc := ⟨.hbm, 344, rfl⟩
abbrev main_v173 : Ref sig .tc := ⟨.hbm, 345, rfl⟩
abbrev main_v174 : Ref sig .tc := ⟨.hbm, 346, rfl⟩
abbrev main_v175 : Ref sig .tc := ⟨.hbm, 347, rfl⟩
abbrev main_v176 : Ref sig .tc := ⟨.hbm, 348, rfl⟩
abbrev main_v177 : Ref sig .tc := ⟨.hbm, 349, rfl⟩
abbrev main_v178 : Ref sig .tc := ⟨.hbm, 350, rfl⟩
abbrev main_v179 : Ref sig .tc := ⟨.hbm, 351, rfl⟩
abbrev main_v180 : Ref sig .tc := ⟨.hbm, 352, rfl⟩
abbrev main_v181 : Ref sig .tc := ⟨.hbm, 353, rfl⟩
abbrev main_v182 : Ref sig .tc := ⟨.hbm, 354, rfl⟩
abbrev main_c_8 : Ref sig .tc := ⟨.hbm, 355, rfl⟩
abbrev main_call18_v0 : Ref sig .tc := ⟨.hbm, 356, rfl⟩
abbrev main_v183 : Ref sig .tc := ⟨.hbm, 357, rfl⟩
abbrev main_v184 : Ref sig .tc := ⟨.hbm, 358, rfl⟩
abbrev main_v185 : Ref sig .tc := ⟨.hbm, 359, rfl⟩
abbrev main_v186 : Ref sig .tc := ⟨.hbm, 360, rfl⟩
abbrev main_v187 : Ref sig .tc := ⟨.hbm, 361, rfl⟩
abbrev main_v188 : Ref sig .tc := ⟨.hbm, 362, rfl⟩
abbrev main_v189 : Ref sig .tc := ⟨.hbm, 363, rfl⟩
abbrev main_cst_9 : Ref sig .tc := ⟨.hbm, 364, rfl⟩
abbrev main_v190 : Ref sig .tc := ⟨.hbm, 365, rfl⟩
abbrev main_v191 : Ref sig .tc := ⟨.hbm, 366, rfl⟩
abbrev main_v192 : Ref sig .tc := ⟨.hbm, 367, rfl⟩
abbrev main_v193 : Ref sig .tc := ⟨.hbm, 368, rfl⟩
abbrev main_v194 : Ref sig .tc := ⟨.hbm, 369, rfl⟩
abbrev main_v195 : Ref sig .tc := ⟨.hbm, 370, rfl⟩
abbrev main_v196 : Ref sig .tc := ⟨.hbm, 371, rfl⟩
abbrev main_v197 : Ref sig .tc := ⟨.hbm, 372, rfl⟩
abbrev main_v198 : Ref sig .tc := ⟨.hbm, 373, rfl⟩
abbrev main_v199 : Ref sig .tc := ⟨.hbm, 374, rfl⟩
abbrev main_v200 : Ref sig .tc := ⟨.hbm, 375, rfl⟩
abbrev main_v201 : Ref sig .tc := ⟨.hbm, 376, rfl⟩
abbrev main_v202 : Ref sig .tc := ⟨.hbm, 377, rfl⟩
abbrev main_v203 : Ref sig .tc := ⟨.hbm, 378, rfl⟩
abbrev main_v204 : Ref sig .tc := ⟨.hbm, 379, rfl⟩
abbrev main_v205 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_v209 : Ref sig .tc := ⟨.hbm, 384, rfl⟩
abbrev main_v210 : Ref sig .tc := ⟨.hbm, 385, rfl⟩
abbrev main_v211 : Ref sig .tc := ⟨.hbm, 386, rfl⟩
abbrev main_v212 : Ref sig .tc := ⟨.hbm, 387, rfl⟩
abbrev main_v213 : Ref sig .tc := ⟨.hbm, 388, rfl⟩
abbrev main_v214 : Ref sig .tc := ⟨.hbm, 389, rfl⟩
abbrev main_v215 : Ref sig .tc := ⟨.hbm, 390, rfl⟩
abbrev main_call19_v0 : Ref sig .tc := ⟨.hbm, 391, rfl⟩
abbrev main_call19_v1 : Ref sig .tc := ⟨.hbm, 392, rfl⟩
abbrev main_call19_cst : Ref sig .tc := ⟨.hbm, 393, rfl⟩
abbrev main_call19_v2 : Ref sig .tc := ⟨.hbm, 394, rfl⟩
abbrev main_call19_v3 : Ref sig .tc := ⟨.hbm, 395, rfl⟩
abbrev main_call19_cst_0 : Ref sig .tc := ⟨.hbm, 396, rfl⟩
abbrev main_call19_v4 : Ref sig .tc := ⟨.hbm, 397, rfl⟩
abbrev main_call19_v5 : Ref sig .tc := ⟨.hbm, 398, rfl⟩
abbrev main_v216 : Ref sig .tc := ⟨.hbm, 399, rfl⟩
abbrev main_v217 : Ref sig .tc := ⟨.hbm, 400, rfl⟩
abbrev main_v218 : Ref sig .tc := ⟨.hbm, 401, rfl⟩
abbrev main_v219 : Ref sig .tc := ⟨.hbm, 402, rfl⟩
abbrev main_v220 : Ref sig .tc := ⟨.hbm, 403, rfl⟩
abbrev main_v221 : Ref sig .tc := ⟨.hbm, 404, rfl⟩
abbrev main_v222 : Ref sig .tc := ⟨.hbm, 405, rfl⟩
abbrev main_v223 : Ref sig .tc := ⟨.hbm, 406, rfl⟩
abbrev main_v224 : Ref sig .tc := ⟨.hbm, 407, rfl⟩
abbrev main_call20_cst : Ref sig .tc := ⟨.hbm, 408, rfl⟩
abbrev main_call20_v0 : Ref sig .tc := ⟨.hbm, 409, rfl⟩
abbrev main_call20_v1 : Ref sig .tc := ⟨.hbm, 410, rfl⟩
abbrev main_call20_v2 : Ref sig .tc := ⟨.hbm, 411, rfl⟩
abbrev main_call20_v3 : Ref sig .tc := ⟨.hbm, 412, rfl⟩
abbrev main_call20_v4 : Ref sig .tc := ⟨.hbm, 413, rfl⟩
abbrev main_call20_v5 : Ref sig .tc := ⟨.hbm, 414, rfl⟩
abbrev main_call20_v6 : Ref sig .tc := ⟨.hbm, 415, rfl⟩
abbrev main_call20_v7 : Ref sig .tc := ⟨.hbm, 416, rfl⟩
abbrev main_call20_v8 : Ref sig .tc := ⟨.hbm, 417, rfl⟩
abbrev main_call20_v9 : Ref sig .tc := ⟨.hbm, 418, rfl⟩
abbrev main_call20_v10 : Ref sig .tc := ⟨.hbm, 419, rfl⟩
abbrev main_call20_v11 : Ref sig .tc := ⟨.hbm, 420, rfl⟩
abbrev main_v225 : Ref sig .tc := ⟨.hbm, 421, rfl⟩
abbrev main_v226 : Ref sig .tc := ⟨.hbm, 422, rfl⟩
abbrev main_v227 : Ref sig .tc := ⟨.hbm, 423, rfl⟩
abbrev main_cst_10 : Ref sig .tc := ⟨.hbm, 424, rfl⟩
abbrev main_v228 : Ref sig .tc := ⟨.hbm, 425, rfl⟩
abbrev main_v229 : Ref sig .tc := ⟨.hbm, 426, rfl⟩
abbrev main_v230 : Ref sig .tc := ⟨.hbm, 427, rfl⟩
abbrev main_v231 : Ref sig .tc := ⟨.hbm, 428, rfl⟩
abbrev main_v232 : Ref sig .tc := ⟨.hbm, 429, rfl⟩
abbrev main_cst_11 : Ref sig .tc := ⟨.hbm, 430, rfl⟩
abbrev main_v233 : Ref sig .tc := ⟨.hbm, 431, rfl⟩
abbrev main_c_12 : Ref sig .tc := ⟨.hbm, 432, rfl⟩
abbrev main_v234_0 : Ref sig .tc := ⟨.hbm, 433, rfl⟩
abbrev main_v234_1 : Ref sig .tc := ⟨.hbm, 434, rfl⟩
abbrev main_v234_2 : Ref sig .tc := ⟨.hbm, 435, rfl⟩
abbrev main_v234_3 : Ref sig .tc := ⟨.hbm, 436, rfl⟩
abbrev main_v234_4 : Ref sig .tc := ⟨.hbm, 437, rfl⟩
abbrev main_v234_5 : Ref sig .tc := ⟨.hbm, 438, rfl⟩
abbrev main_v234_6 : Ref sig .tc := ⟨.hbm, 439, rfl⟩
abbrev main_v234_7 : Ref sig .tc := ⟨.hbm, 440, rfl⟩
abbrev main_while2c_c_20 : Ref sig .tc := ⟨.hbm, 441, rfl⟩
abbrev main_while2c_v243 : Ref sig .tc := ⟨.hbm, 442, rfl⟩
abbrev main_while2b_call21_c : Ref sig .tc := ⟨.hbm, 443, rfl⟩
abbrev main_while2b_call21_c_0 : Ref sig .tc := ⟨.hbm, 444, rfl⟩
abbrev main_while2b_call21_v0 : Ref sig .tc := ⟨.hbm, 445, rfl⟩
abbrev main_while2b_v243 : Ref sig .tc := ⟨.hbm, 446, rfl⟩
abbrev main_while2b_call22_c : Ref sig .tc := ⟨.hbm, 447, rfl⟩
abbrev main_while2b_call22_c_0 : Ref sig .tc := ⟨.hbm, 448, rfl⟩
abbrev main_while2b_call22_v0 : Ref sig .tc := ⟨.hbm, 449, rfl⟩
abbrev main_while2b_v244 : Ref sig .tc := ⟨.hbm, 450, rfl⟩
abbrev main_while2b_call23_c : Ref sig .tc := ⟨.hbm, 451, rfl⟩
abbrev main_while2b_call23_c_0 : Ref sig .tc := ⟨.hbm, 452, rfl⟩
abbrev main_while2b_call23_v0 : Ref sig .tc := ⟨.hbm, 453, rfl⟩
abbrev main_while2b_v245 : Ref sig .tc := ⟨.hbm, 454, rfl⟩
abbrev main_while2b_call24_c : Ref sig .tc := ⟨.hbm, 455, rfl⟩
abbrev main_while2b_call24_c_0 : Ref sig .tc := ⟨.hbm, 456, rfl⟩
abbrev main_while2b_call24_v0 : Ref sig .tc := ⟨.hbm, 457, rfl⟩
abbrev main_while2b_v246 : Ref sig .tc := ⟨.hbm, 458, rfl⟩
abbrev main_while2b_v247 : Ref sig .tc := ⟨.hbm, 459, rfl⟩
abbrev main_while2b_v248 : Ref sig .tc := ⟨.hbm, 460, rfl⟩
abbrev main_while2b_v249 : Ref sig .tc := ⟨.hbm, 461, rfl⟩
abbrev main_while2b_v250 : Ref sig .tc := ⟨.hbm, 462, rfl⟩
abbrev main_while2b_v251 : Ref sig .tc := ⟨.hbm, 463, rfl⟩
abbrev main_while2b_v252 : Ref sig .tc := ⟨.hbm, 464, rfl⟩
abbrev main_while2b_v253 : Ref sig .tc := ⟨.hbm, 465, rfl⟩
abbrev main_while2b_v254 : Ref sig .tc := ⟨.hbm, 466, rfl⟩
abbrev main_while2b_v255 : Ref sig .tc := ⟨.hbm, 467, rfl⟩
abbrev main_while2b_v256 : Ref sig .tc := ⟨.hbm, 468, rfl⟩
abbrev main_while2b_v257 : Ref sig .tc := ⟨.hbm, 469, rfl⟩
abbrev main_while2b_v258 : Ref sig .tc := ⟨.hbm, 470, rfl⟩
abbrev main_while2b_v259 : Ref sig .tc := ⟨.hbm, 471, rfl⟩
abbrev main_while2b_v260 : Ref sig .tc := ⟨.hbm, 472, rfl⟩
abbrev main_while2b_v261 : Ref sig .tc := ⟨.hbm, 473, rfl⟩
abbrev main_while2b_call25_v0 : Ref sig .tc := ⟨.hbm, 474, rfl⟩
abbrev main_while2b_call25_c : Ref sig .tc := ⟨.hbm, 475, rfl⟩
abbrev main_while2b_call25_c_0 : Ref sig .tc := ⟨.hbm, 476, rfl⟩
abbrev main_while2b_v262 : Ref sig .tc := ⟨.hbm, 477, rfl⟩
abbrev main_while2b_c_20 : Ref sig .tc := ⟨.hbm, 478, rfl⟩
abbrev main_while2b_v263 : Ref sig .tc := ⟨.hbm, 479, rfl⟩
abbrev main_v235 : Ref sig .tc := ⟨.hbm, 480, rfl⟩
abbrev main_v236 : Ref sig .tc := ⟨.hbm, 481, rfl⟩
abbrev main_v237 : Ref sig .tc := ⟨.hbm, 482, rfl⟩
abbrev main_v238 : Ref sig .tc := ⟨.hbm, 483, rfl⟩
abbrev main_v239 : Ref sig .tc := ⟨.hbm, 484, rfl⟩
abbrev main_call26_v0 : Ref sig .tc := ⟨.hbm, 485, rfl⟩
abbrev main_call26_v1 : Ref sig .tc := ⟨.hbm, 486, rfl⟩
abbrev main_call26_cst : Ref sig .tc := ⟨.hbm, 487, rfl⟩
abbrev main_call26_v2 : Ref sig .tc := ⟨.hbm, 488, rfl⟩
abbrev main_call26_v3 : Ref sig .tc := ⟨.hbm, 489, rfl⟩
abbrev main_call26_cst_0 : Ref sig .tc := ⟨.hbm, 490, rfl⟩
abbrev main_call26_v4 : Ref sig .tc := ⟨.hbm, 491, rfl⟩
abbrev main_call26_v5 : Ref sig .tc := ⟨.hbm, 492, rfl⟩
abbrev main_v240 : Ref sig .tc := ⟨.hbm, 493, rfl⟩
abbrev main_v241 : Ref sig .tc := ⟨.hbm, 494, rfl⟩
abbrev main_v242 : Ref sig .tc := ⟨.hbm, 495, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩

abbrev main_while2_count : Scf.Loop 32 := ⟨0#32, 4096#32, 1#32⟩
-- ==== Proof.Own.lean ====
/- A load and a store through a memref that is owned at known contents: what the load reads is a window of the
   contents, and what the store leaves is the contents with the payload put there. -/
module

public import Idealize.ShloMosaic.Lib.Tactic
public import Idealize.ShloMosaic.Lib.VecWindow
public import Idealize.ShloMosaic.Lib.Writes
public import Idealize.ShloMosaic.Lib.Exec

@[expose] public section

noncomputable section

namespace Mamba

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : ℕ} {τ : Topo} {sig : RefSig} {Val : EltTy → Type}
variable {Ix Name U : Type} [DecidableEq Ix] [DecidableEq Name] [RA.URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load through an owned memref reads a window of its contents. -/
theorem own_load {cs : CoreSpace} {m : Memref sig c.2.kind cs s e} {off size : Fin s.rank → ℕ}
    {inb : ∀ a, off a + size a ≤ s.size a}
    {hl : m.view.LoadsAt (Rect.unit off size inb).toLoadRect} {q : PosShare TreeShare} {X : s.Idx → Val e}
    {k : ((Rect.unit off size inb).shape.Idx → Val e) → Prog (TpuEff nD τ sig Val Λ c.2) α} :
    (owns c m q X : sProp (MT nD τ sig Ix Val Name U Lvl))
      ⊢ iprop((owns c m q X -∗ wp frame (wpE defs 𝒱 c bd) E (k (VecWindow.window X off size inb)) Q)
        -∗ wp frame (wpE defs 𝒱 c bd) E (Prog.lift (.load m (Rect.unit off size inb).toLoadRect hl) >>= k) Q) := by
  unfold owns
  iintro ⟨%f, %hf, H⟩ HK
  have h : (m.view.loc c ↦[m.view.set]{q} f : sProp (MT nD τ sig Ix Val Name U Lvl))
      ⊢ iprop(((m.view.loc c ↦[m.view.set]{q} f) -∗ wp frame (wpE defs 𝒱 c bd) E (k (m.view.readAt Val _ f)) Q)
        -∗ wp frame (wpE defs 𝒱 c bd) E (.op (.load m _ hl) k) Q) :=
    wp_load (defs := defs) (U := U) (Lvl := Lvl) (Ix := Ix) (Name := Name) 𝒱 c bd E (Q := Q) (m := m) (r := (Rect.unit off size inb).toLoadRect) (hl := hl)
      (k := k) (q := q) (f := f) (S := m.view.set) (View.setOn_subset_set _ _)
  rw [View.readAt_unit m.view f inb rfl inb, hf] at h
  iapply h $$ [H]
  · iexact H
  iintro H
  iapply HK
  iexists f
  isplitr
  · ipureintro; exact hf
  iexact H

/-- A load of an owned memref's own sizes reads its contents. -/
theorem own_load_full {cs : CoreSpace} {m : Memref sig c.2.kind cs s e} {off : Fin s.rank → ℕ}
    {inb : ∀ a, off a + s.size a ≤ s.size a}
    {hl : m.view.LoadsAt (Rect.unit off s.size inb).toLoadRect} {q : PosShare TreeShare} {X : s.Idx → Val e}
    {k : (s.Idx → Val e) → Prog (TpuEff nD τ sig Val Λ c.2) α} :
    (owns c m q X : sProp (MT nD τ sig Ix Val Name U Lvl))
      ⊢ iprop((owns c m q X -∗ wp frame (wpE defs 𝒱 c bd) E (k X) Q)
        -∗ wp frame (wpE defs 𝒱 c bd) E (Prog.lift (.load m (Rect.unit off s.size inb).toLoadRect hl) >>= k) Q) := by
  have hw : VecWindow.window X off s.size inb = X := by
    funext y
    exact congrArg X (funext fun a => Fin.ext (by
      show off a + 1 * (y a).val = (y a).val
      have := inb a; omega))
  have h := own_load (defs := defs) (U := U) (Lvl := Lvl) (Ix := Ix) (Name := Name) 𝒱 c bd E (Q := Q) (m := m) (inb := inb) (hl := hl) (q := q) (X := X) (k := k)
  rwa [hw] at h

/-- An unmasked store through an owned memref puts the payload in its contents. -/
theorem own_store {cs : CoreSpace} {m : Memref sig c.2.kind cs s e} {off size : Fin s.rank → ℕ}
    {inb : ∀ a, off a + size a ≤ s.size a} {w : (Rect.unit off size inb).shape.Idx → Val e}
    {hx : (m.access (Rect.unit off size inb)).Stores Finset.univ}
    {hm : Finset.univ = Finset.univ ∨ ∀ a, (Rect.unit off size inb).stride a = 1} {X : s.Idx → Val e}
    {k : PUnit → Prog (TpuEff nD τ sig Val Λ c.2) α} :
    (owns c m fullShare X : sProp (MT nD τ sig Ix Val Name U Lvl))
      ⊢ iprop((owns c m fullShare (VecWindow.put X off size w) -∗ wp frame (wpE defs 𝒱 c bd) E (k ⟨⟩) Q)
        -∗ wp frame (wpE defs 𝒱 c bd) E (Prog.lift (.store m (Rect.unit off size inb) w Finset.univ hx hm) >>= k) Q) := by
  unfold owns
  iintro ⟨%f, %hf, H⟩ HK
  have h : (m.view.loc c ↦[m.view.set]{fullShare} f : sProp (MT nD τ sig Ix Val Name U Lvl))
      ⊢ iprop(((m.view.loc c ↦[m.view.set]{fullShare} (m.access (Rect.unit off size inb)).write Val f w Finset.univ) -∗ wp frame (wpE defs 𝒱 c bd) E (k ⟨⟩) Q)
        -∗ wp frame (wpE defs 𝒱 c bd) E (.op (.store m (Rect.unit off size inb) w Finset.univ hx hm) k) Q) :=
    wp_store (defs := defs) (U := U) (Lvl := Lvl) (Ix := Ix) (Name := Name) 𝒱 c bd E (Q := Q) (m := m) (r := Rect.unit off size inb) (w := w) (Mk := Finset.univ) (hx := hx) (hm := hm)
      (k := k) (f := f) (S := m.view.set) (View.set_slice_subset _ _)
  iapply h $$ [H]
  · iexact H
  iintro H
  iapply HK
  iexists ((m.access (Rect.unit off size inb)).write Val f w Finset.univ)
  isplitr
  · ipureintro
    rw [← hf]
    exact View.read_writes_cons_put m.view f inb w [] rfl
  iexact H

/-- The same when the store covers the memref: it leaves the payload. -/
theorem own_store_full {cs : CoreSpace} {m : Memref sig c.2.kind cs s e} {off : Fin s.rank → ℕ}
    {inb : ∀ a, off a + s.size a ≤ s.size a} {w : s.Idx → Val e}
    {hx : (m.access (Rect.unit off s.size inb)).Stores Finset.univ}
    {hm : Finset.univ = Finset.univ ∨ ∀ a, (Rect.unit off s.size inb).stride a = 1} {X : s.Idx → Val e}
    {k : PUnit → Prog (TpuEff nD τ sig Val Λ c.2) α} :
    (owns c m fullShare X : sProp (MT nD τ sig Ix Val Name U Lvl))
      ⊢ iprop((owns c m fullShare w -∗ wp frame (wpE defs 𝒱 c bd) E (k ⟨⟩) Q)
        -∗ wp frame (wpE defs 𝒱 c bd) E (Prog.lift (.store m (Rect.unit off s.size inb) w Finset.univ hx hm) >>= k) Q) := by
  have hw : VecWindow.put X off s.size w = w := by
    funext y
    have hy : ∀ a, off a ≤ (y a).val ∧ (y a).val < off a + s.size a := fun a => by
      have := inb a; have := (y a).isLt; omega
    exact (dif_pos hy).trans (congrArg w (funext fun a => Fin.ext (by
      show (y a).val - off a = (y a).val
      have := inb a; omega)))
  have h := own_store (defs := defs) (U := U) (Lvl := Lvl) (Ix := Ix) (Name := Name) 𝒱 c bd E (Q := Q) (m := m) (inb := inb) (w := w) (hx := hx) (hm := hm) (X := X) (k := k)
  rwa [hw] at h

/-- The end of a program: its post at the value returned. -/
theorem own_ret {x : α} :
    (Q x : sProp (MT nD τ sig Ix Val Name U Lvl)) ⊢ wp frame (wpE defs 𝒱 c bd) E (pure x : Prog (TpuEff nD τ sig Val Λ c.2) α) Q := by
  show Q x ⊢ wp frame (wpE defs 𝒱 c bd) E (Prog.ret x) Q
  rw [wp_ret]
  iintro H
  imodintro
  iexact H

end Mamba
-- ==== Proof.ProjBody.lean ====
/- One run of the projection kernel's body, over the contents of its buffers. -/
module

public import proofs.«01_k».proof.Proof.Own
public import proofs.«01_k».proof.Proof.Gen.KernelIdeal.Skeleton

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Mamba Cert.KernelIdeal.Gen

variable {F : FTy → Type} [FloatOps F]

local notation "𝕄" => MT nD τ sig Unit (Elt F) ℕ (UR sig nD τ) ℕ

/-! ## What the projection body computes, over the contents of its buffers -/

/-- The eight rows before a block: zeros at the start of a sequence, else the last rows the scratch holds. -/
def headed (i : grid0.Coords) (s : Vec F S520x560 .f32) : Vec F S520x560 .f32 :=
  if (i 1).val = 0 then VecWindow.put s ![0, 0] S8x560.size (k0_pay4 (F := F))
  else VecWindow.put s ![0, 0] S8x560.size (k0_pay5 (VecWindow.window s ![512, 0] S8x560.size inb_S520x560_S8x560_512_0))

/-- The scratch the body leaves: the rows before the block and the block's own. -/
def projScr (i : grid0.Coords) (x0 : Vec F S1x512x280 .f32) (x1 : Vec F S280x1120 .f32) (s : Vec F S520x560 .f32) :
    Vec F S520x560 .f32 :=
  VecWindow.put (headed i s) ![8, 0] S512x560.size (k0_pay6 x0 x1)

/-- The convolved block after its activation. -/
def projXc (x2 : Vec F S560x4 .f32) (x3 : Vec F S1x560 .f32) (s : Vec F S520x560 .f32) : Vec F S1x512x560 .f32 :=
  k0_pay10 (k0_pay7 x3)
    (k0_pay8 (VecWindow.window s ![5, 0] S512x560.size inb_S520x560_S512x560_5_0) (VecWindow.window x2 ![0, 0] S560x1.size inb_S560x4_S560x1_0_0))
    (VecWindow.window s ![6, 0] S512x560.size inb_S520x560_S512x560_6_0) (VecWindow.window x2 ![0, 1] S560x1.size inb_S560x4_S560x1_0_1)
    (VecWindow.window s ![7, 0] S512x560.size inb_S520x560_S512x560_7_0) (VecWindow.window x2 ![0, 2] S560x1.size inb_S560x4_S560x1_0_2)
    (VecWindow.window s ![8, 0] S512x560.size inb_S520x560_S512x560_8_0) (VecWindow.window x2 ![0, 3] S560x1.size inb_S560x4_S560x1_0_3)

/-- The two state projections of the convolved block. -/
def projBc (x2 : Vec F S560x4 .f32) (x3 : Vec F S1x560 .f32) (x4 : Vec F S560x50 .f32) (s : Vec F S520x560 .f32) : Vec F S1x512x32 .f32 :=
  k0_pay12 (k0_pay7 x3)
    (k0_pay8 (VecWindow.window s ![5, 0] S512x560.size inb_S520x560_S512x560_5_0) (VecWindow.window x2 ![0, 0] S560x1.size inb_S560x4_S560x1_0_0))
    (VecWindow.window s ![6, 0] S512x560.size inb_S520x560_S512x560_6_0) (VecWindow.window x2 ![0, 1] S560x1.size inb_S560x4_S560x1_0_1)
    (VecWindow.window s ![7, 0] S512x560.size inb_S520x560_S512x560_7_0) (VecWindow.window x2 ![0, 2] S560x1.size inb_S560x4_S560x1_0_2)
    (VecWindow.window s ![8, 0] S512x560.size inb_S520x560_S512x560_8_0) (VecWindow.window x2 ![0, 3] S560x1.size inb_S560x4_S560x1_0_3) x4

/-- The step sizes of the block. -/
def projDt (x2 : Vec F S560x4 .f32) (x3 : Vec F S1x560 .f32) (x4 : Vec F S560x50 .f32) (x5 : Vec F S18x560 .f32) (x6 : Vec F S1x560 .f32)
    (s : Vec F S520x560 .f32) : Vec F S1x512x560 .f32 :=
  k0_pay1 (k0_pay13 (k0_pay7 x3)
    (k0_pay8 (VecWindow.window s ![5, 0] S512x560.size inb_S520x560_S512x560_5_0) (VecWindow.window x2 ![0, 0] S560x1.size inb_S560x4_S560x1_0_0))
    (VecWindow.window s ![6, 0] S512x560.size inb_S520x560_S512x560_6_0) (VecWindow.window x2 ![0, 1] S560x1.size inb_S560x4_S560x1_0_1)
    (VecWindow.window s ![7, 0] S512x560.size inb_S520x560_S512x560_7_0) (VecWindow.window x2 ![0, 2] S560x1.size inb_S560x4_S560x1_0_2)
    (VecWindow.window s ![8, 0] S512x560.size inb_S520x560_S512x560_8_0) (VecWindow.window x2 ![0, 3] S560x1.size inb_S560x4_S560x1_0_3) x4) x5 x6

theorem proj_first (j : Fin 8) :
    (Scalar.cmpi .ne (Scalar.extui (Scalar.cmpi .eq (BitVec.ofNat 32 j.val) 0#32) : BitVec 32) 0#32 = 1#1) ↔ j.val = 0 := by
  revert j; decide

theorem proj_later (j : Fin 8) :
    (Scalar.cmpi .ne (Scalar.extui (Scalar.cmpi .sgt (BitVec.ofNat 32 j.val) 0#32) : BitVec 32) 0#32 = 1#1) ↔ ¬ j.val = 0 := by
  revert j; decide

section Proj

variable (𝒱 : Variants) (c : Dev nD) (bd : Option 𝒱.V) (E : Set ℕ) (i : grid0.Coords)
    (arg2 : Memref sig .tc .vmem S1x512x280 .f32) (harg2 : arg2.IsWhole)
    (arg3 : Memref sig .tc .vmem S280x1120 .f32) (harg3 : arg3.IsWhole)
    (arg4 : Memref sig .tc .vmem S560x4 .f32) (harg4 : arg4.IsWhole)
    (arg5 : Memref sig .tc .vmem S1x560 .f32) (harg5 : arg5.IsWhole)
    (arg6 : Memref sig .tc .vmem S560x50 .f32) (harg6 : arg6.IsWhole)
    (arg7 : Memref sig .tc .vmem S18x560 .f32) (harg7 : arg7.IsWhole)
    (arg8 : Memref sig .tc .vmem S1x560 .f32) (harg8 : arg8.IsWhole)
    (arg9 : Memref sig .tc .vmem S1x512x560 .f32) (harg9 : arg9.IsWhole)
    (arg10 : Memref sig .tc .vmem S1x512x560 .f32) (harg10 : arg10.IsWhole)
    (arg11 : Memref sig .tc .vmem S1x512x560 .f32) (harg11 : arg11.IsWhole)
    (arg12 : Memref sig .tc .vmem S1x512x32 .f32) (harg12 : arg12.IsWhole)
    (arg13 : Memref sig .tc .vmem S520x560 .f32) (harg13 : arg13.IsWhole)
  (x0 : Vec F S1x512x280 .f32) (x1 : Vec F S280x1120 .f32) (x2 : Vec F S560x4 .f32) (x3 : Vec F S1x560 .f32) (x4 : Vec F S560x50 .f32)
  (x5 : Vec F S18x560 .f32) (x6 : Vec F S1x560 .f32) (s : Vec F S520x560 .f32)

/-- The first part of the body: the gate block is stored, the scratch is rebuilt, the first two taps are read. -/
theorem proj_part1 (d9 : Vec F S1x512x560 .f32) (Q : (Σ' (v22 : FVec F S1x560 .f32) (v28 : FVec F S512x560 .f32), Vec F S512x560 .f32) → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg11 fullShare d9 ∗ owns (c : Thread nD τ) arg13 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg11 fullShare (k0_pay3 x0 x1)
            ∗ owns (c : Thread nD τ) arg13 fullShare (projScr i x0 x1 s))
          -∗ Q ⟨k0_pay7 x3,
            k0_pay8 (VecWindow.window (projScr i x0 x1 s) ![5, 0] S512x560.size inb_S520x560_S512x560_5_0) (VecWindow.window x2 ![0, 0] S560x1.size inb_S560x4_S560x1_0_0),
            VecWindow.window (projScr i x0 x1 s) ![6, 0] S512x560.size inb_S520x560_S512x560_6_0⟩))
      ⊢ wp frame (wpE (defs₀ (F := F)) 𝒱 (c : Thread nD τ) bd) E (k0_part1 i arg2 harg2 arg3 harg3 arg4 harg4 arg5 harg5 arg6 harg6 arg7 harg7 arg8 harg8 arg9 harg9 arg10 harg10 arg11 harg11 arg12 harg12 arg13 harg13) Q := by
  rw [k0_part1_eq_skeleton]; unfold k0_part1_skel
  iintro ⟨H2, H3, H4, H5, H11, H13, HK⟩
  iapply (own_load_full 𝒱 (c : Thread nD τ) bd E) $$ H2; iintro H2
  iapply (own_load_full 𝒱 (c : Thread nD τ) bd E) $$ H3; iintro H3
  iapply (own_load_full 𝒱 (c : Thread nD τ) bd E) $$ H11; iintro H11
  iapply (own_store_full 𝒱 (c : Thread nD τ) bd E) $$ H11; iintro H11
  by_cases hj : (i 1).val = 0
  · have e1 := (proj_first (i 1)).mpr hj
    have e2 : ¬ _ := fun h => (proj_later (i 1)).mp h hj
    have hs : projScr i x0 x1 s = VecWindow.put (VecWindow.put s ![0, 0] S8x560.size (k0_pay4 (F := F))) ![8, 0] S512x560.size (k0_pay6 x0 x1) := by
      unfold projScr headed; rw [if_pos hj]
    simp only [dif_pos e1, dif_neg e2]
    rw [hs]
    iapply (own_load 𝒱 (c : Thread nD τ) bd E) $$ H13; iintro H13
    iapply (own_store 𝒱 (c : Thread nD τ) bd E) $$ H13; iintro H13
    iapply (own_load 𝒱 (c : Thread nD τ) bd E) $$ H13; iintro H13
    iapply (own_store 𝒱 (c : Thread nD τ) bd E) $$ H13; iintro H13
    iapply (own_load_full 𝒱 (c : Thread nD τ) bd E) $$ H5; iintro H5
    iapply (own_load 𝒱 (c : Thread nD τ) bd E) $$ H13; iintro H13
    iapply (own_load 𝒱 (c : Thread nD τ) bd E) $$ H4; iintro H4
    iapply (own_load 𝒱 (c : Thread nD τ) bd E) $$ H13; iintro H13
    iapply (own_ret 𝒱 (c : Thread nD τ) bd E)
    iapply HK
    isplitl [H2]; · iexact H2
    isplitl [H3]; · iexact H3
    isplitl [H4]; · iexact H4
    isplitl [H5]; · iexact H5
    isplitl [H11]; · iexact H11
    iexact H13
  · have e1 : ¬ _ := fun h => hj ((proj_first (i 1)).mp h)
    have e2 := (proj_later (i 1)).mpr hj
    have hs : projScr i x0 x1 s = VecWindow.put (VecWindow.put s ![0, 0] S8x560.size
        (k0_pay5 (VecWindow.window s ![512, 0] S8x560.size inb_S520x560_S8x560_512_0))) ![8, 0] S512x560.size (k0_pay6 x0 x1) := by
      unfold projScr headed; rw [if_neg hj]
    simp only [dif_neg e1, dif_pos e2]
    rw [hs]
    iapply (own_load 𝒱 (c : Thread nD τ) bd E) $$ H13; iintro H13
    iapply (own_load 𝒱 (c : Thread nD τ) bd E) $$ H13; iintro H13
    iapply (own_store 𝒱 (c : Thread nD τ) bd E) $$ H13; iintro H13
    iapply (own_load 𝒱 (c : Thread nD τ) bd E) $$ H13; iintro H13
    iapply (own_store 𝒱 (c : Thread nD τ) bd E) $$ H13; iintro H13
    iapply (own_load_full 𝒱 (c : Thread nD τ) bd E) $$ H5; iintro H5
    iapply (own_load 𝒱 (c : Thread nD τ) bd E) $$ H13; iintro H13
    iapply (own_load 𝒱 (c : Thread nD τ) bd E) $$ H4; iintro H4
    iapply (own_load 𝒱 (c : Thread nD τ) bd E) $$ H13; iintro H13
    iapply (own_ret 𝒱 (c : Thread nD τ) bd E)
    iapply HK
    isplitl [H2]; · iexact H2
    isplitl [H3]; · iexact H3
    isplitl [H4]; · iexact H4
    isplitl [H5]; · iexact H5
    isplitl [H11]; · iexact H11
    iexact H13

/-- The second part: the convolved block and the two state projections are stored. -/
theorem proj_part2 (d7 : Vec F S1x512x560 .f32) (d10 : Vec F S1x512x32 .f32)
    (Q : (Σ' (v66 : FVec F S512x18 .f32), Vec F S18x560 .f32) → sProp 𝕄) :
    iprop(owns (c : Thread nD τ) arg4 fullShare x2 ∗ owns (c : Thread nD τ) arg6 fullShare x4 ∗ owns (c : Thread nD τ) arg7 fullShare x5
        ∗ owns (c : Thread nD τ) arg9 fullShare d7 ∗ owns (c : Thread nD τ) arg12 fullShare d10 ∗ owns (c : Thread nD τ) arg13 fullShare s
        ∗ (iprop(owns (c : Thread nD τ) arg4 fullShare x2 ∗ owns (c : Thread nD τ) arg6 fullShare x4 ∗ owns (c : Thread nD τ) arg7 fullShare x5
            ∗ owns (c : Thread nD τ) arg9 fullShare (projXc x2 x3 s) ∗ owns (c : Thread nD τ) arg12 fullShare (projBc x2 x3 x4 s)
            ∗ owns (c : Thread nD τ) arg13 fullShare s)
          -∗ Q ⟨k0_pay13 (k0_pay7 x3)
              (k0_pay8 (VecWindow.window s ![5, 0] S512x560.size inb_S520x560_S512x560_5_0) (VecWindow.window x2 ![0, 0] S560x1.size inb_S560x4_S560x1_0_0))
              (VecWindow.window s ![6, 0] S512x560.size inb_S520x560_S512x560_6_0) (VecWindow.window x2 ![0, 1] S560x1.size inb_S560x4_S560x1_0_1)
              (VecWindow.window s ![7, 0] S512x560.size inb_S520x560_S512x560_7_0) (VecWindow.window x2 ![0, 2] S560x1.size inb_S560x4_S560x1_0_2)
              (VecWindow.window s ![8, 0] S512x560.size inb_S520x560_S512x560_8_0) (VecWindow.window x2 ![0, 3] S560x1.size inb_S560x4_S560x1_0_3) x4, x5⟩))
      ⊢ wp frame (wpE (defs₀ (F := F)) 𝒱 (c : Thread nD τ) bd) E (k0_part2 i arg2 harg2 arg3 harg3 arg4 harg4 arg5 harg5 arg6 harg6 arg7 harg7 arg8 harg8 arg9 harg9 arg10 harg10 arg11 harg11 arg12 harg12 arg13 harg13 (k0_pay7 x3)
          (k0_pay8 (VecWindow.window s ![5, 0] S512x560.size inb_S520x560_S512x560_5_0) (VecWindow.window x2 ![0, 0] S560x1.size inb_S560x4_S560x1_0_0))
          (VecWindow.window s ![6, 0] S512x560.size inb_S520x560_S512x560_6_0)) Q := by
  rw [k0_part2_eq_skeleton]; unfold k0_part2_skel projXc projBc
  iintro ⟨H4, H6, H7, H9, H12, H13, HK⟩
  iapply (own_load 𝒱 (c : Thread nD τ) bd E) $$ H4; iintro H4
  iapply (own_load 𝒱 (c : Thread nD τ) bd E) $$ H13; iintro H13
  iapply (own_load 𝒱 (c : Thread nD τ) bd E) $$ H4; iintro H4
  iapply (own_load 𝒱 (c : Thread nD τ) bd E) $$ H13; iintro H13
  iapply (own_load 𝒱 (c : Thread nD τ) bd E) $$ H4; iintro H4
  iapply (own_load_full 𝒱 (c : Thread nD τ) bd E) $$ H9; iintro H9
  iapply (own_store_full 𝒱 (c : Thread nD τ) bd E) $$ H9; iintro H9
  iapply (own_load_full 𝒱 (c : Thread nD τ) bd E) $$ H6; iintro H6
  iapply (own_load_full 𝒱 (c : Thread nD τ) bd E) $$ H12; iintro H12
  iapply (own_store_full 𝒱 (c : Thread nD τ) bd E) $$ H12; iintro H12
  iapply (own_load_full 𝒱 (c : Thread nD τ) bd E) $$ H7; iintro H7
  iapply (own_ret 𝒱 (c : Thread nD τ) bd E)
  iapply HK
  isplitl [H4]; · iexact H4
  isplitl [H6]; · iexact H6
  isplitl [H7]; · iexact H7
  isplitl [H9]; · iexact H9
  isplitl [H12]; · iexact H12
  iexact H13

/-- One run of the body: what each buffer holds at its end, over what it held before. -/
theorem proj_body (d7 d8 d9 : Vec F S1x512x560 .f32) (d10 : Vec F S1x512x32 .f32) (Q : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ owns (c : Thread nD τ) arg8 fullShare x6 ∗ owns (c : Thread nD τ) arg9 fullShare d7 ∗ owns (c : Thread nD τ) arg10 fullShare d8
        ∗ owns (c : Thread nD τ) arg11 fullShare d9 ∗ owns (c : Thread nD τ) arg12 fullShare d10 ∗ owns (c : Thread nD τ) arg13 fullShare s
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare x6 ∗ owns (c : Thread nD τ) arg9 fullShare (projXc x2 x3 (projScr i x0 x1 s))
            ∗ owns (c : Thread nD τ) arg10 fullShare (projDt x2 x3 x4 x5 x6 (projScr i x0 x1 s))
            ∗ owns (c : Thread nD τ) arg11 fullShare (k0_pay3 x0 x1) ∗ owns (c : Thread nD τ) arg12 fullShare (projBc x2 x3 x4 (projScr i x0 x1 s))
            ∗ owns (c : Thread nD τ) arg13 fullShare (projScr i x0 x1 s))
          -∗ Q ⟨⟩))
      ⊢ wp frame (wpE (defs₀ (F := F)) 𝒱 (c : Thread nD τ) bd) E (cc0_mamba_proj i arg2 harg2 arg3 harg3 arg4 harg4 arg5 harg5 arg6 harg6 arg7 harg7 arg8 harg8 arg9 harg9 arg10 harg10 arg11 harg11 arg12 harg12 arg13 harg13) Q := by
  rw [cc0_mamba_proj_eq_skeleton]; unfold cc0_mamba_proj_skel
  iintro ⟨H2, H3, H4, H5, H6, H7, H8, H9, H10, H11, H12, H13, HK⟩
  rw [wp_bind]
  iapply (proj_part1 𝒱 c bd E i arg2 harg2 arg3 harg3 arg4 harg4 arg5 harg5 arg6 harg6 arg7 harg7 arg8 harg8 arg9 harg9 arg10 harg10 arg11 harg11 arg12 harg12 arg13 harg13 x0 x1 x2 x3 s d9)
  isplitl [H2]; · iexact H2
  isplitl [H3]; · iexact H3
  isplitl [H4]; · iexact H4
  isplitl [H5]; · iexact H5
  isplitl [H11]; · iexact H11
  isplitl [H13]; · iexact H13
  iintro ⟨H2, H3, H4, H5, H11, H13⟩
  dsimp only
  rw [wp_bind]
  iapply (proj_part2 𝒱 c bd E i arg2 harg2 arg3 harg3 arg4 harg4 arg5 harg5 arg6 harg6 arg7 harg7 arg8 harg8 arg9 harg9 arg10 harg10 arg11 harg11 arg12 harg12 arg13 harg13 x2 x3 x4 x5 (projScr i x0 x1 s) d7 d10)
  isplitl [H4]; · iexact H4
  isplitl [H6]; · iexact H6
  isplitl [H7]; · iexact H7
  isplitl [H9]; · iexact H9
  isplitl [H12]; · iexact H12
  isplitl [H13]; · iexact H13
  iintro ⟨H4, H6, H7, H9, H12, H13⟩
  dsimp only
  unfold projDt
  iapply (own_load_full 𝒱 (c : Thread nD τ) bd E) $$ H8; iintro H8
  iapply (own_load_full 𝒱 (c : Thread nD τ) bd E) $$ H10; iintro H10
  iapply (own_store_full 𝒱 (c : Thread nD τ) bd E) $$ H10; iintro H10
  iapply (own_ret 𝒱 (c : Thread nD τ) bd E)
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Proj

end Cert.KernelIdeal.Body
-- ==== Proof.ScanBody.lean ====
/- One run of the scan kernel's body, over the contents of its buffers. -/
module

public import proofs.«01_k».proof.Proof.Own
public import proofs.«01_k».proof.Proof.Gen.KernelIdeal.Skeleton
public import Idealize.ShloMosaic.Lib.Pointwise.Index

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Mamba Cert.KernelIdeal.Gen

variable {F : FTy → Type} [FloatOps F]

local notation "𝕄" => MT nD τ sig Unit (Elt F) ℕ (UR sig nD τ) ℕ

/-! ## What the scan body computes, over the contents of its buffers -/

/-- Row `k` of a three-axis block. -/
def scanRow (p : Vec F S128x16x560 .f32) (k : Fin 128) : Vec F S1x16x560 .f32 := fun y => p (ix3 k (y 1) (y 2))

/-- The state before step `k` of a block, from the state `h` the block is entered with. -/
def scanH (p q : Vec F S128x16x560 .f32) (h : Vec F S16x560 .f32) : ℕ → Vec F S16x560 .f32
  | 0 => h
  | k + 1 => if hk : k < 128 then k1_pay9 (scanRow p ⟨k, hk⟩) (scanH p q h k) (scanRow q ⟨k, hk⟩) else scanH p q h k

theorem scanH_succ (p q : Vec F S128x16x560 .f32) (h : Vec F S16x560 .f32) (k : ℕ) (hk : k < 128) :
    scanH p q h (k + 1) = k1_pay9 (scanRow p ⟨k, hk⟩) (scanH p q h k) (scanRow q ⟨k, hk⟩) := dif_pos hk

/-- The states after every step of a block. -/
def scanHist (p q : Vec F S128x16x560 .f32) (h : Vec F S16x560 .f32) : Vec F S128x16x560 .f32 := fun y =>
  k1_pay10 (scanRow p (y 0)) (scanH p q h (y 0).val) (scanRow q (y 0)) (ix3 (0 : Fin 1) (y 1) (y 2))

/-- The state a block is entered with: zeros at the start of a sequence, else what the scratch holds. -/
def scanEnter (i : grid1.Coords) (h : Vec F S16x560 .f32) : Vec F S16x560 .f32 := if (i 1).val = 0 then k1_pay2 (F := F) else h

/-- The state a block leaves. -/
def scanState (i : grid1.Coords) (x0 x1 : Vec F S1x128x560 .f32) (x3 : Vec F S1x128x32 .f32) (x4 : Vec F S16x560 .f32) (h : Vec F S16x560 .f32) :
    Vec F S16x560 .f32 := scanH (k1_pay6 x4 x1) (k1_pay7 x1 x0 x3) (scanEnter i h) 128

/-- The block of the result. -/
def scanOut (i : grid1.Coords) (x0 x1 x2 : Vec F S1x128x560 .f32) (x3 : Vec F S1x128x32 .f32) (x4 : Vec F S16x560 .f32)
    (x5 : Vec F S1x560 .f32) (x6 : Vec F S560x280 .f32) (h : Vec F S16x560 .f32) : Vec F S1x128x280 .f32 :=
  k1_pay1 (k1_pay11 (k1_pay4 x0) (k1_pay5 x3) (scanHist (k1_pay6 x4 x1) (k1_pay7 x1 x0 x3) (scanEnter i h)) x5 x2 x6)

theorem scan_first (j : Fin 32) :
    (Scalar.cmpi .ne (Scalar.extui (Scalar.cmpi .eq (BitVec.ofNat 32 j.val) 0#32) : BitVec 32) 0#32 = 1#1) ↔ j.val = 0 := by
  revert j; decide

theorem trips_eq : k1_t1_loop.trips = 128 := by decide +kernel

theorem window_row (p : Vec F S128x16x560 .f32) (k : Fin k1_t1_loop.trips) (hk : k.val < 128) :
    VecWindow.window p (k1_off1 k) S1x16x560.size (k1_off1_inb k) = scanRow p ⟨k.val, hk⟩ := by
  funext y
  refine congrArg p (funext fun a => Fin.ext ?_)
  have h0 : (y 0).val < 1 := (y 0).isLt
  have e0 : k1_off1 k 0 = k.val := congrFun (k1_off1_eq k) 0
  have e1 : k1_off1 k 1 = 0 := congrFun (k1_off1_eq k) 1
  have e2 : k1_off1 k 2 = 0 := congrFun (k1_off1_eq k) 2
  match a with
  | ⟨0, _⟩ => show k1_off1 k 0 + 1 * (y 0).val = k.val; omega
  | ⟨1, _⟩ => show k1_off1 k 1 + 1 * (y 1).val = (y 1).val; omega
  | ⟨2, _⟩ => show k1_off1 k 2 + 1 * (y 2).val = (y 2).val; omega

theorem put_row (g : Vec F S128x16x560 .f32) (k : Fin k1_t1_loop.trips) (w : Vec F S1x16x560 .f32) (y : S128x16x560.Idx) :
    VecWindow.put g (k1_off1 k) S1x16x560.size w y = if (y 0).val = k.val then w (ix3 (0 : Fin 1) (y 1) (y 2)) else g y := by
  rw [k1_off1_eq k]
  have h1 : (y 1).val < 16 := (y 1).isLt
  have h2 : (y 2).val < 560 := (y 2).isLt
  by_cases h : (y 0).val = k.val
  · rw [if_pos h]
    have hy : ∀ a, (![k.val, 0, 0] : Fin 3 → ℕ) a ≤ (y a).val ∧ (y a).val < (![k.val, 0, 0] : Fin 3 → ℕ) a + S1x16x560.size a := fun a => by
      match a with
      | ⟨0, _⟩ => show k.val ≤ (y 0).val ∧ (y 0).val < k.val + 1; omega
      | ⟨1, _⟩ => show 0 ≤ (y 1).val ∧ (y 1).val < 0 + 16; omega
      | ⟨2, _⟩ => show 0 ≤ (y 2).val ∧ (y 2).val < 0 + 560; omega
    refine (dif_pos hy).trans (congrArg w (funext fun a => Fin.ext ?_))
    match a with
    | ⟨0, _⟩ => show (y 0).val - k.val = 0; omega
    | ⟨1, _⟩ => show (y 1).val - 0 = (y 1).val; omega
    | ⟨2, _⟩ => show (y 2).val - 0 = (y 2).val; omega
  · rw [if_neg h]
    refine dif_neg fun hy => h ?_
    have := hy 0
    have h0 : k.val ≤ (y 0).val ∧ (y 0).val < k.val + 1 := this
    omega

section Scan

variable (𝒱 : Variants) (c : Dev nD) (bd : Option 𝒱.V) (E : Set ℕ) (i : grid1.Coords)
    (arg2 : Memref sig .tc .vmem S1x128x560 .f32) (harg2 : arg2.IsWhole)
    (arg3 : Memref sig .tc .vmem S1x128x560 .f32) (harg3 : arg3.IsWhole)
    (arg4 : Memref sig .tc .vmem S1x128x560 .f32) (harg4 : arg4.IsWhole)
    (arg5 : Memref sig .tc .vmem S1x128x32 .f32) (harg5 : arg5.IsWhole)
    (arg6 : Memref sig .tc .vmem S16x560 .f32) (harg6 : arg6.IsWhole)
    (arg7 : Memref sig .tc .vmem S1x560 .f32) (harg7 : arg7.IsWhole)
    (arg8 : Memref sig .tc .vmem S560x280 .f32) (harg8 : arg8.IsWhole)
    (arg9 : Memref sig .tc .vmem S1x128x280 .f32) (harg9 : arg9.IsWhole)
    (arg10 : Memref sig .tc .vmem S16x560 .f32) (harg10 : arg10.IsWhole)
    (arg11 : Memref sig .tc .vmem S128x16x560 .f32) (harg11 : arg11.IsWhole)
    (arg12 : Memref sig .tc .vmem S128x16x560 .f32) (harg12 : arg12.IsWhole)
    (arg13 : Memref sig .tc .vmem S128x16x560 .f32) (harg13 : arg13.IsWhole)
  (x0 x1 x2 : Vec F S1x128x560 .f32) (x3 : Vec F S1x128x32 .f32) (x4 : Vec F S16x560 .f32) (x5 : Vec F S1x560 .f32) (x6 : Vec F S560x280 .f32)
  (h : Vec F S16x560 .f32) (p q : Vec F S128x16x560 .f32)

/-- The first part of the body: the entry state, the decays and the inputs of every step are stored. -/
theorem scan_part1 (dp dq : Vec F S128x16x560 .f32)
    (Q : (Σ' (v11 : FVec F S128x560 .f32) (v13 : FVec F S128x32 .f32) (c0_i32_17 : BitVec 32), BitVec 32) → sProp 𝕄) :
    iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg10 fullShare h ∗ owns (c : Thread nD τ) arg11 fullShare dp ∗ owns (c : Thread nD τ) arg12 fullShare dq
        ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg10 fullShare (scanEnter i h) ∗ owns (c : Thread nD τ) arg11 fullShare (k1_pay6 x4 x1) ∗ owns (c : Thread nD τ) arg12 fullShare (k1_pay7 x1 x0 x3))
          -∗ Q ⟨k1_pay4 x0, k1_pay5 x3, 0#32, 128#32⟩))
      ⊢ wp frame (wpE (defs₀ (F := F)) 𝒱 (c : Thread nD τ) bd) E (k1_part1 i arg2 harg2 arg3 harg3 arg4 harg4 arg5 harg5 arg6 harg6 arg7 harg7 arg8 harg8 arg9 harg9 arg10 harg10 arg11 harg11 arg12 harg12 arg13 harg13) Q := by
  rw [k1_part1_eq_skeleton]; unfold k1_part1_skel
  iintro ⟨H2, H3, H5, H6, H10, H11, H12, HK⟩
  by_cases hj : (i 1).val = 0
  · have e1 := (scan_first (i 1)).mpr hj
    have hs : scanEnter i h = k1_pay2 (F := F) := if_pos hj
    simp only [dif_pos e1]
    rw [hs]
    iapply (own_load_full 𝒱 (c : Thread nD τ) bd E) $$ H10; iintro H10
    iapply (own_store_full 𝒱 (c : Thread nD τ) bd E) $$ H10; iintro H10
    iapply (own_load_full 𝒱 (c : Thread nD τ) bd E) $$ H6; iintro H6
    iapply (own_load_full 𝒱 (c : Thread nD τ) bd E) $$ H3; iintro H3
    iapply (own_load_full 𝒱 (c : Thread nD τ) bd E) $$ H2; iintro H2
    iapply (own_load_full 𝒱 (c : Thread nD τ) bd E) $$ H5; iintro H5
    iapply (own_load_full 𝒱 (c : Thread nD τ) bd E) $$ H11; iintro H11
    iapply (own_store_full 𝒱 (c : Thread nD τ) bd E) $$ H11; iintro H11
    iapply (own_load_full 𝒱 (c : Thread nD τ) bd E) $$ H12; iintro H12
    iapply (own_store_full 𝒱 (c : Thread nD τ) bd E) $$ H12; iintro H12
    iapply (own_ret 𝒱 (c : Thread nD τ) bd E)
    iapply HK
    isplitl [H2]; · iexact H2
    isplitl [H3]; · iexact H3
    isplitl [H5]; · iexact H5
    isplitl [H6]; · iexact H6
    isplitl [H10]; · iexact H10
    isplitl [H11]; · iexact H11
    iexact H12
  · have e1 : ¬ _ := fun h => hj ((scan_first (i 1)).mp h)
    have hs : scanEnter i h = h := if_neg hj
    simp only [dif_neg e1]
    rw [hs]
    iapply (own_load_full 𝒱 (c : Thread nD τ) bd E) $$ H6; iintro H6
    iapply (own_load_full 𝒱 (c : Thread nD τ) bd E) $$ H3; iintro H3
    iapply (own_load_full 𝒱 (c : Thread nD τ) bd E) $$ H2; iintro H2
    iapply (own_load_full 𝒱 (c : Thread nD τ) bd E) $$ H5; iintro H5
    iapply (own_load_full 𝒱 (c : Thread nD τ) bd E) $$ H11; iintro H11
    iapply (own_store_full 𝒱 (c : Thread nD τ) bd E) $$ H11; iintro H11
    iapply (own_load_full 𝒱 (c : Thread nD τ) bd E) $$ H12; iintro H12
    iapply (own_store_full 𝒱 (c : Thread nD τ) bd E) $$ H12; iintro H12
    iapply (own_ret 𝒱 (c : Thread nD τ) bd E)
    iapply HK
    isplitl [H2]; · iexact H2
    isplitl [H3]; · iexact H3
    isplitl [H5]; · iexact H5
    isplitl [H6]; · iexact H6
    isplitl [H10]; · iexact H10
    isplitl [H11]; · iexact H11
    iexact H12

/-- What the loop over the steps keeps: the decays and inputs, the state before step `k`, and the states after the steps before `k`. -/
def scanInv (k : ℕ) (_ : Unit) : sProp 𝕄 :=
  iprop(owns (c : Thread nD τ) arg11 fullShare p ∗ owns (c : Thread nD τ) arg12 fullShare q ∗ owns (c : Thread nD τ) arg10 fullShare (scanH p q h k)
    ∗ ∃ g, ⌜∀ y : S128x16x560.Idx, (y 0).val < k → g y = scanHist p q h y⌝ ∗ owns (c : Thread nD τ) arg13 fullShare g)

/-- One step. -/
theorem scan_trip (v11 : FVec F S128x560 .f32) (v13 : FVec F S128x32 .f32) (c0 c128 : BitVec 32) (k : Fin k1_t1_loop.trips) (acc : Unit) :
    scanInv c arg10 arg11 arg12 arg13 h p q k.val acc
      ⊢ wp frame (wpE (defs₀ (F := F)) 𝒱 (c : Thread nD τ) bd) E (k1_t1_body i arg2 harg2 arg3 harg3 arg4 harg4 arg5 harg5 arg6 harg6 arg7 harg7 arg8 harg8 arg9 harg9 arg10 harg10 arg11 harg11 arg12 harg12 arg13 harg13 v11 v13 c0 c128 k acc)
          (scanInv c arg10 arg11 arg12 arg13 h p q (k.val + 1)) := by
  have hk : k.val < 128 := trips_eq ▸ k.isLt
  unfold scanInv k1_t1_body
  rw [scanH_succ p q h k.val hk]
  iintro ⟨H11, H12, H10, ⟨%g, %hg, H13⟩⟩
  iapply (own_load 𝒱 (c : Thread nD τ) bd E) $$ H11; iintro H11
  iapply (own_load_full 𝒱 (c : Thread nD τ) bd E) $$ H10; iintro H10
  iapply (own_load 𝒱 (c : Thread nD τ) bd E) $$ H12; iintro H12
  iapply (own_load_full 𝒱 (c : Thread nD τ) bd E) $$ H10; iintro H10
  iapply (own_store_full 𝒱 (c : Thread nD τ) bd E) $$ H10; iintro H10
  iapply (own_load 𝒱 (c : Thread nD τ) bd E) $$ H13; iintro H13
  iapply (own_store 𝒱 (c : Thread nD τ) bd E) $$ H13; iintro H13
  iapply (own_ret 𝒱 (c : Thread nD τ) bd E)
  rw [window_row p k hk, window_row q k hk]
  isplitl [H11]; · iexact H11
  isplitl [H12]; · iexact H12
  isplitl [H10]; · iexact H10
  iexists _
  isplitr
  rotate_left
  · iexact H13
  ipureintro
  intro y hy
  rw [put_row]
  split
  · next e =>
    have e' : (⟨k.val, hk⟩ : Fin 128) = y 0 := Fin.ext e.symm
    unfold scanHist
    rw [e', e]
  · next e => exact hg y (by omega)

/-- The second part: the steps, then the block of the result. -/
theorem scan_part2 (d13 : Vec F S128x16x560 .f32) (v11 : FVec F S128x560 .f32) (v13 : FVec F S128x32 .f32) (c0 c128 : BitVec 32)
    (Q : FVec F S128x280 .f32 → sProp 𝕄) :
    iprop(owns (c : Thread nD τ) arg4 fullShare x2 ∗ owns (c : Thread nD τ) arg7 fullShare x5 ∗ owns (c : Thread nD τ) arg8 fullShare x6 ∗ owns (c : Thread nD τ) arg10 fullShare h ∗ owns (c : Thread nD τ) arg11 fullShare p ∗ owns (c : Thread nD τ) arg12 fullShare q ∗ owns (c : Thread nD τ) arg13 fullShare d13
        ∗ (iprop(owns (c : Thread nD τ) arg4 fullShare x2 ∗ owns (c : Thread nD τ) arg7 fullShare x5 ∗ owns (c : Thread nD τ) arg8 fullShare x6 ∗ owns (c : Thread nD τ) arg10 fullShare (scanH p q h 128) ∗ owns (c : Thread nD τ) arg11 fullShare p ∗ owns (c : Thread nD τ) arg12 fullShare q ∗ owns (c : Thread nD τ) arg13 fullShare (scanHist p q h))
          -∗ Q (k1_pay11 v11 v13 (scanHist p q h) x5 x2 x6)))
      ⊢ wp frame (wpE (defs₀ (F := F)) 𝒱 (c : Thread nD τ) bd) E (k1_part2 i arg2 harg2 arg3 harg3 arg4 harg4 arg5 harg5 arg6 harg6 arg7 harg7 arg8 harg8 arg9 harg9 arg10 harg10 arg11 harg11 arg12 harg12 arg13 harg13 v11 v13 c0 c128) Q := by
  rw [k1_part2_eq_skeleton]; unfold k1_part2_skel
  iintro ⟨H4, H7, H8, H10, H11, H12, H13, HK⟩
  iapply (Scf.wp_for_bind frame (wpE (defs₀ (F := F)) 𝒱 (c : Thread nD τ) bd) E k1_t1_loop.lb k1_t1_loop.ub k1_t1_loop.st k1_t1_ok ⟨⟩ _
    (scanInv c arg10 arg11 arg12 arg13 h p q) (scan_trip 𝒱 c bd E i arg2 harg2 arg3 harg3 arg4 harg4 arg5 harg5 arg6 harg6 arg7 harg7 arg8 harg8 arg9 harg9 arg10 harg10 arg11 harg11 arg12 harg12 arg13 harg13 h p q v11 v13 c0 c128)) $$ [H10 H11 H12 H13]
  · unfold scanInv
    isplitl [H11]; · iexact H11
    isplitl [H12]; · iexact H12
    isplitl [H10]; · iexact H10
    iexists d13
    isplitr
    · ipureintro; intro y hy; omega
    iexact H13
  iintro %acc HI
  unfold scanInv
  icases HI with ⟨H11, H12, H10, ⟨%g, %hg, H13⟩⟩
  have ht : Scf.trips k1_t1_loop.lb k1_t1_loop.ub k1_t1_loop.st = 128 := trips_eq
  rw [ht] at hg
  obtain rfl : g = scanHist p q h := funext fun y => hg y (y 0).isLt
  rw [ht]
  iapply (own_load_full 𝒱 (c : Thread nD τ) bd E) $$ H13; iintro H13
  iapply (own_load_full 𝒱 (c : Thread nD τ) bd E) $$ H7; iintro H7
  iapply (own_load_full 𝒱 (c : Thread nD τ) bd E) $$ H4; iintro H4
  iapply (own_load_full 𝒱 (c : Thread nD τ) bd E) $$ H8; iintro H8
  iapply (own_ret 𝒱 (c : Thread nD τ) bd E)
  iapply HK
  isplitl [H4]; · iexact H4
  isplitl [H7]; · iexact H7
  isplitl [H8]; · iexact H8
  isplitl [H10]; · iexact H10
  isplitl [H11]; · iexact H11
  isplitl [H12]; · iexact H12
  iexact H13

/-- One run of the body: what each buffer holds at its end, over what it held before. -/
theorem scan_body (d9 : Vec F S1x128x280 .f32) (dp dq d13 : Vec F S128x16x560 .f32) (Q : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare d9 ∗ owns (c : Thread nD τ) arg10 fullShare h ∗ owns (c : Thread nD τ) arg11 fullShare dp ∗ owns (c : Thread nD τ) arg12 fullShare dq ∗ owns (c : Thread nD τ) arg13 fullShare d13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare (scanOut i x0 x1 x2 x3 x4 x5 x6 h) ∗ owns (c : Thread nD τ) arg10 fullShare (scanState i x0 x1 x3 x4 h) ∗ owns (c : Thread nD τ) arg11 fullShare (k1_pay6 x4 x1) ∗ owns (c : Thread nD τ) arg12 fullShare (k1_pay7 x1 x0 x3) ∗ owns (c : Thread nD τ) arg13 fullShare (scanHist (k1_pay6 x4 x1) (k1_pay7 x1 x0 x3) (scanEnter i h)))
          -∗ Q ⟨⟩))
      ⊢ wp frame (wpE (defs₀ (F := F)) 𝒱 (c : Thread nD τ) bd) E (cc1_mamba_scan i arg2 harg2 arg3 harg3 arg4 harg4 arg5 harg5 arg6 harg6 arg7 harg7 arg8 harg8 arg9 harg9 arg10 harg10 arg11 harg11 arg12 harg12 arg13 harg13) Q := by
  rw [cc1_mamba_scan_eq_skeleton]; unfold cc1_mamba_scan_skel scanState scanOut
  iintro ⟨H2, H3, H4, H5, H6, H7, H8, H9, H10, H11, H12, H13, HK⟩
  rw [wp_bind]
  iapply (scan_part1 𝒱 c bd E i arg2 harg2 arg3 harg3 arg4 harg4 arg5 harg5 arg6 harg6 arg7 harg7 arg8 harg8 arg9 harg9 arg10 harg10 arg11 harg11 arg12 harg12 arg13 harg13 x0 x1 x3 x4 h dp dq)
  isplitl [H2]; · iexact H2
  isplitl [H3]; · iexact H3
  isplitl [H5]; · iexact H5
  isplitl [H6]; · iexact H6
  isplitl [H10]; · iexact H10
  isplitl [H11]; · iexact H11
  isplitl [H12]; · iexact H12
  iintro ⟨H2, H3, H5, H6, H10, H11, H12⟩
  dsimp only
  rw [wp_bind]
  iapply (scan_part2 𝒱 c bd E i arg2 harg2 arg3 harg3 arg4 harg4 arg5 harg5 arg6 harg6 arg7 harg7 arg8 harg8 arg9 harg9 arg10 harg10 arg11 harg11 arg12 harg12 arg13 harg13 x2 x5 x6 (scanEnter i h) (k1_pay6 x4 x1) (k1_pay7 x1 x0 x3) d13)
  isplitl [H4]; · iexact H4
  isplitl [H7]; · iexact H7
  isplitl [H8]; · iexact H8
  isplitl [H10]; · iexact H10
  isplitl [H11]; · iexact H11
  isplitl [H12]; · iexact H12
  isplitl [H13]; · iexact H13
  iintro ⟨H4, H7, H8, H10, H11, H12, H13⟩
  iapply (own_load_full 𝒱 (c : Thread nD τ) bd E) $$ H9; iintro H9
  iapply (own_store_full 𝒱 (c : Thread nD τ) bd E) $$ H9; iintro H9
  iapply (own_ret 𝒱 (c : Thread nD τ) bd E)
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Scan

end Cert.KernelIdeal.Body
-- ==== Proof.Carry.lean ====
/- What the kernels keep between points: the scratch a sequence of runs leaves, and a region's record over the unscoped buffers. -/
module

public import proofs.«01_k».proof.Proof.ProjBody
public import proofs.«01_k».proof.Proof.ScanBody
public import proofs.«01_k».proof.Proof.Gen.KernelIdeal.Regions
public import proofs.«01_k».proof.Proof.Gen.KernelIdeal.Points
public import Idealize.ShloMosaic.Lib.Pipeline.RegionsLoop

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Mamba Cert.KernelIdeal.Gen

variable {F : FTy → Type} [FloatOps F]

local notation "𝕄" => MT nD τ sig Unit (Elt F) ℕ (UR sig nD τ) ℕ

/-- Setting one buffer leaves another as it was. -/
theorem update_apart {V : Valuation τ sig (Elt F)} {r s : Ref sig .tc} {v} (h : r ≠ s) :
    Function.update V (Proc.devRef .tc s) v (Proc.devRef .tc r) = V (Proc.devRef .tc r) := Function.update_of_ne (StableHlo.devRef_ne_of_ne h) _ _

/-! ## The scratch after a number of points -/

/-- The projection's scratch after `n` points: the first point overwrites it whole, so what it starts from is immaterial. -/
def projAt (i : ℕ → grid0.Coords) (x : ℕ → Vec F S1x512x280 .f32) (w : ℕ → Vec F S280x1120 .f32) : ℕ → Vec F S520x560 .f32
  | 0 => fun _ => k0_pay4 (F := F) (ix2 (0 : Fin 8) (0 : Fin 560))
  | n + 1 => projScr (i n) (x n) (w n) (projAt i x w n)

/-- At the start of a sequence the scratch's old contents are overwritten. -/
theorem projScr_first (i : grid0.Coords) (hi : (i 1).val = 0) (x : Vec F S1x512x280 .f32) (w : Vec F S280x1120 .f32)
    (s s' : Vec F S520x560 .f32) : projScr i x w s = projScr i x w s' := by
  unfold projScr headed
  rw [if_pos hi, if_pos hi]
  funext y
  unfold VecWindow.put
  by_cases h8 : 8 ≤ (y 0).val
  · have hm : ∀ a, ![8, 0] a ≤ (y a).val ∧ (y a).val < ![8, 0] a + S512x560.size a := by
      intro a
      have := (y a).isLt
      fin_cases a
      · exact ⟨h8, (y 0).isLt⟩
      · exact ⟨Nat.zero_le _, (y 1).isLt⟩
    rw [dif_pos hm, dif_pos hm]
  · have hm : ¬ ∀ a, ![8, 0] a ≤ (y a).val ∧ (y a).val < ![8, 0] a + S512x560.size a := fun h => h8 (h 0).1
    have hm' : ∀ a, ![0, 0] a ≤ (y a).val ∧ (y a).val < ![0, 0] a + S8x560.size a := by
      intro a
      have := (y a).isLt
      fin_cases a
      · exact ⟨Nat.zero_le _, by show (y 0).val < 8; omega⟩
      · exact ⟨Nat.zero_le _, (y 1).isLt⟩
    rw [dif_neg hm, dif_neg hm, dif_pos hm', dif_pos hm']

/-- The scan's state after `n` points. -/
def scanAt (i : ℕ → grid1.Coords) (x0 x1 : ℕ → Vec F S1x128x560 .f32) (x3 : ℕ → Vec F S1x128x32 .f32) (x4 : ℕ → Vec F S16x560 .f32) :
    ℕ → Vec F S16x560 .f32
  | 0 => k1_pay2 (F := F)
  | n + 1 => scanState (i n) (x0 n) (x1 n) (x3 n) (x4 n) (scanAt i x0 x1 x3 x4 n)

/-! ## A region's record over the unscoped buffers -/

abbrev noLvls : GSem nD τ sig → Finset Unit := fun _ => ∅
abbrev lvl0 : GSem nD τ sig → Unit → ℕ := fun _ _ => 0

/-- What a core keeps beside its buffers: that it owes nothing. -/
abbrev idle (c : Dev nD) : sProp 𝕄 := iprop(∃ W, owes (c : Thread nD τ) (0 : CellTallies nD τ sig Unit) W)

variable (pdats : (p : Fin 6) → (c : Dev nD) → Dat τ (Elt F) Unit ℕ (UR sig nD τ) ℕ (Pipeline.pin (pcfgs (F := F)) adm p) c)

set_option backward.isDefEq.respectTransparency.types false in
/-- Region `p` from the unscoped buffers at `V` to the unscoped buffers at `V'`. -/
def regionOf (p : Fin 6) (lf : Pipeline.LaunchFacts (nD := nD) (τ := τ) cfgs p)
    (hbody : ∀ c, BodyObligation (pdats p c) (defs₀ (F := F)) Variants.none () Set.univ)
    (howed : ∀ c t, (pdats p c).owed t = 0) (hq : ∀ c w, (pdats p c).q w = fullShare) (hrec : ∀ c, (pdats p c).recorded 0 = Set.univ)
    (hin : ∀ c, Pipeline.scopedRest (Pipeline.pin (pcfgs (F := F)) adm p).spec c ⊢ (pdats p c).Φ 0)
    (hout : ∀ c, (pdats p c).Φ (Fin.last _) ⊢ Pipeline.scopedRest (Pipeline.pin (pcfgs (F := F)) adm p).spec c)
    (V V' : Dev nD → Valuation τ sig (Elt F))
    (hA : ∀ c w, (pdats p c).A w = V c (Pipeline.arrRef (Pipeline.pin (pcfgs (F := F)) adm p).spec w))
    (hA' : ∀ c w, (pdats p c).arrAt w (Pipeline.pin (pcfgs (F := F)) adm p).N = V' c (Pipeline.arrRef (Pipeline.pin (pcfgs (F := F)) adm p).spec w))
    (hne : ∀ c (b : Ref sig .tc), (∀ w, Pipeline.arrRef (Pipeline.pin (pcfgs (F := F)) adm p).spec w ≠ b) → V' c b = V c b) :
    Pipeline.RegionSeg (pcfgs (F := F)) adm pdats () defs₀ Variants.none noLvls lvl0 p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ noLvls lvl0 p howed
  pre c := iprop(StableHlo.held (c : Thread nD τ) (Pipeline.ucRefs τ sig) (V c) ∗ idle c)
  post c := iprop(StableHlo.held (c : Thread nD τ) (Pipeline.ucRefs τ sig) (V' c) ∗ idle c)
  X _ := BI.emp
  Y _ := BI.emp
  Z c := Pipeline.unscopedRest (Ix := Unit) (Name := ℕ) (U := UR sig nD τ) (Lvl := ℕ) (Pipeline.pin (pcfgs (F := F)) adm p).spec c (fun b => V c b)
  hentry c := by
    rw [Pipeline.ownSems0_none, ← Pipeline.unscopedBufs_held]
    have hsplit := Pipeline.arrays_of_unscopedBufs (p := p) (pcfgs (F := F)) adm pdats lf.win lf.arr_whole c
      ((pdats p c).share_full (hq c)) (fun b => V c b) (hA c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun x _ => Or.inl (by rw [hrec]; trivial)
      iexact HO
    isplitr; · iempintro
    iexact Hrest
  hin c := by
    iintro ⟨-, -, Hr⟩; iapply (hin c); iexact Hr
  hout c := by
    rw [Pipeline.ownSems0_none]
    iintro Hr
    isplitr; · iempintro
    isplitr; · iempintro
    iapply (hout c); iexact Hr
  hexit c := by
    have hjoin := Pipeline.unscopedBufs_of_arrays (p := p) (pcfgs (F := F)) adm (Ix := Unit) (Name := ℕ) (U := UR sig nD τ) (Lvl := ℕ) lf.win lf.arr_whole c
      pdats ((pdats p c).share_full (hq c)) (fun b => V c b) (fun b => V' c b) ((pdats p c).arrAt · (Pipeline.pin (pcfgs (F := F)) adm p).N)
      (hA' c) (fun b hb => hne c b fun w hw => hb (Finset.mem_image.mpr ⟨w, Finset.mem_univ _, hw⟩))
    rw [← Pipeline.unscopedBufs_held]
    iintro ⟨Ha, HO, -, Hrest⟩
    imodintro
    isplitl [Ha Hrest]
    · iapply hjoin; isplitl [Ha] <;> iassumption
    unfold Pipeline.Dat.owesAt Pipeline.owesWithin
    rw [howed]
    icases HO with ⟨%W, -, HO⟩; iexists W; iexact HO

end Cert.KernelIdeal.Body

end
-- ==== Proof.Region0.lean ====
/- The first layer's projection call: its proof data and its body at every point. -/
module

public import proofs.«01_k».proof.Proof.Carry

@[expose] public section

set_option maxRecDepth 16384

noncomputable section

namespace Cert.KernelIdeal.Region0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Mamba Cert.KernelIdeal.Gen Cert.KernelIdeal.Body

variable {F : FTy → Type} [FloatOps F]

local notation "𝕄" => MT nD τ sig Unit (Elt F) ℕ (UR sig nD τ) ℕ

variable (V : Dev nD → Valuation τ sig (Elt F))

/-- Window `w`'s block at point `t`. -/
noncomputable def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The grid's points, numbered. -/
noncomputable def pt (n : ℕ) : Fin cfg0.N := ⟨n % 64, lt_of_lt_of_eq (Nat.mod_lt _ (by decide)) (show (64 : ℕ) = cfg0.N from N_0.symm)⟩

theorem pt_val (t : Fin cfg0.N) : pt t.val = t :=
  Fin.ext (Nat.mod_eq_of_lt (lt_of_lt_of_eq t.isLt (show cfg0.N = 64 from N_0)))

/-- The scratch after `n` points. -/
noncomputable def scr (c : Dev nD) : ℕ → Vec F S520x560 .f32 := projAt (fun n => grid0.coords (pt n)) (fun n => blk V c 0 (pt n)) (fun n => blk V c 1 (pt n))

/-- What a core holds of the scoped buffers before point `n`. -/
noncomputable def inv (c : Dev nD) (n : ℕ) : sProp 𝕄 :=
  if n = 0 then Pipeline.scopedRest spec0 c
  else iprop(owns (c : Thread nD τ) (Memref.whole cc0_scratch0) fullShare (scr V c n) ∗ Pipeline.scopedRestBut spec0 c [cc0_scratch0])

/-- The call's proof data from the buffers at `V`. -/
noncomputable def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => projXc (blk V c 2 t) (blk V c 3 t) (scr V c (t.val + 1))
    | ⟨8, _⟩ => projDt (blk V c 2 t) (blk V c 3 t) (blk V c 4 t) (blk V c 5 t) (blk V c 6 t) (scr V c (t.val + 1))
    | ⟨9, _⟩ => k0_pay3 (blk V c 0 t) (blk V c 1 t)
    | ⟨10, _⟩ => projBc (blk V c 2 t) (blk V c 3 t) (blk V c 4 t) (scr V c (t.val + 1))
  Φ t := inv V c t.val
  q _ := fullShare
  owed _ := 0

theorem A_eq (c : Dev nD) (w : Fin cfg0.W) : (dat V c).A w = V c (Pipeline.arrRef spec0 w) := by dsimp only [dat]

/-- An input's staging buffer holds its block at every point. -/
theorem before_0 (c : Dev nD) (t : Fin cfg0.N) (d) : (dat V c).before 0 t d = blk V c 0 t :=
  (dat V c).before_in_eq_fetched 0 rfl (fun _ => rfl) (fun _ _ _ => rfl) (fun _ => rfl) t d
theorem before_1 (c : Dev nD) (t : Fin cfg0.N) (d) : (dat V c).before 1 t d = blk V c 1 t :=
  (dat V c).before_in_eq_fetched 1 rfl (fun _ => rfl) (fun _ _ _ => rfl) (fun _ => rfl) t d
theorem before_2 (c : Dev nD) (t : Fin cfg0.N) (d) : (dat V c).before 2 t d = blk V c 2 t :=
  (dat V c).before_in_eq_fetched 2 rfl (fun _ => rfl) (fun _ _ _ => rfl) (fun _ => rfl) t d
theorem before_3 (c : Dev nD) (t : Fin cfg0.N) (d) : (dat V c).before 3 t d = blk V c 3 t :=
  (dat V c).before_in_eq_fetched 3 rfl (fun _ => rfl) (fun _ _ _ => rfl) (fun _ => rfl) t d
theorem before_4 (c : Dev nD) (t : Fin cfg0.N) (d) : (dat V c).before 4 t d = blk V c 4 t :=
  (dat V c).before_in_eq_fetched 4 rfl (fun _ => rfl) (fun _ _ _ => rfl) (fun _ => rfl) t d
theorem before_5 (c : Dev nD) (t : Fin cfg0.N) (d) : (dat V c).before 5 t d = blk V c 5 t :=
  (dat V c).before_in_eq_fetched 5 rfl (fun _ => rfl) (fun _ _ _ => rfl) (fun _ => rfl) t d
theorem before_6 (c : Dev nD) (t : Fin cfg0.N) (d) : (dat V c).before 6 t d = blk V c 6 t :=
  (dat V c).before_in_eq_fetched 6 rfl (fun _ => rfl) (fun _ _ _ => rfl) (fun _ => rfl) t d

/-- What the body is called with at point `t`, -/
noncomputable def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d))
    ∗ (∃ d, owns (c : Thread nD τ) (st0_7 t) fullShare ((dat V c).before 7 t d))
    ∗ (∃ d, owns (c : Thread nD τ) (st0_8 t) fullShare ((dat V c).before 8 t d))
    ∗ (∃ d, owns (c : Thread nD τ) (st0_9 t) fullShare ((dat V c).before 9 t d))
    ∗ (∃ d, owns (c : Thread nD τ) (st0_10 t) fullShare ((dat V c).before 10 t d)))

/-- and what it returns. -/
noncomputable def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t)
    ∗ owns (c : Thread nD τ) (st0_7 t) fullShare ((dat V c).after 7 t)
    ∗ owns (c : Thread nD τ) (st0_8 t) fullShare ((dat V c).after 8 t)
    ∗ owns (c : Thread nD τ) (st0_9 t) fullShare ((dat V c).after 9 t)
    ∗ owns (c : Thread nD τ) (st0_10 t) fullShare ((dat V c).after 10 t))

/-- Before point `n` the scratch holds what the points before left, or, before the first, anything. -/
theorem inv_open (c : Dev nD) (n : ℕ) :
    inv V c n ⊢ iprop(∃ s, ⌜n = 0 ∨ s = scr V c n⌝ ∗ owns (c : Thread nD τ) (Memref.whole cc0_scratch0) fullShare s
      ∗ Pipeline.scopedRestBut spec0 c [cc0_scratch0]) := by
  unfold inv
  by_cases hn : n = 0
  · rw [if_pos hn, scopedRest0_split]
    iintro ⟨⟨%f, Hs⟩, Hr⟩
    iexists f
    isplitr; · ipureintro; exact Or.inl hn
    isplitl [Hs]; · rw [owns_whole]; iexact Hs
    iexact Hr
  · rw [if_neg hn]
    iintro ⟨Hs, Hr⟩
    iexists _
    isplitr; · ipureintro; exact Or.inr rfl
    isplitl [Hs]; · iexact Hs
    iexact Hr

theorem inv_in (c : Dev nD) : Pipeline.scopedRest spec0 c ⊢ inv V c 0 := by
  unfold inv; rw [if_pos rfl]

theorem inv_out (c : Dev nD) (n : ℕ) : inv V c n ⊢ Pipeline.scopedRest spec0 c := by
  refine (inv_open V c n).trans ?_
  rw [scopedRest0_split]; simp only [owns_whole]
  iintro ⟨%s, -, Hs, Hr⟩
  isplitl [Hs]; · iexists s; iexact Hs
  iexact Hr

theorem scr_succ (c : Dev nD) (n : ℕ) :
    scr V c (n + 1) = projScr (grid0.coords (pt n)) (blk V c 0 (pt n)) (blk V c 1 (pt n)) (scr V c n) := rfl

theorem coord1 (t : Fin cfg0.N) : (grid0.coords t 1).val = t.val / 1 % 8 := Pipeline.Grid.coords_val t 1 (by decide) rfl

theorem scr_step (c : Dev nD) (t : Fin cfg0.N) (s : Vec F S520x560 .f32) (hs : t.val = 0 ∨ s = scr V c t.val) :
    projScr (grid0.coords t) (blk V c 0 t) (blk V c 1 t) s = scr V c (t.val + 1) := by
  rw [scr_succ, pt_val]
  rcases hs with hs | hs
  · exact projScr_first _ (by rw [coord1, hs]) _ _ _ _
  · rw [hs]

set_option maxHeartbeats 4000000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4, before_5, before_6]
  rw [show (dat V c).owesAt () t.succ = (dat V c).owesAt () t.castSucc from rfl,
    show (dat V c).Φ t.castSucc = inv V c t.val from rfl,
    show (dat V c).Φ t.succ = iprop(owns (c : Thread nD τ) (Memref.whole cc0_scratch0) fullShare (scr V c (t.val + 1)) ∗ Pipeline.scopedRestBut spec0 c [cc0_scratch0]) from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ := (inv_open V c t.val) $$ HΦ
  icases HΦ with ⟨%s, %hs, Hs, Hr⟩
  rw [← scr_step V c t s hs]
  iapply (proj_body Variants.none c none Set.univ (grid0.coords t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hs]; · iexact Hs
  iintro ⟨H0, H1, H2, H3, H4, H5, H6, H7, H8, H9, H10, Hs⟩
  isplitl [Hs Hr]; · isplitl [Hs] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dat V c) (defs₀ (F := F)) Variants.none () Set.univ := fun t => by
  rw [bigSep_W0, bigSep_W0, defs₀_row]
  exact triple_restated (sound_body V c t) rfl .rfl fun _ => .rfl

/-! ## What the call leaves -/

/-- The buffers after the call. -/
noncomputable def exit (c : Dev nD) : Valuation τ sig (Elt F) :=
  Function.update (Function.update (Function.update (Function.update (V c) main_call0_v17_0 ((dat V c).arrAt 7 cfg0.N)) main_call0_v17_1 ((dat V c).arrAt 8 cfg0.N)) main_call0_v17_2 ((dat V c).arrAt 9 cfg0.N)) main_call0_v17_3 ((dat V c).arrAt 10 cfg0.N)

theorem exit_of (c : Dev nD) (r : Ref sig .tc) (h : r ∉ ([main_call0_v17_0, main_call0_v17_1, main_call0_v17_2, main_call0_v17_3] : List (Ref sig .tc))) : exit V c r = V c r := by
  unfold exit
  rw [update_apart, update_apart, update_apart, update_apart] <;> (rintro rfl; exact h (by decide))

theorem exit_7 (c : Dev nD) : exit V c main_call0_v17_0 = (dat V c).arrAt 7 cfg0.N := by
  unfold exit; rw [update_apart, update_apart, update_apart, Function.update_self] <;> decide

theorem exit_8 (c : Dev nD) : exit V c main_call0_v17_1 = (dat V c).arrAt 8 cfg0.N := by
  unfold exit; rw [update_apart, update_apart, Function.update_self] <;> decide

theorem exit_9 (c : Dev nD) : exit V c main_call0_v17_2 = (dat V c).arrAt 9 cfg0.N := by
  unfold exit; rw [update_apart, Function.update_self] <;> decide

theorem exit_10 (c : Dev nD) : exit V c main_call0_v17_3 = (dat V c).arrAt 10 cfg0.N := by
  unfold exit; rw [Function.update_self]

theorem exit_in (c : Dev nD) (w : Fin cfg0.W) (hw : (cfg0.win w).isOut = false)
    (h : Pipeline.arrRef spec0 w ∉ ([main_call0_v17_0, main_call0_v17_1, main_call0_v17_2, main_call0_v17_3] : List (Ref sig .tc))) :
    (dat V c).arrAt w cfg0.N = exit V c (Pipeline.arrRef spec0 w) :=
  ((dat V c).arrAt_in w hw _).trans ((A_eq V c w).trans (exit_of V c _ h).symm)

theorem exit_arr (c : Dev nD) (w : Fin cfg0.W) : (dat V c).arrAt w cfg0.N = exit V c (Pipeline.arrRef spec0 w) := by
  by_cases hw : w.val < 7
  · exact exit_in V c w (by revert w; decide) (by revert w; decide)
  · obtain rfl | rfl | rfl | rfl : w = 7 ∨ w = 8 ∨ w = 9 ∨ w = 10 := by
      revert w; decide
    · exact (exit_7 V c).symm
    · exact (exit_8 V c).symm
    · exact (exit_9 V c).symm
    · exact (exit_10 V c).symm

theorem exit_ne (c : Dev nD) (b : Ref sig .tc) (h : ∀ w : Fin cfg0.W, Pipeline.arrRef spec0 w ≠ b) : exit V c b = V c b :=
  exit_of V c b (by
    intro hb
    simp only [List.mem_cons, List.not_mem_nil, or_false] at hb
    rcases hb with rfl | rfl | rfl | rfl
    all_goals first | exact h 7 rfl | exact h 8 rfl | exact h 9 rfl | exact h 10 rfl)

end Cert.KernelIdeal.Region0

end
-- ==== Proof.Region1.lean ====
/- The first layer's scan call: its proof data and its body at every point. -/
module

public import proofs.«01_k».proof.Proof.Carry

@[expose] public section

set_option maxRecDepth 16384

noncomputable section

namespace Cert.KernelIdeal.Region1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Mamba Cert.KernelIdeal.Gen Cert.KernelIdeal.Body

variable {F : FTy → Type} [FloatOps F]

local notation "𝕄" => MT nD τ sig Unit (Elt F) ℕ (UR sig nD τ) ℕ

variable (V : Dev nD → Valuation τ sig (Elt F))

/-- Window `w`'s block at point `t`. -/
noncomputable def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The grid's points, numbered. -/
noncomputable def pt (n : ℕ) : Fin cfg1.N := ⟨n % 256, lt_of_lt_of_eq (Nat.mod_lt _ (by decide)) (show (256 : ℕ) = cfg1.N from N_1.symm)⟩

theorem pt_val (t : Fin cfg1.N) : pt t.val = t :=
  Fin.ext (Nat.mod_eq_of_lt (lt_of_lt_of_eq t.isLt (show cfg1.N = 256 from N_1)))

/-- The state after `n` points. -/
noncomputable def st (c : Dev nD) : ℕ → Vec F S16x560 .f32 :=
  scanAt (fun n => grid1.coords (pt n)) (fun n => blk V c 0 (pt n)) (fun n => blk V c 1 (pt n)) (fun n => blk V c 3 (pt n)) (fun n => blk V c 4 (pt n))

/-- What a core holds of the scoped buffers before point `n`. -/
noncomputable def inv (c : Dev nD) (n : ℕ) : sProp 𝕄 :=
  if n = 0 then Pipeline.scopedRest spec1 c
  else iprop(owns (c : Thread nD τ) (Memref.whole cc1_scratch0) fullShare (st V c n) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d)
      ∗ Pipeline.scopedRestBut spec1 c [cc1_scratch0, cc1_scratch1, cc1_scratch2, cc1_scratch3])

/-- The call's proof data from the buffers at `V`. -/
noncomputable def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => scanOut (grid1.coords t) (blk V c 0 t) (blk V c 1 t) (blk V c 2 t) (blk V c 3 t) (blk V c 4 t) (blk V c 5 t) (blk V c 6 t) (st V c t.val)
  Φ t := inv V c t.val
  q _ := fullShare
  owed _ := 0

theorem A_eq (c : Dev nD) (w : Fin cfg1.W) : (dat V c).A w = V c (Pipeline.arrRef spec1 w) := by dsimp only [dat]

/-- An input's staging buffer holds its block at every point. -/
theorem before_0 (c : Dev nD) (t : Fin cfg1.N) (d) : (dat V c).before 0 t d = blk V c 0 t :=
  (dat V c).before_in_eq_fetched 0 rfl (fun _ => rfl) (fun _ _ _ => rfl) (fun _ => rfl) t d
theorem before_1 (c : Dev nD) (t : Fin cfg1.N) (d) : (dat V c).before 1 t d = blk V c 1 t :=
  (dat V c).before_in_eq_fetched 1 rfl (fun _ => rfl) (fun _ _ _ => rfl) (fun _ => rfl) t d
theorem before_2 (c : Dev nD) (t : Fin cfg1.N) (d) : (dat V c).before 2 t d = blk V c 2 t :=
  (dat V c).before_in_eq_fetched 2 rfl (fun _ => rfl) (fun _ _ _ => rfl) (fun _ => rfl) t d
theorem before_3 (c : Dev nD) (t : Fin cfg1.N) (d) : (dat V c).before 3 t d = blk V c 3 t :=
  (dat V c).before_in_eq_fetched 3 rfl (fun _ => rfl) (fun _ _ _ => rfl) (fun _ => rfl) t d
theorem before_4 (c : Dev nD) (t : Fin cfg1.N) (d) : (dat V c).before 4 t d = blk V c 4 t :=
  (dat V c).before_in_eq_fetched 4 rfl (fun _ => rfl) (fun _ _ _ => rfl) (fun _ => rfl) t d
theorem before_5 (c : Dev nD) (t : Fin cfg1.N) (d) : (dat V c).before 5 t d = blk V c 5 t :=
  (dat V c).before_in_eq_fetched 5 rfl (fun _ => rfl) (fun _ _ _ => rfl) (fun _ => rfl) t d
theorem before_6 (c : Dev nD) (t : Fin cfg1.N) (d) : (dat V c).before 6 t d = blk V c 6 t :=
  (dat V c).before_in_eq_fetched 6 rfl (fun _ => rfl) (fun _ _ _ => rfl) (fun _ => rfl) t d

/-- What the body is called with at point `t`, -/
noncomputable def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d)))

/-- and what it returns. -/
noncomputable def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t))

/-- Before point `n` the state is what the points before left, or, before the first, anything. -/
theorem inv_open (c : Dev nD) (n : ℕ) :
    inv V c n ⊢ iprop(∃ h, ⌜n = 0 ∨ h = st V c n⌝ ∗ owns (c : Thread nD τ) (Memref.whole cc1_scratch0) fullShare h
      ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d)
      ∗ Pipeline.scopedRestBut spec1 c [cc1_scratch0, cc1_scratch1, cc1_scratch2, cc1_scratch3]) := by
  unfold inv
  by_cases hn : n = 0
  · rw [if_pos hn, scopedRest1_split]; simp only [owns_whole]
    iintro ⟨⟨⟨%f, Hs⟩, H1, H2, H3⟩, Hr⟩
    iexists f
    isplitr; · ipureintro; exact Or.inl hn
    isplitl [Hs]; · iexact Hs
    isplitl [H1]; · iexact H1
    isplitl [H2]; · iexact H2
    isplitl [H3]; · iexact H3
    iexact Hr
  · rw [if_neg hn]
    iintro ⟨Hs, Hr⟩
    iexists _
    isplitr; · ipureintro; exact Or.inr rfl
    isplitl [Hs]; · iexact Hs
    iexact Hr

theorem inv_in (c : Dev nD) : Pipeline.scopedRest spec1 c ⊢ inv V c 0 := by
  unfold inv; rw [if_pos rfl]

theorem inv_out (c : Dev nD) (n : ℕ) : inv V c n ⊢ Pipeline.scopedRest spec1 c := by
  refine (inv_open V c n).trans ?_
  rw [scopedRest1_split]; simp only [owns_whole]
  iintro ⟨%s, -, Hs, H1, H2, H3, Hr⟩
  isplitr [Hr]
  · isplitl [Hs]; · iexists s; iexact Hs
    isplitl [H1]; · iexact H1
    isplitl [H2]; · iexact H2
    iexact H3
  iexact Hr

theorem st_succ (c : Dev nD) (n : ℕ) :
    st V c (n + 1) = scanState (grid1.coords (pt n)) (blk V c 0 (pt n)) (blk V c 1 (pt n)) (blk V c 3 (pt n)) (blk V c 4 (pt n)) (st V c n) := rfl

theorem coord1 (t : Fin cfg1.N) : (grid1.coords t 1).val = t.val / 1 % 32 := Pipeline.Grid.coords_val t 1 (by decide) rfl

theorem st_enter (c : Dev nD) (t : Fin cfg1.N) (h : Vec F S16x560 .f32) (hs : t.val = 0 ∨ h = st V c t.val) :
    scanEnter (grid1.coords t) h = scanEnter (grid1.coords t) (st V c t.val) := by
  rcases hs with hs | hs
  · unfold scanEnter
    have h1 : (grid1.coords t 1).val = 0 := by rw [coord1, hs]
    rw [if_pos h1, if_pos h1]
  · rw [hs]

set_option maxHeartbeats 4000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5, before_6]
  rw [show (dat V c).owesAt () t.succ = (dat V c).owesAt () t.castSucc from rfl,
    show (dat V c).Φ t.castSucc = inv V c t.val from rfl,
    show (dat V c).Φ t.succ = iprop(owns (c : Thread nD τ) (Memref.whole cc1_scratch0) fullShare (st V c (t.val + 1)) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d)
      ∗ Pipeline.scopedRestBut spec1 c [cc1_scratch0, cc1_scratch1, cc1_scratch2, cc1_scratch3]) from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ := (inv_open V c t.val) $$ HΦ
  icases HΦ with ⟨%h, %hs, Hs, ⟨%e1, G1⟩, ⟨%e2, G2⟩, ⟨%e3, G3⟩, Hr⟩
  rw [st_succ, pt_val]
  unfold scanState scanOut
  rw [← st_enter V c t h hs]
  iapply (scan_body Variants.none c none Set.univ (grid1.coords t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  isplitl [G1]; · iexact G1
  isplitl [G2]; · iexact G2
  isplitl [G3]; · iexact G3
  iintro ⟨H0, H1, H2, H3, H4, H5, H6, H7, Hs, G1, G2, G3⟩
  isplitl [Hs Hr G1 G2 G3]
  · isplitl [Hs]; · iexact Hs
    isplitl [G1]; · iexists _; iexact G1
    isplitl [G2]; · iexists _; iexact G2
    isplitl [G3]; · iexists _; iexact G3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg1.N) : defs₀ (F := F) .tc cfg1.body (cfg1.bodyArgs t (cfg1.slots t)) = bodyAt1 t := by
  unfold defs₀; rw [Defs.onTc_tc]

theorem body_obligation (c : Dev nD) : BodyObligation (dat V c) (defs₀ (F := F)) Variants.none () Set.univ := fun t => by
  rw [bigSep_W1, bigSep_W1, defs₀_row]
  exact triple_restated (sound_body V c t) rfl .rfl fun _ => .rfl

/-! ## What the call leaves -/

/-- The buffers after the call. -/
noncomputable def exit (c : Dev nD) : Valuation τ sig (Elt F) :=
  Function.update (V c) main_call0_v27 ((dat V c).arrAt 7 cfg1.N)

theorem exit_of (c : Dev nD) (r : Ref sig .tc) (h : r ∉ ([main_call0_v27] : List (Ref sig .tc))) : exit V c r = V c r := by
  unfold exit
  rw [update_apart] <;> (rintro rfl; exact h (by decide))

theorem exit_7 (c : Dev nD) : exit V c main_call0_v27 = (dat V c).arrAt 7 cfg1.N := by
  unfold exit; rw [Function.update_self]

theorem exit_in (c : Dev nD) (w : Fin cfg1.W) (hw : (cfg1.win w).isOut = false)
    (h : Pipeline.arrRef spec1 w ∉ ([main_call0_v27] : List (Ref sig .tc))) :
    (dat V c).arrAt w cfg1.N = exit V c (Pipeline.arrRef spec1 w) :=
  ((dat V c).arrAt_in w hw _).trans ((A_eq V c w).trans (exit_of V c _ h).symm)

theorem exit_arr (c : Dev nD) (w : Fin cfg1.W) : (dat V c).arrAt w cfg1.N = exit V c (Pipeline.arrRef spec1 w) := by
  by_cases hw : w.val < 7
  · exact exit_in V c w (by revert w; decide) (by revert w; decide)
  · obtain rfl : w = 7 := Fin.ext (show w.val = 7 by have : w.val < 8 := w.isLt; omega)
    exact (exit_7 V c).symm

theorem exit_ne (c : Dev nD) (b : Ref sig .tc) (h : ∀ w : Fin cfg1.W, Pipeline.arrRef spec1 w ≠ b) : exit V c b = V c b :=
  exit_of V c b (by
    intro hb
    simp only [List.mem_cons, List.not_mem_nil, or_false] at hb
    subst hb
    all_goals first | exact h 7 rfl)

end Cert.KernelIdeal.Region1

end
-- ==== Proof.Region2.lean ====
/- The second layer's projection call: its proof data and its body at every point. -/
module

public import proofs.«01_k».proof.Proof.Carry

@[expose] public section

set_option maxRecDepth 16384

noncomputable section

namespace Cert.KernelIdeal.Region2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Mamba Cert.KernelIdeal.Gen Cert.KernelIdeal.Body

variable {F : FTy → Type} [FloatOps F]

local notation "𝕄" => MT nD τ sig Unit (Elt F) ℕ (UR sig nD τ) ℕ

variable (V : Dev nD → Valuation τ sig (Elt F))

/-- Window `w`'s block at point `t`. -/
noncomputable def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The grid's points, numbered. -/
noncomputable def pt (n : ℕ) : Fin cfg2.N := ⟨n % 64, lt_of_lt_of_eq (Nat.mod_lt _ (by decide)) (show (64 : ℕ) = cfg2.N from N_2.symm)⟩

theorem pt_val (t : Fin cfg2.N) : pt t.val = t :=
  Fin.ext (Nat.mod_eq_of_lt (lt_of_lt_of_eq t.isLt (show cfg2.N = 64 from N_2)))

/-- The scratch after `n` points. -/
noncomputable def scr (c : Dev nD) : ℕ → Vec F S520x560 .f32 := projAt (fun n => grid2.coords (pt n)) (fun n => blk V c 0 (pt n)) (fun n => blk V c 1 (pt n))

/-- What a core holds of the scoped buffers before point `n`. -/
noncomputable def inv (c : Dev nD) (n : ℕ) : sProp 𝕄 :=
  if n = 0 then Pipeline.scopedRest spec2 c
  else iprop(owns (c : Thread nD τ) (Memref.whole cc2_scratch0) fullShare (scr V c n) ∗ Pipeline.scopedRestBut spec2 c [cc2_scratch0])

/-- The call's proof data from the buffers at `V`. -/
noncomputable def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => projXc (blk V c 2 t) (blk V c 3 t) (scr V c (t.val + 1))
    | ⟨8, _⟩ => projDt (blk V c 2 t) (blk V c 3 t) (blk V c 4 t) (blk V c 5 t) (blk V c 6 t) (scr V c (t.val + 1))
    | ⟨9, _⟩ => k0_pay3 (blk V c 0 t) (blk V c 1 t)
    | ⟨10, _⟩ => projBc (blk V c 2 t) (blk V c 3 t) (blk V c 4 t) (scr V c (t.val + 1))
  Φ t := inv V c t.val
  q _ := fullShare
  owed _ := 0

theorem A_eq (c : Dev nD) (w : Fin cfg2.W) : (dat V c).A w = V c (Pipeline.arrRef spec2 w) := by dsimp only [dat]

/-- An input's staging buffer holds its block at every point. -/
theorem before_0 (c : Dev nD) (t : Fin cfg2.N) (d) : (dat V c).before 0 t d = blk V c 0 t :=
  (dat V c).before_in_eq_fetched 0 rfl (fun _ => rfl) (fun _ _ _ => rfl) (fun _ => rfl) t d
theorem before_1 (c : Dev nD) (t : Fin cfg2.N) (d) : (dat V c).before 1 t d = blk V c 1 t :=
  (dat V c).before_in_eq_fetched 1 rfl (fun _ => rfl) (fun _ _ _ => rfl) (fun _ => rfl) t d
theorem before_2 (c : Dev nD) (t : Fin cfg2.N) (d) : (dat V c).before 2 t d = blk V c 2 t :=
  (dat V c).before_in_eq_fetched 2 rfl (fun _ => rfl) (fun _ _ _ => rfl) (fun _ => rfl) t d
theorem before_3 (c : Dev nD) (t : Fin cfg2.N) (d) : (dat V c).before 3 t d = blk V c 3 t :=
  (dat V c).before_in_eq_fetched 3 rfl (fun _ => rfl) (fun _ _ _ => rfl) (fun _ => rfl) t d
theorem before_4 (c : Dev nD) (t : Fin cfg2.N) (d) : (dat V c).before 4 t d = blk V c 4 t :=
  (dat V c).before_in_eq_fetched 4 rfl (fun _ => rfl) (fun _ _ _ => rfl) (fun _ => rfl) t d
theorem before_5 (c : Dev nD) (t : Fin cfg2.N) (d) : (dat V c).before 5 t d = blk V c 5 t :=
  (dat V c).before_in_eq_fetched 5 rfl (fun _ => rfl) (fun _ _ _ => rfl) (fun _ => rfl) t d
theorem before_6 (c : Dev nD) (t : Fin cfg2.N) (d) : (dat V c).before 6 t d = blk V c 6 t :=
  (dat V c).before_in_eq_fetched 6 rfl (fun _ => rfl) (fun _ _ _ => rfl) (fun _ => rfl) t d

/-- What the body is called with at point `t`, -/
noncomputable def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d))
    ∗ (∃ d, owns (c : Thread nD τ) (st2_7 t) fullShare ((dat V c).before 7 t d))
    ∗ (∃ d, owns (c : Thread nD τ) (st2_8 t) fullShare ((dat V c).before 8 t d))
    ∗ (∃ d, owns (c : Thread nD τ) (st2_9 t) fullShare ((dat V c).before 9 t d))
    ∗ (∃ d, owns (c : Thread nD τ) (st2_10 t) fullShare ((dat V c).before 10 t d)))

/-- and what it returns. -/
noncomputable def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t)
    ∗ owns (c : Thread nD τ) (st2_7 t) fullShare ((dat V c).after 7 t)
    ∗ owns (c : Thread nD τ) (st2_8 t) fullShare ((dat V c).after 8 t)
    ∗ owns (c : Thread nD τ) (st2_9 t) fullShare ((dat V c).after 9 t)
    ∗ owns (c : Thread nD τ) (st2_10 t) fullShare ((dat V c).after 10 t))

/-- Before point `n` the scratch holds what the points before left, or, before the first, anything. -/
theorem inv_open (c : Dev nD) (n : ℕ) :
    inv V c n ⊢ iprop(∃ s, ⌜n = 0 ∨ s = scr V c n⌝ ∗ owns (c : Thread nD τ) (Memref.whole cc2_scratch0) fullShare s
      ∗ Pipeline.scopedRestBut spec2 c [cc2_scratch0]) := by
  unfold inv
  by_cases hn : n = 0
  · rw [if_pos hn, scopedRest2_split]
    iintro ⟨⟨%f, Hs⟩, Hr⟩
    iexists f
    isplitr; · ipureintro; exact Or.inl hn
    isplitl [Hs]; · rw [owns_whole]; iexact Hs
    iexact Hr
  · rw [if_neg hn]
    iintro ⟨Hs, Hr⟩
    iexists _
    isplitr; · ipureintro; exact Or.inr rfl
    isplitl [Hs]; · iexact Hs
    iexact Hr

theorem inv_in (c : Dev nD) : Pipeline.scopedRest spec2 c ⊢ inv V c 0 := by
  unfold inv; rw [if_pos rfl]

theorem inv_out (c : Dev nD) (n : ℕ) : inv V c n ⊢ Pipeline.scopedRest spec2 c := by
  refine (inv_open V c n).trans ?_
  rw [scopedRest2_split]; simp only [owns_whole]
  iintro ⟨%s, -, Hs, Hr⟩
  isplitl [Hs]; · iexists s; iexact Hs
  iexact Hr

theorem scr_succ (c : Dev nD) (n : ℕ) :
    scr V c (n + 1) = projScr (grid2.coords (pt n)) (blk V c 0 (pt n)) (blk V c 1 (pt n)) (scr V c n) := rfl

theorem coord1 (t : Fin cfg2.N) : (grid2.coords t 1).val = t.val / 1 % 8 := Pipeline.Grid.coords_val t 1 (by decide) rfl

theorem scr_step (c : Dev nD) (t : Fin cfg2.N) (s : Vec F S520x560 .f32) (hs : t.val = 0 ∨ s = scr V c t.val) :
    projScr (grid2.coords t) (blk V c 0 t) (blk V c 1 t) s = scr V c (t.val + 1) := by
  rw [scr_succ, pt_val]
  rcases hs with hs | hs
  · exact projScr_first _ (by rw [coord1, hs]) _ _ _ _
  · rw [hs]

set_option maxHeartbeats 4000000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6]
  rw [show (dat V c).owesAt () t.succ = (dat V c).owesAt () t.castSucc from rfl,
    show (dat V c).Φ t.castSucc = inv V c t.val from rfl,
    show (dat V c).Φ t.succ = iprop(owns (c : Thread nD τ) (Memref.whole cc2_scratch0) fullShare (scr V c (t.val + 1)) ∗ Pipeline.scopedRestBut spec2 c [cc2_scratch0]) from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ := (inv_open V c t.val) $$ HΦ
  icases HΦ with ⟨%s, %hs, Hs, Hr⟩
  rw [← scr_step V c t s hs]
  rw [show @cc2_mamba_proj = @cc0_mamba_proj from rfl]
  iapply (proj_body Variants.none c none Set.univ (grid2.coords t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hs]; · iexact Hs
  iintro ⟨H0, H1, H2, H3, H4, H5, H6, H7, H8, H9, H10, Hs⟩
  isplitl [Hs Hr]; · isplitl [Hs] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg2.N) : defs₀ (F := F) .tc cfg2.body (cfg2.bodyArgs t (cfg2.slots t)) = bodyAt2 t := by
  unfold defs₀; rw [Defs.onTc_tc]

theorem body_obligation (c : Dev nD) : BodyObligation (dat V c) (defs₀ (F := F)) Variants.none () Set.univ := fun t => by
  rw [bigSep_W2, bigSep_W2, defs₀_row]
  exact triple_restated (sound_body V c t) rfl .rfl fun _ => .rfl

/-! ## What the call leaves -/

/-- The buffers after the call. -/
noncomputable def exit (c : Dev nD) : Valuation τ sig (Elt F) :=
  Function.update (Function.update (Function.update (Function.update (V c) main_call0_v45_0 ((dat V c).arrAt 7 cfg2.N)) main_call0_v45_1 ((dat V c).arrAt 8 cfg2.N)) main_call0_v45_2 ((dat V c).arrAt 9 cfg2.N)) main_call0_v45_3 ((dat V c).arrAt 10 cfg2.N)

theorem exit_of (c : Dev nD) (r : Ref sig .tc) (h : r ∉ ([main_call0_v45_0, main_call0_v45_1, main_call0_v45_2, main_call0_v45_3] : List (Ref sig .tc))) : exit V c r = V c r := by
  unfold exit
  rw [update_apart, update_apart, update_apart, update_apart] <;> (rintro rfl; exact h (by decide))

theorem exit_7 (c : Dev nD) : exit V c main_call0_v45_0 = (dat V c).arrAt 7 cfg2.N := by
  unfold exit; rw [update_apart, update_apart, update_apart, Function.update_self] <;> decide

theorem exit_8 (c : Dev nD) : exit V c main_call0_v45_1 = (dat V c).arrAt 8 cfg2.N := by
  unfold exit; rw [update_apart, update_apart, Function.update_self] <;> decide

theorem exit_9 (c : Dev nD) : exit V c main_call0_v45_2 = (dat V c).arrAt 9 cfg2.N := by
  unfold exit; rw [update_apart, Function.update_self] <;> decide

theorem exit_10 (c : Dev nD) : exit V c main_call0_v45_3 = (dat V c).arrAt 10 cfg2.N := by
  unfold exit; rw [Function.update_self]

theorem exit_in (c : Dev nD) (w : Fin cfg2.W) (hw : (cfg2.win w).isOut = false)
    (h : Pipeline.arrRef spec2 w ∉ ([main_call0_v45_0, main_call0_v45_1, main_call0_v45_2, main_call0_v45_3] : List (Ref sig .tc))) :
    (dat V c).arrAt w cfg2.N = exit V c (Pipeline.arrRef spec2 w) :=
  ((dat V c).arrAt_in w hw _).trans ((A_eq V c w).trans (exit_of V c _ h).symm)

theorem exit_arr (c : Dev nD) (w : Fin cfg2.W) : (dat V c).arrAt w cfg2.N = exit V c (Pipeline.arrRef spec2 w) := by
  by_cases hw : w.val < 7
  · exact exit_in V c w (by revert w; decide) (by revert w; decide)
  · obtain rfl | rfl | rfl | rfl : w = 7 ∨ w = 8 ∨ w = 9 ∨ w = 10 := by
      revert w; decide
    · exact (exit_7 V c).symm
    · exact (exit_8 V c).symm
    · exact (exit_9 V c).symm
    · exact (exit_10 V c).symm

theorem exit_ne (c : Dev nD) (b : Ref sig .tc) (h : ∀ w : Fin cfg2.W, Pipeline.arrRef spec2 w ≠ b) : exit V c b = V c b :=
  exit_of V c b (by
    intro hb
    simp only [List.mem_cons, List.not_mem_nil, or_false] at hb
    rcases hb with rfl | rfl | rfl | rfl
    all_goals first | exact h 7 rfl | exact h 8 rfl | exact h 9 rfl | exact h 10 rfl)

end Cert.KernelIdeal.Region2

end
-- ==== Proof.Region3.lean ====
/- The second layer's scan call: its proof data and its body at every point. -/
module

public import proofs.«01_k».proof.Proof.Carry

@[expose] public section

set_option maxRecDepth 16384

noncomputable section

namespace Cert.KernelIdeal.Region3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Mamba Cert.KernelIdeal.Gen Cert.KernelIdeal.Body

variable {F : FTy → Type} [FloatOps F]

local notation "𝕄" => MT nD τ sig Unit (Elt F) ℕ (UR sig nD τ) ℕ

variable (V : Dev nD → Valuation τ sig (Elt F))

/-- Window `w`'s block at point `t`. -/
noncomputable def blk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The grid's points, numbered. -/
noncomputable def pt (n : ℕ) : Fin cfg3.N := ⟨n % 256, lt_of_lt_of_eq (Nat.mod_lt _ (by decide)) (show (256 : ℕ) = cfg3.N from N_3.symm)⟩

theorem pt_val (t : Fin cfg3.N) : pt t.val = t :=
  Fin.ext (Nat.mod_eq_of_lt (lt_of_lt_of_eq t.isLt (show cfg3.N = 256 from N_3)))

/-- The state after `n` points. -/
noncomputable def st (c : Dev nD) : ℕ → Vec F S16x560 .f32 :=
  scanAt (fun n => grid3.coords (pt n)) (fun n => blk V c 0 (pt n)) (fun n => blk V c 1 (pt n)) (fun n => blk V c 3 (pt n)) (fun n => blk V c 4 (pt n))

/-- What a core holds of the scoped buffers before point `n`. -/
noncomputable def inv (c : Dev nD) (n : ℕ) : sProp 𝕄 :=
  if n = 0 then Pipeline.scopedRest spec3 c
  else iprop(owns (c : Thread nD τ) (Memref.whole cc3_scratch0) fullShare (st V c n) ∗ (∃ d, owns (c : Thread nD τ) (Memref.whole cc3_scratch1) fullShare d) ∗ (∃ d, owns (c : Thread nD τ) (Memref.whole cc3_scratch2) fullShare d) ∗ (∃ d, owns (c : Thread nD τ) (Memref.whole cc3_scratch3) fullShare d)
      ∗ Pipeline.scopedRestBut spec3 c [cc3_scratch0, cc3_scratch1, cc3_scratch2, cc3_scratch3])

/-- The call's proof data from the buffers at `V`. -/
noncomputable def dat (c : Dev nD) : Dat τ (Elt F) Unit ℕ (UR sig nD τ) ℕ cfg3 c where
  A w := V c (Pipeline.arrRef spec3 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => scanOut (grid3.coords t) (blk V c 0 t) (blk V c 1 t) (blk V c 2 t) (blk V c 3 t) (blk V c 4 t) (blk V c 5 t) (blk V c 6 t) (st V c t.val)
  Φ t := inv V c t.val
  q _ := fullShare
  owed _ := 0

theorem A_eq (c : Dev nD) (w : Fin cfg3.W) : (dat V c).A w = V c (Pipeline.arrRef spec3 w) := by dsimp only [dat]

/-- An input's staging buffer holds its block at every point. -/
theorem before_0 (c : Dev nD) (t : Fin cfg3.N) (d) : (dat V c).before 0 t d = blk V c 0 t :=
  (dat V c).before_in_eq_fetched 0 rfl (fun _ => rfl) (fun _ _ _ => rfl) (fun _ => rfl) t d
theorem before_1 (c : Dev nD) (t : Fin cfg3.N) (d) : (dat V c).before 1 t d = blk V c 1 t :=
  (dat V c).before_in_eq_fetched 1 rfl (fun _ => rfl) (fun _ _ _ => rfl) (fun _ => rfl) t d
theorem before_2 (c : Dev nD) (t : Fin cfg3.N) (d) : (dat V c).before 2 t d = blk V c 2 t :=
  (dat V c).before_in_eq_fetched 2 rfl (fun _ => rfl) (fun _ _ _ => rfl) (fun _ => rfl) t d
theorem before_3 (c : Dev nD) (t : Fin cfg3.N) (d) : (dat V c).before 3 t d = blk V c 3 t :=
  (dat V c).before_in_eq_fetched 3 rfl (fun _ => rfl) (fun _ _ _ => rfl) (fun _ => rfl) t d
theorem before_4 (c : Dev nD) (t : Fin cfg3.N) (d) : (dat V c).before 4 t d = blk V c 4 t :=
  (dat V c).before_in_eq_fetched 4 rfl (fun _ => rfl) (fun _ _ _ => rfl) (fun _ => rfl) t d
theorem before_5 (c : Dev nD) (t : Fin cfg3.N) (d) : (dat V c).before 5 t d = blk V c 5 t :=
  (dat V c).before_in_eq_fetched 5 rfl (fun _ => rfl) (fun _ _ _ => rfl) (fun _ => rfl) t d
theorem before_6 (c : Dev nD) (t : Fin cfg3.N) (d) : (dat V c).before 6 t d = blk V c 6 t :=
  (dat V c).before_in_eq_fetched 6 rfl (fun _ => rfl) (fun _ _ _ => rfl) (fun _ => rfl) t d

/-- What the body is called with at point `t`, -/
noncomputable def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d))
    ∗ (∃ d, owns (c : Thread nD τ) (st3_6 t) fullShare ((dat V c).before 6 t d))
    ∗ (∃ d, owns (c : Thread nD τ) (st3_7 t) fullShare ((dat V c).before 7 t d)))

/-- and what it returns. -/
noncomputable def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t)
    ∗ owns (c : Thread nD τ) (st3_6 t) fullShare ((dat V c).after 6 t)
    ∗ owns (c : Thread nD τ) (st3_7 t) fullShare ((dat V c).after 7 t))

/-- Before point `n` the state is what the points before left, or, before the first, anything. -/
theorem inv_open (c : Dev nD) (n : ℕ) :
    inv V c n ⊢ iprop(∃ h, ⌜n = 0 ∨ h = st V c n⌝ ∗ owns (c : Thread nD τ) (Memref.whole cc3_scratch0) fullShare h
      ∗ (∃ d, owns (c : Thread nD τ) (Memref.whole cc3_scratch1) fullShare d) ∗ (∃ d, owns (c : Thread nD τ) (Memref.whole cc3_scratch2) fullShare d) ∗ (∃ d, owns (c : Thread nD τ) (Memref.whole cc3_scratch3) fullShare d)
      ∗ Pipeline.scopedRestBut spec3 c [cc3_scratch0, cc3_scratch1, cc3_scratch2, cc3_scratch3]) := by
  unfold inv
  by_cases hn : n = 0
  · rw [if_pos hn, scopedRest3_split]; simp only [owns_whole]
    iintro ⟨⟨⟨%f, Hs⟩, H1, H2, H3⟩, Hr⟩
    iexists f
    isplitr; · ipureintro; exact Or.inl hn
    isplitl [Hs]; · iexact Hs
    isplitl [H1]; · iexact H1
    isplitl [H2]; · iexact H2
    isplitl [H3]; · iexact H3
    iexact Hr
  · rw [if_neg hn]
    iintro ⟨Hs, Hr⟩
    iexists _
    isplitr; · ipureintro; exact Or.inr rfl
    isplitl [Hs]; · iexact Hs
    iexact Hr

theorem inv_in (c : Dev nD) : Pipeline.scopedRest spec3 c ⊢ inv V c 0 := by
  unfold inv; rw [if_pos rfl]

theorem inv_out (c : Dev nD) (n : ℕ) : inv V c n ⊢ Pipeline.scopedRest spec3 c := by
  refine (inv_open V c n).trans ?_
  rw [scopedRest3_split]; simp only [owns_whole]
  iintro ⟨%s, -, Hs, H1, H2, H3, Hr⟩
  isplitr [Hr]
  · isplitl [Hs]; · iexists s; iexact Hs
    isplitl [H1]; · iexact H1
    isplitl [H2]; · iexact H2
    iexact H3
  iexact Hr

theorem st_succ (c : Dev nD) (n : ℕ) :
    st V c (n + 1) = scanState (grid3.coords (pt n)) (blk V c 0 (pt n)) (blk V c 1 (pt n)) (blk V c 3 (pt n)) (blk V c 4 (pt n)) (st V c n) := rfl

theorem coord1 (t : Fin cfg3.N) : (grid3.coords t 1).val = t.val / 1 % 32 := Pipeline.Grid.coords_val t 1 (by decide) rfl

theorem st_enter (c : Dev nD) (t : Fin cfg3.N) (h : Vec F S16x560 .f32) (hs : t.val = 0 ∨ h = st V c t.val) :
    scanEnter (grid3.coords t) h = scanEnter (grid3.coords t) (st V c t.val) := by
  rcases hs with hs | hs
  · unfold scanEnter
    have h1 : (grid3.coords t 1).val = 0 := by rw [coord1, hs]
    rw [if_pos h1, if_pos h1]
  · rw [hs]

set_option maxHeartbeats 4000000 in
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4, before_5, before_6]
  rw [show (dat V c).owesAt () t.succ = (dat V c).owesAt () t.castSucc from rfl,
    show (dat V c).Φ t.castSucc = inv V c t.val from rfl,
    show (dat V c).Φ t.succ = iprop(owns (c : Thread nD τ) (Memref.whole cc3_scratch0) fullShare (st V c (t.val + 1)) ∗ (∃ d, owns (c : Thread nD τ) (Memref.whole cc3_scratch1) fullShare d) ∗ (∃ d, owns (c : Thread nD τ) (Memref.whole cc3_scratch2) fullShare d) ∗ (∃ d, owns (c : Thread nD τ) (Memref.whole cc3_scratch3) fullShare d)
      ∗ Pipeline.scopedRestBut spec3 c [cc3_scratch0, cc3_scratch1, cc3_scratch2, cc3_scratch3]) from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ := (inv_open V c t.val) $$ HΦ
  icases HΦ with ⟨%h, %hs, Hs, ⟨%e1, G1⟩, ⟨%e2, G2⟩, ⟨%e3, G3⟩, Hr⟩
  rw [st_succ, pt_val]
  unfold scanState scanOut
  rw [← st_enter V c t h hs]
  rw [show @cc3_mamba_scan = @cc1_mamba_scan from rfl]
  iapply (scan_body Variants.none c none Set.univ (grid3.coords t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  isplitl [G1]; · iexact G1
  isplitl [G2]; · iexact G2
  isplitl [G3]; · iexact G3
  iintro ⟨H0, H1, H2, H3, H4, H5, H6, H7, Hs, G1, G2, G3⟩
  isplitl [Hs Hr G1 G2 G3]
  · isplitl [Hs]; · iexact Hs
    isplitl [G1]; · iexists _; iexact G1
    isplitl [G2]; · iexists _; iexact G2
    isplitl [G3]; · iexists _; iexact G3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg3.N) : defs₀ (F := F) .tc cfg3.body (cfg3.bodyArgs t (cfg3.slots t)) = bodyAt3 t := by
  unfold defs₀; rw [Defs.onTc_tc]

theorem body_obligation (c : Dev nD) : BodyObligation (dat V c) (defs₀ (F := F)) Variants.none () Set.univ := fun t => by
  rw [bigSep_W3, bigSep_W3, defs₀_row]
  exact triple_restated (sound_body V c t) rfl .rfl fun _ => .rfl

/-! ## What the call leaves -/

/-- The buffers after the call. -/
noncomputable def exit (c : Dev nD) : Valuation τ sig (Elt F) :=
  Function.update (V c) main_call0_v55 ((dat V c).arrAt 7 cfg3.N)

theorem exit_of (c : Dev nD) (r : Ref sig .tc) (h : r ∉ ([main_call0_v55] : List (Ref sig .tc))) : exit V c r = V c r := by
  unfold exit
  rw [update_apart] <;> (rintro rfl; exact h (by decide))

theorem exit_7 (c : Dev nD) : exit V c main_call0_v55 = (dat V c).arrAt 7 cfg3.N := by
  unfold exit; rw [Function.update_self]

theorem exit_in (c : Dev nD) (w : Fin cfg3.W) (hw : (cfg3.win w).isOut = false)
    (h : Pipeline.arrRef spec3 w ∉ ([main_call0_v55] : List (Ref sig .tc))) :
    (dat V c).arrAt w cfg3.N = exit V c (Pipeline.arrRef spec3 w) :=
  ((dat V c).arrAt_in w hw _).trans ((A_eq V c w).trans (exit_of V c _ h).symm)

theorem exit_arr (c : Dev nD) (w : Fin cfg3.W) : (dat V c).arrAt w cfg3.N = exit V c (Pipeline.arrRef spec3 w) := by
  by_cases hw : w.val < 7
  · exact exit_in V c w (by revert w; decide) (by revert w; decide)
  · obtain rfl : w = 7 := Fin.ext (show w.val = 7 by have : w.val < 8 := w.isLt; omega)
    exact (exit_7 V c).symm

theorem exit_ne (c : Dev nD) (b : Ref sig .tc) (h : ∀ w : Fin cfg3.W, Pipeline.arrRef spec3 w ≠ b) : exit V c b = V c b :=
  exit_of V c b (by
    intro hb
    simp only [List.mem_cons, List.not_mem_nil, or_false] at hb
    subst hb
    all_goals first | exact h 7 rfl)

end Cert.KernelIdeal.Region3

end
-- ==== Proof.Region4.lean ====
/- The third layer's projection call: its proof data and its body at every point. -/
module

public import proofs.«01_k».proof.Proof.Carry

@[expose] public section

set_option maxRecDepth 16384

noncomputable section

namespace Cert.KernelIdeal.Region4

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Mamba Cert.KernelIdeal.Gen Cert.KernelIdeal.Body

variable {F : FTy → Type} [FloatOps F]

local notation "𝕄" => MT nD τ sig Unit (Elt F) ℕ (UR sig nD τ) ℕ

variable (V : Dev nD → Valuation τ sig (Elt F))

/-- Window `w`'s block at point `t`. -/
noncomputable def blk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The grid's points, numbered. -/
noncomputable def pt (n : ℕ) : Fin cfg4.N := ⟨n % 64, lt_of_lt_of_eq (Nat.mod_lt _ (by decide)) (show (64 : ℕ) = cfg4.N from N_4.symm)⟩

theorem pt_val (t : Fin cfg4.N) : pt t.val = t :=
  Fin.ext (Nat.mod_eq_of_lt (lt_of_lt_of_eq t.isLt (show cfg4.N = 64 from N_4)))

/-- The scratch after `n` points. -/
noncomputable def scr (c : Dev nD) : ℕ → Vec F S520x560 .f32 := projAt (fun n => grid4.coords (pt n)) (fun n => blk V c 0 (pt n)) (fun n => blk V c 1 (pt n))

/-- What a core holds of the scoped buffers before point `n`. -/
noncomputable def inv (c : Dev nD) (n : ℕ) : sProp 𝕄 :=
  if n = 0 then Pipeline.scopedRest spec4 c
  else iprop(owns (c : Thread nD τ) (Memref.whole cc4_scratch0) fullShare (scr V c n) ∗ Pipeline.scopedRestBut spec4 c [cc4_scratch0])

/-- The call's proof data from the buffers at `V`. -/
noncomputable def dat (c : Dev nD) : Dat τ (Elt F) Unit ℕ (UR sig nD τ) ℕ cfg4 c where
  A w := V c (Pipeline.arrRef spec4 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => projXc (blk V c 2 t) (blk V c 3 t) (scr V c (t.val + 1))
    | ⟨8, _⟩ => projDt (blk V c 2 t) (blk V c 3 t) (blk V c 4 t) (blk V c 5 t) (blk V c 6 t) (scr V c (t.val + 1))
    | ⟨9, _⟩ => k0_pay3 (blk V c 0 t) (blk V c 1 t)
    | ⟨10, _⟩ => projBc (blk V c 2 t) (blk V c 3 t) (blk V c 4 t) (scr V c (t.val + 1))
  Φ t := inv V c t.val
  q _ := fullShare
  owed _ := 0

theorem A_eq (c : Dev nD) (w : Fin cfg4.W) : (dat V c).A w = V c (Pipeline.arrRef spec4 w) := by dsimp only [dat]

/-- An input's staging buffer holds its block at every point. -/
theorem before_0 (c : Dev nD) (t : Fin cfg4.N) (d) : (dat V c).before 0 t d = blk V c 0 t :=
  (dat V c).before_in_eq_fetched 0 rfl (fun _ => rfl) (fun _ _ _ => rfl) (fun _ => rfl) t d
theorem before_1 (c : Dev nD) (t : Fin cfg4.N) (d) : (dat V c).before 1 t d = blk V c 1 t :=
  (dat V c).before_in_eq_fetched 1 rfl (fun _ => rfl) (fun _ _ _ => rfl) (fun _ => rfl) t d
theorem before_2 (c : Dev nD) (t : Fin cfg4.N) (d) : (dat V c).before 2 t d = blk V c 2 t :=
  (dat V c).before_in_eq_fetched 2 rfl (fun _ => rfl) (fun _ _ _ => rfl) (fun _ => rfl) t d
theorem before_3 (c : Dev nD) (t : Fin cfg4.N) (d) : (dat V c).before 3 t d = blk V c 3 t :=
  (dat V c).before_in_eq_fetched 3 rfl (fun _ => rfl) (fun _ _ _ => rfl) (fun _ => rfl) t d
theorem before_4 (c : Dev nD) (t : Fin cfg4.N) (d) : (dat V c).before 4 t d = blk V c 4 t :=
  (dat V c).before_in_eq_fetched 4 rfl (fun _ => rfl) (fun _ _ _ => rfl) (fun _ => rfl) t d
theorem before_5 (c : Dev nD) (t : Fin cfg4.N) (d) : (dat V c).before 5 t d = blk V c 5 t :=
  (dat V c).before_in_eq_fetched 5 rfl (fun _ => rfl) (fun _ _ _ => rfl) (fun _ => rfl) t d
theorem before_6 (c : Dev nD) (t : Fin cfg4.N) (d) : (dat V c).before 6 t d = blk V c 6 t :=
  (dat V c).before_in_eq_fetched 6 rfl (fun _ => rfl) (fun _ _ _ => rfl) (fun _ => rfl) t d

/-- What the body is called with at point `t`, -/
noncomputable def bodyPre (c : Dev nD) (t : Fin cfg4.N) : sProp 𝕄 :=
  iprop((dat V c).Φ t.castSucc ∗ (dat V c).owesAt () t.castSucc
    ∗ (∃ d, owns (c : Thread nD τ) (st4_0 t) fullShare ((dat V c).before 0 t d))
    ∗ (∃ d, owns (c : Thread nD τ) (st4_1 t) fullShare ((dat V c).before 1 t d))
    ∗ (∃ d, owns (c : Thread nD τ) (st4_2 t) fullShare ((dat V c).before 2 t d))
    ∗ (∃ d, owns (c : Thread nD τ) (st4_3 t) fullShare ((dat V c).before 3 t d))
    ∗ (∃ d, owns (c : Thread nD τ) (st4_4 t) fullShare ((dat V c).before 4 t d))
    ∗ (∃ d, owns (c : Thread nD τ) (st4_5 t) fullShare ((dat V c).before 5 t d))
    ∗ (∃ d, owns (c : Thread nD τ) (st4_6 t) fullShare ((dat V c).before 6 t d))
    ∗ (∃ d, owns (c : Thread nD τ) (st4_7 t) fullShare ((dat V c).before 7 t d))
    ∗ (∃ d, owns (c : Thread nD τ) (st4_8 t) fullShare ((dat V c).before 8 t d))
    ∗ (∃ d, owns (c : Thread nD τ) (st4_9 t) fullShare ((dat V c).before 9 t d))
    ∗ (∃ d, owns (c : Thread nD τ) (st4_10 t) fullShare ((dat V c).before 10 t d)))

/-- and what it returns. -/
noncomputable def bodyPost (c : Dev nD) (t : Fin cfg4.N) : sProp 𝕄 :=
  iprop((dat V c).Φ t.succ ∗ (dat V c).owesAt () t.succ
    ∗ owns (c : Thread nD τ) (st4_0 t) fullShare ((dat V c).after 0 t)
    ∗ owns (c : Thread nD τ) (st4_1 t) fullShare ((dat V c).after 1 t)
    ∗ owns (c : Thread nD τ) (st4_2 t) fullShare ((dat V c).after 2 t)
    ∗ owns (c : Thread nD τ) (st4_3 t) fullShare ((dat V c).after 3 t)
    ∗ owns (c : Thread nD τ) (st4_4 t) fullShare ((dat V c).after 4 t)
    ∗ owns (c : Thread nD τ) (st4_5 t) fullShare ((dat V c).after 5 t)
    ∗ owns (c : Thread nD τ) (st4_6 t) fullShare ((dat V c).after 6 t)
    ∗ owns (c : Thread nD τ) (st4_7 t) fullShare ((dat V c).after 7 t)
    ∗ owns (c : Thread nD τ) (st4_8 t) fullShare ((dat V c).after 8 t)
    ∗ owns (c : Thread nD τ) (st4_9 t) fullShare ((dat V c).after 9 t)
    ∗ owns (c : Thread nD τ) (st4_10 t) fullShare ((dat V c).after 10 t))

/-- Before point `n` the scratch holds what the points before left, or, before the first, anything. -/
theorem inv_open (c : Dev nD) (n : ℕ) :
    inv V c n ⊢ iprop(∃ s, ⌜n = 0 ∨ s = scr V c n⌝ ∗ owns (c : Thread nD τ) (Memref.whole cc4_scratch0) fullShare s
      ∗ Pipeline.scopedRestBut spec4 c [cc4_scratch0]) := by
  unfold inv
  by_cases hn : n = 0
  · rw [if_pos hn, scopedRest4_split]
    iintro ⟨⟨%f, Hs⟩, Hr⟩
    iexists f
    isplitr; · ipureintro; exact Or.inl hn
    isplitl [Hs]; · rw [owns_whole]; iexact Hs
    iexact Hr
  · rw [if_neg hn]
    iintro ⟨Hs, Hr⟩
    iexists _
    isplitr; · ipureintro; exact Or.inr rfl
    isplitl [Hs]; · iexact Hs
    iexact Hr

theorem inv_in (c : Dev nD) : Pipeline.scopedRest spec4 c ⊢ inv V c 0 := by
  unfold inv; rw [if_pos rfl]

theorem inv_out (c : Dev nD) (n : ℕ) : inv V c n ⊢ Pipeline.scopedRest spec4 c := by
  refine (inv_open V c n).trans ?_
  rw [scopedRest4_split]; simp only [owns_whole]
  iintro ⟨%s, -, Hs, Hr⟩
  isplitl [Hs]; · iexists s; iexact Hs
  iexact Hr

theorem scr_succ (c : Dev nD) (n : ℕ) :
    scr V c (n + 1) = projScr (grid4.coords (pt n)) (blk V c 0 (pt n)) (blk V c 1 (pt n)) (scr V c n) := rfl

theorem coord1 (t : Fin cfg4.N) : (grid4.coords t 1).val = t.val / 1 % 8 := Pipeline.Grid.coords_val t 1 (by decide) rfl

theorem scr_step (c : Dev nD) (t : Fin cfg4.N) (s : Vec F S520x560 .f32) (hs : t.val = 0 ∨ s = scr V c t.val) :
    projScr (grid4.coords t) (blk V c 0 t) (blk V c 1 t) s = scr V c (t.val + 1) := by
  rw [scr_succ, pt_val]
  rcases hs with hs | hs
  · exact projScr_first _ (by rw [coord1, hs]) _ _ _ _
  · rw [hs]

set_option maxHeartbeats 4000000 in
theorem sound_body (c : Dev nD) (t : Fin cfg4.N) :
    bodyPre V c t ⊢ wp frame (wpE (defs₀ (F := F)) Variants.none c none) Set.univ (bodyAt4 t) (fun _ => bodyPost V c t) := by
  unfold bodyPre bodyPost bodyAt4
  simp only [before_0, before_1, before_2, before_3, before_4, before_5, before_6]
  rw [show (dat V c).owesAt () t.succ = (dat V c).owesAt () t.castSucc from rfl,
    show (dat V c).Φ t.castSucc = inv V c t.val from rfl,
    show (dat V c).Φ t.succ = iprop(owns (c : Thread nD τ) (Memref.whole cc4_scratch0) fullShare (scr V c (t.val + 1)) ∗ Pipeline.scopedRestBut spec4 c [cc4_scratch0]) from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ := (inv_open V c t.val) $$ HΦ
  icases HΦ with ⟨%s, %hs, Hs, Hr⟩
  rw [← scr_step V c t s hs]
  rw [show @cc4_mamba_proj = @cc0_mamba_proj from rfl]
  iapply (proj_body Variants.none c none Set.univ (grid4.coords t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [Hs]; · iexact Hs
  iintro ⟨H0, H1, H2, H3, H4, H5, H6, H7, H8, H9, H10, Hs⟩
  isplitl [Hs Hr]; · isplitl [Hs] <;> iassumption
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg4.N) : defs₀ (F := F) .tc cfg4.body (cfg4.bodyArgs t (cfg4.slots t)) = bodyAt4 t := by
  unfold defs₀; rw [Defs.onTc_tc]

theorem body_obligation (c : Dev nD) : BodyObligation (dat V c) (defs₀ (F := F)) Variants.none () Set.univ := fun t => by
  rw [bigSep_W4, bigSep_W4, defs₀_row]
  exact triple_restated (sound_body V c t) rfl .rfl fun _ => .rfl

/-! ## What the call leaves -/

/-- The buffers after the call. -/
noncomputable def exit (c : Dev nD) : Valuation τ sig (Elt F) :=
  Function.update (Function.update (Function.update (Function.update (V c) main_call0_v73_0 ((dat V c).arrAt 7 cfg4.N)) main_call0_v73_1 ((dat V c).arrAt 8 cfg4.N)) main_call0_v73_2 ((dat V c).arrAt 9 cfg4.N)) main_call0_v73_3 ((dat V c).arrAt 10 cfg4.N)

theorem exit_of (c : Dev nD) (r : Ref sig .tc) (h : r ∉ ([main_call0_v73_0, main_call0_v73_1, main_call0_v73_2, main_call0_v73_3] : List (Ref sig .tc))) : exit V c r = V c r := by
  unfold exit
  rw [update_apart, update_apart, update_apart, update_apart] <;> (rintro rfl; exact h (by decide))

theorem exit_7 (c : Dev nD) : exit V c main_call0_v73_0 = (dat V c).arrAt 7 cfg4.N := by
  unfold exit; rw [update_apart, update_apart, update_apart, Function.update_self] <;> decide

theorem exit_8 (c : Dev nD) : exit V c main_call0_v73_1 = (dat V c).arrAt 8 cfg4.N := by
  unfold exit; rw [update_apart, update_apart, Function.update_self] <;> decide

theorem exit_9 (c : Dev nD) : exit V c main_call0_v73_2 = (dat V c).arrAt 9 cfg4.N := by
  unfold exit; rw [update_apart, Function.update_self] <;> decide

theorem exit_10 (c : Dev nD) : exit V c main_call0_v73_3 = (dat V c).arrAt 10 cfg4.N := by
  unfold exit; rw [Function.update_self]

theorem exit_in (c : Dev nD) (w : Fin cfg4.W) (hw : (cfg4.win w).isOut = false)
    (h : Pipeline.arrRef spec4 w ∉ ([main_call0_v73_0, main_call0_v73_1, main_call0_v73_2, main_call0_v73_3] : List (Ref sig .tc))) :
    (dat V c).arrAt w cfg4.N = exit V c (Pipeline.arrRef spec4 w) :=
  ((dat V c).arrAt_in w hw _).trans ((A_eq V c w).trans (exit_of V c _ h).symm)

theorem exit_arr (c : Dev nD) (w : Fin cfg4.W) : (dat V c).arrAt w cfg4.N = exit V c (Pipeline.arrRef spec4 w) := by
  by_cases hw : w.val < 7
  · exact exit_in V c w (by revert w; decide) (by revert w; decide)
  · obtain rfl | rfl | rfl | rfl : w = 7 ∨ w = 8 ∨ w = 9 ∨ w = 10 := by
      revert w; decide
    · exact (exit_7 V c).symm
    · exact (exit_8 V c).symm
    · exact (exit_9 V c).symm
    · exact (exit_10 V c).symm

theorem exit_ne (c : Dev nD) (b : Ref sig .tc) (h : ∀ w : Fin cfg4.W, Pipeline.arrRef spec4 w ≠ b) : exit V c b = V c b :=
  exit_of V c b (by
    intro hb
    simp only [List.mem_cons, List.not_mem_nil, or_false] at hb
    rcases hb with rfl | rfl | rfl | rfl
    all_goals first | exact h 7 rfl | exact h 8 rfl | exact h 9 rfl | exact h 10 rfl)

end Cert.KernelIdeal.Region4

end
-- ==== Proof.Region5.lean ====
/- The third layer's scan call: its proof data and its body at every point. -/
module

public import proofs.«01_k».proof.Proof.Carry

@[expose] public section

set_option maxRecDepth 16384

noncomputable section

namespace Cert.KernelIdeal.Region5

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Mamba Cert.KernelIdeal.Gen Cert.KernelIdeal.Body

variable {F : FTy → Type} [FloatOps F]

local notation "𝕄" => MT nD τ sig Unit (Elt F) ℕ (UR sig nD τ) ℕ

variable (V : Dev nD → Valuation τ sig (Elt F))

/-- Window `w`'s block at point `t`. -/
noncomputable def blk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The grid's points, numbered. -/
noncomputable def pt (n : ℕ) : Fin cfg5.N := ⟨n % 256, lt_of_lt_of_eq (Nat.mod_lt _ (by decide)) (show (256 : ℕ) = cfg5.N from N_5.symm)⟩

theorem pt_val (t : Fin cfg5.N) : pt t.val = t :=
  Fin.ext (Nat.mod_eq_of_lt (lt_of_lt_of_eq t.isLt (show cfg5.N = 256 from N_5)))

/-- The state after `n` points. -/
noncomputable def st (c : Dev nD) : ℕ → Vec F S16x560 .f32 :=
  scanAt (fun n => grid5.coords (pt n)) (fun n => blk V c 0 (pt n)) (fun n => blk V c 1 (pt n)) (fun n => blk V c 3 (pt n)) (fun n => blk V c 4 (pt n))

/-- What a core holds of the scoped buffers before point `n`. -/
noncomputable def inv (c : Dev nD) (n : ℕ) : sProp 𝕄 :=
  if n = 0 then Pipeline.scopedRest spec5 c
  else iprop(owns (c : Thread nD τ) (Memref.whole cc5_scratch0) fullShare (st V c n) ∗ (∃ d, owns (c : Thread nD τ) (Memref.whole cc5_scratch1) fullShare d) ∗ (∃ d, owns (c : Thread nD τ) (Memref.whole cc5_scratch2) fullShare d) ∗ (∃ d, owns (c : Thread nD τ) (Memref.whole cc5_scratch3) fullShare d)
      ∗ Pipeline.scopedRestBut spec5 c [cc5_scratch0, cc5_scratch1, cc5_scratch2, cc5_scratch3])

/-- The call's proof data from the buffers at `V`. -/
noncomputable def dat (c : Dev nD) : Dat τ (Elt F) Unit ℕ (UR sig nD τ) ℕ cfg5 c where
  A w := V c (Pipeline.arrRef spec5 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => scanOut (grid5.coords t) (blk V c 0 t) (blk V c 1 t) (blk V c 2 t) (blk V c 3 t) (blk V c 4 t) (blk V c 5 t) (blk V c 6 t) (st V c t.val)
  Φ t := inv V c t.val
  q _ := fullShare
  owed _ := 0

theorem A_eq (c : Dev nD) (w : Fin cfg5.W) : (dat V c).A w = V c (Pipeline.arrRef spec5 w) := by dsimp only [dat]

/-- An input's staging buffer holds its block at every point. -/
theorem before_0 (c : Dev nD) (t : Fin cfg5.N) (d) : (dat V c).before 0 t d = blk V c 0 t :=
  (dat V c).before_in_eq_fetched 0 rfl (fun _ => rfl) (fun _ _ _ => rfl) (fun _ => rfl) t d
theorem before_1 (c : Dev nD) (t : Fin cfg5.N) (d) : (dat V c).before 1 t d = blk V c 1 t :=
  (dat V c).before_in_eq_fetched 1 rfl (fun _ => rfl) (fun _ _ _ => rfl) (fun _ => rfl) t d
theorem before_2 (c : Dev nD) (t : Fin cfg5.N) (d) : (dat V c).before 2 t d = blk V c 2 t :=
  (dat V c).before_in_eq_fetched 2 rfl (fun _ => rfl) (fun _ _ _ => rfl) (fun _ => rfl) t d
theorem before_3 (c : Dev nD) (t : Fin cfg5.N) (d) : (dat V c).before 3 t d = blk V c 3 t :=
  (dat V c).before_in_eq_fetched 3 rfl (fun _ => rfl) (fun _ _ _ => rfl) (fun _ => rfl) t d
theorem before_4 (c : Dev nD) (t : Fin cfg5.N) (d) : (dat V c).before 4 t d = blk V c 4 t :=
  (dat V c).before_in_eq_fetched 4 rfl (fun _ => rfl) (fun _ _ _ => rfl) (fun _ => rfl) t d
theorem before_5 (c : Dev nD) (t : Fin cfg5.N) (d) : (dat V c).before 5 t d = blk V c 5 t :=
  (dat V c).before_in_eq_fetched 5 rfl (fun _ => rfl) (fun _ _ _ => rfl) (fun _ => rfl) t d
theorem before_6 (c : Dev nD) (t : Fin cfg5.N) (d) : (dat V c).before 6 t d = blk V c 6 t :=
  (dat V c).before_in_eq_fetched 6 rfl (fun _ => rfl) (fun _ _ _ => rfl) (fun _ => rfl) t d

/-- What the body is called with at point `t`, -/
noncomputable def bodyPre (c : Dev nD) (t : Fin cfg5.N) : sProp 𝕄 :=
  iprop((dat V c).Φ t.castSucc ∗ (dat V c).owesAt () t.castSucc
    ∗ (∃ d, owns (c : Thread nD τ) (st5_0 t) fullShare ((dat V c).before 0 t d))
    ∗ (∃ d, owns (c : Thread nD τ) (st5_1 t) fullShare ((dat V c).before 1 t d))
    ∗ (∃ d, owns (c : Thread nD τ) (st5_2 t) fullShare ((dat V c).before 2 t d))
    ∗ (∃ d, owns (c : Thread nD τ) (st5_3 t) fullShare ((dat V c).before 3 t d))
    ∗ (∃ d, owns (c : Thread nD τ) (st5_4 t) fullShare ((dat V c).before 4 t d))
    ∗ (∃ d, owns (c : Thread nD τ) (st5_5 t) fullShare ((dat V c).before 5 t d))
    ∗ (∃ d, owns (c : Thread nD τ) (st5_6 t) fullShare ((dat V c).before 6 t d))
    ∗ (∃ d, owns (c : Thread nD τ) (st5_7 t) fullShare ((dat V c).before 7 t d)))

/-- and what it returns. -/
noncomputable def bodyPost (c : Dev nD) (t : Fin cfg5.N) : sProp 𝕄 :=
  iprop((dat V c).Φ t.succ ∗ (dat V c).owesAt () t.succ
    ∗ owns (c : Thread nD τ) (st5_0 t) fullShare ((dat V c).after 0 t)
    ∗ owns (c : Thread nD τ) (st5_1 t) fullShare ((dat V c).after 1 t)
    ∗ owns (c : Thread nD τ) (st5_2 t) fullShare ((dat V c).after 2 t)
    ∗ owns (c : Thread nD τ) (st5_3 t) fullShare ((dat V c).after 3 t)
    ∗ owns (c : Thread nD τ) (st5_4 t) fullShare ((dat V c).after 4 t)
    ∗ owns (c : Thread nD τ) (st5_5 t) fullShare ((dat V c).after 5 t)
    ∗ owns (c : Thread nD τ) (st5_6 t) fullShare ((dat V c).after 6 t)
    ∗ owns (c : Thread nD τ) (st5_7 t) fullShare ((dat V c).after 7 t))

/-- Before point `n` the state is what the points before left, or, before the first, anything. -/
theorem inv_open (c : Dev nD) (n : ℕ) :
    inv V c n ⊢ iprop(∃ h, ⌜n = 0 ∨ h = st V c n⌝ ∗ owns (c : Thread nD τ) (Memref.whole cc5_scratch0) fullShare h
      ∗ (∃ d, owns (c : Thread nD τ) (Memref.whole cc5_scratch1) fullShare d) ∗ (∃ d, owns (c : Thread nD τ) (Memref.whole cc5_scratch2) fullShare d) ∗ (∃ d, owns (c : Thread nD τ) (Memref.whole cc5_scratch3) fullShare d)
      ∗ Pipeline.scopedRestBut spec5 c [cc5_scratch0, cc5_scratch1, cc5_scratch2, cc5_scratch3]) := by
  unfold inv
  by_cases hn : n = 0
  · rw [if_pos hn, scopedRest5_split]; simp only [owns_whole]
    iintro ⟨⟨⟨%f, Hs⟩, H1, H2, H3⟩, Hr⟩
    iexists f
    isplitr; · ipureintro; exact Or.inl hn
    isplitl [Hs]; · iexact Hs
    isplitl [H1]; · iexact H1
    isplitl [H2]; · iexact H2
    isplitl [H3]; · iexact H3
    iexact Hr
  · rw [if_neg hn]
    iintro ⟨Hs, Hr⟩
    iexists _
    isplitr; · ipureintro; exact Or.inr rfl
    isplitl [Hs]; · iexact Hs
    iexact Hr

theorem inv_in (c : Dev nD) : Pipeline.scopedRest spec5 c ⊢ inv V c 0 := by
  unfold inv; rw [if_pos rfl]

theorem inv_out (c : Dev nD) (n : ℕ) : inv V c n ⊢ Pipeline.scopedRest spec5 c := by
  refine (inv_open V c n).trans ?_
  rw [scopedRest5_split]; simp only [owns_whole]
  iintro ⟨%s, -, Hs, H1, H2, H3, Hr⟩
  isplitr [Hr]
  · isplitl [Hs]; · iexists s; iexact Hs
    isplitl [H1]; · iexact H1
    isplitl [H2]; · iexact H2
    iexact H3
  iexact Hr

theorem st_succ (c : Dev nD) (n : ℕ) :
    st V c (n + 1) = scanState (grid5.coords (pt n)) (blk V c 0 (pt n)) (blk V c 1 (pt n)) (blk V c 3 (pt n)) (blk V c 4 (pt n)) (st V c n) := rfl

theorem coord1 (t : Fin cfg5.N) : (grid5.coords t 1).val = t.val / 1 % 32 := Pipeline.Grid.coords_val t 1 (by decide) rfl

theorem st_enter (c : Dev nD) (t : Fin cfg5.N) (h : Vec F S16x560 .f32) (hs : t.val = 0 ∨ h = st V c t.val) :
    scanEnter (grid5.coords t) h = scanEnter (grid5.coords t) (st V c t.val) := by
  rcases hs with hs | hs
  · unfold scanEnter
    have h1 : (grid5.coords t 1).val = 0 := by rw [coord1, hs]
    rw [if_pos h1, if_pos h1]
  · rw [hs]

set_option maxHeartbeats 4000000 in
theorem sound_body (c : Dev nD) (t : Fin cfg5.N) :
    bodyPre V c t ⊢ wp frame (wpE (defs₀ (F := F)) Variants.none c none) Set.univ (bodyAt5 t) (fun _ => bodyPost V c t) := by
  unfold bodyPre bodyPost bodyAt5
  simp only [before_0, before_1, before_2, before_3, before_4, before_5, before_6]
  rw [show (dat V c).owesAt () t.succ = (dat V c).owesAt () t.castSucc from rfl,
    show (dat V c).Φ t.castSucc = inv V c t.val from rfl,
    show (dat V c).Φ t.succ = iprop(owns (c : Thread nD τ) (Memref.whole cc5_scratch0) fullShare (st V c (t.val + 1)) ∗ (∃ d, owns (c : Thread nD τ) (Memref.whole cc5_scratch1) fullShare d) ∗ (∃ d, owns (c : Thread nD τ) (Memref.whole cc5_scratch2) fullShare d) ∗ (∃ d, owns (c : Thread nD τ) (Memref.whole cc5_scratch3) fullShare d)
      ∗ Pipeline.scopedRestBut spec5 c [cc5_scratch0, cc5_scratch1, cc5_scratch2, cc5_scratch3]) from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HΦ := (inv_open V c t.val) $$ HΦ
  icases HΦ with ⟨%h, %hs, Hs, ⟨%e1, G1⟩, ⟨%e2, G2⟩, ⟨%e3, G3⟩, Hr⟩
  rw [st_succ, pt_val]
  unfold scanState scanOut
  rw [← st_enter V c t h hs]
  rw [show @cc5_mamba_scan = @cc1_mamba_scan from rfl]
  iapply (scan_body Variants.none c none Set.univ (grid5.coords t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [Hs]; · iexact Hs
  isplitl [G1]; · iexact G1
  isplitl [G2]; · iexact G2
  isplitl [G3]; · iexact G3
  iintro ⟨H0, H1, H2, H3, H4, H5, H6, H7, Hs, G1, G2, G3⟩
  isplitl [Hs Hr G1 G2 G3]
  · isplitl [Hs]; · iexact Hs
    isplitl [G1]; · iexists _; iexact G1
    isplitl [G2]; · iexists _; iexact G2
    isplitl [G3]; · iexists _; iexact G3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg5.N) : defs₀ (F := F) .tc cfg5.body (cfg5.bodyArgs t (cfg5.slots t)) = bodyAt5 t := by
  unfold defs₀; rw [Defs.onTc_tc]

theorem body_obligation (c : Dev nD) : BodyObligation (dat V c) (defs₀ (F := F)) Variants.none () Set.univ := fun t => by
  rw [bigSep_W5, bigSep_W5, defs₀_row]
  exact triple_restated (sound_body V c t) rfl .rfl fun _ => .rfl

/-! ## What the call leaves -/

/-- The buffers after the call. -/
noncomputable def exit (c : Dev nD) : Valuation τ sig (Elt F) :=
  Function.update (V c) main_v0 ((dat V c).arrAt 7 cfg5.N)

theorem exit_of (c : Dev nD) (r : Ref sig .tc) (h : r ∉ ([main_v0] : List (Ref sig .tc))) : exit V c r = V c r := by
  unfold exit
  rw [update_apart] <;> (rintro rfl; exact h (by decide))

theorem exit_7 (c : Dev nD) : exit V c main_v0 = (dat V c).arrAt 7 cfg5.N := by
  unfold exit; rw [Function.update_self]

theorem exit_in (c : Dev nD) (w : Fin cfg5.W) (hw : (cfg5.win w).isOut = false)
    (h : Pipeline.arrRef spec5 w ∉ ([main_v0] : List (Ref sig .tc))) :
    (dat V c).arrAt w cfg5.N = exit V c (Pipeline.arrRef spec5 w) :=
  ((dat V c).arrAt_in w hw _).trans ((A_eq V c w).trans (exit_of V c _ h).symm)

theorem exit_arr (c : Dev nD) (w : Fin cfg5.W) : (dat V c).arrAt w cfg5.N = exit V c (Pipeline.arrRef spec5 w) := by
  by_cases hw : w.val < 7
  · exact exit_in V c w (by revert w; decide) (by revert w; decide)
  · obtain rfl : w = 7 := Fin.ext (show w.val = 7 by have : w.val < 8 := w.isLt; omega)
    exact (exit_7 V c).symm

theorem exit_ne (c : Dev nD) (b : Ref sig .tc) (h : ∀ w : Fin cfg5.W, Pipeline.arrRef spec5 w ≠ b) : exit V c b = V c b :=
  exit_of V c b (by
    intro hb
    simp only [List.mem_cons, List.not_mem_nil, or_false] at hb
    subst hb
    all_goals first | exact h 7 rfl)

end Cert.KernelIdeal.Region5

end
-- ==== Proof.Run.lean ====
/- The whole program's run: the six calls between the six host stretches, and what every buffer holds at the end. -/
module

public import proofs.«01_k».proof.Proof.Region0
public import proofs.«01_k».proof.Proof.Region1
public import proofs.«01_k».proof.Proof.Region2
public import proofs.«01_k».proof.Proof.Region3
public import proofs.«01_k».proof.Proof.Region4
public import proofs.«01_k».proof.Proof.Region5

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Mamba Cert.KernelIdeal.Gen Cert.KernelIdeal.Body

variable {F : FTy → Type} [FloatOps F]

local notation "𝕄" => MT nD τ sig Unit (Elt F) ℕ (UR sig nD τ) ℕ

variable (m : (ℓ : Loc nD τ sig) → Buf (Elt F) ℓ)

/-! ## The buffers between the calls -/

/-- The buffers when call 1 starts, -/
noncomputable def U1 : Dev nD → Valuation τ sig (Elt F) := fun c => StableHlo.after hostOps0 (V0 m c)
/-- and when it ends. -/
noncomputable def U2 : Dev nD → Valuation τ sig (Elt F) := Region0.exit (U1 m)
/-- The buffers when call 2 starts, -/
noncomputable def U3 : Dev nD → Valuation τ sig (Elt F) := fun c => StableHlo.after hostOps1 (U2 m c)
/-- and when it ends. -/
noncomputable def U4 : Dev nD → Valuation τ sig (Elt F) := Region1.exit (U3 m)
/-- The buffers when call 3 starts, -/
noncomputable def U5 : Dev nD → Valuation τ sig (Elt F) := fun c => StableHlo.after hostOps2 (U4 m c)
/-- and when it ends. -/
noncomputable def U6 : Dev nD → Valuation τ sig (Elt F) := Region2.exit (U5 m)
/-- The buffers when call 4 starts, -/
noncomputable def U7 : Dev nD → Valuation τ sig (Elt F) := fun c => StableHlo.after hostOps3 (U6 m c)
/-- and when it ends. -/
noncomputable def U8 : Dev nD → Valuation τ sig (Elt F) := Region3.exit (U7 m)
/-- The buffers when call 5 starts, -/
noncomputable def U9 : Dev nD → Valuation τ sig (Elt F) := fun c => StableHlo.after hostOps4 (U8 m c)
/-- and when it ends. -/
noncomputable def U10 : Dev nD → Valuation τ sig (Elt F) := Region4.exit (U9 m)
/-- The buffers when call 6 starts, -/
noncomputable def U11 : Dev nD → Valuation τ sig (Elt F) := fun c => StableHlo.after hostOps5 (U10 m c)
/-- and when it ends. -/
noncomputable def U12 : Dev nD → Valuation τ sig (Elt F) := Region5.exit (U11 m)

/-- The references each step of the program writes. -/
def written : List (List (Ref sig .tc)) :=
  [hostOps0_W, [main_call0_v17_0, main_call0_v17_1, main_call0_v17_2, main_call0_v17_3], hostOps1_W, [main_call0_v27], hostOps2_W, [main_call0_v45_0, main_call0_v45_1, main_call0_v45_2, main_call0_v45_3], hostOps3_W, [main_call0_v55], hostOps4_W, [main_call0_v73_0, main_call0_v73_1, main_call0_v73_2, main_call0_v73_3], hostOps5_W, [main_v0]]

/-- A buffer no step writes ends as launched. -/
theorem U12_of (c : Dev nD) (r : Ref sig .tc) (h : ∀ l ∈ written, r ∉ l) : U12 m c r = m ((c : Thread nD τ).loc r) := by
  have hr : ∀ i (hi : i < written.length), r ∉ written[i] := fun i hi => h _ (List.getElem_mem hi)
  exact (Region5.exit_of (U11 m) c r (hr 11 (by decide))).trans ((StableHlo.after_of_writes_sub hostOps5 _ hostOps5_writes (hr 10 (by decide))).trans ((Region4.exit_of (U9 m) c r (hr 9 (by decide))).trans ((StableHlo.after_of_writes_sub hostOps4 _ hostOps4_writes (hr 8 (by decide))).trans ((Region3.exit_of (U7 m) c r (hr 7 (by decide))).trans ((StableHlo.after_of_writes_sub hostOps3 _ hostOps3_writes (hr 6 (by decide))).trans ((Region2.exit_of (U5 m) c r (hr 5 (by decide))).trans ((StableHlo.after_of_writes_sub hostOps2 _ hostOps2_writes (hr 4 (by decide))).trans ((Region1.exit_of (U3 m) c r (hr 3 (by decide))).trans ((StableHlo.after_of_writes_sub hostOps1 _ hostOps1_writes (hr 2 (by decide))).trans ((Region0.exit_of (U1 m) c r (hr 1 (by decide))).trans ((StableHlo.after_of_writes_sub hostOps0 _ hostOps0_writes (hr 0 (by decide))))))))))))))

/-! ## The calls' proof data and records -/

/-- Every call's proof data, at the buffers it starts from. -/
noncomputable def pdats : (p : Fin 6) → (c : Dev nD) → Dat τ (Elt F) Unit ℕ (UR sig nD τ) ℕ (Pipeline.pin (pcfgs (F := F)) adm p) c
  | ⟨0, _⟩ => fun c => Region0.dat (U1 m) c
  | ⟨1, _⟩ => fun c => Region1.dat (U3 m) c
  | ⟨2, _⟩ => fun c => Region2.dat (U5 m) c
  | ⟨3, _⟩ => fun c => Region3.dat (U7 m) c
  | ⟨4, _⟩ => fun c => Region4.dat (U9 m) c
  | ⟨5, _⟩ => fun c => Region5.dat (U11 m) c

/-- Call 1, between the two. -/
noncomputable def reg0 : RegionSeg (pcfgs (F := F)) adm (pdats m) () defs₀ Variants.none noLvls lvl0 0 :=
  regionOf (pdats m) 0 launch0 (Region0.body_obligation (U1 m)) (fun _ _ => rfl) (fun _ _ => rfl) (fun _ => rfl)
    (Region0.inv_in (U1 m)) (fun c => Region0.inv_out (U1 m) c cfg0.N) (U1 m) (U2 m)
    (fun _ _ => rfl) (Region0.exit_arr (U1 m)) (Region0.exit_ne (U1 m))

/-- Call 2, between the two. -/
noncomputable def reg1 : RegionSeg (pcfgs (F := F)) adm (pdats m) () defs₀ Variants.none noLvls lvl0 1 :=
  regionOf (pdats m) 1 launch1 (Region1.body_obligation (U3 m)) (fun _ _ => rfl) (fun _ _ => rfl) (fun _ => rfl)
    (Region1.inv_in (U3 m)) (fun c => Region1.inv_out (U3 m) c cfg1.N) (U3 m) (U4 m)
    (fun _ _ => rfl) (Region1.exit_arr (U3 m)) (Region1.exit_ne (U3 m))

/-- Call 3, between the two. -/
noncomputable def reg2 : RegionSeg (pcfgs (F := F)) adm (pdats m) () defs₀ Variants.none noLvls lvl0 2 :=
  regionOf (pdats m) 2 launch2 (Region2.body_obligation (U5 m)) (fun _ _ => rfl) (fun _ _ => rfl) (fun _ => rfl)
    (Region2.inv_in (U5 m)) (fun c => Region2.inv_out (U5 m) c cfg2.N) (U5 m) (U6 m)
    (fun _ _ => rfl) (Region2.exit_arr (U5 m)) (Region2.exit_ne (U5 m))

/-- Call 4, between the two. -/
noncomputable def reg3 : RegionSeg (pcfgs (F := F)) adm (pdats m) () defs₀ Variants.none noLvls lvl0 3 :=
  regionOf (pdats m) 3 launch3 (Region3.body_obligation (U7 m)) (fun _ _ => rfl) (fun _ _ => rfl) (fun _ => rfl)
    (Region3.inv_in (U7 m)) (fun c => Region3.inv_out (U7 m) c cfg3.N) (U7 m) (U8 m)
    (fun _ _ => rfl) (Region3.exit_arr (U7 m)) (Region3.exit_ne (U7 m))

/-- Call 5, between the two. -/
noncomputable def reg4 : RegionSeg (pcfgs (F := F)) adm (pdats m) () defs₀ Variants.none noLvls lvl0 4 :=
  regionOf (pdats m) 4 launch4 (Region4.body_obligation (U9 m)) (fun _ _ => rfl) (fun _ _ => rfl) (fun _ => rfl)
    (Region4.inv_in (U9 m)) (fun c => Region4.inv_out (U9 m) c cfg4.N) (U9 m) (U10 m)
    (fun _ _ => rfl) (Region4.exit_arr (U9 m)) (Region4.exit_ne (U9 m))

/-- Call 6, between the two. -/
noncomputable def reg5 : RegionSeg (pcfgs (F := F)) adm (pdats m) () defs₀ Variants.none noLvls lvl0 5 :=
  regionOf (pdats m) 5 launch5 (Region5.body_obligation (U11 m)) (fun _ _ => rfl) (fun _ _ => rfl) (fun _ => rfl)
    (Region5.inv_in (U11 m)) (fun c => Region5.inv_out (U11 m) c cfg5.N) (U11 m) (U12 m)
    (fun _ _ => rfl) (Region5.exit_arr (U11 m)) (Region5.exit_ne (U11 m))

/-! ## The program -/

noncomputable def host0 : HostSeg (Ix := Unit) (Name := ℕ) (U := UR sig nD τ) (Lvl := ℕ) (pcfgs (F := F)) defs₀ Variants.none noLvls lvl0 :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) idle
noncomputable def host1 : HostSeg (Ix := Unit) (Name := ℕ) (U := UR sig nD τ) (Lvl := ℕ) (pcfgs (F := F)) defs₀ Variants.none noLvls lvl0 :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (U2 m) idle
noncomputable def host2 : HostSeg (Ix := Unit) (Name := ℕ) (U := UR sig nD τ) (Lvl := ℕ) (pcfgs (F := F)) defs₀ Variants.none noLvls lvl0 :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (U4 m) idle
noncomputable def host3 : HostSeg (Ix := Unit) (Name := ℕ) (U := UR sig nD τ) (Lvl := ℕ) (pcfgs (F := F)) defs₀ Variants.none noLvls lvl0 :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U6 m) idle
noncomputable def host4 : HostSeg (Ix := Unit) (Name := ℕ) (U := UR sig nD τ) (Lvl := ℕ) (pcfgs (F := F)) defs₀ Variants.none noLvls lvl0 :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (U8 m) idle
noncomputable def host5 : HostSeg (Ix := Unit) (Name := ℕ) (U := UR sig nD τ) (Lvl := ℕ) (pcfgs (F := F)) defs₀ Variants.none noLvls lvl0 :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (U10 m) idle

/-- The program's steps, in order. -/
abbrev steps (c : Dev nD) : List (Seg (pcfgs (F := F)) adm (pdats m) () defs₀ Variants.none noLvls lvl0) :=
  [.host (host0 m), .region (reg0 m), .host (host1 m), .region (reg1 m), .host (host2 m), .region (reg2 m), .host (host3 m), .region (reg3 m), .host (host4 m), .region (reg4 m), .host (host5 m), .region (reg5 m)]

set_option backward.isDefEq.respectTransparency.types false in
/-- Every run ends, with every counter at zero and every unscoped buffer at the last valuation. -/
theorem run (ρ : Dev nD → PrngReg) :
    θ_run defs (onTc (τ := τ) (main (F := F))) ⟨m, fun _ => 0, ρ⟩ (fun r =>
      (∀ (c : Dev nD) (b : Ref sig .tc), (Proc.devRef (τ := τ) .tc b).isScoped = false → r.2.mem ((c.tc : Thread nD τ).loc b) = U12 m c b)
      ∧ r.2.sem = fun _ => 0) := by
  refine Pipeline.θ_run_regions_kit_dev_sems (pcfgs (F := F)) adm (pdats m) () cellOf_inj emb₁ defs₀ Variants.none noLvls lvl0 m ρ main
    (steps m)
    (fun c Q => by
      rewrite [main_chain c, Seg.run_eq_chain,
        show (steps m c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()) ] from rfl]
      dsimp (config := { failIfUnchanged := false }) only
      exact .rfl)
    (fun c => by simp only [steps, Seg.pipes_host, Seg.pipes_region, Seg.pipes_nil]; decide) (0) (fun _ _ => rfl)
    (fun _ => iprop(emp)) (initOf (Pipeline.cells cfgs cellOf_inj) (Pipeline.launchToks cfgs cellOf_inj)) ?_
    (T₀ := fun c => iprop(StableHlo.held (c : Thread nD τ) (Pipeline.ucRefs τ sig) (V0 m c) ∗ idle c))
    (Tₙ := fun c => StableHlo.held (c : Thread nD τ) (Pipeline.ucRefs τ sig) (U12 m c))
    (hch := fun c => ⟨.rfl, .rfl, .rfl, .rfl, .rfl, .rfl, .rfl, .rfl, .rfl, .rfl, .rfl, .rfl, .rfl⟩)
    (hinit := ?_)
    (QY := fun c s => ∀ b : Ref sig .tc, (Proc.devRef (τ := τ) .tc b).isScoped = false → s.mem ((c.tc : Thread nD τ).loc b) = U12 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  · refine Pipeline.initEach noLvls lvl0 fun c => ?_
    rw [← Pipeline.unscopedBufs_held (Ix := Unit) (Name := ℕ) (U := UR sig nD τ) (Lvl := ℕ) c (V0 m c)]
    iintro ⟨⟨Hb, -, HO, -⟩, -⟩
    imodintro
    isplitl [Hb]; · iexact Hb
    iexists _; iexact HO
  · unfold StableHlo.held
    iintro ⟨Hh, HSI⟩
    ihave Hr := (pointsTo_read_all (Pipeline.ucRefs τ sig) (fun b => ((c : Thread nD τ).1, b)) (U12 m c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, by rw [hb]; decide⟩)
    · iexact HSI

/-- Every run ends with the arguments as launched and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1 c main_arg0 rfl).trans (U12_of m c main_arg0 (by decide)),
    (h.1 c main_arg1 rfl).trans (U12_of m c main_arg1 (by decide)),
    (h.1 c main_arg2 rfl).trans (U12_of m c main_arg2 (by decide)),
    (h.1 c main_arg3 rfl).trans (U12_of m c main_arg3 (by decide)),
    (h.1 c main_arg4 rfl).trans (U12_of m c main_arg4 (by decide)),
    (h.1 c main_arg5 rfl).trans (U12_of m c main_arg5 (by decide)),
    (h.1 c main_arg6 rfl).trans (U12_of m c main_arg6 (by decide)),
    (h.1 c main_arg7 rfl).trans (U12_of m c main_arg7 (by decide)),
    (h.1 c main_arg8 rfl).trans (U12_of m c main_arg8 (by decide)),
    (h.1 c main_arg9 rfl).trans (U12_of m c main_arg9 (by decide))⟩, h.2⟩) (run m ρ)

end Cert.KernelIdeal.Run

end
-- ==== Proof.RefOps.lean ====
/- The reference program's operations as lists: the stretches of its host function in order, the bodies of its three loops, and what each list writes. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 4096

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.Sem
open Cert.ReferenceIdeal.Gen

/-- A buffer's contents. -/
abbrev C (F : FTy → Type) (S : Shape) (e : EltTy) := (⟨S, e⟩ : BufTy).Contents (Elt F)
/-- A stretch of operations. -/
abbrev Ops (F : FTy → Type) [FloatOps F] := List (HloOp τ sig (Elt F))
/-- The host's programs. -/
abbrev Host (F : FTy → Type) [FloatOps F] := Prog (TpuEff nD τ sig (Elt F) (HostLoop.Sig (Pipeline.Sig Λ₀ (Fin 0) fun p => (pcfgs (F := F) p).Adm) 3) .tc) PUnit

/-- A buffer of a given shape and type. -/
abbrev B (S : Shape) (e : EltTy) := StableHlo.TRef sig ⟨S, e⟩
variable {F : FTy → Type} [FloatOps F]

/-- A stretch's operations write only the buffers listed. -/
abbrev WritesIn (ops : Ops F) (W : List (Ref sig .tc)) : Prop := ops.Forall fun op => op.writes ⊆ (W.map (Proc.devRef (τ := τ) .tc)).toFinset
/-- A stretch's operations name no buffer but the host's. -/
abbrev HostOnly (ops : Ops F) : Prop := ops.Forall fun op => op.bufs ⊆ tcRefs τ sig

/-! ### Window 0 of the program -/

abbrev part0_0 : Ops F :=
  [ unary main_arg1 main_v0 ((extractStridedSlice S1x1120x280 ![0, 0, 0] · slices_S3x1120x280_S1x1120x280_0_0_0) : C F S3x1120x280 .f32 → C F S1x1120x280 .f32),
    reshape main_v0 main_v1 (rfl : (.f32 : EltTy) = .f32) shapeCasts_S1x1120x280_S1120x280,
    unary main_arg2 main_v2 ((extractStridedSlice S1x560x4 ![0, 0, 0] · slices_S3x560x4_S1x560x4_0_0_0) : C F S3x560x4 .f32 → C F S1x560x4 .f32),
    reshape main_v2 main_v3 (rfl : (.f32 : EltTy) = .f32) shapeCasts_S1x560x4_S560x4,
    unary main_arg3 main_v4 ((extractStridedSlice S1x560 ![0, 0] · slices_S3x560_S1x560_0_0) : C F S3x560 .f32 → C F S1x560 .f32),
    reshape main_v4 main_v5 (rfl : (.f32 : EltTy) = .f32) shapeCasts_S1x560_S560,
    unary main_arg4 main_v6 ((extractStridedSlice S1x50x560 ![0, 0, 0] · slices_S3x50x560_S1x50x560_0_0_0) : C F S3x50x560 .f32 → C F S1x50x560 .f32),
    reshape main_v6 main_v7 (rfl : (.f32 : EltTy) = .f32) shapeCasts_S1x50x560_S50x560,
    unary main_arg5 main_v8 ((extractStridedSlice S1x560x18 ![0, 0, 0] · slices_S3x560x18_S1x560x18_0_0_0) : C F S3x560x18 .f32 → C F S1x560x18 .f32),
    reshape main_v8 main_v9 (rfl : (.f32 : EltTy) = .f32) shapeCasts_S1x560x18_S560x18,
    unary main_arg6 main_v10 ((extractStridedSlice S1x560 ![0, 0] · slices_S3x560_S1x560_0_0) : C F S3x560 .f32 → C F S1x560 .f32),
    reshape main_v10 main_v11 (rfl : (.f32 : EltTy) = .f32) shapeCasts_S1x560_S560,
    unary main_arg7 main_v12 ((extractStridedSlice S1x560x16 ![0, 0, 0] · slices_S3x560x16_S1x560x16_0_0_0) : C F S3x560x16 .f32 → C F S1x560x16 .f32),
    reshape main_v12 main_v13 (rfl : (.f32 : EltTy) = .f32) shapeCasts_S1x560x16_S560x16,
    unary main_arg8 main_v14 ((extractStridedSlice S1x560 ![0, 0] · slices_S3x560_S1x560_0_0) : C F S3x560 .f32 → C F S1x560 .f32),
    reshape main_v14 main_v15 (rfl : (.f32 : EltTy) = .f32) shapeCasts_S1x560_S560,
    unary main_arg9 main_v16 ((extractStridedSlice S1x280x560 ![0, 0, 0] · slices_S3x280x560_S1x280x560_0_0_0) : C F S3x280x560 .f32 → C F S1x280x560 .f32),
    reshape main_v16 main_v17 (rfl : (.f32 : EltTy) = .f32) shapeCasts_S1x280x560_S280x560,
    binary main_arg0 main_v1 main_v18 ((fun l r => Host.dotGeneral dot_S8x4096x280_S1120x280_S8x4096x1120_2_1_01_0_n_n none l r) : C F S8x4096x280 .f32 → C F S1120x280 .f32 → C F S8x4096x1120 .f32),
    unary main_v18 main_v19 ((extractStridedSlice S8x4096x560 ![0, 0, 0] · slices_S8x4096x1120_S8x4096x560_0_0_0) : C F S8x4096x1120 .f32 → C F S8x4096x560 .f32),
    unary main_v18 main_v20 ((extractStridedSlice S8x4096x560 ![0, 0, 560] · slices_S8x4096x1120_S8x4096x560_0_0_560) : C F S8x4096x1120 .f32 → C F S8x4096x560 .f32),
    nullary main_c (constantI S_ 32 0#32) ]
theorem part0_0_sub : HostOnly (F := F) part0_0 :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., nullary_bufs_sub ..⟩
abbrev part0_0_W : List (Ref sig .tc) := [main_v0, main_v1, main_v2, main_v3, main_v4, main_v5, main_v6, main_v7, main_v8, main_v9, main_v10, main_v11, main_v12, main_v13, main_v14, main_v15, main_v16, main_v17, main_v18, main_v19, main_v20, main_c]
theorem part0_0_writes : WritesIn (F := F) part0_0 part0_0_W := forall_writes_sub_of_map rfl

abbrev part0_1 : Ops F :=
  [ TRef.unary (.of main_c : B S_ .i32) (.of main_call0_v0 : B S_ .f32) (sitofp .f32),
    TRef.binary (.of main_v19 : B S8x4096x560 .f32) (.of main_call0_v0 : B S_ .f32) (.of main_v21 : B S8x4099x560 .f32) (fun x v => pad S8x4099x560 ![0, 3, 0] ![0, 0, 0] ![0, 0, 0] x v pads_S8x4096x560_S8x4099x560_000_300_000 h_S_) ]
theorem part0_1_sub : HostOnly (F := F) part0_1 :=
  ⟨unary_bufs_sub .., binary_bufs_sub ..⟩
abbrev part0_1_W : List (Ref sig .tc) := [main_call0_v0, main_v21]
theorem part0_1_writes : WritesIn (F := F) part0_1 part0_1_W := forall_writes_sub_of_map rfl

abbrev part0_2 : Ops F :=
  ( unary main_v21 main_v22 ((extractStridedSlice S8x4096x560 ![0, 0, 0] · slices_S8x4099x560_S8x4096x560_0_0_0) : C F S8x4099x560 .f32 → C F S8x4096x560 .f32)
  :: unary main_v3 main_v23 ((extractStridedSlice S560x1 ![0, 0] · slices_S560x4_S560x1_0_0) : C F S560x4 .f32 → C F S560x1 .f32)
  :: reshape main_v23 main_v24 (rfl : (.f32 : EltTy) = .f32) shapeCasts_S560x1_S560
  :: unary main_v24 main_v25 (broadcastInDim S1x1x560 ![2] bcast_S560_S1x1x560_2 : C F S560 .f32 → C F S1x1x560 .f32)
  :: unary main_v25 main_v26 (broadcastInDim S8x4096x560 ![0, 1, 2] bcast_S1x1x560_S8x4096x560_0_1_2 : C F S1x1x560 .f32 → C F S8x4096x560 .f32)
  :: binary main_v22 main_v26 main_v27 (mulf : C F S8x4096x560 .f32 → C F S8x4096x560 .f32 → C F S8x4096x560 .f32)
  :: nullary main_cst (constant S_ .f32 0x00000000#32)
  :: unary main_cst main_v28 (broadcastInDim S8x4096x560 ![] bcast_S_S8x4096x560 : C F S_ .f32 → C F S8x4096x560 .f32)
  :: binary main_v28 main_v27 main_v29 (addf : C F S8x4096x560 .f32 → C F S8x4096x560 .f32 → C F S8x4096x560 .f32)
  :: unary main_v21 main_v30 ((extractStridedSlice S8x4096x560 ![0, 1, 0] · slices_S8x4099x560_S8x4096x560_0_1_0) : C F S8x4099x560 .f32 → C F S8x4096x560 .f32)
  :: unary main_v3 main_v31 ((extractStridedSlice S560x1 ![0, 1] · slices_S560x4_S560x1_0_1) : C F S560x4 .f32 → C F S560x1 .f32)
  :: reshape main_v31 main_v32 (rfl : (.f32 : EltTy) = .f32) shapeCasts_S560x1_S560
  :: unary main_v32 main_v33 (broadcastInDim S1x1x560 ![2] bcast_S560_S1x1x560_2 : C F S560 .f32 → C F S1x1x560 .f32)
  :: unary main_v33 main_v34 (broadcastInDim S8x4096x560 ![0, 1, 2] bcast_S1x1x560_S8x4096x560_0_1_2 : C F S1x1x560 .f32 → C F S8x4096x560 .f32)
  :: binary main_v30 main_v34 main_v35 (mulf : C F S8x4096x560 .f32 → C F S8x4096x560 .f32 → C F S8x4096x560 .f32)
  :: binary main_v29 main_v35 main_v36 (addf : C F S8x4096x560 .f32 → C F S8x4096x560 .f32 → C F S8x4096x560 .f32)
  :: unary main_v21 main_v37 ((extractStridedSlice S8x4096x560 ![0, 2, 0] · slices_S8x4099x560_S8x4096x560_0_2_0) : C F S8x4099x560 .f32 → C F S8x4096x560 .f32)
  :: unary main_v3 main_v38 ((extractStridedSlice S560x1 ![0, 2] · slices_S560x4_S560x1_0_2) : C F S560x4 .f32 → C F S560x1 .f32)
  :: reshape main_v38 main_v39 (rfl : (.f32 : EltTy) = .f32) shapeCasts_S560x1_S560
  :: unary main_v39 main_v40 (broadcastInDim S1x1x560 ![2] bcast_S560_S1x1x560_2 : C F S560 .f32 → C F S1x1x560 .f32)
  :: unary main_v40 main_v41 (broadcastInDim S8x4096x560 ![0, 1, 2] bcast_S1x1x560_S8x4096x560_0_1_2 : C F S1x1x560 .f32 → C F S8x4096x560 .f32)
  :: binary main_v37 main_v41 main_v42 (mulf : C F S8x4096x560 .f32 → C F S8x4096x560 .f32 → C F S8x4096x560 .f32)
  :: binary main_v36 main_v42 main_v43 (addf : C F S8x4096x560 .f32 → C F S8x4096x560 .f32 → C F S8x4096x560 .f32)
  :: unary main_v21 main_v44 ((extractStridedSlice S8x4096x560 ![0, 3, 0] · slices_S8x4099x560_S8x4096x560_0_3_0) : C F S8x4099x560 .f32 → C F S8x4096x560 .f32)
  :: unary main_v3 main_v45 ((extractStridedSlice S560x1 ![0, 3] · slices_S560x4_S560x1_0_3) : C F S560x4 .f32 → C F S560x1 .f32)
  :: reshape main_v45 main_v46 (rfl : (.f32 : EltTy) = .f32) shapeCasts_S560x1_S560
  :: unary main_v46 main_v47 (broadcastInDim S1x1x560 ![2] bcast_S560_S1x1x560_2 : C F S560 .f32 → C F S1x1x560 .f32)
  :: unary main_v47 main_v48 (broadcastInDim S8x4096x560 ![0, 1, 2] bcast_S1x1x560_S8x4096x560_0_1_2 : C F S1x1x560 .f32 → C F S8x4096x560 .f32)
  :: binary main_v44 main_v48 main_v49 (mulf : C F S8x4096x560 .f32 → C F S8x4096x560 .f32 → C F S8x4096x560 .f32)
  :: binary main_v43 main_v49 main_v50 (addf : C F S8x4096x560 .f32 → C F S8x4096x560 .f32 → C F S8x4096x560 .f32)
  :: unary main_v5 main_v51 (broadcastInDim S1x1x560 ![2] bcast_S560_S1x1x560_2 : C F S560 .f32 → C F S1x1x560 .f32)
  :: unary main_v51 main_v52 (broadcastInDim S8x4096x560 ![0, 1, 2] bcast_S1x1x560_S8x4096x560_0_1_2 : C F S1x1x560 .f32 → C F S8x4096x560 .f32)
  :: binary main_v50 main_v52 main_v53 (addf : C F S8x4096x560 .f32 → C F S8x4096x560 .f32 → C F S8x4096x560 .f32)
  :: [] )
theorem part0_2_sub : HostOnly (F := F) part0_2 :=
  ⟨unary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., binary_bufs_sub ..⟩
abbrev part0_2_W : List (Ref sig .tc) := [main_v22, main_v23, main_v24, main_v25, main_v26, main_v27, main_cst, main_v28, main_v29, main_v30, main_v31, main_v32, main_v33, main_v34, main_v35, main_v36, main_v37, main_v38, main_v39, main_v40, main_v41, main_v42, main_v43, main_v44, main_v45, main_v46, main_v47, main_v48, main_v49, main_v50, main_v51, main_v52, main_v53]
theorem part0_2_writes : WritesIn (F := F) part0_2 part0_2_W := forall_writes_sub_of_map rfl

abbrev part0_3 : Ops F :=
  [ TRef.unary (.of main_v53 : B S8x4096x560 .f32) (.of main_call1_v0 : B S8x4096x560 .f32) Host.negf,
    TRef.unary (.of main_call1_v0 : B S8x4096x560 .f32) (.of main_call1_v1 : B S8x4096x560 .f32) Host.exp,
    TRef.nullary (.of main_call1_cst : B S_ .f32) (constant S_ .f32 0x3F800000#32),
    TRef.unary (.of main_call1_cst : B S_ .f32) (.of main_call1_v2 : B S8x4096x560 .f32) (broadcastInDim S8x4096x560 ![] bcast_S_S8x4096x560),
    TRef.binary (.of main_call1_v2 : B S8x4096x560 .f32) (.of main_call1_v1 : B S8x4096x560 .f32) (.of main_call1_v3 : B S8x4096x560 .f32) addf,
    TRef.nullary (.of main_call1_cst_0 : B S_ .f32) (constant S_ .f32 0x3F800000#32),
    TRef.unary (.of main_call1_cst_0 : B S_ .f32) (.of main_call1_v4 : B S8x4096x560 .f32) (broadcastInDim S8x4096x560 ![] bcast_S_S8x4096x560),
    TRef.binary (.of main_call1_v4 : B S8x4096x560 .f32) (.of main_call1_v3 : B S8x4096x560 .f32) (.of main_call1_v5 : B S8x4096x560 .f32) Host.divf,
    TRef.binary (.of main_v53 : B S8x4096x560 .f32) (.of main_call1_v5 : B S8x4096x560 .f32) (.of main_v54 : B S8x4096x560 .f32) mulf ]
theorem part0_3_sub : HostOnly (F := F) part0_3 :=
  ⟨unary_bufs_sub .., unary_bufs_sub .., nullary_bufs_sub .., unary_bufs_sub .., binary_bufs_sub .., nullary_bufs_sub .., unary_bufs_sub .., binary_bufs_sub .., binary_bufs_sub ..⟩
abbrev part0_3_W : List (Ref sig .tc) := [main_call1_v0, main_call1_v1, main_call1_cst, main_call1_v2, main_call1_v3, main_call1_cst_0, main_call1_v4, main_call1_v5, main_v54]
theorem part0_3_writes : WritesIn (F := F) part0_3 part0_3_W := forall_writes_sub_of_map rfl

abbrev part0_4 : Ops F :=
  [ binary main_v54 main_v7 main_v55 ((fun l r => Host.dotGeneral dot_S8x4096x560_S50x560_S8x4096x50_2_1_01_0_n_n none l r) : C F S8x4096x560 .f32 → C F S50x560 .f32 → C F S8x4096x50 .f32),
    unary main_v55 main_v56 ((extractStridedSlice S8x4096x18 ![0, 0, 0] · slices_S8x4096x50_S8x4096x18_0_0_0) : C F S8x4096x50 .f32 → C F S8x4096x18 .f32),
    unary main_v55 main_v57 ((extractStridedSlice S8x4096x16 ![0, 0, 18] · slices_S8x4096x50_S8x4096x16_0_0_18) : C F S8x4096x50 .f32 → C F S8x4096x16 .f32) ]
theorem part0_4_sub : HostOnly (F := F) part0_4 :=
  ⟨binary_bufs_sub .., unary_bufs_sub .., unary_bufs_sub ..⟩
abbrev part0_4_W : List (Ref sig .tc) := [main_v55, main_v56, main_v57]
theorem part0_4_writes : WritesIn (F := F) part0_4 part0_4_W := forall_writes_sub_of_map rfl

theorem main_part0_chain (c : Dev nD) : main_part0 (F := F) c = (Pipeline.chainK
  [ seq part0_0,
    seq part0_1,
    seq part0_2,
    seq part0_3 ]
  (seq part0_4) : Host F) := by
  rewrite [chainK_seq_cons, Pipeline.chainK_cons, chainK_seq_cons, Pipeline.chainK_cons]
  chain_rfl

/-! ### Window 1 of the program -/

abbrev part1_0 : Ops F :=
  [ unary main_v55 main_v58 ((extractStridedSlice S8x4096x16 ![0, 0, 34] · slices_S8x4096x50_S8x4096x16_0_0_34) : C F S8x4096x50 .f32 → C F S8x4096x16 .f32),
    binary main_v56 main_v9 main_v59 ((fun l r => Host.dotGeneral dot_S8x4096x18_S560x18_S8x4096x560_2_1_01_0_n_n none l r) : C F S8x4096x18 .f32 → C F S560x18 .f32 → C F S8x4096x560 .f32),
    unary main_v11 main_v60 (broadcastInDim S1x1x560 ![2] bcast_S560_S1x1x560_2 : C F S560 .f32 → C F S1x1x560 .f32),
    unary main_v60 main_v61 (broadcastInDim S8x4096x560 ![0, 1, 2] bcast_S1x1x560_S8x4096x560_0_1_2 : C F S1x1x560 .f32 → C F S8x4096x560 .f32),
    binary main_v59 main_v61 main_v62 (addf : C F S8x4096x560 .f32 → C F S8x4096x560 .f32 → C F S8x4096x560 .f32) ]
theorem part1_0_sub : HostOnly (F := F) part1_0 :=
  ⟨unary_bufs_sub .., binary_bufs_sub .., unary_bufs_sub .., unary_bufs_sub .., binary_bufs_sub ..⟩
abbrev part1_0_W : List (Ref sig .tc) := [main_v58, main_v59, main_v60, main_v61, main_v62]
theorem part1_0_writes : WritesIn (F := F) part1_0 part1_0_W := forall_writes_sub_of_map rfl

abbrev part1_1 : Ops F :=
  [ TRef.nullary (.of main_call2_cst : B S_ .f32) (constant S_ .f32 0x00000000#32),
    TRef.unary (.of main_call2_cst : B S_ .f32) (.of main_call2_v0 : B S8x4096x560 .f32) (broadcastInDim S8x4096x560 ![] bcast_S_S8x4096x560),
    TRef.binary (.of main_v62 : B S8x4096x560 .f32) (.of main_call2_v0 : B S8x4096x560 .f32) (.of main_call2_v1 : B S8x4096x560 .f32) maximumf,
    TRef.unary (.of main_call2_cst : B S_ .f32) (.of main_call2_v2 : B S8x4096x560 .f32) (broadcastInDim S8x4096x560 ![] bcast_S_S8x4096x560),
    TRef.binary (.of main_v62 : B S8x4096x560 .f32) (.of main_call2_v2 : B S8x4096x560 .f32) (.of main_call2_v3 : B S8x4096x560 .f32) subf,
    TRef.binary (.of main_call2_v3 : B S8x4096x560 .f32) (.of main_call2_v3 : B S8x4096x560 .f32) (.of main_call2_v4 : B S8x4096x560 .i1) (cmpf .une),
    TRef.unary (.of main_call2_cst : B S_ .f32) (.of main_call2_v5 : B S8x4096x560 .f32) (broadcastInDim S8x4096x560 ![] bcast_S_S8x4096x560),
    TRef.binary (.of main_v62 : B S8x4096x560 .f32) (.of main_call2_v5 : B S8x4096x560 .f32) (.of main_call2_v6 : B S8x4096x560 .f32) addf,
    TRef.unary (.of main_call2_v3 : B S8x4096x560 .f32) (.of main_call2_v7 : B S8x4096x560 .f32) Host.absf,
    TRef.unary (.of main_call2_v7 : B S8x4096x560 .f32) (.of main_call2_v8 : B S8x4096x560 .f32) Host.negf,
    TRef.unary (.of main_call2_v8 : B S8x4096x560 .f32) (.of main_call2_v9 : B S8x4096x560 .f32) Host.exp,
    TRef.unary (.of main_call2_v9 : B S8x4096x560 .f32) (.of main_call2_v10 : B S8x4096x560 .f32) Host.log1p,
    TRef.binary (.of main_call2_v1 : B S8x4096x560 .f32) (.of main_call2_v10 : B S8x4096x560 .f32) (.of main_call2_v11 : B S8x4096x560 .f32) addf,
    TRef.ternary (.of main_call2_v4 : B S8x4096x560 .i1) (.of main_call2_v6 : B S8x4096x560 .f32) (.of main_call2_v11 : B S8x4096x560 .f32) (.of main_v63 : B S8x4096x560 .f32) select ]
theorem part1_1_sub : HostOnly (F := F) part1_1 :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
abbrev part1_1_W : List (Ref sig .tc) := [main_call2_cst, main_call2_v0, main_call2_v1, main_call2_v2, main_call2_v3, main_call2_v4, main_call2_v5, main_call2_v6, main_call2_v7, main_call2_v8, main_call2_v9, main_call2_v10, main_call2_v11, main_v63]
theorem part1_1_writes : WritesIn (F := F) part1_1 part1_1_W := forall_writes_sub_of_map rfl

abbrev part1_2 : Ops F :=
  [ unary main_v13 main_v64 (Host.exp : C F S560x16 .f32 → C F S560x16 .f32),
    unary main_v64 main_v65 (Host.negf : C F S560x16 .f32 → C F S560x16 .f32),
    nullary main_cst_0 (constant S_ .f32 0x00000000#32),
    unary main_cst_0 main_v66 (broadcastInDim S8x560x16 ![] bcast_S_S8x560x16 : C F S_ .f32 → C F S8x560x16 .f32),
    unary main_v54 main_v67 ((transpose S4096x8x560 [1, 0, 2] · transposes_S8x4096x560_S4096x8x560_1_0_2) : C F S8x4096x560 .f32 → C F S4096x8x560 .f32),
    unary main_v63 main_v68 ((transpose S4096x8x560 [1, 0, 2] · transposes_S8x4096x560_S4096x8x560_1_0_2) : C F S8x4096x560 .f32 → C F S4096x8x560 .f32),
    unary main_v57 main_v69 ((transpose S4096x8x16 [1, 0, 2] · transposes_S8x4096x16_S4096x8x16_1_0_2) : C F S8x4096x16 .f32 → C F S4096x8x16 .f32),
    unary main_v58 main_v70 ((transpose S4096x8x16 [1, 0, 2] · transposes_S8x4096x16_S4096x8x16_1_0_2) : C F S8x4096x16 .f32 → C F S4096x8x16 .f32),
    nullary main_cst_1 (constant S_ .f32 0x00000000#32),
    unary main_cst_1 main_v71 (broadcastInDim S4096x8x560 ![] bcast_S_S4096x8x560 : C F S_ .f32 → C F S4096x8x560 .f32),
    nullary main_c_2 (constantI S_ 32 0#32),
    unary main_v67 main_v72_0 id,
    unary main_v68 main_v72_1 id,
    unary main_v69 main_v72_2 id,
    unary main_v70 main_v72_3 id,
    unary main_v65 main_v72_4 id,
    unary main_c_2 main_v72_5 id,
    unary main_v66 main_v72_6 id,
    unary main_v71 main_v72_7 id ]
theorem part1_2_sub : HostOnly (F := F) part1_2 :=
  ⟨unary_bufs_sub .., unary_bufs_sub .., nullary_bufs_sub .., unary_bufs_sub .., unary_bufs_sub .., unary_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
abbrev part1_2_W : List (Ref sig .tc) := [main_v64, main_v65, main_cst_0, main_v66, main_v67, main_v68, main_v69, main_v70, main_cst_1, main_v71, main_c_2, main_v72_0, main_v72_1, main_v72_2, main_v72_3, main_v72_4, main_v72_5, main_v72_6, main_v72_7]
theorem part1_2_writes : WritesIn (F := F) part1_2 part1_2_W := forall_writes_sub_of_map rfl

abbrev part1_3 : Ops F :=
  [ unary main_v72_7 main_v73 ((transpose S8x4096x560 [1, 0, 2] · transposes_S4096x8x560_S8x4096x560_1_0_2) : C F S4096x8x560 .f32 → C F S8x4096x560 .f32),
    unary main_v15 main_v74 (broadcastInDim S1x1x560 ![2] bcast_S560_S1x1x560_2 : C F S560 .f32 → C F S1x1x560 .f32),
    unary main_v74 main_v75 (broadcastInDim S8x4096x560 ![0, 1, 2] bcast_S1x1x560_S8x4096x560_0_1_2 : C F S1x1x560 .f32 → C F S8x4096x560 .f32),
    binary main_v54 main_v75 main_v76 (mulf : C F S8x4096x560 .f32 → C F S8x4096x560 .f32 → C F S8x4096x560 .f32),
    binary main_v73 main_v76 main_v77 (addf : C F S8x4096x560 .f32 → C F S8x4096x560 .f32 → C F S8x4096x560 .f32) ]
theorem part1_3_sub : HostOnly (F := F) part1_3 :=
  ⟨unary_bufs_sub .., unary_bufs_sub .., unary_bufs_sub .., binary_bufs_sub .., binary_bufs_sub ..⟩
abbrev part1_3_W : List (Ref sig .tc) := [main_v73, main_v74, main_v75, main_v76, main_v77]
theorem part1_3_writes : WritesIn (F := F) part1_3 part1_3_W := forall_writes_sub_of_map rfl

abbrev part1_4 : Ops F :=
  [ TRef.unary (.of main_v20 : B S8x4096x560 .f32) (.of main_call8_v0 : B S8x4096x560 .f32) Host.negf,
    TRef.unary (.of main_call8_v0 : B S8x4096x560 .f32) (.of main_call8_v1 : B S8x4096x560 .f32) Host.exp,
    TRef.nullary (.of main_call8_cst : B S_ .f32) (constant S_ .f32 0x3F800000#32),
    TRef.unary (.of main_call8_cst : B S_ .f32) (.of main_call8_v2 : B S8x4096x560 .f32) (broadcastInDim S8x4096x560 ![] bcast_S_S8x4096x560),
    TRef.binary (.of main_call8_v2 : B S8x4096x560 .f32) (.of main_call8_v1 : B S8x4096x560 .f32) (.of main_call8_v3 : B S8x4096x560 .f32) addf,
    TRef.nullary (.of main_call8_cst_0 : B S_ .f32) (constant S_ .f32 0x3F800000#32),
    TRef.unary (.of main_call8_cst_0 : B S_ .f32) (.of main_call8_v4 : B S8x4096x560 .f32) (broadcastInDim S8x4096x560 ![] bcast_S_S8x4096x560),
    TRef.binary (.of main_call8_v4 : B S8x4096x560 .f32) (.of main_call8_v3 : B S8x4096x560 .f32) (.of main_call8_v5 : B S8x4096x560 .f32) Host.divf,
    TRef.binary (.of main_v20 : B S8x4096x560 .f32) (.of main_call8_v5 : B S8x4096x560 .f32) (.of main_v78 : B S8x4096x560 .f32) mulf ]
theorem part1_4_sub : HostOnly (F := F) part1_4 :=
  ⟨unary_bufs_sub .., unary_bufs_sub .., nullary_bufs_sub .., unary_bufs_sub .., binary_bufs_sub .., nullary_bufs_sub .., unary_bufs_sub .., binary_bufs_sub .., binary_bufs_sub ..⟩
abbrev part1_4_W : List (Ref sig .tc) := [main_call8_v0, main_call8_v1, main_call8_cst, main_call8_v2, main_call8_v3, main_call8_cst_0, main_call8_v4, main_call8_v5, main_v78]
theorem part1_4_writes : WritesIn (F := F) part1_4 part1_4_W := forall_writes_sub_of_map rfl

abbrev part1_5 : Ops F :=
  [ binary main_v77 main_v78 main_v79 (mulf : C F S8x4096x560 .f32 → C F S8x4096x560 .f32 → C F S8x4096x560 .f32),
    binary main_v79 main_v17 main_v80 ((fun l r => Host.dotGeneral dot_S8x4096x560_S280x560_S8x4096x280_2_1_01_0_n_n none l r) : C F S8x4096x560 .f32 → C F S280x560 .f32 → C F S8x4096x280 .f32),
    unary main_arg1 main_v81 ((extractStridedSlice S1x1120x280 ![1, 0, 0] · slices_S3x1120x280_S1x1120x280_1_0_0) : C F S3x1120x280 .f32 → C F S1x1120x280 .f32),
    reshape main_v81 main_v82 (rfl : (.f32 : EltTy) = .f32) shapeCasts_S1x1120x280_S1120x280,
    unary main_arg2 main_v83 ((extractStridedSlice S1x560x4 ![1, 0, 0] · slices_S3x560x4_S1x560x4_1_0_0) : C F S3x560x4 .f32 → C F S1x560x4 .f32),
    reshape main_v83 main_v84 (rfl : (.f32 : EltTy) = .f32) shapeCasts_S1x560x4_S560x4,
    unary main_arg3 main_v85 ((extractStridedSlice S1x560 ![1, 0] · slices_S3x560_S1x560_1_0) : C F S3x560 .f32 → C F S1x560 .f32),
    reshape main_v85 main_v86 (rfl : (.f32 : EltTy) = .f32) shapeCasts_S1x560_S560,
    unary main_arg4 main_v87 ((extractStridedSlice S1x50x560 ![1, 0, 0] · slices_S3x50x560_S1x50x560_1_0_0) : C F S3x50x560 .f32 → C F S1x50x560 .f32),
    reshape main_v87 main_v88 (rfl : (.f32 : EltTy) = .f32) shapeCasts_S1x50x560_S50x560,
    unary main_arg5 main_v89 ((extractStridedSlice S1x560x18 ![1, 0, 0] · slices_S3x560x18_S1x560x18_1_0_0) : C F S3x560x18 .f32 → C F S1x560x18 .f32),
    reshape main_v89 main_v90 (rfl : (.f32 : EltTy) = .f32) shapeCasts_S1x560x18_S560x18,
    unary main_arg6 main_v91 ((extractStridedSlice S1x560 ![1, 0] · slices_S3x560_S1x560_1_0) : C F S3x560 .f32 → C F S1x560 .f32),
    reshape main_v91 main_v92 (rfl : (.f32 : EltTy) = .f32) shapeCasts_S1x560_S560,
    unary main_arg7 main_v93 ((extractStridedSlice S1x560x16 ![1, 0, 0] · slices_S3x560x16_S1x560x16_1_0_0) : C F S3x560x16 .f32 → C F S1x560x16 .f32),
    reshape main_v93 main_v94 (rfl : (.f32 : EltTy) = .f32) shapeCasts_S1x560x16_S560x16,
    unary main_arg8 main_v95 ((extractStridedSlice S1x560 ![1, 0] · slices_S3x560_S1x560_1_0) : C F S3x560 .f32 → C F S1x560 .f32),
    reshape main_v95 main_v96 (rfl : (.f32 : EltTy) = .f32) shapeCasts_S1x560_S560,
    unary main_arg9 main_v97 ((extractStridedSlice S1x280x560 ![1, 0, 0] · slices_S3x280x560_S1x280x560_1_0_0) : C F S3x280x560 .f32 → C F S1x280x560 .f32),
    reshape main_v97 main_v98 (rfl : (.f32 : EltTy) = .f32) shapeCasts_S1x280x560_S280x560,
    binary main_v80 main_v82 main_v99 ((fun l r => Host.dotGeneral dot_S8x4096x280_S1120x280_S8x4096x1120_2_1_01_0_n_n none l r) : C F S8x4096x280 .f32 → C F S1120x280 .f32 → C F S8x4096x1120 .f32),
    unary main_v99 main_v100 ((extractStridedSlice S8x4096x560 ![0, 0, 0] · slices_S8x4096x1120_S8x4096x560_0_0_0) : C F S8x4096x1120 .f32 → C F S8x4096x560 .f32),
    unary main_v99 main_v101 ((extractStridedSlice S8x4096x560 ![0, 0, 560] · slices_S8x4096x1120_S8x4096x560_0_0_560) : C F S8x4096x1120 .f32 → C F S8x4096x560 .f32),
    nullary main_c_3 (constantI S_ 32 0#32) ]
theorem part1_5_sub : HostOnly (F := F) part1_5 :=
  ⟨binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., nullary_bufs_sub ..⟩
abbrev part1_5_W : List (Ref sig .tc) := [main_v79, main_v80, main_v81, main_v82, main_v83, main_v84, main_v85, main_v86, main_v87, main_v88, main_v89, main_v90, main_v91, main_v92, main_v93, main_v94, main_v95, main_v96, main_v97, main_v98, main_v99, main_v100, main_v101, main_c_3]
theorem part1_5_writes : WritesIn (F := F) part1_5 part1_5_W := forall_writes_sub_of_map rfl

abbrev part1_6 : Ops F :=
  [ TRef.unary (.of main_c_3 : B S_ .i32) (.of main_call9_v0 : B S_ .f32) (sitofp .f32),
    TRef.binary (.of main_v100 : B S8x4096x560 .f32) (.of main_call9_v0 : B S_ .f32) (.of main_v102 : B S8x4099x560 .f32) (fun x v => pad S8x4099x560 ![0, 3, 0] ![0, 0, 0] ![0, 0, 0] x v pads_S8x4096x560_S8x4099x560_000_300_000 h_S_) ]
theorem part1_6_sub : HostOnly (F := F) part1_6 :=
  ⟨unary_bufs_sub .., binary_bufs_sub ..⟩
abbrev part1_6_W : List (Ref sig .tc) := [main_call9_v0, main_v102]
theorem part1_6_writes : WritesIn (F := F) part1_6 part1_6_W := forall_writes_sub_of_map rfl

abbrev part1_7 : Ops F :=
  [ unary main_v102 main_v103 ((extractStridedSlice S8x4096x560 ![0, 0, 0] · slices_S8x4099x560_S8x4096x560_0_0_0) : C F S8x4099x560 .f32 → C F S8x4096x560 .f32),
    unary main_v84 main_v104 ((extractStridedSlice S560x1 ![0, 0] · slices_S560x4_S560x1_0_0) : C F S560x4 .f32 → C F S560x1 .f32),
    reshape main_v104 main_v105 (rfl : (.f32 : EltTy) = .f32) shapeCasts_S560x1_S560 ]
theorem part1_7_sub : HostOnly (F := F) part1_7 :=
  ⟨unary_bufs_sub .., unary_bufs_sub .., reshape_bufs_sub ..⟩
abbrev part1_7_W : List (Ref sig .tc) := [main_v103, main_v104, main_v105]
theorem part1_7_writes : WritesIn (F := F) part1_7 part1_7_W := forall_writes_sub_of_map rfl

theorem main_part1_chain (c : Dev nD) : main_part1 (F := F) c = (Pipeline.chainK
  [ seq part1_0,
    seq part1_1,
    seq part1_2,
    HostLoop.enter 0,
    seq part1_3,
    seq part1_4,
    seq part1_5,
    seq part1_6 ]
  (seq part1_7) : Host F) := by
  rewrite [chainK_seq_cons, Pipeline.chainK_cons, chainK_seq_cons, Pipeline.chainK_cons, chainK_seq_cons, Pipeline.chainK_cons, chainK_seq_cons, Pipeline.chainK_cons]
  chain_rfl

/-! ### Window 2 of the program -/

abbrev part2_0 : Ops F :=
  [ unary main_v105 main_v106 (broadcastInDim S1x1x560 ![2] bcast_S560_S1x1x560_2 : C F S560 .f32 → C F S1x1x560 .f32),
    unary main_v106 main_v107 (broadcastInDim S8x4096x560 ![0, 1, 2] bcast_S1x1x560_S8x4096x560_0_1_2 : C F S1x1x560 .f32 → C F S8x4096x560 .f32),
    binary main_v103 main_v107 main_v108 (mulf : C F S8x4096x560 .f32 → C F S8x4096x560 .f32 → C F S8x4096x560 .f32),
    nullary main_cst_4 (constant S_ .f32 0x00000000#32),
    unary main_cst_4 main_v109 (broadcastInDim S8x4096x560 ![] bcast_S_S8x4096x560 : C F S_ .f32 → C F S8x4096x560 .f32),
    binary main_v109 main_v108 main_v110 (addf : C F S8x4096x560 .f32 → C F S8x4096x560 .f32 → C F S8x4096x560 .f32),
    unary main_v102 main_v111 ((extractStridedSlice S8x4096x560 ![0, 1, 0] · slices_S8x4099x560_S8x4096x560_0_1_0) : C F S8x4099x560 .f32 → C F S8x4096x560 .f32),
    unary main_v84 main_v112 ((extractStridedSlice S560x1 ![0, 1] · slices_S560x4_S560x1_0_1) : C F S560x4 .f32 → C F S560x1 .f32),
    reshape main_v112 main_v113 (rfl : (.f32 : EltTy) = .f32) shapeCasts_S560x1_S560,
    unary main_v113 main_v114 (broadcastInDim S1x1x560 ![2] bcast_S560_S1x1x560_2 : C F S560 .f32 → C F S1x1x560 .f32),
    unary main_v114 main_v115 (broadcastInDim S8x4096x560 ![0, 1, 2] bcast_S1x1x560_S8x4096x560_0_1_2 : C F S1x1x560 .f32 → C F S8x4096x560 .f32),
    binary main_v111 main_v115 main_v116 (mulf : C F S8x4096x560 .f32 → C F S8x4096x560 .f32 → C F S8x4096x560 .f32),
    binary main_v110 main_v116 main_v117 (addf : C F S8x4096x560 .f32 → C F S8x4096x560 .f32 → C F S8x4096x560 .f32),
    unary main_v102 main_v118 ((extractStridedSlice S8x4096x560 ![0, 2, 0] · slices_S8x4099x560_S8x4096x560_0_2_0) : C F S8x4099x560 .f32 → C F S8x4096x560 .f32),
    unary main_v84 main_v119 ((extractStridedSlice S560x1 ![0, 2] · slices_S560x4_S560x1_0_2) : C F S560x4 .f32 → C F S560x1 .f32),
    reshape main_v119 main_v120 (rfl : (.f32 : EltTy) = .f32) shapeCasts_S560x1_S560,
    unary main_v120 main_v121 (broadcastInDim S1x1x560 ![2] bcast_S560_S1x1x560_2 : C F S560 .f32 → C F S1x1x560 .f32),
    unary main_v121 main_v122 (broadcastInDim S8x4096x560 ![0, 1, 2] bcast_S1x1x560_S8x4096x560_0_1_2 : C F S1x1x560 .f32 → C F S8x4096x560 .f32),
    binary main_v118 main_v122 main_v123 (mulf : C F S8x4096x560 .f32 → C F S8x4096x560 .f32 → C F S8x4096x560 .f32),
    binary main_v117 main_v123 main_v124 (addf : C F S8x4096x560 .f32 → C F S8x4096x560 .f32 → C F S8x4096x560 .f32),
    unary main_v102 main_v125 ((extractStridedSlice S8x4096x560 ![0, 3, 0] · slices_S8x4099x560_S8x4096x560_0_3_0) : C F S8x4099x560 .f32 → C F S8x4096x560 .f32),
    unary main_v84 main_v126 ((extractStridedSlice S560x1 ![0, 3] · slices_S560x4_S560x1_0_3) : C F S560x4 .f32 → C F S560x1 .f32),
    reshape main_v126 main_v127 (rfl : (.f32 : EltTy) = .f32) shapeCasts_S560x1_S560,
    unary main_v127 main_v128 (broadcastInDim S1x1x560 ![2] bcast_S560_S1x1x560_2 : C F S560 .f32 → C F S1x1x560 .f32),
    unary main_v128 main_v129 (broadcastInDim S8x4096x560 ![0, 1, 2] bcast_S1x1x560_S8x4096x560_0_1_2 : C F S1x1x560 .f32 → C F S8x4096x560 .f32),
    binary main_v125 main_v129 main_v130 (mulf : C F S8x4096x560 .f32 → C F S8x4096x560 .f32 → C F S8x4096x560 .f32),
    binary main_v124 main_v130 main_v131 (addf : C F S8x4096x560 .f32 → C F S8x4096x560 .f32 → C F S8x4096x560 .f32),
    unary main_v86 main_v132 (broadcastInDim S1x1x560 ![2] bcast_S560_S1x1x560_2 : C F S560 .f32 → C F S1x1x560 .f32),
    unary main_v132 main_v133 (broadcastInDim S8x4096x560 ![0, 1, 2] bcast_S1x1x560_S8x4096x560_0_1_2 : C F S1x1x560 .f32 → C F S8x4096x560 .f32),
    binary main_v131 main_v133 main_v134 (addf : C F S8x4096x560 .f32 → C F S8x4096x560 .f32 → C F S8x4096x560 .f32) ]
theorem part2_0_sub : HostOnly (F := F) part2_0 :=
  ⟨unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., binary_bufs_sub ..⟩
abbrev part2_0_W : List (Ref sig .tc) := [main_v106, main_v107, main_v108, main_cst_4, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134]
theorem part2_0_writes : WritesIn (F := F) part2_0 part2_0_W := forall_writes_sub_of_map rfl

abbrev part2_1 : Ops F :=
  [ TRef.unary (.of main_v134 : B S8x4096x560 .f32) (.of main_call10_v0 : B S8x4096x560 .f32) Host.negf,
    TRef.unary (.of main_call10_v0 : B S8x4096x560 .f32) (.of main_call10_v1 : B S8x4096x560 .f32) Host.exp,
    TRef.nullary (.of main_call10_cst : B S_ .f32) (constant S_ .f32 0x3F800000#32),
    TRef.unary (.of main_call10_cst : B S_ .f32) (.of main_call10_v2 : B S8x4096x560 .f32) (broadcastInDim S8x4096x560 ![] bcast_S_S8x4096x560),
    TRef.binary (.of main_call10_v2 : B S8x4096x560 .f32) (.of main_call10_v1 : B S8x4096x560 .f32) (.of main_call10_v3 : B S8x4096x560 .f32) addf,
    TRef.nullary (.of main_call10_cst_0 : B S_ .f32) (constant S_ .f32 0x3F800000#32),
    TRef.unary (.of main_call10_cst_0 : B S_ .f32) (.of main_call10_v4 : B S8x4096x560 .f32) (broadcastInDim S8x4096x560 ![] bcast_S_S8x4096x560),
    TRef.binary (.of main_call10_v4 : B S8x4096x560 .f32) (.of main_call10_v3 : B S8x4096x560 .f32) (.of main_call10_v5 : B S8x4096x560 .f32) Host.divf,
    TRef.binary (.of main_v134 : B S8x4096x560 .f32) (.of main_call10_v5 : B S8x4096x560 .f32) (.of main_v135 : B S8x4096x560 .f32) mulf ]
theorem part2_1_sub : HostOnly (F := F) part2_1 :=
  ⟨unary_bufs_sub .., unary_bufs_sub .., nullary_bufs_sub .., unary_bufs_sub .., binary_bufs_sub .., nullary_bufs_sub .., unary_bufs_sub .., binary_bufs_sub .., binary_bufs_sub ..⟩
abbrev part2_1_W : List (Ref sig .tc) := [main_call10_v0, main_call10_v1, main_call10_cst, main_call10_v2, main_call10_v3, main_call10_cst_0, main_call10_v4, main_call10_v5, main_v135]
theorem part2_1_writes : WritesIn (F := F) part2_1 part2_1_W := forall_writes_sub_of_map rfl

abbrev part2_2 : Ops F :=
  [ binary main_v135 main_v88 main_v136 ((fun l r => Host.dotGeneral dot_S8x4096x560_S50x560_S8x4096x50_2_1_01_0_n_n none l r) : C F S8x4096x560 .f32 → C F S50x560 .f32 → C F S8x4096x50 .f32),
    unary main_v136 main_v137 ((extractStridedSlice S8x4096x18 ![0, 0, 0] · slices_S8x4096x50_S8x4096x18_0_0_0) : C F S8x4096x50 .f32 → C F S8x4096x18 .f32),
    unary main_v136 main_v138 ((extractStridedSlice S8x4096x16 ![0, 0, 18] · slices_S8x4096x50_S8x4096x16_0_0_18) : C F S8x4096x50 .f32 → C F S8x4096x16 .f32),
    unary main_v136 main_v139 ((extractStridedSlice S8x4096x16 ![0, 0, 34] · slices_S8x4096x50_S8x4096x16_0_0_34) : C F S8x4096x50 .f32 → C F S8x4096x16 .f32),
    binary main_v137 main_v90 main_v140 ((fun l r => Host.dotGeneral dot_S8x4096x18_S560x18_S8x4096x560_2_1_01_0_n_n none l r) : C F S8x4096x18 .f32 → C F S560x18 .f32 → C F S8x4096x560 .f32),
    unary main_v92 main_v141 (broadcastInDim S1x1x560 ![2] bcast_S560_S1x1x560_2 : C F S560 .f32 → C F S1x1x560 .f32),
    unary main_v141 main_v142 (broadcastInDim S8x4096x560 ![0, 1, 2] bcast_S1x1x560_S8x4096x560_0_1_2 : C F S1x1x560 .f32 → C F S8x4096x560 .f32),
    binary main_v140 main_v142 main_v143 (addf : C F S8x4096x560 .f32 → C F S8x4096x560 .f32 → C F S8x4096x560 .f32) ]
theorem part2_2_sub : HostOnly (F := F) part2_2 :=
  ⟨binary_bufs_sub .., unary_bufs_sub .., unary_bufs_sub .., unary_bufs_sub .., binary_bufs_sub .., unary_bufs_sub .., unary_bufs_sub .., binary_bufs_sub ..⟩
abbrev part2_2_W : List (Ref sig .tc) := [main_v136, main_v137, main_v138, main_v139, main_v140, main_v141, main_v142, main_v143]
theorem part2_2_writes : WritesIn (F := F) part2_2 part2_2_W := forall_writes_sub_of_map rfl

abbrev part2_3 : Ops F :=
  [ TRef.nullary (.of main_call11_cst : B S_ .f32) (constant S_ .f32 0x00000000#32),
    TRef.unary (.of main_call11_cst : B S_ .f32) (.of main_call11_v0 : B S8x4096x560 .f32) (broadcastInDim S8x4096x560 ![] bcast_S_S8x4096x560),
    TRef.binary (.of main_v143 : B S8x4096x560 .f32) (.of main_call11_v0 : B S8x4096x560 .f32) (.of main_call11_v1 : B S8x4096x560 .f32) maximumf,
    TRef.unary (.of main_call11_cst : B S_ .f32) (.of main_call11_v2 : B S8x4096x560 .f32) (broadcastInDim S8x4096x560 ![] bcast_S_S8x4096x560),
    TRef.binary (.of main_v143 : B S8x4096x560 .f32) (.of main_call11_v2 : B S8x4096x560 .f32) (.of main_call11_v3 : B S8x4096x560 .f32) subf,
    TRef.binary (.of main_call11_v3 : B S8x4096x560 .f32) (.of main_call11_v3 : B S8x4096x560 .f32) (.of main_call11_v4 : B S8x4096x560 .i1) (cmpf .une),
    TRef.unary (.of main_call11_cst : B S_ .f32) (.of main_call11_v5 : B S8x4096x560 .f32) (broadcastInDim S8x4096x560 ![] bcast_S_S8x4096x560),
    TRef.binary (.of main_v143 : B S8x4096x560 .f32) (.of main_call11_v5 : B S8x4096x560 .f32) (.of main_call11_v6 : B S8x4096x560 .f32) addf,
    TRef.unary (.of main_call11_v3 : B S8x4096x560 .f32) (.of main_call11_v7 : B S8x4096x560 .f32) Host.absf,
    TRef.unary (.of main_call11_v7 : B S8x4096x560 .f32) (.of main_call11_v8 : B S8x4096x560 .f32) Host.negf,
    TRef.unary (.of main_call11_v8 : B S8x4096x560 .f32) (.of main_call11_v9 : B S8x4096x560 .f32) Host.exp,
    TRef.unary (.of main_call11_v9 : B S8x4096x560 .f32) (.of main_call11_v10 : B S8x4096x560 .f32) Host.log1p,
    TRef.binary (.of main_call11_v1 : B S8x4096x560 .f32) (.of main_call11_v10 : B S8x4096x560 .f32) (.of main_call11_v11 : B S8x4096x560 .f32) addf,
    TRef.ternary (.of main_call11_v4 : B S8x4096x560 .i1) (.of main_call11_v6 : B S8x4096x560 .f32) (.of main_call11_v11 : B S8x4096x560 .f32) (.of main_v144 : B S8x4096x560 .f32) select ]
theorem part2_3_sub : HostOnly (F := F) part2_3 :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
abbrev part2_3_W : List (Ref sig .tc) := [main_call11_cst, main_call11_v0, main_call11_v1, main_call11_v2, main_call11_v3, main_call11_v4, main_call11_v5, main_call11_v6, main_call11_v7, main_call11_v8, main_call11_v9, main_call11_v10, main_call11_v11, main_v144]
theorem part2_3_writes : WritesIn (F := F) part2_3 part2_3_W := forall_writes_sub_of_map rfl

abbrev part2_4 : Ops F :=
  [ unary main_v94 main_v145 (Host.exp : C F S560x16 .f32 → C F S560x16 .f32),
    unary main_v145 main_v146 (Host.negf : C F S560x16 .f32 → C F S560x16 .f32),
    nullary main_cst_5 (constant S_ .f32 0x00000000#32),
    unary main_cst_5 main_v147 (broadcastInDim S8x560x16 ![] bcast_S_S8x560x16 : C F S_ .f32 → C F S8x560x16 .f32),
    unary main_v135 main_v148 ((transpose S4096x8x560 [1, 0, 2] · transposes_S8x4096x560_S4096x8x560_1_0_2) : C F S8x4096x560 .f32 → C F S4096x8x560 .f32),
    unary main_v144 main_v149 ((transpose S4096x8x560 [1, 0, 2] · transposes_S8x4096x560_S4096x8x560_1_0_2) : C F S8x4096x560 .f32 → C F S4096x8x560 .f32),
    unary main_v138 main_v150 ((transpose S4096x8x16 [1, 0, 2] · transposes_S8x4096x16_S4096x8x16_1_0_2) : C F S8x4096x16 .f32 → C F S4096x8x16 .f32),
    unary main_v139 main_v151 ((transpose S4096x8x16 [1, 0, 2] · transposes_S8x4096x16_S4096x8x16_1_0_2) : C F S8x4096x16 .f32 → C F S4096x8x16 .f32),
    nullary main_cst_6 (constant S_ .f32 0x00000000#32),
    unary main_cst_6 main_v152 (broadcastInDim S4096x8x560 ![] bcast_S_S4096x8x560 : C F S_ .f32 → C F S4096x8x560 .f32),
    nullary main_c_7 (constantI S_ 32 0#32),
    unary main_v148 main_v153_0 id,
    unary main_v149 main_v153_1 id,
    unary main_v150 main_v153_2 id,
    unary main_v151 main_v153_3 id,
    unary main_v146 main_v153_4 id,
    unary main_c_7 main_v153_5 id,
    unary main_v147 main_v153_6 id,
    unary main_v152 main_v153_7 id ]
theorem part2_4_sub : HostOnly (F := F) part2_4 :=
  ⟨unary_bufs_sub .., unary_bufs_sub .., nullary_bufs_sub .., unary_bufs_sub .., unary_bufs_sub .., unary_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
abbrev part2_4_W : List (Ref sig .tc) := [main_v145, main_v146, main_cst_5, main_v147, main_v148, main_v149, main_v150, main_v151, main_cst_6, main_v152, main_c_7, main_v153_0, main_v153_1, main_v153_2, main_v153_3, main_v153_4, main_v153_5, main_v153_6, main_v153_7]
theorem part2_4_writes : WritesIn (F := F) part2_4 part2_4_W := forall_writes_sub_of_map rfl

theorem main_part2_chain (c : Dev nD) : main_part2 (F := F) c = (Pipeline.chainK
  [ seq part2_0,
    seq part2_1,
    seq part2_2,
    seq part2_3,
    seq part2_4 ]
  (HostLoop.enter 1) : Host F) := by
  rewrite [chainK_seq_cons, Pipeline.chainK_cons, chainK_seq_cons, Pipeline.chainK_cons, chainK_seq_cons]
  chain_rfl

/-! ### Window 3 of the program -/

abbrev part3_0 : Ops F :=
  [ unary main_v153_7 main_v154 ((transpose S8x4096x560 [1, 0, 2] · transposes_S4096x8x560_S8x4096x560_1_0_2) : C F S4096x8x560 .f32 → C F S8x4096x560 .f32),
    unary main_v96 main_v155 (broadcastInDim S1x1x560 ![2] bcast_S560_S1x1x560_2 : C F S560 .f32 → C F S1x1x560 .f32),
    unary main_v155 main_v156 (broadcastInDim S8x4096x560 ![0, 1, 2] bcast_S1x1x560_S8x4096x560_0_1_2 : C F S1x1x560 .f32 → C F S8x4096x560 .f32),
    binary main_v135 main_v156 main_v157 (mulf : C F S8x4096x560 .f32 → C F S8x4096x560 .f32 → C F S8x4096x560 .f32),
    binary main_v154 main_v157 main_v158 (addf : C F S8x4096x560 .f32 → C F S8x4096x560 .f32 → C F S8x4096x560 .f32) ]
theorem part3_0_sub : HostOnly (F := F) part3_0 :=
  ⟨unary_bufs_sub .., unary_bufs_sub .., unary_bufs_sub .., binary_bufs_sub .., binary_bufs_sub ..⟩
abbrev part3_0_W : List (Ref sig .tc) := [main_v154, main_v155, main_v156, main_v157, main_v158]
theorem part3_0_writes : WritesIn (F := F) part3_0 part3_0_W := forall_writes_sub_of_map rfl

abbrev part3_1 : Ops F :=
  [ TRef.unary (.of main_v101 : B S8x4096x560 .f32) (.of main_call17_v0 : B S8x4096x560 .f32) Host.negf,
    TRef.unary (.of main_call17_v0 : B S8x4096x560 .f32) (.of main_call17_v1 : B S8x4096x560 .f32) Host.exp,
    TRef.nullary (.of main_call17_cst : B S_ .f32) (constant S_ .f32 0x3F800000#32),
    TRef.unary (.of main_call17_cst : B S_ .f32) (.of main_call17_v2 : B S8x4096x560 .f32) (broadcastInDim S8x4096x560 ![] bcast_S_S8x4096x560),
    TRef.binary (.of main_call17_v2 : B S8x4096x560 .f32) (.of main_call17_v1 : B S8x4096x560 .f32) (.of main_call17_v3 : B S8x4096x560 .f32) addf,
    TRef.nullary (.of main_call17_cst_0 : B S_ .f32) (constant S_ .f32 0x3F800000#32),
    TRef.unary (.of main_call17_cst_0 : B S_ .f32) (.of main_call17_v4 : B S8x4096x560 .f32) (broadcastInDim S8x4096x560 ![] bcast_S_S8x4096x560),
    TRef.binary (.of main_call17_v4 : B S8x4096x560 .f32) (.of main_call17_v3 : B S8x4096x560 .f32) (.of main_call17_v5 : B S8x4096x560 .f32) Host.divf,
    TRef.binary (.of main_v101 : B S8x4096x560 .f32) (.of main_call17_v5 : B S8x4096x560 .f32) (.of main_v159 : B S8x4096x560 .f32) mulf ]
theorem part3_1_sub : HostOnly (F := F) part3_1 :=
  ⟨unary_bufs_sub .., unary_bufs_sub .., nullary_bufs_sub .., unary_bufs_sub .., binary_bufs_sub .., nullary_bufs_sub .., unary_bufs_sub .., binary_bufs_sub .., binary_bufs_sub ..⟩
abbrev part3_1_W : List (Ref sig .tc) := [main_call17_v0, main_call17_v1, main_call17_cst, main_call17_v2, main_call17_v3, main_call17_cst_0, main_call17_v4, main_call17_v5, main_v159]
theorem part3_1_writes : WritesIn (F := F) part3_1 part3_1_W := forall_writes_sub_of_map rfl

abbrev part3_2 : Ops F :=
  [ binary main_v158 main_v159 main_v160 (mulf : C F S8x4096x560 .f32 → C F S8x4096x560 .f32 → C F S8x4096x560 .f32),
    binary main_v160 main_v98 main_v161 ((fun l r => Host.dotGeneral dot_S8x4096x560_S280x560_S8x4096x280_2_1_01_0_n_n none l r) : C F S8x4096x560 .f32 → C F S280x560 .f32 → C F S8x4096x280 .f32),
    unary main_arg1 main_v162 ((extractStridedSlice S1x1120x280 ![2, 0, 0] · slices_S3x1120x280_S1x1120x280_2_0_0) : C F S3x1120x280 .f32 → C F S1x1120x280 .f32),
    reshape main_v162 main_v163 (rfl : (.f32 : EltTy) = .f32) shapeCasts_S1x1120x280_S1120x280,
    unary main_arg2 main_v164 ((extractStridedSlice S1x560x4 ![2, 0, 0] · slices_S3x560x4_S1x560x4_2_0_0) : C F S3x560x4 .f32 → C F S1x560x4 .f32),
    reshape main_v164 main_v165 (rfl : (.f32 : EltTy) = .f32) shapeCasts_S1x560x4_S560x4,
    unary main_arg3 main_v166 ((extractStridedSlice S1x560 ![2, 0] · slices_S3x560_S1x560_2_0) : C F S3x560 .f32 → C F S1x560 .f32),
    reshape main_v166 main_v167 (rfl : (.f32 : EltTy) = .f32) shapeCasts_S1x560_S560,
    unary main_arg4 main_v168 ((extractStridedSlice S1x50x560 ![2, 0, 0] · slices_S3x50x560_S1x50x560_2_0_0) : C F S3x50x560 .f32 → C F S1x50x560 .f32),
    reshape main_v168 main_v169 (rfl : (.f32 : EltTy) = .f32) shapeCasts_S1x50x560_S50x560,
    unary main_arg5 main_v170 ((extractStridedSlice S1x560x18 ![2, 0, 0] · slices_S3x560x18_S1x560x18_2_0_0) : C F S3x560x18 .f32 → C F S1x560x18 .f32),
    reshape main_v170 main_v171 (rfl : (.f32 : EltTy) = .f32) shapeCasts_S1x560x18_S560x18,
    unary main_arg6 main_v172 ((extractStridedSlice S1x560 ![2, 0] · slices_S3x560_S1x560_2_0) : C F S3x560 .f32 → C F S1x560 .f32),
    reshape main_v172 main_v173 (rfl : (.f32 : EltTy) = .f32) shapeCasts_S1x560_S560,
    unary main_arg7 main_v174 ((extractStridedSlice S1x560x16 ![2, 0, 0] · slices_S3x560x16_S1x560x16_2_0_0) : C F S3x560x16 .f32 → C F S1x560x16 .f32),
    reshape main_v174 main_v175 (rfl : (.f32 : EltTy) = .f32) shapeCasts_S1x560x16_S560x16,
    unary main_arg8 main_v176 ((extractStridedSlice S1x560 ![2, 0] · slices_S3x560_S1x560_2_0) : C F S3x560 .f32 → C F S1x560 .f32),
    reshape main_v176 main_v177 (rfl : (.f32 : EltTy) = .f32) shapeCasts_S1x560_S560,
    unary main_arg9 main_v178 ((extractStridedSlice S1x280x560 ![2, 0, 0] · slices_S3x280x560_S1x280x560_2_0_0) : C F S3x280x560 .f32 → C F S1x280x560 .f32),
    reshape main_v178 main_v179 (rfl : (.f32 : EltTy) = .f32) shapeCasts_S1x280x560_S280x560,
    binary main_v161 main_v163 main_v180 ((fun l r => Host.dotGeneral dot_S8x4096x280_S1120x280_S8x4096x1120_2_1_01_0_n_n none l r) : C F S8x4096x280 .f32 → C F S1120x280 .f32 → C F S8x4096x1120 .f32),
    unary main_v180 main_v181 ((extractStridedSlice S8x4096x560 ![0, 0, 0] · slices_S8x4096x1120_S8x4096x560_0_0_0) : C F S8x4096x1120 .f32 → C F S8x4096x560 .f32),
    unary main_v180 main_v182 ((extractStridedSlice S8x4096x560 ![0, 0, 560] · slices_S8x4096x1120_S8x4096x560_0_0_560) : C F S8x4096x1120 .f32 → C F S8x4096x560 .f32),
    nullary main_c_8 (constantI S_ 32 0#32) ]
theorem part3_2_sub : HostOnly (F := F) part3_2 :=
  ⟨binary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., unary_bufs_sub .., nullary_bufs_sub ..⟩
abbrev part3_2_W : List (Ref sig .tc) := [main_v160, main_v161, main_v162, main_v163, main_v164, main_v165, main_v166, main_v167, main_v168, main_v169, main_v170, main_v171, main_v172, main_v173, main_v174, main_v175, main_v176, main_v177, main_v178, main_v179, main_v180, main_v181, main_v182, main_c_8]
theorem part3_2_writes : WritesIn (F := F) part3_2 part3_2_W := forall_writes_sub_of_map rfl

abbrev part3_3 : Ops F :=
  [ TRef.unary (.of main_c_8 : B S_ .i32) (.of main_call18_v0 : B S_ .f32) (sitofp .f32),
    TRef.binary (.of main_v181 : B S8x4096x560 .f32) (.of main_call18_v0 : B S_ .f32) (.of main_v183 : B S8x4099x560 .f32) (fun x v => pad S8x4099x560 ![0, 3, 0] ![0, 0, 0] ![0, 0, 0] x v pads_S8x4096x560_S8x4099x560_000_300_000 h_S_) ]
theorem part3_3_sub : HostOnly (F := F) part3_3 :=
  ⟨unary_bufs_sub .., binary_bufs_sub ..⟩
abbrev part3_3_W : List (Ref sig .tc) := [main_call18_v0, main_v183]
theorem part3_3_writes : WritesIn (F := F) part3_3 part3_3_W := forall_writes_sub_of_map rfl

abbrev part3_4 : Ops F :=
  [ unary main_v183 main_v184 ((extractStridedSlice S8x4096x560 ![0, 0, 0] · slices_S8x4099x560_S8x4096x560_0_0_0) : C F S8x4099x560 .f32 → C F S8x4096x560 .f32),
    unary main_v165 main_v185 ((extractStridedSlice S560x1 ![0, 0] · slices_S560x4_S560x1_0_0) : C F S560x4 .f32 → C F S560x1 .f32),
    reshape main_v185 main_v186 (rfl : (.f32 : EltTy) = .f32) shapeCasts_S560x1_S560,
    unary main_v186 main_v187 (broadcastInDim S1x1x560 ![2] bcast_S560_S1x1x560_2 : C F S560 .f32 → C F S1x1x560 .f32),
    unary main_v187 main_v188 (broadcastInDim S8x4096x560 ![0, 1, 2] bcast_S1x1x560_S8x4096x560_0_1_2 : C F S1x1x560 .f32 → C F S8x4096x560 .f32),
    binary main_v184 main_v188 main_v189 (mulf : C F S8x4096x560 .f32 → C F S8x4096x560 .f32 → C F S8x4096x560 .f32),
    nullary main_cst_9 (constant S_ .f32 0x00000000#32),
    unary main_cst_9 main_v190 (broadcastInDim S8x4096x560 ![] bcast_S_S8x4096x560 : C F S_ .f32 → C F S8x4096x560 .f32),
    binary main_v190 main_v189 main_v191 (addf : C F S8x4096x560 .f32 → C F S8x4096x560 .f32 → C F S8x4096x560 .f32),
    unary main_v183 main_v192 ((extractStridedSlice S8x4096x560 ![0, 1, 0] · slices_S8x4099x560_S8x4096x560_0_1_0) : C F S8x4099x560 .f32 → C F S8x4096x560 .f32),
    unary main_v165 main_v193 ((extractStridedSlice S560x1 ![0, 1] · slices_S560x4_S560x1_0_1) : C F S560x4 .f32 → C F S560x1 .f32),
    reshape main_v193 main_v194 (rfl : (.f32 : EltTy) = .f32) shapeCasts_S560x1_S560,
    unary main_v194 main_v195 (broadcastInDim S1x1x560 ![2] bcast_S560_S1x1x560_2 : C F S560 .f32 → C F S1x1x560 .f32),
    unary main_v195 main_v196 (broadcastInDim S8x4096x560 ![0, 1, 2] bcast_S1x1x560_S8x4096x560_0_1_2 : C F S1x1x560 .f32 → C F S8x4096x560 .f32),
    binary main_v192 main_v196 main_v197 (mulf : C F S8x4096x560 .f32 → C F S8x4096x560 .f32 → C F S8x4096x560 .f32),
    binary main_v191 main_v197 main_v198 (addf : C F S8x4096x560 .f32 → C F S8x4096x560 .f32 → C F S8x4096x560 .f32),
    unary main_v183 main_v199 ((extractStridedSlice S8x4096x560 ![0, 2, 0] · slices_S8x4099x560_S8x4096x560_0_2_0) : C F S8x4099x560 .f32 → C F S8x4096x560 .f32),
    unary main_v165 main_v200 ((extractStridedSlice S560x1 ![0, 2] · slices_S560x4_S560x1_0_2) : C F S560x4 .f32 → C F S560x1 .f32),
    reshape main_v200 main_v201 (rfl : (.f32 : EltTy) = .f32) shapeCasts_S560x1_S560,
    unary main_v201 main_v202 (broadcastInDim S1x1x560 ![2] bcast_S560_S1x1x560_2 : C F S560 .f32 → C F S1x1x560 .f32),
    unary main_v202 main_v203 (broadcastInDim S8x4096x560 ![0, 1, 2] bcast_S1x1x560_S8x4096x560_0_1_2 : C F S1x1x560 .f32 → C F S8x4096x560 .f32),
    binary main_v199 main_v203 main_v204 (mulf : C F S8x4096x560 .f32 → C F S8x4096x560 .f32 → C F S8x4096x560 .f32),
    binary main_v198 main_v204 main_v205 (addf : C F S8x4096x560 .f32 → C F S8x4096x560 .f32 → C F S8x4096x560 .f32),
    unary main_v183 main_v206 ((extractStridedSlice S8x4096x560 ![0, 3, 0] · slices_S8x4099x560_S8x4096x560_0_3_0) : C F S8x4099x560 .f32 → C F S8x4096x560 .f32),
    unary main_v165 main_v207 ((extractStridedSlice S560x1 ![0, 3] · slices_S560x4_S560x1_0_3) : C F S560x4 .f32 → C F S560x1 .f32),
    reshape main_v207 main_v208 (rfl : (.f32 : EltTy) = .f32) shapeCasts_S560x1_S560,
    unary main_v208 main_v209 (broadcastInDim S1x1x560 ![2] bcast_S560_S1x1x560_2 : C F S560 .f32 → C F S1x1x560 .f32),
    unary main_v209 main_v210 (broadcastInDim S8x4096x560 ![0, 1, 2] bcast_S1x1x560_S8x4096x560_0_1_2 : C F S1x1x560 .f32 → C F S8x4096x560 .f32),
    binary main_v206 main_v210 main_v211 (mulf : C F S8x4096x560 .f32 → C F S8x4096x560 .f32 → C F S8x4096x560 .f32) ]
theorem part3_4_sub : HostOnly (F := F) part3_4 :=
  ⟨unary_bufs_sub .., unary_bufs_sub .., reshape_bufs_sub .., unary_bufs_sub .., unary_bufs_sub .., binary_bufs_sub .., nullary_bufs_sub .., unary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub .., binary_bufs_sub .., unary_bufs_sub .., unary_bufs_sub .., reshape_bufs_sub .., unary_bufs_sub .., unary_bufs_sub .., binary_bufs_sub ..⟩
abbrev part3_4_W : List (Ref sig .tc) := [main_v184, main_v185, main_v186, main_v187, main_v188, main_v189, main_cst_9, main_v190, main_v191, main_v192, main_v193, main_v194, main_v195, main_v196, main_v197, main_v198, main_v199, main_v200, main_v201, main_v202, main_v203, main_v204, main_v205, main_v206, main_v207, main_v208, main_v209, main_v210, main_v211]
theorem part3_4_writes : WritesIn (F := F) part3_4 part3_4_W := forall_writes_sub_of_map rfl

theorem main_part3_chain (c : Dev nD) : main_part3 (F := F) c = (Pipeline.chainK
  [ seq part3_0,
    seq part3_1,
    seq part3_2,
    seq part3_3 ]
  (seq part3_4) : Host F) := by
  rewrite [chainK_seq_cons, Pipeline.chainK_cons, chainK_seq_cons, Pipeline.chainK_cons]
  chain_rfl

/-! ### Window 4 of the program -/

abbrev part4_0 : Ops F :=
  [ binary main_v205 main_v211 main_v212 (addf : C F S8x4096x560 .f32 → C F S8x4096x560 .f32 → C F S8x4096x560 .f32),
    unary main_v167 main_v213 (broadcastInDim S1x1x560 ![2] bcast_S560_S1x1x560_2 : C F S560 .f32 → C F S1x1x560 .f32),
    unary main_v213 main_v214 (broadcastInDim S8x4096x560 ![0, 1, 2] bcast_S1x1x560_S8x4096x560_0_1_2 : C F S1x1x560 .f32 → C F S8x4096x560 .f32),
    binary main_v212 main_v214 main_v215 (addf : C F S8x4096x560 .f32 → C F S8x4096x560 .f32 → C F S8x4096x560 .f32) ]
theorem part4_0_sub : HostOnly (F := F) part4_0 :=
  ⟨binary_bufs_sub .., unary_bufs_sub .., unary_bufs_sub .., binary_bufs_sub ..⟩
abbrev part4_0_W : List (Ref sig .tc) := [main_v212, main_v213, main_v214, main_v215]
theorem part4_0_writes : WritesIn (F := F) part4_0 part4_0_W := forall_writes_sub_of_map rfl

abbrev part4_1 : Ops F :=
  [ TRef.unary (.of main_v215 : B S8x4096x560 .f32) (.of main_call19_v0 : B S8x4096x560 .f32) Host.negf,
    TRef.unary (.of main_call19_v0 : B S8x4096x560 .f32) (.of main_call19_v1 : B S8x4096x560 .f32) Host.exp,
    TRef.nullary (.of main_call19_cst : B S_ .f32) (constant S_ .f32 0x3F800000#32),
    TRef.unary (.of main_call19_cst : B S_ .f32) (.of main_call19_v2 : B S8x4096x560 .f32) (broadcastInDim S8x4096x560 ![] bcast_S_S8x4096x560),
    TRef.binary (.of main_call19_v2 : B S8x4096x560 .f32) (.of main_call19_v1 : B S8x4096x560 .f32) (.of main_call19_v3 : B S8x4096x560 .f32) addf,
    TRef.nullary (.of main_call19_cst_0 : B S_ .f32) (constant S_ .f32 0x3F800000#32),
    TRef.unary (.of main_call19_cst_0 : B S_ .f32) (.of main_call19_v4 : B S8x4096x560 .f32) (broadcastInDim S8x4096x560 ![] bcast_S_S8x4096x560),
    TRef.binary (.of main_call19_v4 : B S8x4096x560 .f32) (.of main_call19_v3 : B S8x4096x560 .f32) (.of main_call19_v5 : B S8x4096x560 .f32) Host.divf,
    TRef.binary (.of main_v215 : B S8x4096x560 .f32) (.of main_call19_v5 : B S8x4096x560 .f32) (.of main_v216 : B S8x4096x560 .f32) mulf ]
theorem part4_1_sub : HostOnly (F := F) part4_1 :=
  ⟨unary_bufs_sub .., unary_bufs_sub .., nullary_bufs_sub .., unary_bufs_sub .., binary_bufs_sub .., nullary_bufs_sub .., unary_bufs_sub .., binary_bufs_sub .., binary_bufs_sub ..⟩
abbrev part4_1_W : List (Ref sig .tc) := [main_call19_v0, main_call19_v1, main_call19_cst, main_call19_v2, main_call19_v3, main_call19_cst_0, main_call19_v4, main_call19_v5, main_v216]
theorem part4_1_writes : WritesIn (F := F) part4_1 part4_1_W := forall_writes_sub_of_map rfl

abbrev part4_2 : Ops F :=
  [ binary main_v216 main_v169 main_v217 ((fun l r => Host.dotGeneral dot_S8x4096x560_S50x560_S8x4096x50_2_1_01_0_n_n none l r) : C F S8x4096x560 .f32 → C F S50x560 .f32 → C F S8x4096x50 .f32),
    unary main_v217 main_v218 ((extractStridedSlice S8x4096x18 ![0, 0, 0] · slices_S8x4096x50_S8x4096x18_0_0_0) : C F S8x4096x50 .f32 → C F S8x4096x18 .f32),
    unary main_v217 main_v219 ((extractStridedSlice S8x4096x16 ![0, 0, 18] · slices_S8x4096x50_S8x4096x16_0_0_18) : C F S8x4096x50 .f32 → C F S8x4096x16 .f32),
    unary main_v217 main_v220 ((extractStridedSlice S8x4096x16 ![0, 0, 34] · slices_S8x4096x50_S8x4096x16_0_0_34) : C F S8x4096x50 .f32 → C F S8x4096x16 .f32),
    binary main_v218 main_v171 main_v221 ((fun l r => Host.dotGeneral dot_S8x4096x18_S560x18_S8x4096x560_2_1_01_0_n_n none l r) : C F S8x4096x18 .f32 → C F S560x18 .f32 → C F S8x4096x560 .f32),
    unary main_v173 main_v222 (broadcastInDim S1x1x560 ![2] bcast_S560_S1x1x560_2 : C F S560 .f32 → C F S1x1x560 .f32),
    unary main_v222 main_v223 (broadcastInDim S8x4096x560 ![0, 1, 2] bcast_S1x1x560_S8x4096x560_0_1_2 : C F S1x1x560 .f32 → C F S8x4096x560 .f32),
    binary main_v221 main_v223 main_v224 (addf : C F S8x4096x560 .f32 → C F S8x4096x560 .f32 → C F S8x4096x560 .f32) ]
theorem part4_2_sub : HostOnly (F := F) part4_2 :=
  ⟨binary_bufs_sub .., unary_bufs_sub .., unary_bufs_sub .., unary_bufs_sub .., binary_bufs_sub .., unary_bufs_sub .., unary_bufs_sub .., binary_bufs_sub ..⟩
abbrev part4_2_W : List (Ref sig .tc) := [main_v217, main_v218, main_v219, main_v220, main_v221, main_v222, main_v223, main_v224]
theorem part4_2_writes : WritesIn (F := F) part4_2 part4_2_W := forall_writes_sub_of_map rfl

abbrev part4_3 : Ops F :=
  [ TRef.nullary (.of main_call20_cst : B S_ .f32) (constant S_ .f32 0x00000000#32),
    TRef.unary (.of main_call20_cst : B S_ .f32) (.of main_call20_v0 : B S8x4096x560 .f32) (broadcastInDim S8x4096x560 ![] bcast_S_S8x4096x560),
    TRef.binary (.of main_v224 : B S8x4096x560 .f32) (.of main_call20_v0 : B S8x4096x560 .f32) (.of main_call20_v1 : B S8x4096x560 .f32) maximumf,
    TRef.unary (.of main_call20_cst : B S_ .f32) (.of main_call20_v2 : B S8x4096x560 .f32) (broadcastInDim S8x4096x560 ![] bcast_S_S8x4096x560),
    TRef.binary (.of main_v224 : B S8x4096x560 .f32) (.of main_call20_v2 : B S8x4096x560 .f32) (.of main_call20_v3 : B S8x4096x560 .f32) subf,
    TRef.binary (.of main_call20_v3 : B S8x4096x560 .f32) (.of main_call20_v3 : B S8x4096x560 .f32) (.of main_call20_v4 : B S8x4096x560 .i1) (cmpf .une),
    TRef.unary (.of main_call20_cst : B S_ .f32) (.of main_call20_v5 : B S8x4096x560 .f32) (broadcastInDim S8x4096x560 ![] bcast_S_S8x4096x560),
    TRef.binary (.of main_v224 : B S8x4096x560 .f32) (.of main_call20_v5 : B S8x4096x560 .f32) (.of main_call20_v6 : B S8x4096x560 .f32) addf,
    TRef.unary (.of main_call20_v3 : B S8x4096x560 .f32) (.of main_call20_v7 : B S8x4096x560 .f32) Host.absf,
    TRef.unary (.of main_call20_v7 : B S8x4096x560 .f32) (.of main_call20_v8 : B S8x4096x560 .f32) Host.negf,
    TRef.unary (.of main_call20_v8 : B S8x4096x560 .f32) (.of main_call20_v9 : B S8x4096x560 .f32) Host.exp,
    TRef.unary (.of main_call20_v9 : B S8x4096x560 .f32) (.of main_call20_v10 : B S8x4096x560 .f32) Host.log1p,
    TRef.binary (.of main_call20_v1 : B S8x4096x560 .f32) (.of main_call20_v10 : B S8x4096x560 .f32) (.of main_call20_v11 : B S8x4096x560 .f32) addf,
    TRef.ternary (.of main_call20_v4 : B S8x4096x560 .i1) (.of main_call20_v6 : B S8x4096x560 .f32) (.of main_call20_v11 : B S8x4096x560 .f32) (.of main_v225 : B S8x4096x560 .f32) select ]
theorem part4_3_sub : HostOnly (F := F) part4_3 :=
  ⟨nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
abbrev part4_3_W : List (Ref sig .tc) := [main_call20_cst, main_call20_v0, main_call20_v1, main_call20_v2, main_call20_v3, main_call20_v4, main_call20_v5, main_call20_v6, main_call20_v7, main_call20_v8, main_call20_v9, main_call20_v10, main_call20_v11, main_v225]
theorem part4_3_writes : WritesIn (F := F) part4_3 part4_3_W := forall_writes_sub_of_map rfl

abbrev part4_4 : Ops F :=
  [ unary main_v175 main_v226 (Host.exp : C F S560x16 .f32 → C F S560x16 .f32),
    unary main_v226 main_v227 (Host.negf : C F S560x16 .f32 → C F S560x16 .f32),
    nullary main_cst_10 (constant S_ .f32 0x00000000#32),
    unary main_cst_10 main_v228 (broadcastInDim S8x560x16 ![] bcast_S_S8x560x16 : C F S_ .f32 → C F S8x560x16 .f32),
    unary main_v216 main_v229 ((transpose S4096x8x560 [1, 0, 2] · transposes_S8x4096x560_S4096x8x560_1_0_2) : C F S8x4096x560 .f32 → C F S4096x8x560 .f32),
    unary main_v225 main_v230 ((transpose S4096x8x560 [1, 0, 2] · transposes_S8x4096x560_S4096x8x560_1_0_2) : C F S8x4096x560 .f32 → C F S4096x8x560 .f32),
    unary main_v219 main_v231 ((transpose S4096x8x16 [1, 0, 2] · transposes_S8x4096x16_S4096x8x16_1_0_2) : C F S8x4096x16 .f32 → C F S4096x8x16 .f32),
    unary main_v220 main_v232 ((transpose S4096x8x16 [1, 0, 2] · transposes_S8x4096x16_S4096x8x16_1_0_2) : C F S8x4096x16 .f32 → C F S4096x8x16 .f32),
    nullary main_cst_11 (constant S_ .f32 0x00000000#32),
    unary main_cst_11 main_v233 (broadcastInDim S4096x8x560 ![] bcast_S_S4096x8x560 : C F S_ .f32 → C F S4096x8x560 .f32),
    nullary main_c_12 (constantI S_ 32 0#32),
    unary main_v229 main_v234_0 id,
    unary main_v230 main_v234_1 id,
    unary main_v231 main_v234_2 id,
    unary main_v232 main_v234_3 id,
    unary main_v227 main_v234_4 id,
    unary main_c_12 main_v234_5 id,
    unary main_v228 main_v234_6 id,
    unary main_v233 main_v234_7 id ]
theorem part4_4_sub : HostOnly (F := F) part4_4 :=
  ⟨unary_bufs_sub .., unary_bufs_sub .., nullary_bufs_sub .., unary_bufs_sub .., unary_bufs_sub .., unary_bufs_sub .., unary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
abbrev part4_4_W : List (Ref sig .tc) := [main_v226, main_v227, main_cst_10, main_v228, main_v229, main_v230, main_v231, main_v232, main_cst_11, main_v233, main_c_12, main_v234_0, main_v234_1, main_v234_2, main_v234_3, main_v234_4, main_v234_5, main_v234_6, main_v234_7]
theorem part4_4_writes : WritesIn (F := F) part4_4 part4_4_W := forall_writes_sub_of_map rfl

abbrev part4_5 : Ops F :=
  [ unary main_v234_7 main_v235 ((transpose S8x4096x560 [1, 0, 2] · transposes_S4096x8x560_S8x4096x560_1_0_2) : C F S4096x8x560 .f32 → C F S8x4096x560 .f32),
    unary main_v177 main_v236 (broadcastInDim S1x1x560 ![2] bcast_S560_S1x1x560_2 : C F S560 .f32 → C F S1x1x560 .f32),
    unary main_v236 main_v237 (broadcastInDim S8x4096x560 ![0, 1, 2] bcast_S1x1x560_S8x4096x560_0_1_2 : C F S1x1x560 .f32 → C F S8x4096x560 .f32),
    binary main_v216 main_v237 main_v238 (mulf : C F S8x4096x560 .f32 → C F S8x4096x560 .f32 → C F S8x4096x560 .f32),
    binary main_v235 main_v238 main_v239 (addf : C F S8x4096x560 .f32 → C F S8x4096x560 .f32 → C F S8x4096x560 .f32) ]
theorem part4_5_sub : HostOnly (F := F) part4_5 :=
  ⟨unary_bufs_sub .., unary_bufs_sub .., unary_bufs_sub .., binary_bufs_sub .., binary_bufs_sub ..⟩
abbrev part4_5_W : List (Ref sig .tc) := [main_v235, main_v236, main_v237, main_v238, main_v239]
theorem part4_5_writes : WritesIn (F := F) part4_5 part4_5_W := forall_writes_sub_of_map rfl

abbrev part4_6 : Ops F :=
  [ TRef.unary (.of main_v182 : B S8x4096x560 .f32) (.of main_call26_v0 : B S8x4096x560 .f32) Host.negf,
    TRef.unary (.of main_call26_v0 : B S8x4096x560 .f32) (.of main_call26_v1 : B S8x4096x560 .f32) Host.exp,
    TRef.nullary (.of main_call26_cst : B S_ .f32) (constant S_ .f32 0x3F800000#32),
    TRef.unary (.of main_call26_cst : B S_ .f32) (.of main_call26_v2 : B S8x4096x560 .f32) (broadcastInDim S8x4096x560 ![] bcast_S_S8x4096x560),
    TRef.binary (.of main_call26_v2 : B S8x4096x560 .f32) (.of main_call26_v1 : B S8x4096x560 .f32) (.of main_call26_v3 : B S8x4096x560 .f32) addf,
    TRef.nullary (.of main_call26_cst_0 : B S_ .f32) (constant S_ .f32 0x3F800000#32),
    TRef.unary (.of main_call26_cst_0 : B S_ .f32) (.of main_call26_v4 : B S8x4096x560 .f32) (broadcastInDim S8x4096x560 ![] bcast_S_S8x4096x560),
    TRef.binary (.of main_call26_v4 : B S8x4096x560 .f32) (.of main_call26_v3 : B S8x4096x560 .f32) (.of main_call26_v5 : B S8x4096x560 .f32) Host.divf,
    TRef.binary (.of main_v182 : B S8x4096x560 .f32) (.of main_call26_v5 : B S8x4096x560 .f32) (.of main_v240 : B S8x4096x560 .f32) mulf ]
theorem part4_6_sub : HostOnly (F := F) part4_6 :=
  ⟨unary_bufs_sub .., unary_bufs_sub .., nullary_bufs_sub .., unary_bufs_sub .., binary_bufs_sub .., nullary_bufs_sub .., unary_bufs_sub .., binary_bufs_sub .., binary_bufs_sub ..⟩
abbrev part4_6_W : List (Ref sig .tc) := [main_call26_v0, main_call26_v1, main_call26_cst, main_call26_v2, main_call26_v3, main_call26_cst_0, main_call26_v4, main_call26_v5, main_v240]
theorem part4_6_writes : WritesIn (F := F) part4_6 part4_6_W := forall_writes_sub_of_map rfl

abbrev part4_7 : Ops F :=
  [ binary main_v239 main_v240 main_v241 (mulf : C F S8x4096x560 .f32 → C F S8x4096x560 .f32 → C F S8x4096x560 .f32),
    binary main_v241 main_v179 main_v242 ((fun l r => Host.dotGeneral dot_S8x4096x560_S280x560_S8x4096x280_2_1_01_0_n_n none l r) : C F S8x4096x560 .f32 → C F S280x560 .f32 → C F S8x4096x280 .f32) ]
theorem part4_7_sub : HostOnly (F := F) part4_7 :=
  ⟨binary_bufs_sub .., binary_bufs_sub ..⟩
abbrev part4_7_W : List (Ref sig .tc) := [main_v241, main_v242]
theorem part4_7_writes : WritesIn (F := F) part4_7 part4_7_W := forall_writes_sub_of_map rfl

theorem main_part4_chain (c : Dev nD) : main_part4 (F := F) c = (Pipeline.chain
  [ seq part4_0,
    seq part4_1,
    seq part4_2,
    seq part4_3,
    seq part4_4,
    HostLoop.enter 2,
    seq part4_5,
    seq part4_6,
    seq part4_7 ] : Host F) := by
  rewrite [chain_seq_cons, Pipeline.chain_cons, chain_seq_cons, Pipeline.chain_cons, chain_seq_cons, Pipeline.chain_cons, chain_seq_cons, Pipeline.chain_cons, chain_seq_cons]
  chain_rfl

/-- The program is its stretches and its three loops in order. -/
theorem main_chain (c : Dev nD) : main (F := F) c = (Pipeline.chain
  [ seq part0_0,
    seq part0_1,
    seq part0_2,
    seq part0_3,
    seq part0_4,
    seq part1_0,
    seq part1_1,
    seq part1_2,
    HostLoop.enter 0,
    seq part1_3,
    seq part1_4,
    seq part1_5,
    seq part1_6,
    seq part1_7,
    seq part2_0,
    seq part2_1,
    seq part2_2,
    seq part2_3,
    seq part2_4,
    HostLoop.enter 1,
    seq part3_0,
    seq part3_1,
    seq part3_2,
    seq part3_3,
    seq part3_4,
    seq part4_0,
    seq part4_1,
    seq part4_2,
    seq part4_3,
    seq part4_4,
    HostLoop.enter 2,
    seq part4_5,
    seq part4_6,
    seq part4_7 ] : Host F) := by
  show (main_part0 (F := F) c >>= fun _ => main_part1 (F := F) c >>= fun _ => main_part2 (F := F) c >>= fun _ => main_part3 (F := F) c >>= fun _ => main_part4 (F := F) c) = _
  rewrite [main_part4_chain, main_part3_chain, Pipeline.chainK_bind_chain, main_part2_chain, Pipeline.chainK_bind_chain, main_part1_chain, Pipeline.chainK_bind_chain, main_part0_chain, Pipeline.chainK_bind_chain]
  chain_rfl

/-! ### The body of loop 0 -/

abbrev body0_0 : Ops F :=
  [ TRef.nullary (.of main_while0b_call3_c : B S_ .i32) (constantI S_ 32 0#32),
    TRef.nullary (.of main_while0b_call3_c_0 : B S_ .i32) (constantI S_ 32 0#32),
    TRef.unaryIndexed (.of main_v72_0 : B S4096x8x560 .f32) ![(.of main_v72_5 : B S_ .i32), (.of main_while0b_call3_c : B S_ .i32), (.of main_while0b_call3_c_0 : B S_ .i32)] (.of main_while0b_call3_v0 : B S1x8x560 .f32) (fun x i => Host.dynamicSlice S1x8x560 x (fun k => (i k (Shape.Idx.first h_S_)).toInt) sliceFits_S4096x8x560_S1x8x560),
    TRef.reshape (.of main_while0b_call3_v0 : B S1x8x560 .f32) (.of main_while0b_v243 : B S8x560 .f32) (rfl : (.f32 : EltTy) = .f32) shapeCasts_S1x8x560_S8x560 ]
theorem body0_0_sub : HostOnly (F := F) body0_0 :=
  ⟨nullary_bufs_sub .., nullary_bufs_sub .., unaryIndexed_bufs_sub .., reshape_bufs_sub ..⟩
abbrev body0_0_W : List (Ref sig .tc) := [main_while0b_call3_c, main_while0b_call3_c_0, main_while0b_call3_v0, main_while0b_v243]
theorem body0_0_writes : WritesIn (F := F) body0_0 body0_0_W := forall_writes_sub_of_map rfl

abbrev body0_1 : Ops F :=
  [ TRef.nullary (.of main_while0b_call4_c : B S_ .i32) (constantI S_ 32 0#32),
    TRef.nullary (.of main_while0b_call4_c_0 : B S_ .i32) (constantI S_ 32 0#32),
    TRef.unaryIndexed (.of main_v72_1 : B S4096x8x560 .f32) ![(.of main_v72_5 : B S_ .i32), (.of main_while0b_call4_c : B S_ .i32), (.of main_while0b_call4_c_0 : B S_ .i32)] (.of main_while0b_call4_v0 : B S1x8x560 .f32) (fun x i => Host.dynamicSlice S1x8x560 x (fun k => (i k (Shape.Idx.first h_S_)).toInt) sliceFits_S4096x8x560_S1x8x560),
    TRef.reshape (.of main_while0b_call4_v0 : B S1x8x560 .f32) (.of main_while0b_v244 : B S8x560 .f32) (rfl : (.f32 : EltTy) = .f32) shapeCasts_S1x8x560_S8x560 ]
theorem body0_1_sub : HostOnly (F := F) body0_1 :=
  ⟨nullary_bufs_sub .., nullary_bufs_sub .., unaryIndexed_bufs_sub .., reshape_bufs_sub ..⟩
abbrev body0_1_W : List (Ref sig .tc) := [main_while0b_call4_c, main_while0b_call4_c_0, main_while0b_call4_v0, main_while0b_v244]
theorem body0_1_writes : WritesIn (F := F) body0_1 body0_1_W := forall_writes_sub_of_map rfl

abbrev body0_2 : Ops F :=
  [ TRef.nullary (.of main_while0b_call5_c : B S_ .i32) (constantI S_ 32 0#32),
    TRef.nullary (.of main_while0b_call5_c_0 : B S_ .i32) (constantI S_ 32 0#32),
    TRef.unaryIndexed (.of main_v72_2 : B S4096x8x16 .f32) ![(.of main_v72_5 : B S_ .i32), (.of main_while0b_call5_c : B S_ .i32), (.of main_while0b_call5_c_0 : B S_ .i32)] (.of main_while0b_call5_v0 : B S1x8x16 .f32) (fun x i => Host.dynamicSlice S1x8x16 x (fun k => (i k (Shape.Idx.first h_S_)).toInt) sliceFits_S4096x8x16_S1x8x16),
    TRef.reshape (.of main_while0b_call5_v0 : B S1x8x16 .f32) (.of main_while0b_v245 : B S8x16 .f32) (rfl : (.f32 : EltTy) = .f32) shapeCasts_S1x8x16_S8x16 ]
theorem body0_2_sub : HostOnly (F := F) body0_2 :=
  ⟨nullary_bufs_sub .., nullary_bufs_sub .., unaryIndexed_bufs_sub .., reshape_bufs_sub ..⟩
abbrev body0_2_W : List (Ref sig .tc) := [main_while0b_call5_c, main_while0b_call5_c_0, main_while0b_call5_v0, main_while0b_v245]
theorem body0_2_writes : WritesIn (F := F) body0_2 body0_2_W := forall_writes_sub_of_map rfl

abbrev body0_3 : Ops F :=
  [ TRef.nullary (.of main_while0b_call6_c : B S_ .i32) (constantI S_ 32 0#32),
    TRef.nullary (.of main_while0b_call6_c_0 : B S_ .i32) (constantI S_ 32 0#32),
    TRef.unaryIndexed (.of main_v72_3 : B S4096x8x16 .f32) ![(.of main_v72_5 : B S_ .i32), (.of main_while0b_call6_c : B S_ .i32), (.of main_while0b_call6_c_0 : B S_ .i32)] (.of main_while0b_call6_v0 : B S1x8x16 .f32) (fun x i => Host.dynamicSlice S1x8x16 x (fun k => (i k (Shape.Idx.first h_S_)).toInt) sliceFits_S4096x8x16_S1x8x16),
    TRef.reshape (.of main_while0b_call6_v0 : B S1x8x16 .f32) (.of main_while0b_v246 : B S8x16 .f32) (rfl : (.f32 : EltTy) = .f32) shapeCasts_S1x8x16_S8x16 ]
theorem body0_3_sub : HostOnly (F := F) body0_3 :=
  ⟨nullary_bufs_sub .., nullary_bufs_sub .., unaryIndexed_bufs_sub .., reshape_bufs_sub ..⟩
abbrev body0_3_W : List (Ref sig .tc) := [main_while0b_call6_c, main_while0b_call6_c_0, main_while0b_call6_v0, main_while0b_v246]
theorem body0_3_writes : WritesIn (F := F) body0_3 body0_3_W := forall_writes_sub_of_map rfl

abbrev body0_4 : Ops F :=
  [ unary main_while0b_v244 main_while0b_v247 (broadcastInDim S8x560x1 ![0, 1] bcast_S8x560_S8x560x1_0_1 : C F S8x560 .f32 → C F S8x560x1 .f32),
    unary main_v72_4 main_while0b_v248 (broadcastInDim S1x560x16 ![1, 2] bcast_S560x16_S1x560x16_1_2 : C F S560x16 .f32 → C F S1x560x16 .f32),
    unary main_while0b_v247 main_while0b_v249 (broadcastInDim S8x560x16 ![0, 1, 2] bcast_S8x560x1_S8x560x16_0_1_2 : C F S8x560x1 .f32 → C F S8x560x16 .f32),
    unary main_while0b_v248 main_while0b_v250 (broadcastInDim S8x560x16 ![0, 1, 2] bcast_S1x560x16_S8x560x16_0_1_2 : C F S1x560x16 .f32 → C F S8x560x16 .f32),
    binary main_while0b_v249 main_while0b_v250 main_while0b_v251 (mulf : C F S8x560x16 .f32 → C F S8x560x16 .f32 → C F S8x560x16 .f32),
    unary main_while0b_v251 main_while0b_v252 (Host.exp : C F S8x560x16 .f32 → C F S8x560x16 .f32),
    binary main_while0b_v252 main_v72_6 main_while0b_v253 (mulf : C F S8x560x16 .f32 → C F S8x560x16 .f32 → C F S8x560x16 .f32),
    binary main_while0b_v244 main_while0b_v243 main_while0b_v254 (mulf : C F S8x560 .f32 → C F S8x560 .f32 → C F S8x560 .f32),
    unary main_while0b_v254 main_while0b_v255 (broadcastInDim S8x560x1 ![0, 1] bcast_S8x560_S8x560x1_0_1 : C F S8x560 .f32 → C F S8x560x1 .f32),
    unary main_while0b_v245 main_while0b_v256 (broadcastInDim S8x1x16 ![0, 2] bcast_S8x16_S8x1x16_0_2 : C F S8x16 .f32 → C F S8x1x16 .f32),
    unary main_while0b_v255 main_while0b_v257 (broadcastInDim S8x560x16 ![0, 1, 2] bcast_S8x560x1_S8x560x16_0_1_2 : C F S8x560x1 .f32 → C F S8x560x16 .f32),
    unary main_while0b_v256 main_while0b_v258 (broadcastInDim S8x560x16 ![0, 1, 2] bcast_S8x1x16_S8x560x16_0_1_2 : C F S8x1x16 .f32 → C F S8x560x16 .f32),
    binary main_while0b_v257 main_while0b_v258 main_while0b_v259 (mulf : C F S8x560x16 .f32 → C F S8x560x16 .f32 → C F S8x560x16 .f32),
    binary main_while0b_v253 main_while0b_v259 main_while0b_v260 (addf : C F S8x560x16 .f32 → C F S8x560x16 .f32 → C F S8x560x16 .f32),
    binary main_while0b_v260 main_while0b_v246 main_while0b_v261 ((fun l r => Host.dotGeneral dot_S8x560x16_S8x16_S8x560_2_1_1_n_0_0 none l r) : C F S8x560x16 .f32 → C F S8x16 .f32 → C F S8x560 .f32) ]
theorem body0_4_sub : HostOnly (F := F) body0_4 :=
  ⟨unary_bufs_sub .., unary_bufs_sub .., unary_bufs_sub .., unary_bufs_sub .., binary_bufs_sub .., unary_bufs_sub .., binary_bufs_sub .., binary_bufs_sub .., unary_bufs_sub .., unary_bufs_sub .., unary_bufs_sub .., unary_bufs_sub .., binary_bufs_sub .., binary_bufs_sub .., binary_bufs_sub ..⟩
abbrev body0_4_W : List (Ref sig .tc) := [main_while0b_v247, main_while0b_v248, main_while0b_v249, main_while0b_v250, main_while0b_v251, main_while0b_v252, main_while0b_v253, main_while0b_v254, main_while0b_v255, main_while0b_v256, main_while0b_v257, main_while0b_v258, main_while0b_v259, main_while0b_v260, main_while0b_v261]
theorem body0_4_writes : WritesIn (F := F) body0_4 body0_4_W := forall_writes_sub_of_map rfl

abbrev body0_5 : Ops F :=
  [ TRef.unary (.of main_while0b_v261 : B S8x560 .f32) (.of main_while0b_call7_v0 : B S1x8x560 .f32) (broadcastInDim S1x8x560 ![1, 2] bcast_S8x560_S1x8x560_1_2),
    TRef.nullary (.of main_while0b_call7_c : B S_ .i32) (constantI S_ 32 0#32),
    TRef.nullary (.of main_while0b_call7_c_0 : B S_ .i32) (constantI S_ 32 0#32),
    TRef.binaryIndexed (.of main_v72_7 : B S4096x8x560 .f32) (.of main_while0b_call7_v0 : B S1x8x560 .f32) ![(.of main_v72_5 : B S_ .i32), (.of main_while0b_call7_c : B S_ .i32), (.of main_while0b_call7_c_0 : B S_ .i32)] (.of main_while0b_v262 : B S4096x8x560 .f32) (fun x u i => Host.dynamicUpdateSlice x u (fun k => (i k (Shape.Idx.first h_S_)).toInt) updateFits_S4096x8x560_S1x8x560) ]
theorem body0_5_sub : HostOnly (F := F) body0_5 :=
  ⟨unary_bufs_sub .., nullary_bufs_sub .., nullary_bufs_sub .., binaryIndexed_bufs_sub ..⟩
abbrev body0_5_W : List (Ref sig .tc) := [main_while0b_call7_v0, main_while0b_call7_c, main_while0b_call7_c_0, main_while0b_v262]
theorem body0_5_writes : WritesIn (F := F) body0_5 body0_5_W := forall_writes_sub_of_map rfl

abbrev body0_6 : Ops F :=
  [ nullary main_while0b_c_20 (constantI S_ 32 1#32),
    binary main_v72_5 main_while0b_c_20 main_while0b_v263 (addi : C F S_ .i32 → C F S_ .i32 → C F S_ .i32),
    unary main_while0b_v263 main_v72_5 id,
    unary main_while0b_v260 main_v72_6 id,
    unary main_while0b_v262 main_v72_7 id ]
theorem body0_6_sub : HostOnly (F := F) body0_6 :=
  ⟨nullary_bufs_sub .., binary_bufs_sub .., unary_bufs_sub .., unary_bufs_sub .., unary_bufs_sub ..⟩
abbrev body0_6_W : List (Ref sig .tc) := [main_while0b_c_20, main_while0b_v263, main_v72_5, main_v72_6, main_v72_7]
theorem body0_6_writes : WritesIn (F := F) body0_6 body0_6_W := forall_writes_sub_of_map rfl

theorem while0_body_chain : main_while0_body (F := F) = (Pipeline.chain
  [ seq body0_0,
    seq body0_1,
    seq body0_2,
    seq body0_3,
    seq body0_4,
    seq body0_5,
    seq body0_6 ] : Host F) := by
  rewrite [Pipeline.chain_cons, Pipeline.chain_cons, Pipeline.chain_cons, Pipeline.chain_cons, chain_seq_cons, Pipeline.chain_cons, chain_seq_cons]
  chain_rfl

/-! ### The body of loop 1 -/

abbrev body1_0 : Ops F :=
  [ TRef.nullary (.of main_while1b_call12_c : B S_ .i32) (constantI S_ 32 0#32),
    TRef.nullary (.of main_while1b_call12_c_0 : B S_ .i32) (constantI S_ 32 0#32),
    TRef.unaryIndexed (.of main_v153_0 : B S4096x8x560 .f32) ![(.of main_v153_5 : B S_ .i32), (.of main_while1b_call12_c : B S_ .i32), (.of main_while1b_call12_c_0 : B S_ .i32)] (.of main_while1b_call12_v0 : B S1x8x560 .f32) (fun x i => Host.dynamicSlice S1x8x560 x (fun k => (i k (Shape.Idx.first h_S_)).toInt) sliceFits_S4096x8x560_S1x8x560),
    TRef.reshape (.of main_while1b_call12_v0 : B S1x8x560 .f32) (.of main_while1b_v243 : B S8x560 .f32) (rfl : (.f32 : EltTy) = .f32) shapeCasts_S1x8x560_S8x560 ]
theorem body1_0_sub : HostOnly (F := F) body1_0 :=
  ⟨nullary_bufs_sub .., nullary_bufs_sub .., unaryIndexed_bufs_sub .., reshape_bufs_sub ..⟩
abbrev body1_0_W : List (Ref sig .tc) := [main_while1b_call12_c, main_while1b_call12_c_0, main_while1b_call12_v0, main_while1b_v243]
theorem body1_0_writes : WritesIn (F := F) body1_0 body1_0_W := forall_writes_sub_of_map rfl

abbrev body1_1 : Ops F :=
  [ TRef.nullary (.of main_while1b_call13_c : B S_ .i32) (constantI S_ 32 0#32),
    TRef.nullary (.of main_while1b_call13_c_0 : B S_ .i32) (constantI S_ 32 0#32),
    TRef.unaryIndexed (.of main_v153_1 : B S4096x8x560 .f32) ![(.of main_v153_5 : B S_ .i32), (.of main_while1b_call13_c : B S_ .i32), (.of main_while1b_call13_c_0 : B S_ .i32)] (.of main_while1b_call13_v0 : B S1x8x560 .f32) (fun x i => Host.dynamicSlice S1x8x560 x (fun k => (i k (Shape.Idx.first h_S_)).toInt) sliceFits_S4096x8x560_S1x8x560),
    TRef.reshape (.of main_while1b_call13_v0 : B S1x8x560 .f32) (.of main_while1b_v244 : B S8x560 .f32) (rfl : (.f32 : EltTy) = .f32) shapeCasts_S1x8x560_S8x560 ]
theorem body1_1_sub : HostOnly (F := F) body1_1 :=
  ⟨nullary_bufs_sub .., nullary_bufs_sub .., unaryIndexed_bufs_sub .., reshape_bufs_sub ..⟩
abbrev body1_1_W : List (Ref sig .tc) := [main_while1b_call13_c, main_while1b_call13_c_0, main_while1b_call13_v0, main_while1b_v244]
theorem body1_1_writes : WritesIn (F := F) body1_1 body1_1_W := forall_writes_sub_of_map rfl

abbrev body1_2 : Ops F :=
  [ TRef.nullary (.of main_while1b_call14_c : B S_ .i32) (constantI S_ 32 0#32),
    TRef.nullary (.of main_while1b_call14_c_0 : B S_ .i32) (constantI S_ 32 0#32),
    TRef.unaryIndexed (.of main_v153_2 : B S4096x8x16 .f32) ![(.of main_v153_5 : B S_ .i32), (.of main_while1b_call14_c : B S_ .i32), (.of main_while1b_call14_c_0 : B S_ .i32)] (.of main_while1b_call14_v0 : B S1x8x16 .f32) (fun x i => Host.dynamicSlice S1x8x16 x (fun k => (i k (Shape.Idx.first h_S_)).toInt) sliceFits_S4096x8x16_S1x8x16),
    TRef.reshape (.of main_while1b_call14_v0 : B S1x8x16 .f32) (.of main_while1b_v245 : B S8x16 .f32) (rfl : (.f32 : EltTy) = .f32) shapeCasts_S1x8x16_S8x16 ]
theorem body1_2_sub : HostOnly (F := F) body1_2 :=
  ⟨nullary_bufs_sub .., nullary_bufs_sub .., unaryIndexed_bufs_sub .., reshape_bufs_sub ..⟩
abbrev body1_2_W : List (Ref sig .tc) := [main_while1b_call14_c, main_while1b_call14_c_0, main_while1b_call14_v0, main_while1b_v245]
theorem body1_2_writes : WritesIn (F := F) body1_2 body1_2_W := forall_writes_sub_of_map rfl

abbrev body1_3 : Ops F :=
  [ TRef.nullary (.of main_while1b_call15_c : B S_ .i32) (constantI S_ 32 0#32),
    TRef.nullary (.of main_while1b_call15_c_0 : B S_ .i32) (constantI S_ 32 0#32),
    TRef.unaryIndexed (.of main_v153_3 : B S4096x8x16 .f32) ![(.of main_v153_5 : B S_ .i32), (.of main_while1b_call15_c : B S_ .i32), (.of main_while1b_call15_c_0 : B S_ .i32)] (.of main_while1b_call15_v0 : B S1x8x16 .f32) (fun x i => Host.dynamicSlice S1x8x16 x (fun k => (i k (Shape.Idx.first h_S_)).toInt) sliceFits_S4096x8x16_S1x8x16),
    TRef.reshape (.of main_while1b_call15_v0 : B S1x8x16 .f32) (.of main_while1b_v246 : B S8x16 .f32) (rfl : (.f32 : EltTy) = .f32) shapeCasts_S1x8x16_S8x16 ]
theorem body1_3_sub : HostOnly (F := F) body1_3 :=
  ⟨nullary_bufs_sub .., nullary_bufs_sub .., unaryIndexed_bufs_sub .., reshape_bufs_sub ..⟩
abbrev body1_3_W : List (Ref sig .tc) := [main_while1b_call15_c, main_while1b_call15_c_0, main_while1b_call15_v0, main_while1b_v246]
theorem body1_3_writes : WritesIn (F := F) body1_3 body1_3_W := forall_writes_sub_of_map rfl

abbrev body1_4 : Ops F :=
  [ unary main_while1b_v244 main_while1b_v247 (broadcastInDim S8x560x1 ![0, 1] bcast_S8x560_S8x560x1_0_1 : C F S8x560 .f32 → C F S8x560x1 .f32),
    unary main_v153_4 main_while1b_v248 (broadcastInDim S1x560x16 ![1, 2] bcast_S560x16_S1x560x16_1_2 : C F S560x16 .f32 → C F S1x560x16 .f32),
    unary main_while1b_v247 main_while1b_v249 (broadcastInDim S8x560x16 ![0, 1, 2] bcast_S8x560x1_S8x560x16_0_1_2 : C F S8x560x1 .f32 → C F S8x560x16 .f32),
    unary main_while1b_v248 main_while1b_v250 (broadcastInDim S8x560x16 ![0, 1, 2] bcast_S1x560x16_S8x560x16_0_1_2 : C F S1x560x16 .f32 → C F S8x560x16 .f32),
    binary main_while1b_v249 main_while1b_v250 main_while1b_v251 (mulf : C F S8x560x16 .f32 → C F S8x560x16 .f32 → C F S8x560x16 .f32),
    unary main_while1b_v251 main_while1b_v252 (Host.exp : C F S8x560x16 .f32 → C F S8x560x16 .f32),
    binary main_while1b_v252 main_v153_6 main_while1b_v253 (mulf : C F S8x560x16 .f32 → C F S8x560x16 .f32 → C F S8x560x16 .f32),
    binary main_while1b_v244 main_while1b_v243 main_while1b_v254 (mulf : C F S8x560 .f32 → C F S8x560 .f32 → C F S8x560 .f32),
    unary main_while1b_v254 main_while1b_v255 (broadcastInDim S8x560x1 ![0, 1] bcast_S8x560_S8x560x1_0_1 : C F S8x560 .f32 → C F S8x560x1 .f32),
    unary main_while1b_v245 main_while1b_v256 (broadcastInDim S8x1x16 ![0, 2] bcast_S8x16_S8x1x16_0_2 : C F S8x16 .f32 → C F S8x1x16 .f32),
    unary main_while1b_v255 main_while1b_v257 (broadcastInDim S8x560x16 ![0, 1, 2] bcast_S8x560x1_S8x560x16_0_1_2 : C F S8x560x1 .f32 → C F S8x560x16 .f32),
    unary main_while1b_v256 main_while1b_v258 (broadcastInDim S8x560x16 ![0, 1, 2] bcast_S8x1x16_S8x560x16_0_1_2 : C F S8x1x16 .f32 → C F S8x560x16 .f32),
    binary main_while1b_v257 main_while1b_v258 main_while1b_v259 (mulf : C F S8x560x16 .f32 → C F S8x560x16 .f32 → C F S8x560x16 .f32),
    binary main_while1b_v253 main_while1b_v259 main_while1b_v260 (addf : C F S8x560x16 .f32 → C F S8x560x16 .f32 → C F S8x560x16 .f32),
    binary main_while1b_v260 main_while1b_v246 main_while1b_v261 ((fun l r => Host.dotGeneral dot_S8x560x16_S8x16_S8x560_2_1_1_n_0_0 none l r) : C F S8x560x16 .f32 → C F S8x16 .f32 → C F S8x560 .f32) ]
theorem body1_4_sub : HostOnly (F := F) body1_4 :=
  ⟨unary_bufs_sub .., unary_bufs_sub .., unary_bufs_sub .., unary_bufs_sub .., binary_bufs_sub .., unary_bufs_sub .., binary_bufs_sub .., binary_bufs_sub .., unary_bufs_sub .., unary_bufs_sub .., unary_bufs_sub .., unary_bufs_sub .., binary_bufs_sub .., binary_bufs_sub .., binary_bufs_sub ..⟩
abbrev body1_4_W : List (Ref sig .tc) := [main_while1b_v247, main_while1b_v248, main_while1b_v249, main_while1b_v250, main_while1b_v251, main_while1b_v252, main_while1b_v253, main_while1b_v254, main_while1b_v255, main_while1b_v256, main_while1b_v257, main_while1b_v258, main_while1b_v259, main_while1b_v260, main_while1b_v261]
theorem body1_4_writes : WritesIn (F := F) body1_4 body1_4_W := forall_writes_sub_of_map rfl

abbrev body1_5 : Ops F :=
  [ TRef.unary (.of main_while1b_v261 : B S8x560 .f32) (.of main_while1b_call16_v0 : B S1x8x560 .f32) (broadcastInDim S1x8x560 ![1, 2] bcast_S8x560_S1x8x560_1_2),
    TRef.nullary (.of main_while1b_call16_c : B S_ .i32) (constantI S_ 32 0#32),
    TRef.nullary (.of main_while1b_call16_c_0 : B S_ .i32) (constantI S_ 32 0#32),
    TRef.binaryIndexed (.of main_v153_7 : B S4096x8x560 .f32) (.of main_while1b_call16_v0 : B S1x8x560 .f32) ![(.of main_v153_5 : B S_ .i32), (.of main_while1b_call16_c : B S_ .i32), (.of main_while1b_call16_c_0 : B S_ .i32)] (.of main_while1b_v262 : B S4096x8x560 .f32) (fun x u i => Host.dynamicUpdateSlice x u (fun k => (i k (Shape.Idx.first h_S_)).toInt) updateFits_S4096x8x560_S1x8x560) ]
theorem body1_5_sub : HostOnly (F := F) body1_5 :=
  ⟨unary_bufs_sub .., nullary_bufs_sub .., nullary_bufs_sub .., binaryIndexed_bufs_sub ..⟩
abbrev body1_5_W : List (Ref sig .tc) := [main_while1b_call16_v0, main_while1b_call16_c, main_while1b_call16_c_0, main_while1b_v262]
theorem body1_5_writes : WritesIn (F := F) body1_5 body1_5_W := forall_writes_sub_of_map rfl

abbrev body1_6 : Ops F :=
  [ nullary main_while1b_c_20 (constantI S_ 32 1#32),
    binary main_v153_5 main_while1b_c_20 main_while1b_v263 (addi : C F S_ .i32 → C F S_ .i32 → C F S_ .i32),
    unary main_while1b_v263 main_v153_5 id,
    unary main_while1b_v260 main_v153_6 id,
    unary main_while1b_v262 main_v153_7 id ]
theorem body1_6_sub : HostOnly (F := F) body1_6 :=
  ⟨nullary_bufs_sub .., binary_bufs_sub .., unary_bufs_sub .., unary_bufs_sub .., unary_bufs_sub ..⟩
abbrev body1_6_W : List (Ref sig .tc) := [main_while1b_c_20, main_while1b_v263, main_v153_5, main_v153_6, main_v153_7]
theorem body1_6_writes : WritesIn (F := F) body1_6 body1_6_W := forall_writes_sub_of_map rfl

theorem while1_body_chain : main_while1_body (F := F) = (Pipeline.chain
  [ seq body1_0,
    seq body1_1,
    seq body1_2,
    seq body1_3,
    seq body1_4,
    seq body1_5,
    seq body1_6 ] : Host F) := by
  rewrite [Pipeline.chain_cons, Pipeline.chain_cons, Pipeline.chain_cons, Pipeline.chain_cons, chain_seq_cons, Pipeline.chain_cons, chain_seq_cons]
  chain_rfl

/-! ### The body of loop 2 -/

abbrev body2_0 : Ops F :=
  [ TRef.nullary (.of main_while2b_call21_c : B S_ .i32) (constantI S_ 32 0#32),
    TRef.nullary (.of main_while2b_call21_c_0 : B S_ .i32) (constantI S_ 32 0#32),
    TRef.unaryIndexed (.of main_v234_0 : B S4096x8x560 .f32) ![(.of main_v234_5 : B S_ .i32), (.of main_while2b_call21_c : B S_ .i32), (.of main_while2b_call21_c_0 : B S_ .i32)] (.of main_while2b_call21_v0 : B S1x8x560 .f32) (fun x i => Host.dynamicSlice S1x8x560 x (fun k => (i k (Shape.Idx.first h_S_)).toInt) sliceFits_S4096x8x560_S1x8x560),
    TRef.reshape (.of main_while2b_call21_v0 : B S1x8x560 .f32) (.of main_while2b_v243 : B S8x560 .f32) (rfl : (.f32 : EltTy) = .f32) shapeCasts_S1x8x560_S8x560 ]
theorem body2_0_sub : HostOnly (F := F) body2_0 :=
  ⟨nullary_bufs_sub .., nullary_bufs_sub .., unaryIndexed_bufs_sub .., reshape_bufs_sub ..⟩
abbrev body2_0_W : List (Ref sig .tc) := [main_while2b_call21_c, main_while2b_call21_c_0, main_while2b_call21_v0, main_while2b_v243]
theorem body2_0_writes : WritesIn (F := F) body2_0 body2_0_W := forall_writes_sub_of_map rfl

abbrev body2_1 : Ops F :=
  [ TRef.nullary (.of main_while2b_call22_c : B S_ .i32) (constantI S_ 32 0#32),
    TRef.nullary (.of main_while2b_call22_c_0 : B S_ .i32) (constantI S_ 32 0#32),
    TRef.unaryIndexed (.of main_v234_1 : B S4096x8x560 .f32) ![(.of main_v234_5 : B S_ .i32), (.of main_while2b_call22_c : B S_ .i32), (.of main_while2b_call22_c_0 : B S_ .i32)] (.of main_while2b_call22_v0 : B S1x8x560 .f32) (fun x i => Host.dynamicSlice S1x8x560 x (fun k => (i k (Shape.Idx.first h_S_)).toInt) sliceFits_S4096x8x560_S1x8x560),
    TRef.reshape (.of main_while2b_call22_v0 : B S1x8x560 .f32) (.of main_while2b_v244 : B S8x560 .f32) (rfl : (.f32 : EltTy) = .f32) shapeCasts_S1x8x560_S8x560 ]
theorem body2_1_sub : HostOnly (F := F) body2_1 :=
  ⟨nullary_bufs_sub .., nullary_bufs_sub .., unaryIndexed_bufs_sub .., reshape_bufs_sub ..⟩
abbrev body2_1_W : List (Ref sig .tc) := [main_while2b_call22_c, main_while2b_call22_c_0, main_while2b_call22_v0, main_while2b_v244]
theorem body2_1_writes : WritesIn (F := F) body2_1 body2_1_W := forall_writes_sub_of_map rfl

abbrev body2_2 : Ops F :=
  [ TRef.nullary (.of main_while2b_call23_c : B S_ .i32) (constantI S_ 32 0#32),
    TRef.nullary (.of main_while2b_call23_c_0 : B S_ .i32) (constantI S_ 32 0#32),
    TRef.unaryIndexed (.of main_v234_2 : B S4096x8x16 .f32) ![(.of main_v234_5 : B S_ .i32), (.of main_while2b_call23_c : B S_ .i32), (.of main_while2b_call23_c_0 : B S_ .i32)] (.of main_while2b_call23_v0 : B S1x8x16 .f32) (fun x i => Host.dynamicSlice S1x8x16 x (fun k => (i k (Shape.Idx.first h_S_)).toInt) sliceFits_S4096x8x16_S1x8x16),
    TRef.reshape (.of main_while2b_call23_v0 : B S1x8x16 .f32) (.of main_while2b_v245 : B S8x16 .f32) (rfl : (.f32 : EltTy) = .f32) shapeCasts_S1x8x16_S8x16 ]
theorem body2_2_sub : HostOnly (F := F) body2_2 :=
  ⟨nullary_bufs_sub .., nullary_bufs_sub .., unaryIndexed_bufs_sub .., reshape_bufs_sub ..⟩
abbrev body2_2_W : List (Ref sig .tc) := [main_while2b_call23_c, main_while2b_call23_c_0, main_while2b_call23_v0, main_while2b_v245]
theorem body2_2_writes : WritesIn (F := F) body2_2 body2_2_W := forall_writes_sub_of_map rfl

abbrev body2_3 : Ops F :=
  [ TRef.nullary (.of main_while2b_call24_c : B S_ .i32) (constantI S_ 32 0#32),
    TRef.nullary (.of main_while2b_call24_c_0 : B S_ .i32) (constantI S_ 32 0#32),
    TRef.unaryIndexed (.of main_v234_3 : B S4096x8x16 .f32) ![(.of main_v234_5 : B S_ .i32), (.of main_while2b_call24_c : B S_ .i32), (.of main_while2b_call24_c_0 : B S_ .i32)] (.of main_while2b_call24_v0 : B S1x8x16 .f32) (fun x i => Host.dynamicSlice S1x8x16 x (fun k => (i k (Shape.Idx.first h_S_)).toInt) sliceFits_S4096x8x16_S1x8x16),
    TRef.reshape (.of main_while2b_call24_v0 : B S1x8x16 .f32) (.of main_while2b_v246 : B S8x16 .f32) (rfl : (.f32 : EltTy) = .f32) shapeCasts_S1x8x16_S8x16 ]
theorem body2_3_sub : HostOnly (F := F) body2_3 :=
  ⟨nullary_bufs_sub .., nullary_bufs_sub .., unaryIndexed_bufs_sub .., reshape_bufs_sub ..⟩
abbrev body2_3_W : List (Ref sig .tc) := [main_while2b_call24_c, main_while2b_call24_c_0, main_while2b_call24_v0, main_while2b_v246]
theorem body2_3_writes : WritesIn (F := F) body2_3 body2_3_W := forall_writes_sub_of_map rfl

abbrev body2_4 : Ops F :=
  [ unary main_while2b_v244 main_while2b_v247 (broadcastInDim S8x560x1 ![0, 1] bcast_S8x560_S8x560x1_0_1 : C F S8x560 .f32 → C F S8x560x1 .f32),
    unary main_v234_4 main_while2b_v248 (broadcastInDim S1x560x16 ![1, 2] bcast_S560x16_S1x560x16_1_2 : C F S560x16 .f32 → C F S1x560x16 .f32),
    unary main_while2b_v247 main_while2b_v249 (broadcastInDim S8x560x16 ![0, 1, 2] bcast_S8x560x1_S8x560x16_0_1_2 : C F S8x560x1 .f32 → C F S8x560x16 .f32),
    unary main_while2b_v248 main_while2b_v250 (broadcastInDim S8x560x16 ![0, 1, 2] bcast_S1x560x16_S8x560x16_0_1_2 : C F S1x560x16 .f32 → C F S8x560x16 .f32),
    binary main_while2b_v249 main_while2b_v250 main_while2b_v251 (mulf : C F S8x560x16 .f32 → C F S8x560x16 .f32 → C F S8x560x16 .f32),
    unary main_while2b_v251 main_while2b_v252 (Host.exp : C F S8x560x16 .f32 → C F S8x560x16 .f32),
    binary main_while2b_v252 main_v234_6 main_while2b_v253 (mulf : C F S8x560x16 .f32 → C F S8x560x16 .f32 → C F S8x560x16 .f32),
    binary main_while2b_v244 main_while2b_v243 main_while2b_v254 (mulf : C F S8x560 .f32 → C F S8x560 .f32 → C F S8x560 .f32),
    unary main_while2b_v254 main_while2b_v255 (broadcastInDim S8x560x1 ![0, 1] bcast_S8x560_S8x560x1_0_1 : C F S8x560 .f32 → C F S8x560x1 .f32),
    unary main_while2b_v245 main_while2b_v256 (broadcastInDim S8x1x16 ![0, 2] bcast_S8x16_S8x1x16_0_2 : C F S8x16 .f32 → C F S8x1x16 .f32),
    unary main_while2b_v255 main_while2b_v257 (broadcastInDim S8x560x16 ![0, 1, 2] bcast_S8x560x1_S8x560x16_0_1_2 : C F S8x560x1 .f32 → C F S8x560x16 .f32),
    unary main_while2b_v256 main_while2b_v258 (broadcastInDim S8x560x16 ![0, 1, 2] bcast_S8x1x16_S8x560x16_0_1_2 : C F S8x1x16 .f32 → C F S8x560x16 .f32),
    binary main_while2b_v257 main_while2b_v258 main_while2b_v259 (mulf : C F S8x560x16 .f32 → C F S8x560x16 .f32 → C F S8x560x16 .f32),
    binary main_while2b_v253 main_while2b_v259 main_while2b_v260 (addf : C F S8x560x16 .f32 → C F S8x560x16 .f32 → C F S8x560x16 .f32),
    binary main_while2b_v260 main_while2b_v246 main_while2b_v261 ((fun l r => Host.dotGeneral dot_S8x560x16_S8x16_S8x560_2_1_1_n_0_0 none l r) : C F S8x560x16 .f32 → C F S8x16 .f32 → C F S8x560 .f32) ]
theorem body2_4_sub : HostOnly (F := F) body2_4 :=
  ⟨unary_bufs_sub .., unary_bufs_sub .., unary_bufs_sub .., unary_bufs_sub .., binary_bufs_sub .., unary_bufs_sub .., binary_bufs_sub .., binary_bufs_sub .., unary_bufs_sub .., unary_bufs_sub .., unary_bufs_sub .., unary_bufs_sub .., binary_bufs_sub .., binary_bufs_sub .., binary_bufs_sub ..⟩
abbrev body2_4_W : List (Ref sig .tc) := [main_while2b_v247, main_while2b_v248, main_while2b_v249, main_while2b_v250, main_while2b_v251, main_while2b_v252, main_while2b_v253, main_while2b_v254, main_while2b_v255, main_while2b_v256, main_while2b_v257, main_while2b_v258, main_while2b_v259, main_while2b_v260, main_while2b_v261]
theorem body2_4_writes : WritesIn (F := F) body2_4 body2_4_W := forall_writes_sub_of_map rfl

abbrev body2_5 : Ops F :=
  [ TRef.unary (.of main_while2b_v261 : B S8x560 .f32) (.of main_while2b_call25_v0 : B S1x8x560 .f32) (broadcastInDim S1x8x560 ![1, 2] bcast_S8x560_S1x8x560_1_2),
    TRef.nullary (.of main_while2b_call25_c : B S_ .i32) (constantI S_ 32 0#32),
    TRef.nullary (.of main_while2b_call25_c_0 : B S_ .i32) (constantI S_ 32 0#32),
    TRef.binaryIndexed (.of main_v234_7 : B S4096x8x560 .f32) (.of main_while2b_call25_v0 : B S1x8x560 .f32) ![(.of main_v234_5 : B S_ .i32), (.of main_while2b_call25_c : B S_ .i32), (.of main_while2b_call25_c_0 : B S_ .i32)] (.of main_while2b_v262 : B S4096x8x560 .f32) (fun x u i => Host.dynamicUpdateSlice x u (fun k => (i k (Shape.Idx.first h_S_)).toInt) updateFits_S4096x8x560_S1x8x560) ]
theorem body2_5_sub : HostOnly (F := F) body2_5 :=
  ⟨unary_bufs_sub .., nullary_bufs_sub .., nullary_bufs_sub .., binaryIndexed_bufs_sub ..⟩
abbrev body2_5_W : List (Ref sig .tc) := [main_while2b_call25_v0, main_while2b_call25_c, main_while2b_call25_c_0, main_while2b_v262]
theorem body2_5_writes : WritesIn (F := F) body2_5 body2_5_W := forall_writes_sub_of_map rfl

abbrev body2_6 : Ops F :=
  [ nullary main_while2b_c_20 (constantI S_ 32 1#32),
    binary main_v234_5 main_while2b_c_20 main_while2b_v263 (addi : C F S_ .i32 → C F S_ .i32 → C F S_ .i32),
    unary main_while2b_v263 main_v234_5 id,
    unary main_while2b_v260 main_v234_6 id,
    unary main_while2b_v262 main_v234_7 id ]
theorem body2_6_sub : HostOnly (F := F) body2_6 :=
  ⟨nullary_bufs_sub .., binary_bufs_sub .., unary_bufs_sub .., unary_bufs_sub .., unary_bufs_sub ..⟩
abbrev body2_6_W : List (Ref sig .tc) := [main_while2b_c_20, main_while2b_v263, main_v234_5, main_v234_6, main_v234_7]
theorem body2_6_writes : WritesIn (F := F) body2_6 body2_6_W := forall_writes_sub_of_map rfl

theorem while2_body_chain : main_while2_body (F := F) = (Pipeline.chain
  [ seq body2_0,
    seq body2_1,
    seq body2_2,
    seq body2_3,
    seq body2_4,
    seq body2_5,
    seq body2_6 ] : Host F) := by
  rewrite [Pipeline.chain_cons, Pipeline.chain_cons, Pipeline.chain_cons, Pipeline.chain_cons, chain_seq_cons, Pipeline.chain_cons, chain_seq_cons]
  chain_rfl

end Cert.ReferenceIdeal.Run
-- ==== Proof.RefRun.lean ====
/- The run of the reference program: its three counted loops among its stretches of operations, every buffer at the end, and that it leaves its arguments alone. -/
module

public import proofs.«01_k».proof.Proof.RefOps
public import Idealize.ShloMosaic.Lib.Pipeline.RegionsLoop

@[expose] public section

set_option maxRecDepth 16384

noncomputable section

namespace Cert.ReferenceIdeal.Run

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Cert.ReferenceIdeal.Gen
open Idealize.ShloMosaic.Pipeline (CSeg Ticket ucRefs sub_ucRefs)

variable {F : FTy → Type} [FloatOps F]

local notation "𝕄" => MT nD τ sig Unit (Elt F) ℕ (Option PUnit) ℕ

/-! ## What lists of stretches leave alone -/

/-- Each stretch writes only the buffers listed beside it. -/
abbrev Writes (items : List (Ops F)) (Ws : List (List (Ref sig .tc))) : Prop :=
  List.Forall₂ (fun ops W => ops.Forall fun op => op.writes ⊆ (W.map (Proc.devRef (τ := τ) .tc)).toFinset) items Ws

/-- A buffer outside the written ones keeps its contents. -/
theorem kept {items : List (Ops F)} {Ws : List (List (Ref sig .tc))} (h : Writes items Ws) (r : Ref sig .tc) (hr : ∀ W ∈ Ws, r ∉ W) :
    ∀ V : Valuation τ sig (Elt F), afterL items V (Proc.devRef .tc r) = V (Proc.devRef .tc r) := by
  induction h with
  | nil => exact fun _ => rfl
  | cons h _ ih =>
    intro V
    rw [afterL_cons, ih (fun W hW => hr W (List.mem_cons_of_mem _ hW))]
    exact after_of_writes_sub _ V h (hr _ List.mem_cons_self)

/-- So it does through any number of trips of a loop. -/
theorem kept_trips {cond : Ops F} {C : List (Ref sig .tc)} (hc : cond.Forall fun op => op.writes ⊆ (C.map (Proc.devRef (τ := τ) .tc)).toFinset)
    {body : List (Ops F)} {Ws : List (List (Ref sig .tc))} (h : Writes body Ws) (r : Ref sig .tc) (hC : r ∉ C) (hr : ∀ W ∈ Ws, r ∉ W)
    (W₀ : Dev nD → Valuation τ sig (Elt F)) (c : Dev nD) : ∀ k, atTrip cond body W₀ k c (Proc.devRef .tc r) = W₀ c (Proc.devRef .tc r)
  | 0 => rfl
  | k + 1 => by
    rw [atTrip_succ, kept h r hr, after_of_writes_sub cond _ hc hC]
    exact kept_trips hc h r hC hr W₀ c k

/-- A counter that starts at zero and is raised by one in each trip is the trip's number. -/
theorem counted {cond : Ops F} {body : List (Ops F)} (rd : Valuation τ sig (Elt F) → Vec F S_ .i32)
    (hs : ∀ X, rd (afterL body (after cond X)) = addi (rd X) (constantI S_ 32 1#32))
    (W₀ : Dev nD → Valuation τ sig (Elt F)) (c : Dev nD) (h0 : rd (W₀ c) = fun _ => (0#32 : BitVec 32)) :
    ∀ k, rd (atTrip cond body W₀ k c) = fun _ => Scf.iv 0#32 1#32 k
  | 0 => by rw [atTrip_zero, h0, Scf.iv_zero]
  | k + 1 => by
    rw [atTrip_succ, hs, counted rd hs W₀ c h0 k, Scf.iv_succ]
    rfl

/-! ## The stretches around the loops and the loops' bodies -/

abbrev pre0 : List (Ops F) := [part0_0, part0_1, part0_2, part0_3, part0_4, part1_0, part1_1, part1_2]
theorem pre0_plain : Plain (pre0 (F := F)) := .cons part0_0_sub (.cons part0_1_sub (.cons part0_2_sub (.cons part0_3_sub (.cons part0_4_sub (.cons part1_0_sub (.cons part1_1_sub (.cons part1_2_sub (.nil))))))))
abbrev pre0_W : List (List (Ref sig .tc)) := [part0_0_W, part0_1_W, part0_2_W, part0_3_W, part0_4_W, part1_0_W, part1_1_W, part1_2_W]
theorem pre0_writes : Writes (pre0 (F := F)) pre0_W := .cons part0_0_writes (.cons part0_1_writes (.cons part0_2_writes (.cons part0_3_writes (.cons part0_4_writes (.cons part1_0_writes (.cons part1_1_writes (.cons part1_2_writes (.nil))))))))

abbrev mid1 : List (Ops F) := [part1_3, part1_4, part1_5, part1_6, part1_7, part2_0, part2_1, part2_2, part2_3, part2_4]
theorem mid1_plain : Plain (mid1 (F := F)) := .cons part1_3_sub (.cons part1_4_sub (.cons part1_5_sub (.cons part1_6_sub (.cons part1_7_sub (.cons part2_0_sub (.cons part2_1_sub (.cons part2_2_sub (.cons part2_3_sub (.cons part2_4_sub (.nil))))))))))
abbrev mid1_W : List (List (Ref sig .tc)) := [part1_3_W, part1_4_W, part1_5_W, part1_6_W, part1_7_W, part2_0_W, part2_1_W, part2_2_W, part2_3_W, part2_4_W]
theorem mid1_writes : Writes (mid1 (F := F)) mid1_W := .cons part1_3_writes (.cons part1_4_writes (.cons part1_5_writes (.cons part1_6_writes (.cons part1_7_writes (.cons part2_0_writes (.cons part2_1_writes (.cons part2_2_writes (.cons part2_3_writes (.cons part2_4_writes (.nil))))))))))

abbrev mid2 : List (Ops F) := [part3_0, part3_1, part3_2, part3_3, part3_4, part4_0, part4_1, part4_2, part4_3, part4_4]
theorem mid2_plain : Plain (mid2 (F := F)) := .cons part3_0_sub (.cons part3_1_sub (.cons part3_2_sub (.cons part3_3_sub (.cons part3_4_sub (.cons part4_0_sub (.cons part4_1_sub (.cons part4_2_sub (.cons part4_3_sub (.cons part4_4_sub (.nil))))))))))
abbrev mid2_W : List (List (Ref sig .tc)) := [part3_0_W, part3_1_W, part3_2_W, part3_3_W, part3_4_W, part4_0_W, part4_1_W, part4_2_W, part4_3_W, part4_4_W]
theorem mid2_writes : Writes (mid2 (F := F)) mid2_W := .cons part3_0_writes (.cons part3_1_writes (.cons part3_2_writes (.cons part3_3_writes (.cons part3_4_writes (.cons part4_0_writes (.cons part4_1_writes (.cons part4_2_writes (.cons part4_3_writes (.cons part4_4_writes (.nil))))))))))

abbrev post : List (Ops F) := [part4_5, part4_6, part4_7]
theorem post_plain : Plain (post (F := F)) := .cons part4_5_sub (.cons part4_6_sub (.cons part4_7_sub (.nil)))
abbrev post_W : List (List (Ref sig .tc)) := [part4_5_W, part4_6_W, part4_7_W]
theorem post_writes : Writes (post (F := F)) post_W := .cons part4_5_writes (.cons part4_6_writes (.cons part4_7_writes (.nil)))

abbrev loop0 : List (Ops F) := [body0_0, body0_1, body0_2, body0_3, body0_4, body0_5, body0_6]
theorem loop0_plain : Plain (loop0 (F := F)) := .cons body0_0_sub (.cons body0_1_sub (.cons body0_2_sub (.cons body0_3_sub (.cons body0_4_sub (.cons body0_5_sub (.cons body0_6_sub (.nil)))))))
abbrev loop0_W : List (List (Ref sig .tc)) := [body0_0_W, body0_1_W, body0_2_W, body0_3_W, body0_4_W, body0_5_W, body0_6_W]
theorem loop0_writes : Writes (loop0 (F := F)) loop0_W := .cons body0_0_writes (.cons body0_1_writes (.cons body0_2_writes (.cons body0_3_writes (.cons body0_4_writes (.cons body0_5_writes (.cons body0_6_writes (.nil)))))))

abbrev loop1 : List (Ops F) := [body1_0, body1_1, body1_2, body1_3, body1_4, body1_5, body1_6]
theorem loop1_plain : Plain (loop1 (F := F)) := .cons body1_0_sub (.cons body1_1_sub (.cons body1_2_sub (.cons body1_3_sub (.cons body1_4_sub (.cons body1_5_sub (.cons body1_6_sub (.nil)))))))
abbrev loop1_W : List (List (Ref sig .tc)) := [body1_0_W, body1_1_W, body1_2_W, body1_3_W, body1_4_W, body1_5_W, body1_6_W]
theorem loop1_writes : Writes (loop1 (F := F)) loop1_W := .cons body1_0_writes (.cons body1_1_writes (.cons body1_2_writes (.cons body1_3_writes (.cons body1_4_writes (.cons body1_5_writes (.cons body1_6_writes (.nil)))))))

abbrev loop2 : List (Ops F) := [body2_0, body2_1, body2_2, body2_3, body2_4, body2_5, body2_6]
theorem loop2_plain : Plain (loop2 (F := F)) := .cons body2_0_sub (.cons body2_1_sub (.cons body2_2_sub (.cons body2_3_sub (.cons body2_4_sub (.cons body2_5_sub (.cons body2_6_sub (.nil)))))))
abbrev loop2_W : List (List (Ref sig .tc)) := [body2_0_W, body2_1_W, body2_2_W, body2_3_W, body2_4_W, body2_5_W, body2_6_W]
theorem loop2_writes : Writes (loop2 (F := F)) loop2_W := .cons body2_0_writes (.cons body2_1_writes (.cons body2_2_writes (.cons body2_3_writes (.cons body2_4_writes (.cons body2_5_writes (.cons body2_6_writes (.nil)))))))

abbrev cond0 : Ops F :=
  [ StableHlo.nullary main_while0c_c_20 (constantI S_ 32 4096#32),
    StableHlo.binary main_v72_5 main_while0c_c_20 main_while0c_v243 (cmpi .slt) ]
abbrev cond0_W : List (Ref sig .tc) := [main_while0c_c_20, main_while0c_v243]
theorem cond0_writes : (cond0 : Ops F).Forall fun op => op.writes ⊆ (cond0_W.map (Proc.devRef (τ := τ) .tc)).toFinset :=
  StableHlo.forall_writes_sub_of_map rfl

abbrev cond1 : Ops F :=
  [ StableHlo.nullary main_while1c_c_20 (constantI S_ 32 4096#32),
    StableHlo.binary main_v153_5 main_while1c_c_20 main_while1c_v243 (cmpi .slt) ]
abbrev cond1_W : List (Ref sig .tc) := [main_while1c_c_20, main_while1c_v243]
theorem cond1_writes : (cond1 : Ops F).Forall fun op => op.writes ⊆ (cond1_W.map (Proc.devRef (τ := τ) .tc)).toFinset :=
  StableHlo.forall_writes_sub_of_map rfl

abbrev cond2 : Ops F :=
  [ StableHlo.nullary main_while2c_c_20 (constantI S_ 32 4096#32),
    StableHlo.binary main_v234_5 main_while2c_c_20 main_while2c_v243 (cmpi .slt) ]
abbrev cond2_W : List (Ref sig .tc) := [main_while2c_c_20, main_while2c_v243]
theorem cond2_writes : (cond2 : Ops F).Forall fun op => op.writes ⊆ (cond2_W.map (Proc.devRef (τ := τ) .tc)).toFinset :=
  StableHlo.forall_writes_sub_of_map rfl

/-! ## The contents on the way -/

variable (m : (ℓ : Loc nD τ sig) → Buf (Elt F) ℓ)

/-- At the first loop's entry. -/
def R1 (c : Dev nD) : Valuation τ sig (Elt F) := afterL pre0 (launchContents m c)
/-- After the first loop. -/
def R2 (c : Dev nD) : Valuation τ sig (Elt F) := after cond0 (atTrip cond0 loop0 (R1 m) 4096 c)
/-- At the second loop's entry. -/
def R3 (c : Dev nD) : Valuation τ sig (Elt F) := afterL mid1 (R2 m c)
/-- After the second loop. -/
def R4 (c : Dev nD) : Valuation τ sig (Elt F) := after cond1 (atTrip cond1 loop1 (R3 m) 4096 c)
/-- At the third loop's entry. -/
def R5 (c : Dev nD) : Valuation τ sig (Elt F) := afterL mid2 (R4 m c)
/-- After the third loop. -/
def R6 (c : Dev nD) : Valuation τ sig (Elt F) := after cond2 (atTrip cond2 loop2 (R5 m) 4096 c)
/-- At the end. -/
def R7 (c : Dev nD) : Valuation τ sig (Elt F) := afterL post (R6 m c)

/-- What is carried unchanged beside the buffers. -/
abbrev beside (c : Dev nD) : sProp 𝕄 := iprop(∃ W, owes (c : Thread nD τ) (0 : CellTallies nD τ sig Unit) W)

theorem step0 (X : Valuation τ sig (Elt F)) : afterL loop0 (after cond0 X) (Proc.devRef .tc main_v72_5)
    = addi (X (Proc.devRef .tc main_v72_5)) (constantI S_ 32 1#32) := by
  have h : ∀ Y : Valuation τ sig (Elt F), after body0_6 Y (Proc.devRef .tc main_v72_5) = addi (Y (Proc.devRef .tc main_v72_5)) (constantI S_ 32 1#32) := by
    intro Y; after_results; rfl
  simp only [afterL_cons, afterL_nil]
  rw [h, after_of_writes_sub body0_5 _ body0_5_writes (by decide +kernel), after_of_writes_sub body0_4 _ body0_4_writes (by decide +kernel), after_of_writes_sub body0_3 _ body0_3_writes (by decide +kernel), after_of_writes_sub body0_2 _ body0_2_writes (by decide +kernel), after_of_writes_sub body0_1 _ body0_1_writes (by decide +kernel), after_of_writes_sub body0_0 _ body0_0_writes (by decide +kernel), after_of_writes_sub cond0 _ cond0_writes (by decide +kernel)]

theorem entry0 (c : Dev nD) : R1 m c (Proc.devRef .tc main_v72_5) = fun _ => (0#32 : BitVec 32) := by
  unfold R1
  simp only [afterL_cons, afterL_nil]
  after_results
  rfl

theorem ctr0 (c : Dev nD) (k : ℕ) : atTrip cond0 loop0 (R1 m) k c (Proc.devRef .tc main_v72_5) = fun _ => Scf.iv 0#32 1#32 k :=
  counted (fun V => V (Proc.devRef .tc main_v72_5)) step0 (R1 m) c (entry0 m c) k

set_option backward.isDefEq.respectTransparency.types false in
theorem until0 : LoopCond (Ix := Unit) (Name := ℕ) (U := Option PUnit) (Lvl := ℕ) (pcfgs (F := F)) defs₀ Variants.none loops beside (main_while0_cond (F := F)) cond0 loop0 (R1 m) 4096 := by
  intro k hk c bd
  have hctr := ctr0 m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 loop0 (R1 m) k c) main_v72_5 HostLoop.idx0)
        (HloOp.result _ (atTrip cond0 loop0 (R1 m) k c) main_while0c_c_20 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  rw [after_cons, after_cons, after_nil]
  isplitl [Hh]; · iexact Hh
  iexact HR

theorem step1 (X : Valuation τ sig (Elt F)) : afterL loop1 (after cond1 X) (Proc.devRef .tc main_v153_5)
    = addi (X (Proc.devRef .tc main_v153_5)) (constantI S_ 32 1#32) := by
  have h : ∀ Y : Valuation τ sig (Elt F), after body1_6 Y (Proc.devRef .tc main_v153_5) = addi (Y (Proc.devRef .tc main_v153_5)) (constantI S_ 32 1#32) := by
    intro Y; after_results; rfl
  simp only [afterL_cons, afterL_nil]
  rw [h, after_of_writes_sub body1_5 _ body1_5_writes (by decide +kernel), after_of_writes_sub body1_4 _ body1_4_writes (by decide +kernel), after_of_writes_sub body1_3 _ body1_3_writes (by decide +kernel), after_of_writes_sub body1_2 _ body1_2_writes (by decide +kernel), after_of_writes_sub body1_1 _ body1_1_writes (by decide +kernel), after_of_writes_sub body1_0 _ body1_0_writes (by decide +kernel), after_of_writes_sub cond1 _ cond1_writes (by decide +kernel)]

theorem entry1 (c : Dev nD) : R3 m c (Proc.devRef .tc main_v153_5) = fun _ => (0#32 : BitVec 32) := by
  unfold R3
  simp only [afterL_cons, afterL_nil]
  after_results
  rfl

theorem ctr1 (c : Dev nD) (k : ℕ) : atTrip cond1 loop1 (R3 m) k c (Proc.devRef .tc main_v153_5) = fun _ => Scf.iv 0#32 1#32 k :=
  counted (fun V => V (Proc.devRef .tc main_v153_5)) step1 (R3 m) c (entry1 m c) k

set_option backward.isDefEq.respectTransparency.types false in
theorem until1 : LoopCond (Ix := Unit) (Name := ℕ) (U := Option PUnit) (Lvl := ℕ) (pcfgs (F := F)) defs₀ Variants.none loops beside (main_while1_cond (F := F)) cond1 loop1 (R3 m) 4096 := by
  intro k hk c bd
  have hctr := ctr1 m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 loop1 (R3 m) k c) main_v153_5 HostLoop.idx0)
        (HloOp.result _ (atTrip cond1 loop1 (R3 m) k c) main_while1c_c_20 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  rw [after_cons, after_cons, after_nil]
  isplitl [Hh]; · iexact Hh
  iexact HR

theorem step2 (X : Valuation τ sig (Elt F)) : afterL loop2 (after cond2 X) (Proc.devRef .tc main_v234_5)
    = addi (X (Proc.devRef .tc main_v234_5)) (constantI S_ 32 1#32) := by
  have h : ∀ Y : Valuation τ sig (Elt F), after body2_6 Y (Proc.devRef .tc main_v234_5) = addi (Y (Proc.devRef .tc main_v234_5)) (constantI S_ 32 1#32) := by
    intro Y; after_results; rfl
  simp only [afterL_cons, afterL_nil]
  rw [h, after_of_writes_sub body2_5 _ body2_5_writes (by decide +kernel), after_of_writes_sub body2_4 _ body2_4_writes (by decide +kernel), after_of_writes_sub body2_3 _ body2_3_writes (by decide +kernel), after_of_writes_sub body2_2 _ body2_2_writes (by decide +kernel), after_of_writes_sub body2_1 _ body2_1_writes (by decide +kernel), after_of_writes_sub body2_0 _ body2_0_writes (by decide +kernel), after_of_writes_sub cond2 _ cond2_writes (by decide +kernel)]

theorem entry2 (c : Dev nD) : R5 m c (Proc.devRef .tc main_v234_5) = fun _ => (0#32 : BitVec 32) := by
  unfold R5
  simp only [afterL_cons, afterL_nil]
  after_results
  rfl

theorem ctr2 (c : Dev nD) (k : ℕ) : atTrip cond2 loop2 (R5 m) k c (Proc.devRef .tc main_v234_5) = fun _ => Scf.iv 0#32 1#32 k :=
  counted (fun V => V (Proc.devRef .tc main_v234_5)) step2 (R5 m) c (entry2 m c) k

set_option backward.isDefEq.respectTransparency.types false in
theorem until2 : LoopCond (Ix := Unit) (Name := ℕ) (U := Option PUnit) (Lvl := ℕ) (pcfgs (F := F)) defs₀ Variants.none loops beside (main_while2_cond (F := F)) cond2 loop2 (R5 m) 4096 := by
  intro k hk c bd
  have hctr := ctr2 m c k
  unfold main_while2_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond2 loop2 (R5 m) k c) main_v234_5 HostLoop.idx0)
        (HloOp.result _ (atTrip cond2 loop2 (R5 m) k c) main_while2c_c_20 HostLoop.idx0) = 1#1) (k < 4096)
    rw [nullary_result_ne _ _ _ _ (by decide), nullary_result, hctr]
    exact Scf.cmpi_slt_iv_ub_iff (lb := 0#32) (ub := 4096#32) (st := 1#32) (by decide) (show k ≤ Scf.trips 0#32 4096#32 1#32 from hk)
  isplitl [Hb]; · iexact Hb
  rw [after_cons, after_cons, after_nil]
  isplitl [Hh]; · iexact Hh
  iexact HR

/-! ## The run -/

abbrev noPipes : (p : Fin 0) → (pcfgs (F := F) p).Adm := fun p => p.elim0
abbrev noTickets : Fin 0 → Ticket (Ix := Unit) (Name := ℕ) (U := Option PUnit) (Lvl := ℕ) (nD := nD) (τ := τ) (pcfgs (F := F)) noPipes := fun j => j.elim0
abbrev noLevels : GSem nD τ sig → Finset Unit := fun _ => ∅
abbrev level0 : GSem nD τ sig → Unit → ℕ := fun _ _ => 0

/-- The program's steps. -/
def steps : List (CSeg (pcfgs (F := F)) noPipes defs₀ Variants.none noLevels level0 loops noTickets) :=
  segsOf _ _ _ _ _ _ _ _ beside pre0 pre0_plain (launchContents m)
    ++ loopSeg _ _ _ _ _ _ _ _ 0 main_while0_cond main_while0_body rfl cond0 loop0 loop0_plain (by rw [while0_body_chain]; rfl) 4096 (R1 m) beside (until0 m)
    :: (segsOf _ _ _ _ _ _ _ _ beside mid1 mid1_plain (R2 m)
    ++ loopSeg _ _ _ _ _ _ _ _ 1 main_while1_cond main_while1_body rfl cond1 loop1 loop1_plain (by rw [while1_body_chain]; rfl) 4096 (R3 m) beside (until1 m)
    :: (segsOf _ _ _ _ _ _ _ _ beside mid2 mid2_plain (R4 m)
    ++ loopSeg _ _ _ _ _ _ _ _ 2 main_while2_cond main_while2_body rfl cond2 loop2 loop2_plain (by rw [while2_body_chain]; rfl) 4096 (R5 m) beside (until2 m)
    :: segsOf _ _ _ _ _ _ _ _ beside post post_plain (R6 m)))

theorem steps_prog : (steps m).map CSeg.prog = (pre0.map fun ops => (seq ops : Host F)) ++ HostLoop.enter 0
    :: ((mid1.map fun ops => (seq ops : Host F)) ++ HostLoop.enter 1 :: ((mid2.map fun ops => (seq ops : Host F)) ++ HostLoop.enter 2 :: post.map fun ops => (seq ops : Host F))) := by
  unfold steps
  simp only [List.map_append, List.map_cons, segsOf_prog]
  rfl

theorem main_steps (c : Dev nD) : main (F := F) c = Pipeline.chain ((steps m).map CSeg.prog) := by
  rw [main_chain c, steps_prog]
  simp only [List.map_cons, List.map_nil, List.cons_append, List.nil_append]

theorem steps_chains : CSeg.Chains (fun c => iprop(held (c : Thread nD τ) (ucRefs τ sig) (launchContents m c) ∗ beside c)) (steps m)
    (fun c => iprop(held (c : Thread nD τ) (ucRefs τ sig) (R7 m c) ∗ beside c)) := by
  unfold steps
  exact CSeg.Chains.append (segsOf_chains _ _ _ _ _ _ _ _ beside pre0 pre0_plain _) ⟨fun _ => .rfl,
    CSeg.Chains.append (segsOf_chains _ _ _ _ _ _ _ _ beside mid1 mid1_plain _) ⟨fun _ => .rfl,
    CSeg.Chains.append (segsOf_chains _ _ _ _ _ _ _ _ beside mid2 mid2_plain _) ⟨fun _ => .rfl,
    segsOf_chains _ _ _ _ _ _ _ _ beside post post_plain _⟩⟩⟩

/-- Every counter of the program is scoped. -/
theorem no_unscoped : ∀ sm : SemLoc sig, sm.isScoped .tc = true := by decide

/-- Every run ends, with every buffer at its last contents and every counter at zero. -/
theorem run (ρ : Dev nD → PrngReg) :
    θ_run defs (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = R7 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    pcfgs noPipes (fun k => k.1.elim0) defs₀ Variants.none noLevels level0 loops noTickets m ρ main (steps m)
    (fun c Q => by
      rw [main_steps m c]
      exact .rfl)
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ beside c))
    (Tₙ := fun c => held (c : Thread nD τ) (ucRefs τ sig) (R7 m c))
    (hch := steps_chains m)
    (hinit := by
      refine Pipeline.initEach noLevels level0 fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = R7 m c b)
    (hfin := fun c s' => by
      unfold held
      iintro ⟨Hh, HSI⟩
      ihave Hr := (pointsTo_read_all (ucRefs τ sig) (fun b => ((c : Dev nD), b)) (fun b => R7 m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (no_unscoped g.2))⟩)

/-! ## The arguments -/

/-- No stretch and no loop writes the buffer. -/
abbrev Untouched (r : Ref sig .tc) : Prop :=
  ((∀ W ∈ pre0_W, r ∉ W) ∧ (∀ W ∈ mid1_W, r ∉ W) ∧ (∀ W ∈ mid2_W, r ∉ W) ∧ (∀ W ∈ post_W, r ∉ W))
    ∧ (r ∉ cond0_W ∧ ∀ W ∈ loop0_W, r ∉ W) ∧ (r ∉ cond1_W ∧ ∀ W ∈ loop1_W, r ∉ W) ∧ (r ∉ cond2_W ∧ ∀ W ∈ loop2_W, r ∉ W)

/-- A buffer nothing writes is as launched. -/
theorem R7_of (c : Dev nD) (r : Ref sig .tc) (h : Untouched r) : R7 m c (Proc.devRef .tc r) = m ((c.tc : Thread nD τ).loc r) := by
  obtain ⟨⟨hp, h1, h2, h3⟩, ⟨c0, l0⟩, ⟨c1, l1⟩, c2, l2⟩ := h
  rw [R7, kept post_writes r h3, R6, after_of_writes_sub cond2 _ cond2_writes c2, kept_trips cond2_writes loop2_writes r c2 l2,
    R5, kept mid2_writes r h2, R4, after_of_writes_sub cond1 _ cond1_writes c1, kept_trips cond1_writes loop1_writes r c1 l1,
    R3, kept mid1_writes r h1, R2, after_of_writes_sub cond0 _ cond0_writes c0, kept_trips cond0_writes loop0_writes r c0 l0,
    R1, kept pre0_writes r hp]

/-- Every run ends with the arguments as launched and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => ⟨(h.1 c main_arg0 rfl).trans (R7_of m c main_arg0 (by decide)),
    (h.1 c main_arg1 rfl).trans (R7_of m c main_arg1 (by decide)),
    (h.1 c main_arg2 rfl).trans (R7_of m c main_arg2 (by decide)),
    (h.1 c main_arg3 rfl).trans (R7_of m c main_arg3 (by decide)),
    (h.1 c main_arg4 rfl).trans (R7_of m c main_arg4 (by decide)),
    (h.1 c main_arg5 rfl).trans (R7_of m c main_arg5 (by decide)),
    (h.1 c main_arg6 rfl).trans (R7_of m c main_arg6 (by decide)),
    (h.1 c main_arg7 rfl).trans (R7_of m c main_arg7 (by decide)),
    (h.1 c main_arg8 rfl).trans (R7_of m c main_arg8 (by decide)),
    (h.1 c main_arg9 rfl).trans (R7_of m c main_arg9 (by decide))⟩, h.2⟩) (run m ρ)

end Cert.ReferenceIdeal.Run
-- ==== Proof.Spec.lean ====
/- One layer as plain mathematics over the extended reals: what both programs are shown to compute. -/
module

public import Idealize.ShloMosaic.Lib.Pointwise

@[expose] public section

noncomputable section

namespace Layer

open Idealize.ShloMosaic

/-- A layer's weights. -/
structure Weights where
  inw : Fin 1120 → Fin 280 → EReal
  cw : Fin 560 → Fin 4 → EReal
  cb : Fin 560 → EReal
  xpw : Fin 50 → Fin 560 → EReal
  dtw : Fin 560 → Fin 18 → EReal
  dtb : Fin 560 → EReal
  alog : Fin 560 → Fin 16 → EReal
  skip : Fin 560 → EReal
  ow : Fin 280 → Fin 560 → EReal

/-- An activation by batch, time and channel; the recursion in time runs over the naturals. -/
abbrev Act (n : ℕ) := Fin 8 → ℕ → Fin n → EReal

def silu (x : EReal) : EReal := x * Ideal.logistic x
def softplus (x : EReal) : EReal := max x 0 + Ideal.log1p (Ideal.exp (0 - (FloatOps.absf (F := Ideal) (φ := .f32) x : EReal)))

/-- An activation's array as a function of time. -/
def act (a : (⟨3, ![8, 4096, 280]⟩ : Shape).Idx → EReal) : Act 280 := fun b t k => if h : t < 4096 then a (ix3 b ⟨t, h⟩ k) else 0

theorem act_at (a : (⟨3, ![8, 4096, 280]⟩ : Shape).Idx → EReal) (b : Fin 8) (t : Fin 4096) (k : Fin 280) : act a b t.val k = a (ix3 b t k) :=
  dif_pos t.isLt

/-- Layer `l`'s weights among all layers'. -/
def weights (a1 : (⟨3, ![3, 1120, 280]⟩ : Shape).Idx → EReal) (a2 : (⟨3, ![3, 560, 4]⟩ : Shape).Idx → EReal) (a3 : (⟨2, ![3, 560]⟩ : Shape).Idx → EReal)
    (a4 : (⟨3, ![3, 50, 560]⟩ : Shape).Idx → EReal) (a5 : (⟨3, ![3, 560, 18]⟩ : Shape).Idx → EReal) (a6 : (⟨2, ![3, 560]⟩ : Shape).Idx → EReal)
    (a7 : (⟨3, ![3, 560, 16]⟩ : Shape).Idx → EReal) (a8 : (⟨2, ![3, 560]⟩ : Shape).Idx → EReal) (a9 : (⟨3, ![3, 280, 560]⟩ : Shape).Idx → EReal)
    (l : Fin 3) : Weights where
  inw e k := a1 (ix3 l e k)
  cw c k := a2 (ix3 l c k)
  cb c := a3 (ix2 l c)
  xpw e c := a4 (ix3 l e c)
  dtw c r := a5 (ix3 l c r)
  dtb c := a6 (ix2 l c)
  alog c n := a7 (ix3 l c n)
  skip c := a8 (ix2 l c)
  ow d c := a9 (ix3 l d c)

/-- Equal arrays hold equal weights. -/
theorem weights_congr {a1 b1 : (⟨3, ![3, 1120, 280]⟩ : Shape).Idx → EReal}
    {a2 b2 : (⟨3, ![3, 560, 4]⟩ : Shape).Idx → EReal}
    {a3 b3 : (⟨2, ![3, 560]⟩ : Shape).Idx → EReal}
    {a4 b4 : (⟨3, ![3, 50, 560]⟩ : Shape).Idx → EReal}
    {a5 b5 : (⟨3, ![3, 560, 18]⟩ : Shape).Idx → EReal}
    {a6 b6 : (⟨2, ![3, 560]⟩ : Shape).Idx → EReal}
    {a7 b7 : (⟨3, ![3, 560, 16]⟩ : Shape).Idx → EReal}
    {a8 b8 : (⟨2, ![3, 560]⟩ : Shape).Idx → EReal}
    {a9 b9 : (⟨3, ![3, 280, 560]⟩ : Shape).Idx → EReal}
    (h1 : a1 = b1) (h2 : a2 = b2) (h3 : a3 = b3) (h4 : a4 = b4) (h5 : a5 = b5) (h6 : a6 = b6) (h7 : a7 = b7) (h8 : a8 = b8) (h9 : a9 = b9) :
    weights a1 a2 a3 a4 a5 a6 a7 a8 a9 = weights b1 b2 b3 b4 b5 b6 b7 b8 b9 := by
  subst h1 h2 h3 h4 h5 h6 h7 h8 h9
  rfl

variable (w : Weights) (x : Act 280)

/-- The input projection's first half and its second half, the gate. -/
def xin : Act 560 := fun b t c => ∑ k, x b t k * w.inw ⟨c.val, by omega⟩ k
def gate : Act 560 := fun b t c => ∑ k, x b t k * w.inw ⟨560 + c.val, by omega⟩ k

/-- The first half behind three rows of zeros. -/
def padded : Act 560 := fun b u c => if u < 3 then 0 else xin w x b (u - 3) c

/-- The causal convolution over four rows. -/
def conv : Act 560 := fun b t c =>
  padded w x b t c * w.cw c 0 + padded w x b (t + 1) c * w.cw c 1 + padded w x b (t + 2) c * w.cw c 2 + padded w x b (t + 3) c * w.cw c 3 + w.cb c

def xc : Act 560 := fun b t c => silu (conv w x b t c)

/-- The projection to the step sizes' low rank, the input matrix and the output matrix. -/
def proj : Act 50 := fun b t e => ∑ c, xc w x b t c * w.xpw e c

/-- The input matrix and, behind it, the output matrix. -/
def bc : Act 32 := fun b t e => proj w x b t ⟨18 + e.val, by omega⟩

/-- The step sizes before the softplus. -/
def pre : Act 560 := fun b t c => ∑ r : Fin 18, proj w x b t ⟨r.val, by omega⟩ * w.dtw c r + w.dtb c

def dt : Act 560 := fun b t c => softplus (∑ r : Fin 18, proj w x b t ⟨r.val, by omega⟩ * w.dtw c r + w.dtb c)

theorem dt_eq (b : Fin 8) (t : ℕ) (c : Fin 560) : dt w x b t c = softplus (pre w x b t c) := rfl

/-- The state before time `t`. -/
def state (b : Fin 8) : ℕ → Fin 16 → Fin 560 → EReal
  | 0 => fun _ _ => 0
  | t + 1 => fun n c => Ideal.exp (dt w x b t c * (0 - Ideal.exp (w.alog c n))) * state b t n c
      + dt w x b t c * xc w x b t c * bc w x b t ⟨n.val, by omega⟩

def y : Act 560 := fun b t c => ∑ n : Fin 16, bc w x b t ⟨16 + n.val, by omega⟩ * state w x b (t + 1) n c

/-- The scan's output with the skip added. -/
def ys : Act 560 := fun b t c => y w x b t c + xc w x b t c * w.skip c

/-- The layer's result. -/
def out : Act 280 := fun b t d =>
  ∑ c, (y w x b t c + xc w x b t c * w.skip c) * silu (gate w x b t c) * w.ow d c

/-- The three layers, one after another. -/
def net (W : Fin 3 → Weights) : Act 280 := out (W 2) (out (W 1) (out (W 0) x))

end Layer

end
-- ==== Proof.KerHost.lean ====
/- The kernel program's host operations between its calls, element by element. -/
module

public import proofs.«01_k».proof.Proof.Run
public import proofs.«01_k».proof.Proof.Spec
public import Idealize.ShloMosaic.Lib.StableHlo.ReadAt

@[expose] public section

set_option maxRecDepth 16384

noncomputable section

namespace Cert.KernelIdeal.Run

open Idealize.ShloMosaic Idealize.ShloMosaic.TcCoe Idealize.ShloMosaic.Tactic Idealize.ShloMosaic.StableHlo
open Cert.KernelIdeal.Gen

/-- The weights the arguments hold. -/
def ws (V : Valuation τ sig (Elt Ideal)) : Fin 3 → Layer.Weights :=
  Layer.weights (V main_arg1) (V main_arg2) (V main_arg3) (V main_arg4) (V main_arg5) (V main_arg6) (V main_arg7) (V main_arg8) (V main_arg9)

variable (V : Valuation τ sig (Elt Ideal))

theorem inw_0 (k : Fin 280) (e : Fin 1120) : (after hostOps0 V main_call0_v12 : Vec Ideal S280x1120 .f32) (ix2 k e) = (ws V 0).inw e k := by
  unfold ws Layer.weights
  after_reads_at

theorem cw_0 (e : Fin 560) (k : Fin 4) : (after hostOps0 V main_call0_v3 : Vec Ideal S560x4 .f32) (ix2 e k) = (ws V 0).cw e k := by
  unfold ws Layer.weights
  after_reads_at

theorem cb_0 (z : Fin 1) (e : Fin 560) : (after hostOps0 V main_call0_v13 : Vec Ideal S1x560 .f32) (ix2 z e) = (ws V 0).cb e := by
  unfold ws Layer.weights
  after_reads_at

theorem xpw_0 (k : Fin 560) (e : Fin 50) : (after hostOps0 V main_call0_v14 : Vec Ideal S560x50 .f32) (ix2 k e) = (ws V 0).xpw e k := by
  unfold ws Layer.weights
  after_reads_at

theorem dtw_0 (r : Fin 18) (e : Fin 560) : (after hostOps0 V main_call0_v15 : Vec Ideal S18x560 .f32) (ix2 r e) = (ws V 0).dtw e r := by
  unfold ws Layer.weights
  after_reads_at

theorem dtb_0 (z : Fin 1) (e : Fin 560) : (after hostOps0 V main_call0_v16 : Vec Ideal S1x560 .f32) (ix2 z e) = (ws V 0).dtb e := by
  unfold ws Layer.weights
  after_reads_at

theorem alog_0 (k : Fin 16) (e : Fin 560) : (after hostOps1 V main_call0_v24 : Vec Ideal S16x560 .f32) (ix2 k e) = (ws V 0).alog e k := by
  unfold ws Layer.weights
  after_reads_at

theorem skip_0 (z : Fin 1) (e : Fin 560) : (after hostOps1 V main_call0_v25 : Vec Ideal S1x560 .f32) (ix2 z e) = (ws V 0).skip e := by
  unfold ws Layer.weights
  after_reads_at

theorem ow_0 (e : Fin 560) (d : Fin 280) : (after hostOps1 V main_call0_v26 : Vec Ideal S560x280 .f32) (ix2 e d) = (ws V 0).ow d e := by
  unfold ws Layer.weights
  after_reads_at

theorem inw_1 (k : Fin 280) (e : Fin 1120) : (after hostOps2 V main_call0_v40 : Vec Ideal S280x1120 .f32) (ix2 k e) = (ws V 1).inw e k := by
  unfold ws Layer.weights
  after_reads_at

theorem cw_1 (e : Fin 560) (k : Fin 4) : (after hostOps2 V main_call0_v31 : Vec Ideal S560x4 .f32) (ix2 e k) = (ws V 1).cw e k := by
  unfold ws Layer.weights
  after_reads_at

theorem cb_1 (z : Fin 1) (e : Fin 560) : (after hostOps2 V main_call0_v41 : Vec Ideal S1x560 .f32) (ix2 z e) = (ws V 1).cb e := by
  unfold ws Layer.weights
  after_reads_at

theorem xpw_1 (k : Fin 560) (e : Fin 50) : (after hostOps2 V main_call0_v42 : Vec Ideal S560x50 .f32) (ix2 k e) = (ws V 1).xpw e k := by
  unfold ws Layer.weights
  after_reads_at

theorem dtw_1 (r : Fin 18) (e : Fin 560) : (after hostOps2 V main_call0_v43 : Vec Ideal S18x560 .f32) (ix2 r e) = (ws V 1).dtw e r := by
  unfold ws Layer.weights
  after_reads_at

theorem dtb_1 (z : Fin 1) (e : Fin 560) : (after hostOps2 V main_call0_v44 : Vec Ideal S1x560 .f32) (ix2 z e) = (ws V 1).dtb e := by
  unfold ws Layer.weights
  after_reads_at

theorem alog_1 (k : Fin 16) (e : Fin 560) : (after hostOps3 V main_call0_v52 : Vec Ideal S16x560 .f32) (ix2 k e) = (ws V 1).alog e k := by
  unfold ws Layer.weights
  after_reads_at

theorem skip_1 (z : Fin 1) (e : Fin 560) : (after hostOps3 V main_call0_v53 : Vec Ideal S1x560 .f32) (ix2 z e) = (ws V 1).skip e := by
  unfold ws Layer.weights
  after_reads_at

theorem ow_1 (e : Fin 560) (d : Fin 280) : (after hostOps3 V main_call0_v54 : Vec Ideal S560x280 .f32) (ix2 e d) = (ws V 1).ow d e := by
  unfold ws Layer.weights
  after_reads_at

theorem inw_2 (k : Fin 280) (e : Fin 1120) : (after hostOps4 V main_call0_v68 : Vec Ideal S280x1120 .f32) (ix2 k e) = (ws V 2).inw e k := by
  unfold ws Layer.weights
  after_reads_at

theorem cw_2 (e : Fin 560) (k : Fin 4) : (after hostOps4 V main_call0_v59 : Vec Ideal S560x4 .f32) (ix2 e k) = (ws V 2).cw e k := by
  unfold ws Layer.weights
  after_reads_at

theorem cb_2 (z : Fin 1) (e : Fin 560) : (after hostOps4 V main_call0_v69 : Vec Ideal S1x560 .f32) (ix2 z e) = (ws V 2).cb e := by
  unfold ws Layer.weights
  after_reads_at

theorem xpw_2 (k : Fin 560) (e : Fin 50) : (after hostOps4 V main_call0_v70 : Vec Ideal S560x50 .f32) (ix2 k e) = (ws V 2).xpw e k := by
  unfold ws Layer.weights
  after_reads_at

theorem dtw_2 (r : Fin 18) (e : Fin 560) : (after hostOps4 V main_call0_v71 : Vec Ideal S18x560 .f32) (ix2 r e) = (ws V 2).dtw e r := by
  unfold ws Layer.weights
  after_reads_at

theorem dtb_2 (z : Fin 1) (e : Fin 560) : (after hostOps4 V main_call0_v72 : Vec Ideal S1x560 .f32) (ix2 z e) = (ws V 2).dtb e := by
  unfold ws Layer.weights
  after_reads_at

theorem alog_2 (k : Fin 16) (e : Fin 560) : (after hostOps5 V main_call0_v80 : Vec Ideal S16x560 .f32) (ix2 k e) = (ws V 2).alog e k := by
  unfold ws Layer.weights
  after_reads_at

theorem skip_2 (z : Fin 1) (e : Fin 560) : (after hostOps5 V main_call0_v81 : Vec Ideal S1x560 .f32) (ix2 z e) = (ws V 2).skip e := by
  unfold ws Layer.weights
  after_reads_at

theorem ow_2 (e : Fin 560) (d : Fin 280) : (after hostOps5 V main_call0_v82 : Vec Ideal S560x280 .f32) (ix2 e d) = (ws V 2).ow d e := by
  unfold ws Layer.weights
  after_reads_at

end Cert.KernelIdeal.Run

end
-- ==== Proof.KerProj.lean ====
/- The projection kernel's blocks, element by element, as the layer's mathematics. -/
module

public import proofs.«01_k».proof.Proof.Carry
public import proofs.«01_k».proof.Proof.Spec

@[expose] public section

set_option maxRecDepth 16384

noncomputable section

namespace Cert.KernelIdeal.Body

open Idealize.ShloMosaic Idealize.ShloMosaic.TcCoe Idealize.ShloMosaic.Tactic
open Mamba Cert.KernelIdeal.Gen

variable (w : Layer.Weights) (x : Layer.Act 280) (b : Fin 8)

/-- The block of rows read `k` rows below the top. -/
theorem rows_at (s : Vec Ideal S520x560 .f32) (k : ℕ) (h) (r : Fin 512) (c : Fin 560) (hk : k + r.val < 520) :
    VecWindow.window s ![k, 0] S512x560.size h (ix2 r c) = s (ix2 ⟨k + r.val, hk⟩ c) := by
  refine congrArg s (funext fun a => Fin.ext ?_)
  match a with
  | ⟨0, _⟩ => show k + 1 * r.val = k + r.val; omega
  | ⟨1, _⟩ => show 0 + 1 * c.val = c.val; omega

theorem tap_at (s : Vec Ideal S560x4 .f32) (k : ℕ) (h) (c : Fin 560) (z : Fin 1) (hk : k < 4) :
    VecWindow.window s ![0, k] S560x1.size h (ix2 c z) = s (ix2 c ⟨k, hk⟩) := by
  refine congrArg s (funext fun a => Fin.ext ?_)
  match a with
  | ⟨0, _⟩ => show 0 + 1 * c.val = c.val; omega
  | ⟨1, _⟩ => show k + 1 * z.val = k; omega

/-- A scratch that holds the padded rows from time `T` on, from its sixth row. -/
def Holds (s : Vec Ideal S520x560 .f32) (T : ℕ) : Prop :=
  ∀ (u : ℕ) (hu : u < 515) (c : Fin 560), s (ix2 ⟨5 + u, by omega⟩ c) = Layer.padded w x b (T + u) c

section Block

variable {w x b} {s : Vec Ideal S520x560 .f32} {T : ℕ} (hs : Holds w x b s T)
  {x2 : Vec Ideal S560x4 .f32} (h2 : ∀ c k, x2 (ix2 c k) = w.cw c k)
  {x3 : Vec Ideal S1x560 .f32} (h3 : ∀ z c, x3 (ix2 z c) = w.cb c)
  {x4 : Vec Ideal S560x50 .f32} (h4 : ∀ c e, x4 (ix2 c e) = w.xpw e c)
  {x5 : Vec Ideal S18x560 .f32} (h5 : ∀ r c, x5 (ix2 r c) = w.dtw c r)
  {x6 : Vec Ideal S1x560 .f32} (h6 : ∀ z c, x6 (ix2 z c) = w.dtb c)

include hs h2 h3

theorem pay9_at (h5' h6' h7' h8' t0 t1 t2 t3) (r : Fin 512) (c : Fin 560) :
    k0_pay9 (F := Ideal) (k0_pay7 x3)
      (k0_pay8 (VecWindow.window s ![5, 0] S512x560.size h5') (VecWindow.window x2 ![0, 0] S560x1.size t0))
      (VecWindow.window s ![6, 0] S512x560.size h6') (VecWindow.window x2 ![0, 1] S560x1.size t1)
      (VecWindow.window s ![7, 0] S512x560.size h7') (VecWindow.window x2 ![0, 2] S560x1.size t2)
      (VecWindow.window s ![8, 0] S512x560.size h8') (VecWindow.window x2 ![0, 3] S560x1.size t3) (ix2 r c)
      = Layer.xc w x b (T + r.val) c := by
  have hr := r.isLt
  have e0 : (⟨5 + r.val, by omega⟩ : Fin 520) = ⟨5 + (r.val + 0), by omega⟩ := rfl
  have e1 : (⟨6 + r.val, by omega⟩ : Fin 520) = ⟨5 + (r.val + 1), by omega⟩ := Fin.ext (by show 6 + r.val = 5 + (r.val + 1); omega)
  have e2 : (⟨7 + r.val, by omega⟩ : Fin 520) = ⟨5 + (r.val + 2), by omega⟩ := Fin.ext (by show 7 + r.val = 5 + (r.val + 2); omega)
  have e3 : (⟨8 + r.val, by omega⟩ : Fin 520) = ⟨5 + (r.val + 3), by omega⟩ := Fin.ext (by show 8 + r.val = 5 + (r.val + 3); omega)
  pointwise [k0_pay9, k0_pay8, k0_pay7]
  rw [rows_at s 5 _ r c (by omega), rows_at s 6 _ r c (by omega), rows_at s 7 _ r c (by omega), rows_at s 8 _ r c (by omega),
    tap_at x2 0 _ c _ (by omega), tap_at x2 1 _ c _ (by omega), tap_at x2 2 _ c _ (by omega), tap_at x2 3 _ c _ (by omega),
    e1, e2, e3, hs r.val (by omega), hs (r.val + 1) (by omega), hs (r.val + 2) (by omega), hs (r.val + 3) (by omega), h2, h2, h2, h2, h3]
  rfl

theorem projXc_at (z : Fin 1) (r : Fin 512) (c : Fin 560) : projXc x2 x3 s (ix3 z r c) = Layer.xc w x b (T + r.val) c := by
  rw [← pay9_at hs h2 h3 inb_S520x560_S512x560_5_0 inb_S520x560_S512x560_6_0 inb_S520x560_S512x560_7_0 inb_S520x560_S512x560_8_0
    inb_S560x4_S560x1_0_0 inb_S560x4_S560x1_0_1 inb_S560x4_S560x1_0_2 inb_S560x4_S560x1_0_3 r c]
  unfold projXc
  generalize k0_pay8 (F := Ideal) _ _ = v8
  pointwise [k0_pay10]

include h4

theorem projBc_at (z : Fin 1) (r : Fin 512) (e : Fin 32) :
    projBc x2 x3 x4 s (ix3 z r e) = Layer.bc w x b (T + r.val) e := by
  unfold projBc k0_pay12 k0_pay11 Layer.bc Layer.proj
  simp only [← pay9_at hs h2 h3 inb_S520x560_S512x560_5_0 inb_S520x560_S512x560_6_0 inb_S520x560_S512x560_7_0 inb_S520x560_S512x560_8_0
    inb_S560x4_S560x1_0_0 inb_S560x4_S560x1_0_1 inb_S560x4_S560x1_0_2 inb_S560x4_S560x1_0_3 r, ← h4]
  generalize k0_pay9 (F := Ideal) _ _ _ _ _ _ _ _ = v
  pointwise

include h5 h6

theorem projDt_at (z : Fin 1) (r : Fin 512) (c : Fin 560) :
    projDt x2 x3 x4 x5 x6 s (ix3 z r c) = Layer.dt w x b (T + r.val) c := by
  unfold projDt Layer.dt Layer.proj
  simp only [← pay9_at hs h2 h3 inb_S520x560_S512x560_5_0 inb_S520x560_S512x560_6_0 inb_S520x560_S512x560_7_0 inb_S520x560_S512x560_8_0
    inb_S560x4_S560x1_0_0 inb_S560x4_S560x1_0_1 inb_S560x4_S560x1_0_2 inb_S560x4_S560x1_0_3 r, ← h4, ← h5, ← h6 0]
  unfold k0_pay13 k0_pay11
  generalize k0_pay9 (F := Ideal) _ _ _ _ _ _ _ _ = v
  unfold Layer.softplus
  pointwise [k0_pay1]
  rw [if_neg (not_not.mpr rfl)]

end Block

/-! ## The scratch -/

/-- The block's own rows of the scratch. -/
theorem projScr_own (i : grid0.Coords) (x0 : Vec Ideal S1x512x280 .f32) (x1 : Vec Ideal S280x1120 .f32) (s : Vec Ideal S520x560 .f32)
    (r : Fin 512) (c : Fin 560) (hr : 8 + r.val < 520) : projScr i x0 x1 s (ix2 ⟨8 + r.val, hr⟩ c) = k0_pay6 x0 x1 (ix2 r c) := by
  unfold projScr
  have hy : ∀ a, (![8, 0] : Fin 2 → ℕ) a ≤ ((ix2 (⟨8 + r.val, hr⟩ : Fin 520) c : S520x560.Idx) a).val
      ∧ ((ix2 (⟨8 + r.val, hr⟩ : Fin 520) c : S520x560.Idx) a).val < (![8, 0] : Fin 2 → ℕ) a + S512x560.size a := fun a => by
    match a with
    | ⟨0, _⟩ => show 8 ≤ 8 + r.val ∧ 8 + r.val < 8 + 512; omega
    | ⟨1, _⟩ => show 0 ≤ c.val ∧ c.val < 0 + 560; omega
  refine (dif_pos hy).trans (congrArg _ (funext fun a => Fin.ext ?_))
  match a with
  | ⟨0, _⟩ => show 8 + r.val - 8 = r.val; omega
  | ⟨1, _⟩ => show c.val - 0 = c.val; omega

/-- The rows before the block's. -/
theorem projScr_before (i : grid0.Coords) (x0 : Vec Ideal S1x512x280 .f32) (x1 : Vec Ideal S280x1120 .f32) (s : Vec Ideal S520x560 .f32)
    (r : Fin 8) (c : Fin 560) : projScr i x0 x1 s (ix2 ⟨r.val, by omega⟩ c) = if (i 1).val = 0 then 0 else s (ix2 ⟨512 + r.val, by omega⟩ c) := by
  unfold projScr headed
  have hr := r.isLt
  have hy : ¬ ∀ a, (![8, 0] : Fin 2 → ℕ) a ≤ ((ix2 (⟨r.val, by omega⟩ : Fin 520) c : S520x560.Idx) a).val
      ∧ ((ix2 (⟨r.val, by omega⟩ : Fin 520) c : S520x560.Idx) a).val < (![8, 0] : Fin 2 → ℕ) a + S512x560.size a := fun h => by
    have h0 : 8 ≤ r.val := (h 0).1
    omega
  have hy' : ∀ a, (![0, 0] : Fin 2 → ℕ) a ≤ ((ix2 (⟨r.val, by omega⟩ : Fin 520) c : S520x560.Idx) a).val
      ∧ ((ix2 (⟨r.val, by omega⟩ : Fin 520) c : S520x560.Idx) a).val < (![0, 0] : Fin 2 → ℕ) a + S8x560.size a := fun a => by
    match a with
    | ⟨0, _⟩ => show 0 ≤ r.val ∧ r.val < 0 + 8; omega
    | ⟨1, _⟩ => show 0 ≤ c.val ∧ c.val < 0 + 560; omega
  have hl : Rect.unitLocal (ix2 (⟨r.val, by omega⟩ : Fin 520) c : S520x560.Idx) hy' = (ix2 r c : S8x560.Idx) := by
    funext a
    match a with
    | ⟨0, _⟩ => rfl
    | ⟨1, _⟩ => rfl
  refine (dif_neg hy).trans ?_
  split_ifs with hi
  · refine (dif_pos hy').trans ?_
    rw [hl]
    pointwise [k0_pay4]
  · refine (dif_pos hy').trans ?_
    rw [hl]
    pointwise [k0_pay5]
    refine congrArg s (funext fun a => Fin.ext ?_)
    match a with
    | ⟨0, _⟩ => show 512 + 1 * r.val = 512 + r.val; omega
    | ⟨1, _⟩ => show 0 + 1 * c.val = c.val; omega

theorem xin_at {x0 : Vec Ideal S1x512x280 .f32} {x1 : Vec Ideal S280x1120 .f32} {T : ℕ} (h0 : ∀ r k, x0 (ix3 0 r k) = x b (T + r.val) k)
    (h1 : ∀ k e, x1 (ix2 k e) = w.inw e k) (r : Fin 512) (c : Fin 560) : k0_pay6 x0 x1 (ix2 r c) = Layer.xin w x b (T + r.val) c := by
  unfold Layer.xin
  simp only [← h0, ← h1]
  pointwise [k0_pay6, k0_pay2]

theorem gate_at {x0 : Vec Ideal S1x512x280 .f32} {x1 : Vec Ideal S280x1120 .f32} {T : ℕ} (h0 : ∀ r k, x0 (ix3 0 r k) = x b (T + r.val) k)
    (h1 : ∀ k e, x1 (ix2 k e) = w.inw e k) (z : Fin 1) (r : Fin 512) (c : Fin 560) : k0_pay3 x0 x1 (ix3 z r c) = Layer.gate w x b (T + r.val) c := by
  unfold Layer.gate
  simp only [← h0, ← h1]
  pointwise [k0_pay3, k0_pay2]

/-- After each point the scratch holds the padded rows up to the point's last time. -/
theorem projAt_holds (i : ℕ → grid0.Coords) (hi : ∀ n < 64, (i n 1).val = n % 8) (x0 : ℕ → Vec Ideal S1x512x280 .f32)
    (h0 : ∀ n (hn : n < 64) r k, x0 n (ix3 0 r k) = x ⟨n / 8, by omega⟩ (512 * (n % 8) + r.val) k)
    (x1 : ℕ → Vec Ideal S280x1120 .f32) (h1 : ∀ n < 64, ∀ k e, x1 n (ix2 k e) = w.inw e k) (n : ℕ) (hn : n < 64) :
    Holds w x ⟨n / 8, by omega⟩ (projAt i x0 x1 (n + 1)) (512 * (n % 8)) := by
  have own : ∀ m (hm : m < 64) (r : Fin 512) (c : Fin 560) (hr : 8 + r.val < 520), projAt i x0 x1 (m + 1) (ix2 ⟨8 + r.val, hr⟩ c)
      = Layer.xin w x ⟨m / 8, by omega⟩ (512 * (m % 8) + r.val) c := fun m hm r c hr =>
    (projScr_own _ _ _ _ r c hr).trans (xin_at w x _ (h0 m hm) (h1 m hm) r c)
  intro u hu c
  by_cases h8 : u < 3
  · refine (projScr_before (i n) (x0 n) (x1 n) (projAt i x0 x1 n) ⟨5 + u, by omega⟩ c).trans ?_
    rw [hi n hn]
    split_ifs with hz
    · unfold Layer.padded
      rw [if_pos (by omega)]
    · obtain ⟨m, rfl⟩ : ∃ m, n = m + 1 := ⟨n - 1, by omega⟩
      have := own m (by omega) ⟨509 + u, by omega⟩ c (by show 8 + (509 + u) < 520; omega)
      unfold Layer.padded
      rw [if_neg (by omega)]
      refine Eq.trans (congrArg (fun r : Fin 520 => projAt i x0 x1 (m + 1) (ix2 r c)) (Fin.ext (by show 512 + (5 + u) = 8 + (509 + u); omega))) (this.trans ?_)
      have hb : (⟨m / 8, by omega⟩ : Fin 8) = ⟨(m + 1) / 8, by omega⟩ := Fin.ext (by show m / 8 = (m + 1) / 8; omega)
      rw [hb, show 512 * (m % 8) + (⟨509 + u, by omega⟩ : Fin 512).val = 512 * ((m + 1) % 8) + u - 3 from by
        show 512 * (m % 8) + (509 + u) = _; omega]
  · have := own n hn ⟨u - 3, by omega⟩ c (by show 8 + (u - 3) < 520; omega)
    unfold Layer.padded
    rw [if_neg (by omega)]
    refine Eq.trans (congrArg (fun r : Fin 520 => projAt i x0 x1 (n + 1) (ix2 r c)) (Fin.ext (by show 5 + u = 8 + (u - 3); omega))) (this.trans ?_)
    rw [show 512 * (n % 8) + (⟨u - 3, by omega⟩ : Fin 512).val = 512 * (n % 8) + u - 3 from by
        show 512 * (n % 8) + (u - 3) = _; omega]

end Cert.KernelIdeal.Body

end
-- ==== Proof.Blocks.lean ====
/- Where a call's blocks lie in its arrays, and an array read through its blocks. -/
module

public import proofs.«01_k».proof.Proof.Spec

@[expose] public section

noncomputable section

namespace Blocks

open Idealize.ShloMosaic

/-- An index by its coordinates. -/
theorem idx2 {n0 n1 : ℕ} {i : (⟨2, ![n0, n1]⟩ : Shape).Idx} (p : Fin n0) (q : Fin n1) (h0 : (i 0).val = p.val) (h1 : (i 1).val = q.val) : i = ix2 p q :=
  (eq_ix2 i).trans (congrArg₂ ix2 (Fin.ext h0) (Fin.ext h1))

theorem idx3 {n0 n1 n2 : ℕ} {i : (⟨3, ![n0, n1, n2]⟩ : Shape).Idx} (p : Fin n0) (q : Fin n1) (s : Fin n2)
    (h0 : (i 0).val = p.val) (h1 : (i 1).val = q.val) (h2 : (i 2).val = s.val) : i = ix3 p q s := by
  rw [eq_ix3 i, show i 0 = p from Fin.ext h0, show i 1 = q from Fin.ext h1, show i 2 = s from Fin.ext h2]

/-- Row `r` of block `q`, of `n` rows each, -/
theorem row {i q : ℕ} (h : i = q) (n r : ℕ) : i * n + 1 * r = n * q + r := by
  rw [h, Nat.one_mul, Nat.mul_comm]

/-- of a block that is the whole extent, -/
theorem whole {i : ℕ} (h : i = 0) (n r : ℕ) : i * n + 1 * r = r := by
  rw [h, Nat.zero_mul, Nat.zero_add, Nat.one_mul]

/-- and of a block of one row. -/
theorem single {i q : ℕ} (h : i = q) : i * 1 + 1 * 0 = q := by
  rw [h, Nat.mul_one, Nat.mul_zero, Nat.add_zero]

/-- A point is known by its batch and its block of time. -/
theorem apart {K t t' : ℕ} (h : (![t / K, t % K, 0] : Fin 3 → ℕ) = ![t' / K, t' % K, 0]) : t = t' := by
  have h0 : t / K = t' / K := congrFun h 0
  have h1 : t % K = t' % K := congrFun h 1
  rw [← Nat.div_add_mod t K, ← Nat.div_add_mod t' K, h0, h1]

/-- An array known block by block, `K` blocks of `T` rows to a batch, is known everywhere. -/
theorem split {n T K N : ℕ} (hT : T * K = 4096) (hN : N = 8 * K) (A : (⟨3, ![8, 4096, n]⟩ : Shape).Idx → EReal) (f : Layer.Act n)
    (h : ∀ (t : Fin N) (r : Fin T) k (hb : t.val / K < 8) (ht : T * (t.val % K) + r.val < 4096),
      A (ix3 ⟨t.val / K, hb⟩ ⟨T * (t.val % K) + r.val, ht⟩ k) = f ⟨t.val / K, hb⟩ (T * (t.val % K) + r.val) k)
    (b : Fin 8) (t : Fin 4096) (k : Fin n) : A (ix3 b t k) = f b t.val k := by
  have hT0 : 0 < T := Nat.pos_of_ne_zero fun e => by simp [e] at hT
  have hq : t.val / T < K := Nat.div_lt_of_lt_mul (by rw [hT]; exact t.isLt)
  have hp : K * b.val + t.val / T < N := by rw [hN]; nlinarith [b.isLt]
  have e0 : (K * b.val + t.val / T) / K = b.val := by rw [Nat.mul_add_div (lt_of_le_of_lt (Nat.zero_le _) hq), Nat.div_eq_of_lt hq, Nat.add_zero]
  have e1 : T * ((K * b.val + t.val / T) % K) + t.val % T = t.val := by rw [Nat.mul_add_mod, Nat.mod_eq_of_lt hq, Nat.div_add_mod]
  have := h ⟨_, hp⟩ ⟨t.val % T, Nat.mod_lt _ hT0⟩ k (by simp only [e0]; exact b.isLt) (by simp only [e1]; exact t.isLt)
  simp only [e0, e1] at this
  exact this

end Blocks

end
-- ==== Proof.Value0.lean ====
/- What the first layer's projection call leaves in its results, element by element. -/
module

public import proofs.«01_k».proof.Proof.Region0
public import proofs.«01_k».proof.Proof.KerProj
public import proofs.«01_k».proof.Proof.Blocks

@[expose] public section

set_option maxRecDepth 16384

noncomputable section

namespace Cert.KernelIdeal.Region0

open Idealize.ShloMosaic Idealize.ShloMosaic.TcCoe Idealize.ShloMosaic.Tactic
open Idealize.ShloMosaic.Pipeline (Dat Cfg Window)
open Blocks Mamba Cert.KernelIdeal.Gen Cert.KernelIdeal.Body

/-! ## Where the windows' blocks lie -/

theorem t_lt (t : Fin cfg0.N) : t.val < 64 := lt_of_lt_of_eq t.isLt (show cfg0.N = 64 from N_0)

theorem coord_1 : ∀ t : Fin grid0.N, (grid0.coords t 1).val = t.val % 8 := by decide +kernel

theorem at_0 : ∀ t : Fin grid0.N, win0_0.index t = ![t.val / 8, t.val % 8, 0] := by decide +kernel
theorem at_1 : ∀ t : Fin grid0.N, win0_1.index t = ![0, 0] := by decide +kernel
theorem at_2 : ∀ t : Fin grid0.N, win0_2.index t = ![0, 0] := by decide +kernel
theorem at_3 : ∀ t : Fin grid0.N, win0_3.index t = ![0, 0] := by decide +kernel
theorem at_4 : ∀ t : Fin grid0.N, win0_4.index t = ![0, 0] := by decide +kernel
theorem at_5 : ∀ t : Fin grid0.N, win0_5.index t = ![0, 0] := by decide +kernel
theorem at_6 : ∀ t : Fin grid0.N, win0_6.index t = ![0, 0] := by decide +kernel
theorem at_7 : ∀ t : Fin grid0.N, win0_7.index t = ![t.val / 8, t.val % 8, 0] := by decide +kernel
theorem at_8 : ∀ t : Fin grid0.N, win0_8.index t = ![t.val / 8, t.val % 8, 0] := by decide +kernel
theorem at_9 : ∀ t : Fin grid0.N, win0_9.index t = ![t.val / 8, t.val % 8, 0] := by decide +kernel
theorem at_10 : ∀ t : Fin grid0.N, win0_10.index t = ![t.val / 8, t.val % 8, 0] := by decide +kernel

variable (V : Dev nD → Valuation τ sig (Elt Ideal)) (c : Dev nD)

theorem blk_0 (t : Fin cfg0.N) (r : Fin 512) (k : Fin 280) (hb : t.val / 8 < 8) (ht : 512 * (t.val % 8) + r.val < 4096) :
    (blk V c 0 t : Vec Ideal S1x512x280 .f32) (ix3 0 r k) = (V c main_arg0 : Vec Ideal S8x4096x280 .f32) (ix3 ⟨t.val / 8, hb⟩ ⟨512 * (t.val % 8) + r.val, ht⟩ k) :=
  congrArg (V c main_arg0 : Vec Ideal S8x4096x280 .f32) (idx3 ⟨t.val / 8, hb⟩ ⟨512 * (t.val % 8) + r.val, ht⟩ k (single (congrFun (at_0 t) 0) :)
    (row (congrFun (at_0 t) 1) 512 r.val :) (whole (congrFun (at_0 t) 2) 280 k.val :))

theorem blk_1 (t : Fin cfg0.N) (p : Fin 280) (q : Fin 1120) : (blk V c 1 t : Vec Ideal S280x1120 .f32) (ix2 p q) = (V c main_call0_v12 : Vec Ideal S280x1120 .f32) (ix2 p q) :=
  congrArg (V c main_call0_v12 : Vec Ideal S280x1120 .f32) (idx2 p q (whole (congrFun (at_1 t) 0) 280 p.val :) (whole (congrFun (at_1 t) 1) 1120 q.val :))

theorem blk_2 (t : Fin cfg0.N) (p : Fin 560) (q : Fin 4) : (blk V c 2 t : Vec Ideal S560x4 .f32) (ix2 p q) = (V c main_call0_v3 : Vec Ideal S560x4 .f32) (ix2 p q) :=
  congrArg (V c main_call0_v3 : Vec Ideal S560x4 .f32) (idx2 p q (whole (congrFun (at_2 t) 0) 560 p.val :) (whole (congrFun (at_2 t) 1) 4 q.val :))

theorem blk_3 (t : Fin cfg0.N) (p : Fin 1) (q : Fin 560) : (blk V c 3 t : Vec Ideal S1x560 .f32) (ix2 p q) = (V c main_call0_v13 : Vec Ideal S1x560 .f32) (ix2 p q) :=
  congrArg (V c main_call0_v13 : Vec Ideal S1x560 .f32) (idx2 p q (whole (congrFun (at_3 t) 0) 1 p.val :) (whole (congrFun (at_3 t) 1) 560 q.val :))

theorem blk_4 (t : Fin cfg0.N) (p : Fin 560) (q : Fin 50) : (blk V c 4 t : Vec Ideal S560x50 .f32) (ix2 p q) = (V c main_call0_v14 : Vec Ideal S560x50 .f32) (ix2 p q) :=
  congrArg (V c main_call0_v14 : Vec Ideal S560x50 .f32) (idx2 p q (whole (congrFun (at_4 t) 0) 560 p.val :) (whole (congrFun (at_4 t) 1) 50 q.val :))

theorem blk_5 (t : Fin cfg0.N) (p : Fin 18) (q : Fin 560) : (blk V c 5 t : Vec Ideal S18x560 .f32) (ix2 p q) = (V c main_call0_v15 : Vec Ideal S18x560 .f32) (ix2 p q) :=
  congrArg (V c main_call0_v15 : Vec Ideal S18x560 .f32) (idx2 p q (whole (congrFun (at_5 t) 0) 18 p.val :) (whole (congrFun (at_5 t) 1) 560 q.val :))

theorem blk_6 (t : Fin cfg0.N) (p : Fin 1) (q : Fin 560) : (blk V c 6 t : Vec Ideal S1x560 .f32) (ix2 p q) = (V c main_call0_v16 : Vec Ideal S1x560 .f32) (ix2 p q) :=
  congrArg (V c main_call0_v16 : Vec Ideal S1x560 .f32) (idx2 p q (whole (congrFun (at_6 t) 0) 1 p.val :) (whole (congrFun (at_6 t) 1) 560 q.val :))

theorem flush_7 : ∀ t : Fin cfg0.N, (cfg0.win 7).flush t = true := by decide +kernel

theorem apart_7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (Fin.ext (apart ((at_7 t).symm.trans (h.trans (at_7 t')))))

theorem arr_7 (t : Fin cfg0.N) (r : Fin 512) (k : Fin 560) (hb : t.val / 8 < 8) (ht : 512 * (t.val % 8) + r.val < 4096) :
    ((dat V c).arrAt 7 cfg0.N : Vec Ideal S8x4096x560 .f32) (ix3 ⟨t.val / 8, hb⟩ ⟨512 * (t.val % 8) + r.val, ht⟩ k) = ((dat V c).after 7 t : Vec Ideal S1x512x560 .f32) (ix3 0 r k) :=
  (congrArg ((dat V c).arrAt 7 cfg0.N : Vec Ideal S8x4096x560 .f32) (idx3 ⟨t.val / 8, hb⟩ ⟨512 * (t.val % 8) + r.val, ht⟩ k (single (congrFun (at_7 t) 0) :)
    (row (congrFun (at_7 t) 1) 512 r.val :) (whole (congrFun (at_7 t) 2) 560 k.val :))).symm.trans
    (congrFun ((dat V c).read_blk_arrAt_eq_flushed 7 apart_7 cfg0.N t t.isLt (flush_7 t)) (ix3 (0 : Fin 1) r k))

theorem flush_8 : ∀ t : Fin cfg0.N, (cfg0.win 8).flush t = true := by decide +kernel

theorem apart_8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (Fin.ext (apart ((at_8 t).symm.trans (h.trans (at_8 t')))))

theorem arr_8 (t : Fin cfg0.N) (r : Fin 512) (k : Fin 560) (hb : t.val / 8 < 8) (ht : 512 * (t.val % 8) + r.val < 4096) :
    ((dat V c).arrAt 8 cfg0.N : Vec Ideal S8x4096x560 .f32) (ix3 ⟨t.val / 8, hb⟩ ⟨512 * (t.val % 8) + r.val, ht⟩ k) = ((dat V c).after 8 t : Vec Ideal S1x512x560 .f32) (ix3 0 r k) :=
  (congrArg ((dat V c).arrAt 8 cfg0.N : Vec Ideal S8x4096x560 .f32) (idx3 ⟨t.val / 8, hb⟩ ⟨512 * (t.val % 8) + r.val, ht⟩ k (single (congrFun (at_8 t) 0) :)
    (row (congrFun (at_8 t) 1) 512 r.val :) (whole (congrFun (at_8 t) 2) 560 k.val :))).symm.trans
    (congrFun ((dat V c).read_blk_arrAt_eq_flushed 8 apart_8 cfg0.N t t.isLt (flush_8 t)) (ix3 (0 : Fin 1) r k))

theorem flush_9 : ∀ t : Fin cfg0.N, (cfg0.win 9).flush t = true := by decide +kernel

theorem apart_9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (Fin.ext (apart ((at_9 t).symm.trans (h.trans (at_9 t')))))

theorem arr_9 (t : Fin cfg0.N) (r : Fin 512) (k : Fin 560) (hb : t.val / 8 < 8) (ht : 512 * (t.val % 8) + r.val < 4096) :
    ((dat V c).arrAt 9 cfg0.N : Vec Ideal S8x4096x560 .f32) (ix3 ⟨t.val / 8, hb⟩ ⟨512 * (t.val % 8) + r.val, ht⟩ k) = ((dat V c).after 9 t : Vec Ideal S1x512x560 .f32) (ix3 0 r k) :=
  (congrArg ((dat V c).arrAt 9 cfg0.N : Vec Ideal S8x4096x560 .f32) (idx3 ⟨t.val / 8, hb⟩ ⟨512 * (t.val % 8) + r.val, ht⟩ k (single (congrFun (at_9 t) 0) :)
    (row (congrFun (at_9 t) 1) 512 r.val :) (whole (congrFun (at_9 t) 2) 560 k.val :))).symm.trans
    (congrFun ((dat V c).read_blk_arrAt_eq_flushed 9 apart_9 cfg0.N t t.isLt (flush_9 t)) (ix3 (0 : Fin 1) r k))

theorem flush_10 : ∀ t : Fin cfg0.N, (cfg0.win 10).flush t = true := by decide +kernel

theorem apart_10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (Fin.ext (apart ((at_10 t).symm.trans (h.trans (at_10 t')))))

theorem arr_10 (t : Fin cfg0.N) (r : Fin 512) (k : Fin 32) (hb : t.val / 8 < 8) (ht : 512 * (t.val % 8) + r.val < 4096) :
    ((dat V c).arrAt 10 cfg0.N : Vec Ideal S8x4096x32 .f32) (ix3 ⟨t.val / 8, hb⟩ ⟨512 * (t.val % 8) + r.val, ht⟩ k) = ((dat V c).after 10 t : Vec Ideal S1x512x32 .f32) (ix3 0 r k) :=
  (congrArg ((dat V c).arrAt 10 cfg0.N : Vec Ideal S8x4096x32 .f32) (idx3 ⟨t.val / 8, hb⟩ ⟨512 * (t.val % 8) + r.val, ht⟩ k (single (congrFun (at_10 t) 0) :)
    (row (congrFun (at_10 t) 1) 512 r.val :) (whole (congrFun (at_10 t) 2) 32 k.val :))).symm.trans
    (congrFun ((dat V c).read_blk_arrAt_eq_flushed 10 apart_10 cfg0.N t t.isLt (flush_10 t)) (ix3 (0 : Fin 1) r k))

/-! ## The results -/

variable (w : Layer.Weights) (x : Layer.Act 280)

/-- What the call is entered with: the activation and the weights, laid out as the call reads them. -/
structure Entered : Prop where
  x : ∀ b (t : Fin 4096) k, (V c main_arg0 : Vec Ideal S8x4096x280 .f32) (ix3 b t k) = x b t.val k
  inw : ∀ k e, (V c main_call0_v12 : Vec Ideal S280x1120 .f32) (ix2 k e) = w.inw e k
  cw : ∀ e k, (V c main_call0_v3 : Vec Ideal S560x4 .f32) (ix2 e k) = w.cw e k
  cb : ∀ z e, (V c main_call0_v13 : Vec Ideal S1x560 .f32) (ix2 z e) = w.cb e
  xpw : ∀ k e, (V c main_call0_v14 : Vec Ideal S560x50 .f32) (ix2 k e) = w.xpw e k
  dtw : ∀ r e, (V c main_call0_v15 : Vec Ideal S18x560 .f32) (ix2 r e) = w.dtw e r
  dtb : ∀ z e, (V c main_call0_v16 : Vec Ideal S1x560 .f32) (ix2 z e) = w.dtb e

section Results

variable {V c w x} (h : Entered V c w x)

include h

theorem holds (t : Fin cfg0.N) : Holds w x ⟨t.val / 8, by have := t_lt t; omega⟩ (scr V c (t.val + 1)) (512 * (t.val % 8)) :=
  projAt_holds w x _ (fun n hn => (coord_1 (pt n)).trans (by show n % 64 % 8 = n % 8; omega)) _
    (fun n hn r k => by
      have e : (pt n).val = n := Nat.mod_eq_of_lt hn
      rw [blk_0 V c (pt n) r k (by omega) (by omega), h.x]
      simp only [e])
    _ (fun n hn k e => (blk_1 V c (pt n) k e).trans (h.inw k e)) t.val (t_lt t)

theorem out_7 (b : Fin 8) (t : Fin 4096) (k : Fin 560) : (exit V c main_call0_v17_0 : Vec Ideal S8x4096x560 .f32) (ix3 b t k) = Layer.xc w x b t.val k := by
  rw [exit_7]
  exact split (T := 512) (K := 8) rfl N_0 _ _ (fun t r k hb ht => (arr_7 V c t r k hb ht).trans (projXc_at (holds h t) (fun e k => (blk_2 V c t e k).trans (h.cw e k)) (fun z e => (blk_3 V c t z e).trans (h.cb z e)) 0 r k)) b t k

theorem out_8 (b : Fin 8) (t : Fin 4096) (k : Fin 560) : (exit V c main_call0_v17_1 : Vec Ideal S8x4096x560 .f32) (ix3 b t k) = Layer.dt w x b t.val k := by
  rw [exit_8]
  exact split (T := 512) (K := 8) rfl N_0 _ _ (fun t r k hb ht => (arr_8 V c t r k hb ht).trans (projDt_at (holds h t) (fun e k => (blk_2 V c t e k).trans (h.cw e k)) (fun z e => (blk_3 V c t z e).trans (h.cb z e))
      (fun k e => (blk_4 V c t k e).trans (h.xpw k e)) (fun r e => (blk_5 V c t r e).trans (h.dtw r e)) (fun z e => (blk_6 V c t z e).trans (h.dtb z e)) 0 r k)) b t k

theorem out_9 (b : Fin 8) (t : Fin 4096) (k : Fin 560) : (exit V c main_call0_v17_2 : Vec Ideal S8x4096x560 .f32) (ix3 b t k) = Layer.gate w x b t.val k := by
  rw [exit_9]
  exact split (T := 512) (K := 8) rfl N_0 _ _ (fun t r k hb ht => (arr_9 V c t r k hb ht).trans (gate_at w x _ (fun r k => (blk_0 V c t r k (by have := t_lt t; omega) (by omega)).trans (h.x _ _ _))
      (fun k e => (blk_1 V c t k e).trans (h.inw k e)) 0 r k)) b t k

theorem out_10 (b : Fin 8) (t : Fin 4096) (k : Fin 32) : (exit V c main_call0_v17_3 : Vec Ideal S8x4096x32 .f32) (ix3 b t k) = Layer.bc w x b t.val k := by
  rw [exit_10]
  exact split (T := 512) (K := 8) rfl N_0 _ _ (fun t r k hb ht => (arr_10 V c t r k hb ht).trans (projBc_at (holds h t) (fun e k => (blk_2 V c t e k).trans (h.cw e k)) (fun z e => (blk_3 V c t z e).trans (h.cb z e))
      (fun k e => (blk_4 V c t k e).trans (h.xpw k e)) 0 r k)) b t k

end Results

end Cert.KernelIdeal.Region0

end
-- ==== Proof.KerScan.lean ====
/- The scan kernel's blocks, element by element, as the layer's mathematics. -/
module

public import proofs.«01_k».proof.Proof.Carry
public import proofs.«01_k».proof.Proof.Spec

@[expose] public section

set_option maxRecDepth 16384

noncomputable section

namespace Cert.KernelIdeal.Body

open Idealize.ShloMosaic Idealize.ShloMosaic.TcCoe Idealize.ShloMosaic.Tactic
open Mamba Cert.KernelIdeal.Gen

/-! ## The masked product is a sum over the state's index -/

theorem shifted : ∀ k : Fin 2048, IntOp.shrsi ArithUnit.vector (BitVec.ofNat 32 k.val) 4#32 = BitVec.ofNat 32 (k.val / 16) := by decide +kernel

theorem masked : ∀ k : Fin 2048, IntOp.andi (BitVec.ofNat 32 k.val) 15#32 = BitVec.ofNat 32 (k.val % 16) := by decide +kernel

theorem cmpi_small (a b : ℕ) (ha : a < 2048) (hb : b < 2048) :
    IntOp.cmpi CmpIPredicate.eq (BitVec.ofNat 32 a) (BitVec.ofNat 32 b) = if a = b then 1#1 else 0#1 := by
  by_cases h : a = b
  · subst h; simp [IntOp.cmpi]
  · have : BitVec.ofNat 32 a ≠ BitVec.ofNat 32 b := fun e => h (by
      have := congrArg BitVec.toNat e
      simp only [BitVec.toNat_ofNat] at this
      omega)
    rw [if_neg h]
    show BitVec.ofBool (BitVec.ofNat 32 a == BitVec.ofNat 32 b) = 0#1
    rw [beq_eq_false_iff_ne.mpr this]
    rfl

theorem indicator (p : Prop) [Decidable p] :
    (FloatOps.sitofp (F := Ideal) FTy.f32 (BitVec.setWidth 32 (if p then 1#1 else 0#1)) : EReal) = if p then 1 else 0 := by
  split_ifs
  · show (((BitVec.setWidth 32 1#1).toInt : ℝ) : EReal) = 1
    norm_num [show (BitVec.setWidth 32 1#1).toInt = 1 from by decide]
  · show (((BitVec.setWidth 32 0#1).toInt : ℝ) : EReal) = 0
    norm_num [show (BitVec.setWidth 32 0#1).toInt = 0 from by decide]

theorem masked_sum (C : Fin 16 → EReal) (h : Fin 128 → Fin 16 → EReal) (r : Fin 128) :
    ∑ k : Fin 2048, Scalar.select (α := EReal) (IntOp.cmpi CmpIPredicate.eq (IntOp.shrsi ArithUnit.vector (BitVec.ofNat 32 k.val) 4#32) (BitVec.ofNat 32 r.val))
        ((∑ n : Fin 16, C n * FloatOps.sitofp (F := Ideal) FTy.f32 (BitVec.setWidth 32
          (IntOp.cmpi CmpIPredicate.eq (IntOp.andi (BitVec.ofNat 32 k.val) 15#32) (BitVec.ofNat 32 n.val))))
          * h ⟨k.val / 16, by omega⟩ ⟨k.val % 16, by omega⟩) 0 = ∑ n, C n * h r n := by
  rw [← Fintype.sum_equiv (finProdFinEquiv : Fin 128 × Fin 16 ≃ Fin 2048) (fun p => (if p.1 = r then C p.2 else 0) * h p.1 p.2) _ ?_]
  · rw [Fintype.sum_prod_type_right]
    refine Finset.sum_congr rfl fun n _ => ?_
    simp only [ite_mul, zero_mul, Finset.sum_ite_eq', Finset.mem_univ, if_true]
  · rintro ⟨a, n⟩
    have ha := a.isLt; have hn := n.isLt; have hr := r.isLt
    have hk : (finProdFinEquiv (a, n) : Fin 2048).val = n.val + 16 * a.val := rfl
    have e1 : (⟨(finProdFinEquiv (a, n) : Fin 2048).val / 16, by omega⟩ : Fin 128) = a := Fin.ext (by show _ / 16 = _; omega)
    have e2 : (⟨(finProdFinEquiv (a, n) : Fin 2048).val % 16, by omega⟩ : Fin 16) = n := Fin.ext (by show _ % 16 = _; omega)
    have e3 : (finProdFinEquiv (a, n) : Fin 2048).val / 16 = a.val := by omega
    have e4 : (finProdFinEquiv (a, n) : Fin 2048).val % 16 = n.val := by omega
    rw [e1, e2, shifted, cmpi_small _ _ (by omega) (by omega), e3]
    have hs : (∑ j : Fin 16, C j * FloatOps.sitofp (F := Ideal) FTy.f32 (BitVec.setWidth 32
          (IntOp.cmpi CmpIPredicate.eq (IntOp.andi (BitVec.ofNat 32 (finProdFinEquiv (a, n) : Fin 2048).val) 15#32) (BitVec.ofNat 32 j.val)))) = C n := by
      rw [Finset.sum_eq_single n]
      · rw [masked, cmpi_small _ _ (by omega) (by omega), indicator, if_pos e4, mul_one]
      · intro j _ hj
        have hj' := j.isLt
        rw [masked, cmpi_small _ _ (by omega) (by omega), indicator, if_neg (fun h => hj (Fin.ext (by omega))), mul_zero]
      · exact fun h => absurd (Finset.mem_univ n) h
    rw [hs]
    by_cases h : a = r
    · subst h; simp [Scalar.select]
    · have h' : ¬ a.val = r.val := fun e => h (Fin.ext e)
      simp [Scalar.select, h, h']

/-! ## A block's steps -/

variable (w : Layer.Weights) (x : Layer.Act 280)

section Block

variable {w x} {b : Fin 8} {T : ℕ}
  {x0 : Vec Ideal S1x128x560 .f32} (h0 : ∀ r c, x0 (ix3 0 r c) = Layer.xc w x b (T + r.val) c)
  {x1 : Vec Ideal S1x128x560 .f32} (h1 : ∀ r c, x1 (ix3 0 r c) = Layer.dt w x b (T + r.val) c)
  {x2 : Vec Ideal S1x128x560 .f32} (h2 : ∀ r c, x2 (ix3 0 r c) = Layer.gate w x b (T + r.val) c)
  {x3 : Vec Ideal S1x128x32 .f32} (h3 : ∀ r (e : Fin 32), x3 (ix3 0 r e) = Layer.bc w x b (T + r.val) e)
  {x4 : Vec Ideal S16x560 .f32} (h4 : ∀ n c, x4 (ix2 n c) = w.alog c n)
  {x5 : Vec Ideal S1x560 .f32} (h5 : ∀ c, x5 (ix2 0 c) = w.skip c)
  {x6 : Vec Ideal S560x280 .f32} (h6 : ∀ c d, x6 (ix2 c d) = w.ow d c)
  {h : Vec Ideal S16x560 .f32} (hh : ∀ n c, h (ix2 n c) = Layer.state w x b T n c)

theorem pay9_step (p q : Vec Ideal S1x16x560 .f32) (s : Vec Ideal S16x560 .f32) (n : Fin 16) (c : Fin 560) :
    k1_pay9 p s q (ix2 n c) = p (ix3 0 n c) * s (ix2 n c) + q (ix3 0 n c) := by
  pointwise [k1_pay9, k1_pay8]

theorem pay10_step (p q : Vec Ideal S1x16x560 .f32) (s : Vec Ideal S16x560 .f32) (z : Fin 1) (n : Fin 16) (c : Fin 560) :
    k1_pay10 p s q (ix3 z n c) = p (ix3 0 n c) * s (ix2 n c) + q (ix3 0 n c) := by
  pointwise [k1_pay10, k1_pay8]

include h1 h4 in
theorem decay_at (r : Fin 128) (n : Fin 16) (c : Fin 560) :
    k1_pay6 x4 x1 (ix3 r n c) = Ideal.exp (Layer.dt w x b (T + r.val) c * (0 - Ideal.exp (w.alog c n))) := by
  rw [← h1, ← h4]
  pointwise [k1_pay6, k1_pay3]

include h0 h1 h3 in
theorem input_at (r : Fin 128) (n : Fin 16) (c : Fin 560) :
    k1_pay7 x1 x0 x3 (ix3 r n c) = Layer.dt w x b (T + r.val) c * Layer.xc w x b (T + r.val) c * Layer.bc w x b (T + r.val) ⟨n.val, by omega⟩ := by
  rw [← h1, ← h0, ← h3 r ⟨n.val, by omega⟩]
  pointwise [k1_pay7, k1_pay3, k1_pay4, k1_pay5]

include h0 h1 h3 h4 hh in
theorem scanH_at (k : ℕ) (hk : k ≤ 128) (n : Fin 16) (c : Fin 560) :
    scanH (k1_pay6 x4 x1) (k1_pay7 x1 x0 x3) h k (ix2 n c) = Layer.state w x b (T + k) n c := by
  induction k with
  | zero => exact hh n c
  | succ k ih =>
    rw [scanH_succ _ _ _ _ (by omega), pay9_step, ih (by omega)]
    show k1_pay6 x4 x1 (ix3 ⟨k, _⟩ n c) * _ + k1_pay7 x1 x0 x3 (ix3 ⟨k, _⟩ n c) = _
    rw [decay_at h1 h4, input_at h0 h1 h3]
    rfl

include h0 h1 h3 h4 hh in
theorem hist_at (k : Fin 128) (n : Fin 16) (c : Fin 560) :
    scanHist (k1_pay6 x4 x1) (k1_pay7 x1 x0 x3) h (ix3 k n c) = Layer.state w x b (T + k.val + 1) n c := by
  show k1_pay10 (scanRow (k1_pay6 x4 x1) k) (scanH _ _ h k.val) (scanRow (k1_pay7 x1 x0 x3) k) (ix3 (0 : Fin 1) n c) = _
  rw [pay10_step, scanH_at h0 h1 h3 h4 hh k.val (by omega)]
  show k1_pay6 x4 x1 (ix3 k n c) * _ + k1_pay7 x1 x0 x3 (ix3 k n c) = _
  rw [decay_at h1 h4, input_at h0 h1 h3]
  rfl

include h0 h1 h2 h3 h4 h5 h6 in
theorem scanOut_at (i : grid1.Coords) (s : Vec Ideal S16x560 .f32) (hs : ∀ n c, scanEnter i s (ix2 n c) = Layer.state w x b T n c)
    (z : Fin 1) (r : Fin 128) (d : Fin 280) :
    scanOut i x0 x1 x2 x3 x4 x5 x6 s (ix3 z r d) = Layer.out w x b (T + r.val) d := by
  unfold scanOut Layer.out Layer.y Layer.silu
  have hist := fun n c => hist_at h0 h1 h3 h4 hs r n c
  revert hist
  generalize scanHist (F := Ideal) _ _ _ = g
  intro hist
  simp only [← hist, ← h0, ← h2, ← h5, ← h6]
  have hC : ∀ n : Fin 16, Layer.bc w x b (T + r.val) ⟨16 + n.val, by omega⟩ = k1_pay5 x3 (ix2 r ⟨16 + n.val, by omega⟩) := by
    intro n
    pointwise [k1_pay5]
    rw [h3]
  simp only [hC]
  generalize k1_pay5 x3 = v13
  pointwise [k1_pay1, k1_pay11, k1_pay4]
  refine Finset.sum_congr rfl fun c _ => ?_
  have hm := masked_sum (fun n => v13 (ix2 r ⟨16 + n.val, by omega⟩)) (fun k n => g (ix3 k n c)) r
  exact congrArg (fun a => (a + x0 (ix3 0 r c) * x5 (ix2 0 c)) * (x2 (ix3 0 r c) * Ideal.logistic (x2 (ix3 0 r c))) * x6 (ix2 c d)) hm

end Block

/-! ## The state between points -/

/-- Each point's steps start from the state at its first time. -/
theorem scanAt_enter (i : ℕ → grid1.Coords) (hi : ∀ n < 256, (i n 1).val = n % 32)
    (x0 x1 : ℕ → Vec Ideal S1x128x560 .f32) (x3 : ℕ → Vec Ideal S1x128x32 .f32) (x4 : ℕ → Vec Ideal S16x560 .f32)
    (h0 : ∀ n (hn : n < 256) r c, x0 n (ix3 0 r c) = Layer.xc w x ⟨n / 32, by omega⟩ (128 * (n % 32) + r.val) c)
    (h1 : ∀ n (hn : n < 256) r c, x1 n (ix3 0 r c) = Layer.dt w x ⟨n / 32, by omega⟩ (128 * (n % 32) + r.val) c)
    (h3 : ∀ n (hn : n < 256) r (e : Fin 32), x3 n (ix3 0 r e) = Layer.bc w x ⟨n / 32, by omega⟩ (128 * (n % 32) + r.val) e)
    (h4 : ∀ n < 256, ∀ k c, x4 n (ix2 k c) = w.alog c k) :
    ∀ n (hn : n < 256) k c, scanEnter (i n) (scanAt i x0 x1 x3 x4 n) (ix2 k c) = Layer.state w x ⟨n / 32, by omega⟩ (128 * (n % 32)) k c := by
  intro n
  induction n with
  | zero =>
    intro hn k c
    unfold scanEnter
    rw [if_pos (hi 0 hn)]
    show k1_pay2 (ix2 k c) = 0
    pointwise [k1_pay2]
  | succ n ih =>
    intro hn k c
    unfold scanEnter
    rw [hi (n + 1) hn]
    split_ifs with hz
    · rw [hz]
      show k1_pay2 (ix2 k c) = 0
      pointwise [k1_pay2]
    · show scanH _ _ _ 128 (ix2 k c) = _
      rw [scanH_at (h0 n (by omega)) (h1 n (by omega)) (h3 n (by omega)) (h4 n (by omega)) (ih (by omega)) 128 le_rfl]
      have hb : (⟨n / 32, by omega⟩ : Fin 8) = ⟨(n + 1) / 32, by omega⟩ := Fin.ext (by show n / 32 = (n + 1) / 32; omega)
      rw [hb, show 128 * (n % 32) + 128 = 128 * ((n + 1) % 32) from by omega]

end Cert.KernelIdeal.Body

end
-- ==== Proof.Value1.lean ====
/- What the first layer's scan call leaves in its result, element by element. -/
module

public import proofs.«01_k».proof.Proof.Region1
public import proofs.«01_k».proof.Proof.KerScan
public import proofs.«01_k».proof.Proof.Blocks

@[expose] public section

set_option maxRecDepth 16384

noncomputable section

namespace Cert.KernelIdeal.Region1

open Idealize.ShloMosaic Idealize.ShloMosaic.TcCoe Idealize.ShloMosaic.Tactic
open Idealize.ShloMosaic.Pipeline (Dat Cfg Window)
open Blocks Mamba Cert.KernelIdeal.Gen Cert.KernelIdeal.Body

/-! ## Where the windows' blocks lie -/

theorem t_lt (t : Fin cfg1.N) : t.val < 256 := lt_of_lt_of_eq t.isLt (show cfg1.N = 256 from N_1)

theorem coord_1 : ∀ t : Fin grid1.N, (grid1.coords t 1).val = t.val % 32 := by decide +kernel

theorem at_0 : ∀ t : Fin grid1.N, win1_0.index t = ![t.val / 32, t.val % 32, 0] := by decide +kernel
theorem at_1 : ∀ t : Fin grid1.N, win1_1.index t = ![t.val / 32, t.val % 32, 0] := by decide +kernel
theorem at_2 : ∀ t : Fin grid1.N, win1_2.index t = ![t.val / 32, t.val % 32, 0] := by decide +kernel
theorem at_3 : ∀ t : Fin grid1.N, win1_3.index t = ![t.val / 32, t.val % 32, 0] := by decide +kernel
theorem at_7 : ∀ t : Fin grid1.N, win1_7.index t = ![t.val / 32, t.val % 32, 0] := by decide +kernel
theorem at_4 : ∀ t : Fin grid1.N, win1_4.index t = ![0, 0] := by decide +kernel
theorem at_5 : ∀ t : Fin grid1.N, win1_5.index t = ![0, 0] := by decide +kernel
theorem at_6 : ∀ t : Fin grid1.N, win1_6.index t = ![0, 0] := by decide +kernel

variable (V : Dev nD → Valuation τ sig (Elt Ideal)) (c : Dev nD)

theorem blk_0 (t : Fin cfg1.N) (r : Fin 128) (k : Fin 560) (hb : t.val / 32 < 8) (ht : 128 * (t.val % 32) + r.val < 4096) :
    (blk V c 0 t : Vec Ideal S1x128x560 .f32) (ix3 0 r k) = (V c main_call0_v17_0 : Vec Ideal S8x4096x560 .f32) (ix3 ⟨t.val / 32, hb⟩ ⟨128 * (t.val % 32) + r.val, ht⟩ k) :=
  congrArg (V c main_call0_v17_0 : Vec Ideal S8x4096x560 .f32) (idx3 ⟨t.val / 32, hb⟩ ⟨128 * (t.val % 32) + r.val, ht⟩ k (single (congrFun (at_0 t) 0) :)
    (row (congrFun (at_0 t) 1) 128 r.val :) (whole (congrFun (at_0 t) 2) 560 k.val :))

theorem blk_1 (t : Fin cfg1.N) (r : Fin 128) (k : Fin 560) (hb : t.val / 32 < 8) (ht : 128 * (t.val % 32) + r.val < 4096) :
    (blk V c 1 t : Vec Ideal S1x128x560 .f32) (ix3 0 r k) = (V c main_call0_v17_1 : Vec Ideal S8x4096x560 .f32) (ix3 ⟨t.val / 32, hb⟩ ⟨128 * (t.val % 32) + r.val, ht⟩ k) :=
  congrArg (V c main_call0_v17_1 : Vec Ideal S8x4096x560 .f32) (idx3 ⟨t.val / 32, hb⟩ ⟨128 * (t.val % 32) + r.val, ht⟩ k (single (congrFun (at_1 t) 0) :)
    (row (congrFun (at_1 t) 1) 128 r.val :) (whole (congrFun (at_1 t) 2) 560 k.val :))

theorem blk_2 (t : Fin cfg1.N) (r : Fin 128) (k : Fin 560) (hb : t.val / 32 < 8) (ht : 128 * (t.val % 32) + r.val < 4096) :
    (blk V c 2 t : Vec Ideal S1x128x560 .f32) (ix3 0 r k) = (V c main_call0_v17_2 : Vec Ideal S8x4096x560 .f32) (ix3 ⟨t.val / 32, hb⟩ ⟨128 * (t.val % 32) + r.val, ht⟩ k) :=
  congrArg (V c main_call0_v17_2 : Vec Ideal S8x4096x560 .f32) (idx3 ⟨t.val / 32, hb⟩ ⟨128 * (t.val % 32) + r.val, ht⟩ k (single (congrFun (at_2 t) 0) :)
    (row (congrFun (at_2 t) 1) 128 r.val :) (whole (congrFun (at_2 t) 2) 560 k.val :))

theorem blk_3 (t : Fin cfg1.N) (r : Fin 128) (k : Fin 32) (hb : t.val / 32 < 8) (ht : 128 * (t.val % 32) + r.val < 4096) :
    (blk V c 3 t : Vec Ideal S1x128x32 .f32) (ix3 0 r k) = (V c main_call0_v17_3 : Vec Ideal S8x4096x32 .f32) (ix3 ⟨t.val / 32, hb⟩ ⟨128 * (t.val % 32) + r.val, ht⟩ k) :=
  congrArg (V c main_call0_v17_3 : Vec Ideal S8x4096x32 .f32) (idx3 ⟨t.val / 32, hb⟩ ⟨128 * (t.val % 32) + r.val, ht⟩ k (single (congrFun (at_3 t) 0) :)
    (row (congrFun (at_3 t) 1) 128 r.val :) (whole (congrFun (at_3 t) 2) 32 k.val :))

theorem blk_4 (t : Fin cfg1.N) (p : Fin 16) (q : Fin 560) : (blk V c 4 t : Vec Ideal S16x560 .f32) (ix2 p q) = (V c main_call0_v24 : Vec Ideal S16x560 .f32) (ix2 p q) :=
  congrArg (V c main_call0_v24 : Vec Ideal S16x560 .f32) (idx2 p q (whole (congrFun (at_4 t) 0) 16 p.val :) (whole (congrFun (at_4 t) 1) 560 q.val :))

theorem blk_5 (t : Fin cfg1.N) (p : Fin 1) (q : Fin 560) : (blk V c 5 t : Vec Ideal S1x560 .f32) (ix2 p q) = (V c main_call0_v25 : Vec Ideal S1x560 .f32) (ix2 p q) :=
  congrArg (V c main_call0_v25 : Vec Ideal S1x560 .f32) (idx2 p q (whole (congrFun (at_5 t) 0) 1 p.val :) (whole (congrFun (at_5 t) 1) 560 q.val :))

theorem blk_6 (t : Fin cfg1.N) (p : Fin 560) (q : Fin 280) : (blk V c 6 t : Vec Ideal S560x280 .f32) (ix2 p q) = (V c main_call0_v26 : Vec Ideal S560x280 .f32) (ix2 p q) :=
  congrArg (V c main_call0_v26 : Vec Ideal S560x280 .f32) (idx2 p q (whole (congrFun (at_6 t) 0) 560 p.val :) (whole (congrFun (at_6 t) 1) 280 q.val :))

theorem flush_7 : ∀ t : Fin cfg1.N, (cfg1.win 7).flush t = true := by decide +kernel

theorem apart_7 : ∀ t t' : Fin cfg1.N, (cfg1.win 7).flush t = true → (cfg1.win 7).flush t' = true → t ≠ t' →
    Disjoint ((cfg1.win 7).blk t).view.set ((cfg1.win 7).blk t').view.set :=
  fun t t' _ _ hne => (cfg1.win 7).disjoint_blk fun h => hne (Fin.ext (apart ((at_7 t).symm.trans (h.trans (at_7 t')))))

theorem arr_7 (t : Fin cfg1.N) (r : Fin 128) (k : Fin 280) (hb : t.val / 32 < 8) (ht : 128 * (t.val % 32) + r.val < 4096) :
    ((dat V c).arrAt 7 cfg1.N : Vec Ideal S8x4096x280 .f32) (ix3 ⟨t.val / 32, hb⟩ ⟨128 * (t.val % 32) + r.val, ht⟩ k) = ((dat V c).after 7 t : Vec Ideal S1x128x280 .f32) (ix3 0 r k) :=
  (congrArg ((dat V c).arrAt 7 cfg1.N : Vec Ideal S8x4096x280 .f32) (idx3 ⟨t.val / 32, hb⟩ ⟨128 * (t.val % 32) + r.val, ht⟩ k (single (congrFun (at_7 t) 0) :)
    (row (congrFun (at_7 t) 1) 128 r.val :) (whole (congrFun (at_7 t) 2) 280 k.val :))).symm.trans
    (congrFun ((dat V c).read_blk_arrAt_eq_flushed 7 apart_7 cfg1.N t t.isLt (flush_7 t)) (ix3 (0 : Fin 1) r k))

/-! ## The result -/

variable (w : Layer.Weights) (x : Layer.Act 280)

/-- What the call is entered with: the projections and the weights, laid out as the call reads them. -/
structure Entered : Prop where
  xc : ∀ b (t : Fin 4096) k, (V c main_call0_v17_0 : Vec Ideal S8x4096x560 .f32) (ix3 b t k) = Layer.xc w x b t.val k
  dt : ∀ b (t : Fin 4096) k, (V c main_call0_v17_1 : Vec Ideal S8x4096x560 .f32) (ix3 b t k) = Layer.dt w x b t.val k
  gate : ∀ b (t : Fin 4096) k, (V c main_call0_v17_2 : Vec Ideal S8x4096x560 .f32) (ix3 b t k) = Layer.gate w x b t.val k
  proj : ∀ b (t : Fin 4096) (k : Fin 32), (V c main_call0_v17_3 : Vec Ideal S8x4096x32 .f32) (ix3 b t k) = Layer.bc w x b t.val k
  alog : ∀ n e, (V c main_call0_v24 : Vec Ideal S16x560 .f32) (ix2 n e) = w.alog e n
  skip : ∀ z e, (V c main_call0_v25 : Vec Ideal S1x560 .f32) (ix2 z e) = w.skip e
  ow : ∀ e d, (V c main_call0_v26 : Vec Ideal S560x280 .f32) (ix2 e d) = w.ow d e

variable {V c w x} (h : Entered V c w x)

include h

theorem enters (t : Fin cfg1.N) (k : Fin 16) (e : Fin 560) :
    scanEnter (grid1.coords t) (st V c t.val) (ix2 k e) = Layer.state w x ⟨t.val / 32, by have := t_lt t; omega⟩ (128 * (t.val % 32)) k e := by
  have hp : ∀ n < 256, (pt n).val = n := fun n hn => Nat.mod_eq_of_lt hn
  have := scanAt_enter w x (fun n => grid1.coords (pt n)) (fun n hn => (coord_1 (pt n)).trans (by rw [hp n hn])) (fun n => blk V c 0 (pt n)) (fun n => blk V c 1 (pt n)) (fun n => blk V c 3 (pt n)) (fun n => blk V c 4 (pt n))
    (fun n hn r k => by
      have e := hp n hn
      rw [blk_0 V c (pt n) r k (by omega) (by omega), h.xc]
      simp only [e])
    (fun n hn r k => by
      have e := hp n hn
      rw [blk_1 V c (pt n) r k (by omega) (by omega), h.dt]
      simp only [e])
    (fun n hn r k => by
      have e := hp n hn
      rw [blk_3 V c (pt n) r k (by omega) (by omega), h.proj]
      simp only [e])
    (fun n hn k e => (blk_4 V c (pt n) k e).trans (h.alog k e)) t.val (t_lt t) k e
  rw [pt_val] at this
  exact this

theorem out_7 (b : Fin 8) (t : Fin 4096) (d : Fin 280) : (exit V c main_call0_v27 : Vec Ideal S8x4096x280 .f32) (ix3 b t d) = Layer.out w x b t.val d := by
  rw [exit_7]
  exact split (T := 128) (K := 32) rfl N_1 _ _ (fun t r d hb ht => (arr_7 V c t r d hb ht).trans
    (scanOut_at (fun r k => (blk_0 V c t r k hb (by omega)).trans (h.xc _ _ _)) (fun r k => (blk_1 V c t r k hb (by omega)).trans (h.dt _ _ _))
      (fun r k => (blk_2 V c t r k hb (by omega)).trans (h.gate _ _ _)) (fun r k => (blk_3 V c t r k hb (by omega)).trans (h.proj _ _ _))
      (fun n e => (blk_4 V c t n e).trans (h.alog n e)) (fun e => (blk_5 V c t 0 e).trans (h.skip 0 e)) (fun e d => (blk_6 V c t e d).trans (h.ow e d))
      _ _ (enters h t) 0 _ d)) b t d

end Cert.KernelIdeal.Region1

end
-- ==== Proof.Value2.lean ====
/- What the second layer's projection call leaves in its results, element by element. -/
module

public import proofs.«01_k».proof.Proof.Region2
public import proofs.«01_k».proof.Proof.KerProj
public import proofs.«01_k».proof.Proof.Blocks

@[expose] public section

set_option maxRecDepth 16384

noncomputable section

namespace Cert.KernelIdeal.Region2

open Idealize.ShloMosaic Idealize.ShloMosaic.TcCoe Idealize.ShloMosaic.Tactic
open Idealize.ShloMosaic.Pipeline (Dat Cfg Window)
open Blocks Mamba Cert.KernelIdeal.Gen Cert.KernelIdeal.Body

/-! ## Where the windows' blocks lie -/

theorem t_lt (t : Fin cfg2.N) : t.val < 64 := lt_of_lt_of_eq t.isLt (show cfg2.N = 64 from N_2)

theorem coord_1 : ∀ t : Fin grid2.N, (grid2.coords t 1).val = t.val % 8 := by decide +kernel

theorem at_0 : ∀ t : Fin grid2.N, win2_0.index t = ![t.val / 8, t.val % 8, 0] := by decide +kernel
theorem at_1 : ∀ t : Fin grid2.N, win2_1.index t = ![0, 0] := by decide +kernel
theorem at_2 : ∀ t : Fin grid2.N, win2_2.index t = ![0, 0] := by decide +kernel
theorem at_3 : ∀ t : Fin grid2.N, win2_3.index t = ![0, 0] := by decide +kernel
theorem at_4 : ∀ t : Fin grid2.N, win2_4.index t = ![0, 0] := by decide +kernel
theorem at_5 : ∀ t : Fin grid2.N, win2_5.index t = ![0, 0] := by decide +kernel
theorem at_6 : ∀ t : Fin grid2.N, win2_6.index t = ![0, 0] := by decide +kernel
theorem at_7 : ∀ t : Fin grid2.N, win2_7.index t = ![t.val / 8, t.val % 8, 0] := by decide +kernel
theorem at_8 : ∀ t : Fin grid2.N, win2_8.index t = ![t.val / 8, t.val % 8, 0] := by decide +kernel
theorem at_9 : ∀ t : Fin grid2.N, win2_9.index t = ![t.val / 8, t.val % 8, 0] := by decide +kernel
theorem at_10 : ∀ t : Fin grid2.N, win2_10.index t = ![t.val / 8, t.val % 8, 0] := by decide +kernel

variable (V : Dev nD → Valuation τ sig (Elt Ideal)) (c : Dev nD)

theorem blk_0 (t : Fin cfg2.N) (r : Fin 512) (k : Fin 280) (hb : t.val / 8 < 8) (ht : 512 * (t.val % 8) + r.val < 4096) :
    (blk V c 0 t : Vec Ideal S1x512x280 .f32) (ix3 0 r k) = (V c main_call0_v27 : Vec Ideal S8x4096x280 .f32) (ix3 ⟨t.val / 8, hb⟩ ⟨512 * (t.val % 8) + r.val, ht⟩ k) :=
  congrArg (V c main_call0_v27 : Vec Ideal S8x4096x280 .f32) (idx3 ⟨t.val / 8, hb⟩ ⟨512 * (t.val % 8) + r.val, ht⟩ k (single (congrFun (at_0 t) 0) :)
    (row (congrFun (at_0 t) 1) 512 r.val :) (whole (congrFun (at_0 t) 2) 280 k.val :))

theorem blk_1 (t : Fin cfg2.N) (p : Fin 280) (q : Fin 1120) : (blk V c 1 t : Vec Ideal S280x1120 .f32) (ix2 p q) = (V c main_call0_v40 : Vec Ideal S280x1120 .f32) (ix2 p q) :=
  congrArg (V c main_call0_v40 : Vec Ideal S280x1120 .f32) (idx2 p q (whole (congrFun (at_1 t) 0) 280 p.val :) (whole (congrFun (at_1 t) 1) 1120 q.val :))

theorem blk_2 (t : Fin cfg2.N) (p : Fin 560) (q : Fin 4) : (blk V c 2 t : Vec Ideal S560x4 .f32) (ix2 p q) = (V c main_call0_v31 : Vec Ideal S560x4 .f32) (ix2 p q) :=
  congrArg (V c main_call0_v31 : Vec Ideal S560x4 .f32) (idx2 p q (whole (congrFun (at_2 t) 0) 560 p.val :) (whole (congrFun (at_2 t) 1) 4 q.val :))

theorem blk_3 (t : Fin cfg2.N) (p : Fin 1) (q : Fin 560) : (blk V c 3 t : Vec Ideal S1x560 .f32) (ix2 p q) = (V c main_call0_v41 : Vec Ideal S1x560 .f32) (ix2 p q) :=
  congrArg (V c main_call0_v41 : Vec Ideal S1x560 .f32) (idx2 p q (whole (congrFun (at_3 t) 0) 1 p.val :) (whole (congrFun (at_3 t) 1) 560 q.val :))

theorem blk_4 (t : Fin cfg2.N) (p : Fin 560) (q : Fin 50) : (blk V c 4 t : Vec Ideal S560x50 .f32) (ix2 p q) = (V c main_call0_v42 : Vec Ideal S560x50 .f32) (ix2 p q) :=
  congrArg (V c main_call0_v42 : Vec Ideal S560x50 .f32) (idx2 p q (whole (congrFun (at_4 t) 0) 560 p.val :) (whole (congrFun (at_4 t) 1) 50 q.val :))

theorem blk_5 (t : Fin cfg2.N) (p : Fin 18) (q : Fin 560) : (blk V c 5 t : Vec Ideal S18x560 .f32) (ix2 p q) = (V c main_call0_v43 : Vec Ideal S18x560 .f32) (ix2 p q) :=
  congrArg (V c main_call0_v43 : Vec Ideal S18x560 .f32) (idx2 p q (whole (congrFun (at_5 t) 0) 18 p.val :) (whole (congrFun (at_5 t) 1) 560 q.val :))

theorem blk_6 (t : Fin cfg2.N) (p : Fin 1) (q : Fin 560) : (blk V c 6 t : Vec Ideal S1x560 .f32) (ix2 p q) = (V c main_call0_v44 : Vec Ideal S1x560 .f32) (ix2 p q) :=
  congrArg (V c main_call0_v44 : Vec Ideal S1x560 .f32) (idx2 p q (whole (congrFun (at_6 t) 0) 1 p.val :) (whole (congrFun (at_6 t) 1) 560 q.val :))

theorem flush_7 : ∀ t : Fin cfg2.N, (cfg2.win 7).flush t = true := by decide +kernel

theorem apart_7 : ∀ t t' : Fin cfg2.N, (cfg2.win 7).flush t = true → (cfg2.win 7).flush t' = true → t ≠ t' →
    Disjoint ((cfg2.win 7).blk t).view.set ((cfg2.win 7).blk t').view.set :=
  fun t t' _ _ hne => (cfg2.win 7).disjoint_blk fun h => hne (Fin.ext (apart ((at_7 t).symm.trans (h.trans (at_7 t')))))

theorem arr_7 (t : Fin cfg2.N) (r : Fin 512) (k : Fin 560) (hb : t.val / 8 < 8) (ht : 512 * (t.val % 8) + r.val < 4096) :
    ((dat V c).arrAt 7 cfg2.N : Vec Ideal S8x4096x560 .f32) (ix3 ⟨t.val / 8, hb⟩ ⟨512 * (t.val % 8) + r.val, ht⟩ k) = ((dat V c).after 7 t : Vec Ideal S1x512x560 .f32) (ix3 0 r k) :=
  (congrArg ((dat V c).arrAt 7 cfg2.N : Vec Ideal S8x4096x560 .f32) (idx3 ⟨t.val / 8, hb⟩ ⟨512 * (t.val % 8) + r.val, ht⟩ k (single (congrFun (at_7 t) 0) :)
    (row (congrFun (at_7 t) 1) 512 r.val :) (whole (congrFun (at_7 t) 2) 560 k.val :))).symm.trans
    (congrFun ((dat V c).read_blk_arrAt_eq_flushed 7 apart_7 cfg2.N t t.isLt (flush_7 t)) (ix3 (0 : Fin 1) r k))

theorem flush_8 : ∀ t : Fin cfg2.N, (cfg2.win 8).flush t = true := by decide +kernel

theorem apart_8 : ∀ t t' : Fin cfg2.N, (cfg2.win 8).flush t = true → (cfg2.win 8).flush t' = true → t ≠ t' →
    Disjoint ((cfg2.win 8).blk t).view.set ((cfg2.win 8).blk t').view.set :=
  fun t t' _ _ hne => (cfg2.win 8).disjoint_blk fun h => hne (Fin.ext (apart ((at_8 t).symm.trans (h.trans (at_8 t')))))

theorem arr_8 (t : Fin cfg2.N) (r : Fin 512) (k : Fin 560) (hb : t.val / 8 < 8) (ht : 512 * (t.val % 8) + r.val < 4096) :
    ((dat V c).arrAt 8 cfg2.N : Vec Ideal S8x4096x560 .f32) (ix3 ⟨t.val / 8, hb⟩ ⟨512 * (t.val % 8) + r.val, ht⟩ k) = ((dat V c).after 8 t : Vec Ideal S1x512x560 .f32) (ix3 0 r k) :=
  (congrArg ((dat V c).arrAt 8 cfg2.N : Vec Ideal S8x4096x560 .f32) (idx3 ⟨t.val / 8, hb⟩ ⟨512 * (t.val % 8) + r.val, ht⟩ k (single (congrFun (at_8 t) 0) :)
    (row (congrFun (at_8 t) 1) 512 r.val :) (whole (congrFun (at_8 t) 2) 560 k.val :))).symm.trans
    (congrFun ((dat V c).read_blk_arrAt_eq_flushed 8 apart_8 cfg2.N t t.isLt (flush_8 t)) (ix3 (0 : Fin 1) r k))

theorem flush_9 : ∀ t : Fin cfg2.N, (cfg2.win 9).flush t = true := by decide +kernel

theorem apart_9 : ∀ t t' : Fin cfg2.N, (cfg2.win 9).flush t = true → (cfg2.win 9).flush t' = true → t ≠ t' →
    Disjoint ((cfg2.win 9).blk t).view.set ((cfg2.win 9).blk t').view.set :=
  fun t t' _ _ hne => (cfg2.win 9).disjoint_blk fun h => hne (Fin.ext (apart ((at_9 t).symm.trans (h.trans (at_9 t')))))

theorem arr_9 (t : Fin cfg2.N) (r : Fin 512) (k : Fin 560) (hb : t.val / 8 < 8) (ht : 512 * (t.val % 8) + r.val < 4096) :
    ((dat V c).arrAt 9 cfg2.N : Vec Ideal S8x4096x560 .f32) (ix3 ⟨t.val / 8, hb⟩ ⟨512 * (t.val % 8) + r.val, ht⟩ k) = ((dat V c).after 9 t : Vec Ideal S1x512x560 .f32) (ix3 0 r k) :=
  (congrArg ((dat V c).arrAt 9 cfg2.N : Vec Ideal S8x4096x560 .f32) (idx3 ⟨t.val / 8, hb⟩ ⟨512 * (t.val % 8) + r.val, ht⟩ k (single (congrFun (at_9 t) 0) :)
    (row (congrFun (at_9 t) 1) 512 r.val :) (whole (congrFun (at_9 t) 2) 560 k.val :))).symm.trans
    (congrFun ((dat V c).read_blk_arrAt_eq_flushed 9 apart_9 cfg2.N t t.isLt (flush_9 t)) (ix3 (0 : Fin 1) r k))

theorem flush_10 : ∀ t : Fin cfg2.N, (cfg2.win 10).flush t = true := by decide +kernel

theorem apart_10 : ∀ t t' : Fin cfg2.N, (cfg2.win 10).flush t = true → (cfg2.win 10).flush t' = true → t ≠ t' →
    Disjoint ((cfg2.win 10).blk t).view.set ((cfg2.win 10).blk t').view.set :=
  fun t t' _ _ hne => (cfg2.win 10).disjoint_blk fun h => hne (Fin.ext (apart ((at_10 t).symm.trans (h.trans (at_10 t')))))

theorem arr_10 (t : Fin cfg2.N) (r : Fin 512) (k : Fin 32) (hb : t.val / 8 < 8) (ht : 512 * (t.val % 8) + r.val < 4096) :
    ((dat V c).arrAt 10 cfg2.N : Vec Ideal S8x4096x32 .f32) (ix3 ⟨t.val / 8, hb⟩ ⟨512 * (t.val % 8) + r.val, ht⟩ k) = ((dat V c).after 10 t : Vec Ideal S1x512x32 .f32) (ix3 0 r k) :=
  (congrArg ((dat V c).arrAt 10 cfg2.N : Vec Ideal S8x4096x32 .f32) (idx3 ⟨t.val / 8, hb⟩ ⟨512 * (t.val % 8) + r.val, ht⟩ k (single (congrFun (at_10 t) 0) :)
    (row (congrFun (at_10 t) 1) 512 r.val :) (whole (congrFun (at_10 t) 2) 32 k.val :))).symm.trans
    (congrFun ((dat V c).read_blk_arrAt_eq_flushed 10 apart_10 cfg2.N t t.isLt (flush_10 t)) (ix3 (0 : Fin 1) r k))

/-! ## The results -/

variable (w : Layer.Weights) (x : Layer.Act 280)

/-- What the call is entered with: the activation and the weights, laid out as the call reads them. -/
structure Entered : Prop where
  x : ∀ b (t : Fin 4096) k, (V c main_call0_v27 : Vec Ideal S8x4096x280 .f32) (ix3 b t k) = x b t.val k
  inw : ∀ k e, (V c main_call0_v40 : Vec Ideal S280x1120 .f32) (ix2 k e) = w.inw e k
  cw : ∀ e k, (V c main_call0_v31 : Vec Ideal S560x4 .f32) (ix2 e k) = w.cw e k
  cb : ∀ z e, (V c main_call0_v41 : Vec Ideal S1x560 .f32) (ix2 z e) = w.cb e
  xpw : ∀ k e, (V c main_call0_v42 : Vec Ideal S560x50 .f32) (ix2 k e) = w.xpw e k
  dtw : ∀ r e, (V c main_call0_v43 : Vec Ideal S18x560 .f32) (ix2 r e) = w.dtw e r
  dtb : ∀ z e, (V c main_call0_v44 : Vec Ideal S1x560 .f32) (ix2 z e) = w.dtb e

section Results

variable {V c w x} (h : Entered V c w x)

include h

theorem holds (t : Fin cfg2.N) : Holds w x ⟨t.val / 8, by have := t_lt t; omega⟩ (scr V c (t.val + 1)) (512 * (t.val % 8)) :=
  projAt_holds w x _ (fun n hn => (coord_1 (pt n)).trans (by show n % 64 % 8 = n % 8; omega)) _
    (fun n hn r k => by
      have e : (pt n).val = n := Nat.mod_eq_of_lt hn
      rw [blk_0 V c (pt n) r k (by omega) (by omega), h.x]
      simp only [e])
    _ (fun n hn k e => (blk_1 V c (pt n) k e).trans (h.inw k e)) t.val (t_lt t)

theorem out_7 (b : Fin 8) (t : Fin 4096) (k : Fin 560) : (exit V c main_call0_v45_0 : Vec Ideal S8x4096x560 .f32) (ix3 b t k) = Layer.xc w x b t.val k := by
  rw [exit_7]
  exact split (T := 512) (K := 8) rfl N_2 _ _ (fun t r k hb ht => (arr_7 V c t r k hb ht).trans (projXc_at (holds h t) (fun e k => (blk_2 V c t e k).trans (h.cw e k)) (fun z e => (blk_3 V c t z e).trans (h.cb z e)) 0 r k)) b t k

theorem out_8 (b : Fin 8) (t : Fin 4096) (k : Fin 560) : (exit V c main_call0_v45_1 : Vec Ideal S8x4096x560 .f32) (ix3 b t k) = Layer.dt w x b t.val k := by
  rw [exit_8]
  exact split (T := 512) (K := 8) rfl N_2 _ _ (fun t r k hb ht => (arr_8 V c t r k hb ht).trans (projDt_at (holds h t) (fun e k => (blk_2 V c t e k).trans (h.cw e k)) (fun z e => (blk_3 V c t z e).trans (h.cb z e))
      (fun k e => (blk_4 V c t k e).trans (h.xpw k e)) (fun r e => (blk_5 V c t r e).trans (h.dtw r e)) (fun z e => (blk_6 V c t z e).trans (h.dtb z e)) 0 r k)) b t k

theorem out_9 (b : Fin 8) (t : Fin 4096) (k : Fin 560) : (exit V c main_call0_v45_2 : Vec Ideal S8x4096x560 .f32) (ix3 b t k) = Layer.gate w x b t.val k := by
  rw [exit_9]
  exact split (T := 512) (K := 8) rfl N_2 _ _ (fun t r k hb ht => (arr_9 V c t r k hb ht).trans (gate_at w x _ (fun r k => (blk_0 V c t r k (by have := t_lt t; omega) (by omega)).trans (h.x _ _ _))
      (fun k e => (blk_1 V c t k e).trans (h.inw k e)) 0 r k)) b t k

theorem out_10 (b : Fin 8) (t : Fin 4096) (k : Fin 32) : (exit V c main_call0_v45_3 : Vec Ideal S8x4096x32 .f32) (ix3 b t k) = Layer.bc w x b t.val k := by
  rw [exit_10]
  exact split (T := 512) (K := 8) rfl N_2 _ _ (fun t r k hb ht => (arr_10 V c t r k hb ht).trans (projBc_at (holds h t) (fun e k => (blk_2 V c t e k).trans (h.cw e k)) (fun z e => (blk_3 V c t z e).trans (h.cb z e))
      (fun k e => (blk_4 V c t k e).trans (h.xpw k e)) 0 r k)) b t k

end Results

end Cert.KernelIdeal.Region2

end
-- ==== Proof.Value3.lean ====
/- What the second layer's scan call leaves in its result, element by element. -/
module

public import proofs.«01_k».proof.Proof.Region3
public import proofs.«01_k».proof.Proof.KerScan
public import proofs.«01_k».proof.Proof.Blocks

@[expose] public section

set_option maxRecDepth 16384

noncomputable section

namespace Cert.KernelIdeal.Region3

open Idealize.ShloMosaic Idealize.ShloMosaic.TcCoe Idealize.ShloMosaic.Tactic
open Idealize.ShloMosaic.Pipeline (Dat Cfg Window)
open Blocks Mamba Cert.KernelIdeal.Gen Cert.KernelIdeal.Body

/-! ## Where the windows' blocks lie -/

theorem t_lt (t : Fin cfg3.N) : t.val < 256 := lt_of_lt_of_eq t.isLt (show cfg3.N = 256 from N_3)

theorem coord_1 : ∀ t : Fin grid3.N, (grid3.coords t 1).val = t.val % 32 := by decide +kernel

theorem at_0 : ∀ t : Fin grid3.N, win3_0.index t = ![t.val / 32, t.val % 32, 0] := by decide +kernel
theorem at_1 : ∀ t : Fin grid3.N, win3_1.index t = ![t.val / 32, t.val % 32, 0] := by decide +kernel
theorem at_2 : ∀ t : Fin grid3.N, win3_2.index t = ![t.val / 32, t.val % 32, 0] := by decide +kernel
theorem at_3 : ∀ t : Fin grid3.N, win3_3.index t = ![t.val / 32, t.val % 32, 0] := by decide +kernel
theorem at_7 : ∀ t : Fin grid3.N, win3_7.index t = ![t.val / 32, t.val % 32, 0] := by decide +kernel
theorem at_4 : ∀ t : Fin grid3.N, win3_4.index t = ![0, 0] := by decide +kernel
theorem at_5 : ∀ t : Fin grid3.N, win3_5.index t = ![0, 0] := by decide +kernel
theorem at_6 : ∀ t : Fin grid3.N, win3_6.index t = ![0, 0] := by decide +kernel

variable (V : Dev nD → Valuation τ sig (Elt Ideal)) (c : Dev nD)

theorem blk_0 (t : Fin cfg3.N) (r : Fin 128) (k : Fin 560) (hb : t.val / 32 < 8) (ht : 128 * (t.val % 32) + r.val < 4096) :
    (blk V c 0 t : Vec Ideal S1x128x560 .f32) (ix3 0 r k) = (V c main_call0_v45_0 : Vec Ideal S8x4096x560 .f32) (ix3 ⟨t.val / 32, hb⟩ ⟨128 * (t.val % 32) + r.val, ht⟩ k) :=
  congrArg (V c main_call0_v45_0 : Vec Ideal S8x4096x560 .f32) (idx3 ⟨t.val / 32, hb⟩ ⟨128 * (t.val % 32) + r.val, ht⟩ k (single (congrFun (at_0 t) 0) :)
    (row (congrFun (at_0 t) 1) 128 r.val :) (whole (congrFun (at_0 t) 2) 560 k.val :))

theorem blk_1 (t : Fin cfg3.N) (r : Fin 128) (k : Fin 560) (hb : t.val / 32 < 8) (ht : 128 * (t.val % 32) + r.val < 4096) :
    (blk V c 1 t : Vec Ideal S1x128x560 .f32) (ix3 0 r k) = (V c main_call0_v45_1 : Vec Ideal S8x4096x560 .f32) (ix3 ⟨t.val / 32, hb⟩ ⟨128 * (t.val % 32) + r.val, ht⟩ k) :=
  congrArg (V c main_call0_v45_1 : Vec Ideal S8x4096x560 .f32) (idx3 ⟨t.val / 32, hb⟩ ⟨128 * (t.val % 32) + r.val, ht⟩ k (single (congrFun (at_1 t) 0) :)
    (row (congrFun (at_1 t) 1) 128 r.val :) (whole (congrFun (at_1 t) 2) 560 k.val :))

theorem blk_2 (t : Fin cfg3.N) (r : Fin 128) (k : Fin 560) (hb : t.val / 32 < 8) (ht : 128 * (t.val % 32) + r.val < 4096) :
    (blk V c 2 t : Vec Ideal S1x128x560 .f32) (ix3 0 r k) = (V c main_call0_v45_2 : Vec Ideal S8x4096x560 .f32) (ix3 ⟨t.val / 32, hb⟩ ⟨128 * (t.val % 32) + r.val, ht⟩ k) :=
  congrArg (V c main_call0_v45_2 : Vec Ideal S8x4096x560 .f32) (idx3 ⟨t.val / 32, hb⟩ ⟨128 * (t.val % 32) + r.val, ht⟩ k (single (congrFun (at_2 t) 0) :)
    (row (congrFun (at_2 t) 1) 128 r.val :) (whole (congrFun (at_2 t) 2) 560 k.val :))

theorem blk_3 (t : Fin cfg3.N) (r : Fin 128) (k : Fin 32) (hb : t.val / 32 < 8) (ht : 128 * (t.val % 32) + r.val < 4096) :
    (blk V c 3 t : Vec Ideal S1x128x32 .f32) (ix3 0 r k) = (V c main_call0_v45_3 : Vec Ideal S8x4096x32 .f32) (ix3 ⟨t.val / 32, hb⟩ ⟨128 * (t.val % 32) + r.val, ht⟩ k) :=
  congrArg (V c main_call0_v45_3 : Vec Ideal S8x4096x32 .f32) (idx3 ⟨t.val / 32, hb⟩ ⟨128 * (t.val % 32) + r.val, ht⟩ k (single (congrFun (at_3 t) 0) :)
    (row (congrFun (at_3 t) 1) 128 r.val :) (whole (congrFun (at_3 t) 2) 32 k.val :))

theorem blk_4 (t : Fin cfg3.N) (p : Fin 16) (q : Fin 560) : (blk V c 4 t : Vec Ideal S16x560 .f32) (ix2 p q) = (V c main_call0_v52 : Vec Ideal S16x560 .f32) (ix2 p q) :=
  congrArg (V c main_call0_v52 : Vec Ideal S16x560 .f32) (idx2 p q (whole (congrFun (at_4 t) 0) 16 p.val :) (whole (congrFun (at_4 t) 1) 560 q.val :))

theorem blk_5 (t : Fin cfg3.N) (p : Fin 1) (q : Fin 560) : (blk V c 5 t : Vec Ideal S1x560 .f32) (ix2 p q) = (V c main_call0_v53 : Vec Ideal S1x560 .f32) (ix2 p q) :=
  congrArg (V c main_call0_v53 : Vec Ideal S1x560 .f32) (idx2 p q (whole (congrFun (at_5 t) 0) 1 p.val :) (whole (congrFun (at_5 t) 1) 560 q.val :))

theorem blk_6 (t : Fin cfg3.N) (p : Fin 560) (q : Fin 280) : (blk V c 6 t : Vec Ideal S560x280 .f32) (ix2 p q) = (V c main_call0_v54 : Vec Ideal S560x280 .f32) (ix2 p q) :=
  congrArg (V c main_call0_v54 : Vec Ideal S560x280 .f32) (idx2 p q (whole (congrFun (at_6 t) 0) 560 p.val :) (whole (congrFun (at_6 t) 1) 280 q.val :))

theorem flush_7 : ∀ t : Fin cfg3.N, (cfg3.win 7).flush t = true := by decide +kernel

theorem apart_7 : ∀ t t' : Fin cfg3.N, (cfg3.win 7).flush t = true → (cfg3.win 7).flush t' = true → t ≠ t' →
    Disjoint ((cfg3.win 7).blk t).view.set ((cfg3.win 7).blk t').view.set :=
  fun t t' _ _ hne => (cfg3.win 7).disjoint_blk fun h => hne (Fin.ext (apart ((at_7 t).symm.trans (h.trans (at_7 t')))))

theorem arr_7 (t : Fin cfg3.N) (r : Fin 128) (k : Fin 280) (hb : t.val / 32 < 8) (ht : 128 * (t.val % 32) + r.val < 4096) :
    ((dat V c).arrAt 7 cfg3.N : Vec Ideal S8x4096x280 .f32) (ix3 ⟨t.val / 32, hb⟩ ⟨128 * (t.val % 32) + r.val, ht⟩ k) = ((dat V c).after 7 t : Vec Ideal S1x128x280 .f32) (ix3 0 r k) :=
  (congrArg ((dat V c).arrAt 7 cfg3.N : Vec Ideal S8x4096x280 .f32) (idx3 ⟨t.val / 32, hb⟩ ⟨128 * (t.val % 32) + r.val, ht⟩ k (single (congrFun (at_7 t) 0) :)
    (row (congrFun (at_7 t) 1) 128 r.val :) (whole (congrFun (at_7 t) 2) 280 k.val :))).symm.trans
    (congrFun ((dat V c).read_blk_arrAt_eq_flushed 7 apart_7 cfg3.N t t.isLt (flush_7 t)) (ix3 (0 : Fin 1) r k))

/-! ## The result -/

variable (w : Layer.Weights) (x : Layer.Act 280)

/-- What the call is entered with: the projections and the weights, laid out as the call reads them. -/
structure Entered : Prop where
  xc : ∀ b (t : Fin 4096) k, (V c main_call0_v45_0 : Vec Ideal S8x4096x560 .f32) (ix3 b t k) = Layer.xc w x b t.val k
  dt : ∀ b (t : Fin 4096) k, (V c main_call0_v45_1 : Vec Ideal S8x4096x560 .f32) (ix3 b t k) = Layer.dt w x b t.val k
  gate : ∀ b (t : Fin 4096) k, (V c main_call0_v45_2 : Vec Ideal S8x4096x560 .f32) (ix3 b t k) = Layer.gate w x b t.val k
  proj : ∀ b (t : Fin 4096) (k : Fin 32), (V c main_call0_v45_3 : Vec Ideal S8x4096x32 .f32) (ix3 b t k) = Layer.bc w x b t.val k
  alog : ∀ n e, (V c main_call0_v52 : Vec Ideal S16x560 .f32) (ix2 n e) = w.alog e n
  skip : ∀ z e, (V c main_call0_v53 : Vec Ideal S1x560 .f32) (ix2 z e) = w.skip e
  ow : ∀ e d, (V c main_call0_v54 : Vec Ideal S560x280 .f32) (ix2 e d) = w.ow d e

variable {V c w x} (h : Entered V c w x)

include h

theorem enters (t : Fin cfg3.N) (k : Fin 16) (e : Fin 560) :
    scanEnter (grid3.coords t) (st V c t.val) (ix2 k e) = Layer.state w x ⟨t.val / 32, by have := t_lt t; omega⟩ (128 * (t.val % 32)) k e := by
  have hp : ∀ n < 256, (pt n).val = n := fun n hn => Nat.mod_eq_of_lt hn
  have := scanAt_enter w x (fun n => grid3.coords (pt n)) (fun n hn => (coord_1 (pt n)).trans (by rw [hp n hn])) (fun n => blk V c 0 (pt n)) (fun n => blk V c 1 (pt n)) (fun n => blk V c 3 (pt n)) (fun n => blk V c 4 (pt n))
    (fun n hn r k => by
      have e := hp n hn
      rw [blk_0 V c (pt n) r k (by omega) (by omega), h.xc]
      simp only [e])
    (fun n hn r k => by
      have e := hp n hn
      rw [blk_1 V c (pt n) r k (by omega) (by omega), h.dt]
      simp only [e])
    (fun n hn r k => by
      have e := hp n hn
      rw [blk_3 V c (pt n) r k (by omega) (by omega), h.proj]
      simp only [e])
    (fun n hn k e => (blk_4 V c (pt n) k e).trans (h.alog k e)) t.val (t_lt t) k e
  rw [pt_val] at this
  exact this

theorem out_7 (b : Fin 8) (t : Fin 4096) (d : Fin 280) : (exit V c main_call0_v55 : Vec Ideal S8x4096x280 .f32) (ix3 b t d) = Layer.out w x b t.val d := by
  rw [exit_7]
  exact split (T := 128) (K := 32) rfl N_3 _ _ (fun t r d hb ht => (arr_7 V c t r d hb ht).trans
    (scanOut_at (fun r k => (blk_0 V c t r k hb (by omega)).trans (h.xc _ _ _)) (fun r k => (blk_1 V c t r k hb (by omega)).trans (h.dt _ _ _))
      (fun r k => (blk_2 V c t r k hb (by omega)).trans (h.gate _ _ _)) (fun r k => (blk_3 V c t r k hb (by omega)).trans (h.proj _ _ _))
      (fun n e => (blk_4 V c t n e).trans (h.alog n e)) (fun e => (blk_5 V c t 0 e).trans (h.skip 0 e)) (fun e d => (blk_6 V c t e d).trans (h.ow e d))
      _ _ (enters h t) 0 _ d)) b t d

end Cert.KernelIdeal.Region3

end
-- ==== Proof.Value4.lean ====
/- What the third layer's projection call leaves in its results, element by element. -/
module

public import proofs.«01_k».proof.Proof.Region4
public import proofs.«01_k».proof.Proof.KerProj
public import proofs.«01_k».proof.Proof.Blocks

@[expose] public section

set_option maxRecDepth 16384

noncomputable section

namespace Cert.KernelIdeal.Region4

open Idealize.ShloMosaic Idealize.ShloMosaic.TcCoe Idealize.ShloMosaic.Tactic
open Idealize.ShloMosaic.Pipeline (Dat Cfg Window)
open Blocks Mamba Cert.KernelIdeal.Gen Cert.KernelIdeal.Body

/-! ## Where the windows' blocks lie -/

theorem t_lt (t : Fin cfg4.N) : t.val < 64 := lt_of_lt_of_eq t.isLt (show cfg4.N = 64 from N_4)

theorem coord_1 : ∀ t : Fin grid4.N, (grid4.coords t 1).val = t.val % 8 := by decide +kernel

theorem at_0 : ∀ t : Fin grid4.N, win4_0.index t = ![t.val / 8, t.val % 8, 0] := by decide +kernel
theorem at_1 : ∀ t : Fin grid4.N, win4_1.index t = ![0, 0] := by decide +kernel
theorem at_2 : ∀ t : Fin grid4.N, win4_2.index t = ![0, 0] := by decide +kernel
theorem at_3 : ∀ t : Fin grid4.N, win4_3.index t = ![0, 0] := by decide +kernel
theorem at_4 : ∀ t : Fin grid4.N, win4_4.index t = ![0, 0] := by decide +kernel
theorem at_5 : ∀ t : Fin grid4.N, win4_5.index t = ![0, 0] := by decide +kernel
theorem at_6 : ∀ t : Fin grid4.N, win4_6.index t = ![0, 0] := by decide +kernel
theorem at_7 : ∀ t : Fin grid4.N, win4_7.index t = ![t.val / 8, t.val % 8, 0] := by decide +kernel
theorem at_8 : ∀ t : Fin grid4.N, win4_8.index t = ![t.val / 8, t.val % 8, 0] := by decide +kernel
theorem at_9 : ∀ t : Fin grid4.N, win4_9.index t = ![t.val / 8, t.val % 8, 0] := by decide +kernel
theorem at_10 : ∀ t : Fin grid4.N, win4_10.index t = ![t.val / 8, t.val % 8, 0] := by decide +kernel

variable (V : Dev nD → Valuation τ sig (Elt Ideal)) (c : Dev nD)

theorem blk_0 (t : Fin cfg4.N) (r : Fin 512) (k : Fin 280) (hb : t.val / 8 < 8) (ht : 512 * (t.val % 8) + r.val < 4096) :
    (blk V c 0 t : Vec Ideal S1x512x280 .f32) (ix3 0 r k) = (V c main_call0_v55 : Vec Ideal S8x4096x280 .f32) (ix3 ⟨t.val / 8, hb⟩ ⟨512 * (t.val % 8) + r.val, ht⟩ k) :=
  congrArg (V c main_call0_v55 : Vec Ideal S8x4096x280 .f32) (idx3 ⟨t.val / 8, hb⟩ ⟨512 * (t.val % 8) + r.val, ht⟩ k (single (congrFun (at_0 t) 0) :)
    (row (congrFun (at_0 t) 1) 512 r.val :) (whole (congrFun (at_0 t) 2) 280 k.val :))

theorem blk_1 (t : Fin cfg4.N) (p : Fin 280) (q : Fin 1120) : (blk V c 1 t : Vec Ideal S280x1120 .f32) (ix2 p q) = (V c main_call0_v68 : Vec Ideal S280x1120 .f32) (ix2 p q) :=
  congrArg (V c main_call0_v68 : Vec Ideal S280x1120 .f32) (idx2 p q (whole (congrFun (at_1 t) 0) 280 p.val :) (whole (congrFun (at_1 t) 1) 1120 q.val :))

theorem blk_2 (t : Fin cfg4.N) (p : Fin 560) (q : Fin 4) : (blk V c 2 t : Vec Ideal S560x4 .f32) (ix2 p q) = (V c main_call0_v59 : Vec Ideal S560x4 .f32) (ix2 p q) :=
  congrArg (V c main_call0_v59 : Vec Ideal S560x4 .f32) (idx2 p q (whole (congrFun (at_2 t) 0) 560 p.val :) (whole (congrFun (at_2 t) 1) 4 q.val :))

theorem blk_3 (t : Fin cfg4.N) (p : Fin 1) (q : Fin 560) : (blk V c 3 t : Vec Ideal S1x560 .f32) (ix2 p q) = (V c main_call0_v69 : Vec Ideal S1x560 .f32) (ix2 p q) :=
  congrArg (V c main_call0_v69 : Vec Ideal S1x560 .f32) (idx2 p q (whole (congrFun (at_3 t) 0) 1 p.val :) (whole (congrFun (at_3 t) 1) 560 q.val :))

theorem blk_4 (t : Fin cfg4.N) (p : Fin 560) (q : Fin 50) : (blk V c 4 t : Vec Ideal S560x50 .f32) (ix2 p q) = (V c main_call0_v70 : Vec Ideal S560x50 .f32) (ix2 p q) :=
  congrArg (V c main_call0_v70 : Vec Ideal S560x50 .f32) (idx2 p q (whole (congrFun (at_4 t) 0) 560 p.val :) (whole (congrFun (at_4 t) 1) 50 q.val :))

theorem blk_5 (t : Fin cfg4.N) (p : Fin 18) (q : Fin 560) : (blk V c 5 t : Vec Ideal S18x560 .f32) (ix2 p q) = (V c main_call0_v71 : Vec Ideal S18x560 .f32) (ix2 p q) :=
  congrArg (V c main_call0_v71 : Vec Ideal S18x560 .f32) (idx2 p q (whole (congrFun (at_5 t) 0) 18 p.val :) (whole (congrFun (at_5 t) 1) 560 q.val :))

theorem blk_6 (t : Fin cfg4.N) (p : Fin 1) (q : Fin 560) : (blk V c 6 t : Vec Ideal S1x560 .f32) (ix2 p q) = (V c main_call0_v72 : Vec Ideal S1x560 .f32) (ix2 p q) :=
  congrArg (V c main_call0_v72 : Vec Ideal S1x560 .f32) (idx2 p q (whole (congrFun (at_6 t) 0) 1 p.val :) (whole (congrFun (at_6 t) 1) 560 q.val :))

theorem flush_7 : ∀ t : Fin cfg4.N, (cfg4.win 7).flush t = true := by decide +kernel

theorem apart_7 : ∀ t t' : Fin cfg4.N, (cfg4.win 7).flush t = true → (cfg4.win 7).flush t' = true → t ≠ t' →
    Disjoint ((cfg4.win 7).blk t).view.set ((cfg4.win 7).blk t').view.set :=
  fun t t' _ _ hne => (cfg4.win 7).disjoint_blk fun h => hne (Fin.ext (apart ((at_7 t).symm.trans (h.trans (at_7 t')))))

theorem arr_7 (t : Fin cfg4.N) (r : Fin 512) (k : Fin 560) (hb : t.val / 8 < 8) (ht : 512 * (t.val % 8) + r.val < 4096) :
    ((dat V c).arrAt 7 cfg4.N : Vec Ideal S8x4096x560 .f32) (ix3 ⟨t.val / 8, hb⟩ ⟨512 * (t.val % 8) + r.val, ht⟩ k) = ((dat V c).after 7 t : Vec Ideal S1x512x560 .f32) (ix3 0 r k) :=
  (congrArg ((dat V c).arrAt 7 cfg4.N : Vec Ideal S8x4096x560 .f32) (idx3 ⟨t.val / 8, hb⟩ ⟨512 * (t.val % 8) + r.val, ht⟩ k (single (congrFun (at_7 t) 0) :)
    (row (congrFun (at_7 t) 1) 512 r.val :) (whole (congrFun (at_7 t) 2) 560 k.val :))).symm.trans
    (congrFun ((dat V c).read_blk_arrAt_eq_flushed 7 apart_7 cfg4.N t t.isLt (flush_7 t)) (ix3 (0 : Fin 1) r k))

theorem flush_8 : ∀ t : Fin cfg4.N, (cfg4.win 8).flush t = true := by decide +kernel

theorem apart_8 : ∀ t t' : Fin cfg4.N, (cfg4.win 8).flush t = true → (cfg4.win 8).flush t' = true → t ≠ t' →
    Disjoint ((cfg4.win 8).blk t).view.set ((cfg4.win 8).blk t').view.set :=
  fun t t' _ _ hne => (cfg4.win 8).disjoint_blk fun h => hne (Fin.ext (apart ((at_8 t).symm.trans (h.trans (at_8 t')))))

theorem arr_8 (t : Fin cfg4.N) (r : Fin 512) (k : Fin 560) (hb : t.val / 8 < 8) (ht : 512 * (t.val % 8) + r.val < 4096) :
    ((dat V c).arrAt 8 cfg4.N : Vec Ideal S8x4096x560 .f32) (ix3 ⟨t.val / 8, hb⟩ ⟨512 * (t.val % 8) + r.val, ht⟩ k) = ((dat V c).after 8 t : Vec Ideal S1x512x560 .f32) (ix3 0 r k) :=
  (congrArg ((dat V c).arrAt 8 cfg4.N : Vec Ideal S8x4096x560 .f32) (idx3 ⟨t.val / 8, hb⟩ ⟨512 * (t.val % 8) + r.val, ht⟩ k (single (congrFun (at_8 t) 0) :)
    (row (congrFun (at_8 t) 1) 512 r.val :) (whole (congrFun (at_8 t) 2) 560 k.val :))).symm.trans
    (congrFun ((dat V c).read_blk_arrAt_eq_flushed 8 apart_8 cfg4.N t t.isLt (flush_8 t)) (ix3 (0 : Fin 1) r k))

theorem flush_9 : ∀ t : Fin cfg4.N, (cfg4.win 9).flush t = true := by decide +kernel

theorem apart_9 : ∀ t t' : Fin cfg4.N, (cfg4.win 9).flush t = true → (cfg4.win 9).flush t' = true → t ≠ t' →
    Disjoint ((cfg4.win 9).blk t).view.set ((cfg4.win 9).blk t').view.set :=
  fun t t' _ _ hne => (cfg4.win 9).disjoint_blk fun h => hne (Fin.ext (apart ((at_9 t).symm.trans (h.trans (at_9 t')))))

theorem arr_9 (t : Fin cfg4.N) (r : Fin 512) (k : Fin 560) (hb : t.val / 8 < 8) (ht : 512 * (t.val % 8) + r.val < 4096) :
    ((dat V c).arrAt 9 cfg4.N : Vec Ideal S8x4096x560 .f32) (ix3 ⟨t.val / 8, hb⟩ ⟨512 * (t.val % 8) + r.val, ht⟩ k) = ((dat V c).after 9 t : Vec Ideal S1x512x560 .f32) (ix3 0 r k) :=
  (congrArg ((dat V c).arrAt 9 cfg4.N : Vec Ideal S8x4096x560 .f32) (idx3 ⟨t.val / 8, hb⟩ ⟨512 * (t.val % 8) + r.val, ht⟩ k (single (congrFun (at_9 t) 0) :)
    (row (congrFun (at_9 t) 1) 512 r.val :) (whole (congrFun (at_9 t) 2) 560 k.val :))).symm.trans
    (congrFun ((dat V c).read_blk_arrAt_eq_flushed 9 apart_9 cfg4.N t t.isLt (flush_9 t)) (ix3 (0 : Fin 1) r k))

theorem flush_10 : ∀ t : Fin cfg4.N, (cfg4.win 10).flush t = true := by decide +kernel

theorem apart_10 : ∀ t t' : Fin cfg4.N, (cfg4.win 10).flush t = true → (cfg4.win 10).flush t' = true → t ≠ t' →
    Disjoint ((cfg4.win 10).blk t).view.set ((cfg4.win 10).blk t').view.set :=
  fun t t' _ _ hne => (cfg4.win 10).disjoint_blk fun h => hne (Fin.ext (apart ((at_10 t).symm.trans (h.trans (at_10 t')))))

theorem arr_10 (t : Fin cfg4.N) (r : Fin 512) (k : Fin 32) (hb : t.val / 8 < 8) (ht : 512 * (t.val % 8) + r.val < 4096) :
    ((dat V c).arrAt 10 cfg4.N : Vec Ideal S8x4096x32 .f32) (ix3 ⟨t.val / 8, hb⟩ ⟨512 * (t.val % 8) + r.val, ht⟩ k) = ((dat V c).after 10 t : Vec Ideal S1x512x32 .f32) (ix3 0 r k) :=
  (congrArg ((dat V c).arrAt 10 cfg4.N : Vec Ideal S8x4096x32 .f32) (idx3 ⟨t.val / 8, hb⟩ ⟨512 * (t.val % 8) + r.val, ht⟩ k (single (congrFun (at_10 t) 0) :)
    (row (congrFun (at_10 t) 1) 512 r.val :) (whole (congrFun (at_10 t) 2) 32 k.val :))).symm.trans
    (congrFun ((dat V c).read_blk_arrAt_eq_flushed 10 apart_10 cfg4.N t t.isLt (flush_10 t)) (ix3 (0 : Fin 1) r k))

/-! ## The results -/

variable (w : Layer.Weights) (x : Layer.Act 280)

/-- What the call is entered with: the activation and the weights, laid out as the call reads them. -/
structure Entered : Prop where
  x : ∀ b (t : Fin 4096) k, (V c main_call0_v55 : Vec Ideal S8x4096x280 .f32) (ix3 b t k) = x b t.val k
  inw : ∀ k e, (V c main_call0_v68 : Vec Ideal S280x1120 .f32) (ix2 k e) = w.inw e k
  cw : ∀ e k, (V c main_call0_v59 : Vec Ideal S560x4 .f32) (ix2 e k) = w.cw e k
  cb : ∀ z e, (V c main_call0_v69 : Vec Ideal S1x560 .f32) (ix2 z e) = w.cb e
  xpw : ∀ k e, (V c main_call0_v70 : Vec Ideal S560x50 .f32) (ix2 k e) = w.xpw e k
  dtw : ∀ r e, (V c main_call0_v71 : Vec Ideal S18x560 .f32) (ix2 r e) = w.dtw e r
  dtb : ∀ z e, (V c main_call0_v72 : Vec Ideal S1x560 .f32) (ix2 z e) = w.dtb e

section Results

variable {V c w x} (h : Entered V c w x)

include h

theorem holds (t : Fin cfg4.N) : Holds w x ⟨t.val / 8, by have := t_lt t; omega⟩ (scr V c (t.val + 1)) (512 * (t.val % 8)) :=
  projAt_holds w x _ (fun n hn => (coord_1 (pt n)).trans (by show n % 64 % 8 = n % 8; omega)) _
    (fun n hn r k => by
      have e : (pt n).val = n := Nat.mod_eq_of_lt hn
      rw [blk_0 V c (pt n) r k (by omega) (by omega), h.x]
      simp only [e])
    _ (fun n hn k e => (blk_1 V c (pt n) k e).trans (h.inw k e)) t.val (t_lt t)

theorem out_7 (b : Fin 8) (t : Fin 4096) (k : Fin 560) : (exit V c main_call0_v73_0 : Vec Ideal S8x4096x560 .f32) (ix3 b t k) = Layer.xc w x b t.val k := by
  rw [exit_7]
  exact split (T := 512) (K := 8) rfl N_4 _ _ (fun t r k hb ht => (arr_7 V c t r k hb ht).trans (projXc_at (holds h t) (fun e k => (blk_2 V c t e k).trans (h.cw e k)) (fun z e => (blk_3 V c t z e).trans (h.cb z e)) 0 r k)) b t k

theorem out_8 (b : Fin 8) (t : Fin 4096) (k : Fin 560) : (exit V c main_call0_v73_1 : Vec Ideal S8x4096x560 .f32) (ix3 b t k) = Layer.dt w x b t.val k := by
  rw [exit_8]
  exact split (T := 512) (K := 8) rfl N_4 _ _ (fun t r k hb ht => (arr_8 V c t r k hb ht).trans (projDt_at (holds h t) (fun e k => (blk_2 V c t e k).trans (h.cw e k)) (fun z e => (blk_3 V c t z e).trans (h.cb z e))
      (fun k e => (blk_4 V c t k e).trans (h.xpw k e)) (fun r e => (blk_5 V c t r e).trans (h.dtw r e)) (fun z e => (blk_6 V c t z e).trans (h.dtb z e)) 0 r k)) b t k

theorem out_9 (b : Fin 8) (t : Fin 4096) (k : Fin 560) : (exit V c main_call0_v73_2 : Vec Ideal S8x4096x560 .f32) (ix3 b t k) = Layer.gate w x b t.val k := by
  rw [exit_9]
  exact split (T := 512) (K := 8) rfl N_4 _ _ (fun t r k hb ht => (arr_9 V c t r k hb ht).trans (gate_at w x _ (fun r k => (blk_0 V c t r k (by have := t_lt t; omega) (by omega)).trans (h.x _ _ _))
      (fun k e => (blk_1 V c t k e).trans (h.inw k e)) 0 r k)) b t k

theorem out_10 (b : Fin 8) (t : Fin 4096) (k : Fin 32) : (exit V c main_call0_v73_3 : Vec Ideal S8x4096x32 .f32) (ix3 b t k) = Layer.bc w x b t.val k := by
  rw [exit_10]
  exact split (T := 512) (K := 8) rfl N_4 _ _ (fun t r k hb ht => (arr_10 V c t r k hb ht).trans (projBc_at (holds h t) (fun e k => (blk_2 V c t e k).trans (h.cw e k)) (fun z e => (blk_3 V c t z e).trans (h.cb z e))
      (fun k e => (blk_4 V c t k e).trans (h.xpw k e)) 0 r k)) b t k

end Results

end Cert.KernelIdeal.Region4

end
-- ==== Proof.Value5.lean ====
/- What the third layer's scan call leaves in its result, element by element. -/
module

public import proofs.«01_k».proof.Proof.Region5
public import proofs.«01_k».proof.Proof.KerScan
public import proofs.«01_k».proof.Proof.Blocks

@[expose] public section

set_option maxRecDepth 16384

noncomputable section

namespace Cert.KernelIdeal.Region5

open Idealize.ShloMosaic Idealize.ShloMosaic.TcCoe Idealize.ShloMosaic.Tactic
open Idealize.ShloMosaic.Pipeline (Dat Cfg Window)
open Blocks Mamba Cert.KernelIdeal.Gen Cert.KernelIdeal.Body

/-! ## Where the windows' blocks lie -/

theorem t_lt (t : Fin cfg5.N) : t.val < 256 := lt_of_lt_of_eq t.isLt (show cfg5.N = 256 from N_5)

theorem coord_1 : ∀ t : Fin grid5.N, (grid5.coords t 1).val = t.val % 32 := by decide +kernel

theorem at_0 : ∀ t : Fin grid5.N, win5_0.index t = ![t.val / 32, t.val % 32, 0] := by decide +kernel
theorem at_1 : ∀ t : Fin grid5.N, win5_1.index t = ![t.val / 32, t.val % 32, 0] := by decide +kernel
theorem at_2 : ∀ t : Fin grid5.N, win5_2.index t = ![t.val / 32, t.val % 32, 0] := by decide +kernel
theorem at_3 : ∀ t : Fin grid5.N, win5_3.index t = ![t.val / 32, t.val % 32, 0] := by decide +kernel
theorem at_7 : ∀ t : Fin grid5.N, win5_7.index t = ![t.val / 32, t.val % 32, 0] := by decide +kernel
theorem at_4 : ∀ t : Fin grid5.N, win5_4.index t = ![0, 0] := by decide +kernel
theorem at_5 : ∀ t : Fin grid5.N, win5_5.index t = ![0, 0] := by decide +kernel
theorem at_6 : ∀ t : Fin grid5.N, win5_6.index t = ![0, 0] := by decide +kernel

variable (V : Dev nD → Valuation τ sig (Elt Ideal)) (c : Dev nD)

theorem blk_0 (t : Fin cfg5.N) (r : Fin 128) (k : Fin 560) (hb : t.val / 32 < 8) (ht : 128 * (t.val % 32) + r.val < 4096) :
    (blk V c 0 t : Vec Ideal S1x128x560 .f32) (ix3 0 r k) = (V c main_call0_v73_0 : Vec Ideal S8x4096x560 .f32) (ix3 ⟨t.val / 32, hb⟩ ⟨128 * (t.val % 32) + r.val, ht⟩ k) :=
  congrArg (V c main_call0_v73_0 : Vec Ideal S8x4096x560 .f32) (idx3 ⟨t.val / 32, hb⟩ ⟨128 * (t.val % 32) + r.val, ht⟩ k (single (congrFun (at_0 t) 0) :)
    (row (congrFun (at_0 t) 1) 128 r.val :) (whole (congrFun (at_0 t) 2) 560 k.val :))

theorem blk_1 (t : Fin cfg5.N) (r : Fin 128) (k : Fin 560) (hb : t.val / 32 < 8) (ht : 128 * (t.val % 32) + r.val < 4096) :
    (blk V c 1 t : Vec Ideal S1x128x560 .f32) (ix3 0 r k) = (V c main_call0_v73_1 : Vec Ideal S8x4096x560 .f32) (ix3 ⟨t.val / 32, hb⟩ ⟨128 * (t.val % 32) + r.val, ht⟩ k) :=
  congrArg (V c main_call0_v73_1 : Vec Ideal S8x4096x560 .f32) (idx3 ⟨t.val / 32, hb⟩ ⟨128 * (t.val % 32) + r.val, ht⟩ k (single (congrFun (at_1 t) 0) :)
    (row (congrFun (at_1 t) 1) 128 r.val :) (whole (congrFun (at_1 t) 2) 560 k.val :))

theorem blk_2 (t : Fin cfg5.N) (r : Fin 128) (k : Fin 560) (hb : t.val / 32 < 8) (ht : 128 * (t.val % 32) + r.val < 4096) :
    (blk V c 2 t : Vec Ideal S1x128x560 .f32) (ix3 0 r k) = (V c main_call0_v73_2 : Vec Ideal S8x4096x560 .f32) (ix3 ⟨t.val / 32, hb⟩ ⟨128 * (t.val % 32) + r.val, ht⟩ k) :=
  congrArg (V c main_call0_v73_2 : Vec Ideal S8x4096x560 .f32) (idx3 ⟨t.val / 32, hb⟩ ⟨128 * (t.val % 32) + r.val, ht⟩ k (single (congrFun (at_2 t) 0) :)
    (row (congrFun (at_2 t) 1) 128 r.val :) (whole (congrFun (at_2 t) 2) 560 k.val :))

theorem blk_3 (t : Fin cfg5.N) (r : Fin 128) (k : Fin 32) (hb : t.val / 32 < 8) (ht : 128 * (t.val % 32) + r.val < 4096) :
    (blk V c 3 t : Vec Ideal S1x128x32 .f32) (ix3 0 r k) = (V c main_call0_v73_3 : Vec Ideal S8x4096x32 .f32) (ix3 ⟨t.val / 32, hb⟩ ⟨128 * (t.val % 32) + r.val, ht⟩ k) :=
  congrArg (V c main_call0_v73_3 : Vec Ideal S8x4096x32 .f32) (idx3 ⟨t.val / 32, hb⟩ ⟨128 * (t.val % 32) + r.val, ht⟩ k (single (congrFun (at_3 t) 0) :)
    (row (congrFun (at_3 t) 1) 128 r.val :) (whole (congrFun (at_3 t) 2) 32 k.val :))

theorem blk_4 (t : Fin cfg5.N) (p : Fin 16) (q : Fin 560) : (blk V c 4 t : Vec Ideal S16x560 .f32) (ix2 p q) = (V c main_call0_v80 : Vec Ideal S16x560 .f32) (ix2 p q) :=
  congrArg (V c main_call0_v80 : Vec Ideal S16x560 .f32) (idx2 p q (whole (congrFun (at_4 t) 0) 16 p.val :) (whole (congrFun (at_4 t) 1) 560 q.val :))

theorem blk_5 (t : Fin cfg5.N) (p : Fin 1) (q : Fin 560) : (blk V c 5 t : Vec Ideal S1x560 .f32) (ix2 p q) = (V c main_call0_v81 : Vec Ideal S1x560 .f32) (ix2 p q) :=
  congrArg (V c main_call0_v81 : Vec Ideal S1x560 .f32) (idx2 p q (whole (congrFun (at_5 t) 0) 1 p.val :) (whole (congrFun (at_5 t) 1) 560 q.val :))

theorem blk_6 (t : Fin cfg5.N) (p : Fin 560) (q : Fin 280) : (blk V c 6 t : Vec Ideal S560x280 .f32) (ix2 p q) = (V c main_call0_v82 : Vec Ideal S560x280 .f32) (ix2 p q) :=
  congrArg (V c main_call0_v82 : Vec Ideal S560x280 .f32) (idx2 p q (whole (congrFun (at_6 t) 0) 560 p.val :) (whole (congrFun (at_6 t) 1) 280 q.val :))

theorem flush_7 : ∀ t : Fin cfg5.N, (cfg5.win 7).flush t = true := by decide +kernel

theorem apart_7 : ∀ t t' : Fin cfg5.N, (cfg5.win 7).flush t = true → (cfg5.win 7).flush t' = true → t ≠ t' →
    Disjoint ((cfg5.win 7).blk t).view.set ((cfg5.win 7).blk t').view.set :=
  fun t t' _ _ hne => (cfg5.win 7).disjoint_blk fun h => hne (Fin.ext (apart ((at_7 t).symm.trans (h.trans (at_7 t')))))

theorem arr_7 (t : Fin cfg5.N) (r : Fin 128) (k : Fin 280) (hb : t.val / 32 < 8) (ht : 128 * (t.val % 32) + r.val < 4096) :
    ((dat V c).arrAt 7 cfg5.N : Vec Ideal S8x4096x280 .f32) (ix3 ⟨t.val / 32, hb⟩ ⟨128 * (t.val % 32) + r.val, ht⟩ k) = ((dat V c).after 7 t : Vec Ideal S1x128x280 .f32) (ix3 0 r k) :=
  (congrArg ((dat V c).arrAt 7 cfg5.N : Vec Ideal S8x4096x280 .f32) (idx3 ⟨t.val / 32, hb⟩ ⟨128 * (t.val % 32) + r.val, ht⟩ k (single (congrFun (at_7 t) 0) :)
    (row (congrFun (at_7 t) 1) 128 r.val :) (whole (congrFun (at_7 t) 2) 280 k.val :))).symm.trans
    (congrFun ((dat V c).read_blk_arrAt_eq_flushed 7 apart_7 cfg5.N t t.isLt (flush_7 t)) (ix3 (0 : Fin 1) r k))

/-! ## The result -/

variable (w : Layer.Weights) (x : Layer.Act 280)

/-- What the call is entered with: the projections and the weights, laid out as the call reads them. -/
structure Entered : Prop where
  xc : ∀ b (t : Fin 4096) k, (V c main_call0_v73_0 : Vec Ideal S8x4096x560 .f32) (ix3 b t k) = Layer.xc w x b t.val k
  dt : ∀ b (t : Fin 4096) k, (V c main_call0_v73_1 : Vec Ideal S8x4096x560 .f32) (ix3 b t k) = Layer.dt w x b t.val k
  gate : ∀ b (t : Fin 4096) k, (V c main_call0_v73_2 : Vec Ideal S8x4096x560 .f32) (ix3 b t k) = Layer.gate w x b t.val k
  proj : ∀ b (t : Fin 4096) (k : Fin 32), (V c main_call0_v73_3 : Vec Ideal S8x4096x32 .f32) (ix3 b t k) = Layer.bc w x b t.val k
  alog : ∀ n e, (V c main_call0_v80 : Vec Ideal S16x560 .f32) (ix2 n e) = w.alog e n
  skip : ∀ z e, (V c main_call0_v81 : Vec Ideal S1x560 .f32) (ix2 z e) = w.skip e
  ow : ∀ e d, (V c main_call0_v82 : Vec Ideal S560x280 .f32) (ix2 e d) = w.ow d e

variable {V c w x} (h : Entered V c w x)

include h

theorem enters (t : Fin cfg5.N) (k : Fin 16) (e : Fin 560) :
    scanEnter (grid5.coords t) (st V c t.val) (ix2 k e) = Layer.state w x ⟨t.val / 32, by have := t_lt t; omega⟩ (128 * (t.val % 32)) k e := by
  have hp : ∀ n < 256, (pt n).val = n := fun n hn => Nat.mod_eq_of_lt hn
  have := scanAt_enter w x (fun n => grid5.coords (pt n)) (fun n hn => (coord_1 (pt n)).trans (by rw [hp n hn])) (fun n => blk V c 0 (pt n)) (fun n => blk V c 1 (pt n)) (fun n => blk V c 3 (pt n)) (fun n => blk V c 4 (pt n))
    (fun n hn r k => by
      have e := hp n hn
      rw [blk_0 V c (pt n) r k (by omega) (by omega), h.xc]
      simp only [e])
    (fun n hn r k => by
      have e := hp n hn
      rw [blk_1 V c (pt n) r k (by omega) (by omega), h.dt]
      simp only [e])
    (fun n hn r k => by
      have e := hp n hn
      rw [blk_3 V c (pt n) r k (by omega) (by omega), h.proj]
      simp only [e])
    (fun n hn k e => (blk_4 V c (pt n) k e).trans (h.alog k e)) t.val (t_lt t) k e
  rw [pt_val] at this
  exact this

theorem out_7 (b : Fin 8) (t : Fin 4096) (d : Fin 280) : (exit V c main_v0 : Vec Ideal S8x4096x280 .f32) (ix3 b t d) = Layer.out w x b t.val d := by
  rw [exit_7]
  exact split (T := 128) (K := 32) rfl N_5 _ _ (fun t r d hb ht => (arr_7 V c t r d hb ht).trans
    (scanOut_at (fun r k => (blk_0 V c t r k hb (by omega)).trans (h.xc _ _ _)) (fun r k => (blk_1 V c t r k hb (by omega)).trans (h.dt _ _ _))
      (fun r k => (blk_2 V c t r k hb (by omega)).trans (h.gate _ _ _)) (fun r k => (blk_3 V c t r k hb (by omega)).trans (h.proj _ _ _))
      (fun n e => (blk_4 V c t n e).trans (h.alog n e)) (fun e => (blk_5 V c t 0 e).trans (h.skip 0 e)) (fun e d => (blk_6 V c t e d).trans (h.ow e d))
      _ _ (enters h t) 0 _ d)) b t d

end Cert.KernelIdeal.Region5

end
-- ==== Proof.KerValue.lean ====
/- What the kernel program computes, as a function of its arguments. -/
module

public import proofs.«01_k».proof.Proof.KerHost
public import proofs.«01_k».proof.Proof.Value0
public import proofs.«01_k».proof.Proof.Value1
public import proofs.«01_k».proof.Proof.Value2
public import proofs.«01_k».proof.Proof.Value3
public import proofs.«01_k».proof.Proof.Value4
public import proofs.«01_k».proof.Proof.Value5

@[expose] public section

set_option maxRecDepth 16384

noncomputable section

namespace Cert.KernelIdeal.Run

open Idealize.ShloMosaic Idealize.ShloMosaic.TcCoe Idealize.ShloMosaic.StableHlo
open Cert.KernelIdeal.Gen

/-- The arguments' references. -/
abbrev args : List (Ref sig .tc) := [main_arg0, main_arg1, main_arg2, main_arg3, main_arg4, main_arg5, main_arg6, main_arg7, main_arg8, main_arg9]

variable (m : (ℓ : Loc nD τ sig) → Buf (Elt Ideal) ℓ) (c : Dev nD)

/-- Two valuations agree on the arguments. -/
abbrev Same (V W : Valuation τ sig (Elt Ideal)) : Prop := ∀ r ∈ args, V r = W r

theorem ws_congr {V W : Valuation τ sig (Elt Ideal)} (h : Same V W) : ws V = ws W := by
  unfold ws
  rw [h main_arg1 (by decide), h main_arg2 (by decide), h main_arg3 (by decide), h main_arg4 (by decide), h main_arg5 (by decide),
    h main_arg6 (by decide), h main_arg7 (by decide), h main_arg8 (by decide), h main_arg9 (by decide)]

theorem same_1 : Same (U1 m c) (V0 m c) := fun r hr => (after_of_writes_sub hostOps0 _ hostOps0_writes ((by decide : ∀ r ∈ args, r ∉ hostOps0_W) r hr)).trans (rfl)
theorem same_2 : Same (U2 m c) (V0 m c) := fun r hr => (Region0.exit_of (U1 m) c r ((by decide : ∀ r ∈ args, r ∉ [main_call0_v17_0, main_call0_v17_1, main_call0_v17_2, main_call0_v17_3]) r hr)).trans (same_1 m c r hr)
theorem same_3 : Same (U3 m c) (V0 m c) := fun r hr => (after_of_writes_sub hostOps1 _ hostOps1_writes ((by decide : ∀ r ∈ args, r ∉ hostOps1_W) r hr)).trans (same_2 m c r hr)
theorem same_4 : Same (U4 m c) (V0 m c) := fun r hr => (Region1.exit_of (U3 m) c r ((by decide : ∀ r ∈ args, r ∉ [main_call0_v27]) r hr)).trans (same_3 m c r hr)
theorem same_5 : Same (U5 m c) (V0 m c) := fun r hr => (after_of_writes_sub hostOps2 _ hostOps2_writes ((by decide : ∀ r ∈ args, r ∉ hostOps2_W) r hr)).trans (same_4 m c r hr)
theorem same_6 : Same (U6 m c) (V0 m c) := fun r hr => (Region2.exit_of (U5 m) c r ((by decide : ∀ r ∈ args, r ∉ [main_call0_v45_0, main_call0_v45_1, main_call0_v45_2, main_call0_v45_3]) r hr)).trans (same_5 m c r hr)
theorem same_7 : Same (U7 m c) (V0 m c) := fun r hr => (after_of_writes_sub hostOps3 _ hostOps3_writes ((by decide : ∀ r ∈ args, r ∉ hostOps3_W) r hr)).trans (same_6 m c r hr)
theorem same_8 : Same (U8 m c) (V0 m c) := fun r hr => (Region3.exit_of (U7 m) c r ((by decide : ∀ r ∈ args, r ∉ [main_call0_v55]) r hr)).trans (same_7 m c r hr)
theorem same_9 : Same (U9 m c) (V0 m c) := fun r hr => (after_of_writes_sub hostOps4 _ hostOps4_writes ((by decide : ∀ r ∈ args, r ∉ hostOps4_W) r hr)).trans (same_8 m c r hr)
theorem same_10 : Same (U10 m c) (V0 m c) := fun r hr => (Region4.exit_of (U9 m) c r ((by decide : ∀ r ∈ args, r ∉ [main_call0_v73_0, main_call0_v73_1, main_call0_v73_2, main_call0_v73_3]) r hr)).trans (same_9 m c r hr)
theorem same_11 : Same (U11 m c) (V0 m c) := fun r hr => (after_of_writes_sub hostOps5 _ hostOps5_writes ((by decide : ∀ r ∈ args, r ∉ hostOps5_W) r hr)).trans (same_10 m c r hr)

/-- The input. -/
abbrev x0 : Layer.Act 280 := Layer.act (V0 m c main_arg0)
/-- The first layer's output. -/
abbrev x1 : Layer.Act 280 := Layer.out (ws (V0 m c) 0) (x0 m c)
/-- The second layer's output. -/
abbrev x2 : Layer.Act 280 := Layer.out (ws (V0 m c) 1) (x1 m c)

theorem enters_0 : Region0.Entered (U1 m) c (ws (V0 m c) 0) (x0 m c) where
  x := fun b t k => (congrFun (same_1 m c main_arg0 (by decide)) _).trans (Layer.act_at _ b t k).symm
  inw := fun k e => inw_0 (V0 m c) k e
  cw := fun e k => cw_0 (V0 m c) e k
  cb := fun z e => cb_0 (V0 m c) z e
  xpw := fun k e => xpw_0 (V0 m c) k e
  dtw := fun r e => dtw_0 (V0 m c) r e
  dtb := fun z e => dtb_0 (V0 m c) z e

theorem scans_0 : Region1.Entered (U3 m) c (ws (V0 m c) 0) (x0 m c) where
  xc := fun b t k => (congrFun (after_of_writes_sub hostOps1 (U2 m c) hostOps1_writes (r := main_call0_v17_0) (by decide)) _).trans (Region0.out_7 (enters_0 m c) b t k)
  dt := fun b t k => (congrFun (after_of_writes_sub hostOps1 (U2 m c) hostOps1_writes (r := main_call0_v17_1) (by decide)) _).trans (Region0.out_8 (enters_0 m c) b t k)
  gate := fun b t k => (congrFun (after_of_writes_sub hostOps1 (U2 m c) hostOps1_writes (r := main_call0_v17_2) (by decide)) _).trans (Region0.out_9 (enters_0 m c) b t k)
  proj := fun b t k => (congrFun (after_of_writes_sub hostOps1 (U2 m c) hostOps1_writes (r := main_call0_v17_3) (by decide)) _).trans (Region0.out_10 (enters_0 m c) b t k)
  alog := fun n e => (alog_0 (U2 m c) n e).trans (congrArg (fun w => w 0 |>.alog e n) (ws_congr (same_2 m c)))
  skip := fun z e => (skip_0 (U2 m c) z e).trans (congrArg (fun w => w 0 |>.skip e) (ws_congr (same_2 m c)))
  ow := fun e d => (ow_0 (U2 m c) e d).trans (congrArg (fun w => w 0 |>.ow d e) (ws_congr (same_2 m c)))

theorem enters_1 : Region2.Entered (U5 m) c (ws (V0 m c) 1) (x1 m c) where
  x := fun b t k => (congrFun (after_of_writes_sub hostOps2 (U4 m c) hostOps2_writes (r := main_call0_v27) (by decide)) _).trans (Region1.out_7 (scans_0 m c) b t k)
  inw := fun k e => (inw_1 (U4 m c) k e).trans (congrArg (fun w => w 1 |>.inw e k) (ws_congr (same_4 m c)))
  cw := fun e k => (cw_1 (U4 m c) e k).trans (congrArg (fun w => w 1 |>.cw e k) (ws_congr (same_4 m c)))
  cb := fun z e => (cb_1 (U4 m c) z e).trans (congrArg (fun w => w 1 |>.cb e) (ws_congr (same_4 m c)))
  xpw := fun k e => (xpw_1 (U4 m c) k e).trans (congrArg (fun w => w 1 |>.xpw e k) (ws_congr (same_4 m c)))
  dtw := fun r e => (dtw_1 (U4 m c) r e).trans (congrArg (fun w => w 1 |>.dtw e r) (ws_congr (same_4 m c)))
  dtb := fun z e => (dtb_1 (U4 m c) z e).trans (congrArg (fun w => w 1 |>.dtb e) (ws_congr (same_4 m c)))

theorem scans_1 : Region3.Entered (U7 m) c (ws (V0 m c) 1) (x1 m c) where
  xc := fun b t k => (congrFun (after_of_writes_sub hostOps3 (U6 m c) hostOps3_writes (r := main_call0_v45_0) (by decide)) _).trans (Region2.out_7 (enters_1 m c) b t k)
  dt := fun b t k => (congrFun (after_of_writes_sub hostOps3 (U6 m c) hostOps3_writes (r := main_call0_v45_1) (by decide)) _).trans (Region2.out_8 (enters_1 m c) b t k)
  gate := fun b t k => (congrFun (after_of_writes_sub hostOps3 (U6 m c) hostOps3_writes (r := main_call0_v45_2) (by decide)) _).trans (Region2.out_9 (enters_1 m c) b t k)
  proj := fun b t k => (congrFun (after_of_writes_sub hostOps3 (U6 m c) hostOps3_writes (r := main_call0_v45_3) (by decide)) _).trans (Region2.out_10 (enters_1 m c) b t k)
  alog := fun n e => (alog_1 (U6 m c) n e).trans (congrArg (fun w => w 1 |>.alog e n) (ws_congr (same_6 m c)))
  skip := fun z e => (skip_1 (U6 m c) z e).trans (congrArg (fun w => w 1 |>.skip e) (ws_congr (same_6 m c)))
  ow := fun e d => (ow_1 (U6 m c) e d).trans (congrArg (fun w => w 1 |>.ow d e) (ws_congr (same_6 m c)))

theorem enters_2 : Region4.Entered (U9 m) c (ws (V0 m c) 2) (x2 m c) where
  x := fun b t k => (congrFun (after_of_writes_sub hostOps4 (U8 m c) hostOps4_writes (r := main_call0_v55) (by decide)) _).trans (Region3.out_7 (scans_1 m c) b t k)
  inw := fun k e => (inw_2 (U8 m c) k e).trans (congrArg (fun w => w 2 |>.inw e k) (ws_congr (same_8 m c)))
  cw := fun e k => (cw_2 (U8 m c) e k).trans (congrArg (fun w => w 2 |>.cw e k) (ws_congr (same_8 m c)))
  cb := fun z e => (cb_2 (U8 m c) z e).trans (congrArg (fun w => w 2 |>.cb e) (ws_congr (same_8 m c)))
  xpw := fun k e => (xpw_2 (U8 m c) k e).trans (congrArg (fun w => w 2 |>.xpw e k) (ws_congr (same_8 m c)))
  dtw := fun r e => (dtw_2 (U8 m c) r e).trans (congrArg (fun w => w 2 |>.dtw e r) (ws_congr (same_8 m c)))
  dtb := fun z e => (dtb_2 (U8 m c) z e).trans (congrArg (fun w => w 2 |>.dtb e) (ws_congr (same_8 m c)))

theorem scans_2 : Region5.Entered (U11 m) c (ws (V0 m c) 2) (x2 m c) where
  xc := fun b t k => (congrFun (after_of_writes_sub hostOps5 (U10 m c) hostOps5_writes (r := main_call0_v73_0) (by decide)) _).trans (Region4.out_7 (enters_2 m c) b t k)
  dt := fun b t k => (congrFun (after_of_writes_sub hostOps5 (U10 m c) hostOps5_writes (r := main_call0_v73_1) (by decide)) _).trans (Region4.out_8 (enters_2 m c) b t k)
  gate := fun b t k => (congrFun (after_of_writes_sub hostOps5 (U10 m c) hostOps5_writes (r := main_call0_v73_2) (by decide)) _).trans (Region4.out_9 (enters_2 m c) b t k)
  proj := fun b t k => (congrFun (after_of_writes_sub hostOps5 (U10 m c) hostOps5_writes (r := main_call0_v73_3) (by decide)) _).trans (Region4.out_10 (enters_2 m c) b t k)
  alog := fun n e => (alog_2 (U10 m c) n e).trans (congrArg (fun w => w 2 |>.alog e n) (ws_congr (same_10 m c)))
  skip := fun z e => (skip_2 (U10 m c) z e).trans (congrArg (fun w => w 2 |>.skip e) (ws_congr (same_10 m c)))
  ow := fun e d => (ow_2 (U10 m c) e d).trans (congrArg (fun w => w 2 |>.ow d e) (ws_congr (same_10 m c)))

/-- The kernel's output is the three layers' of its arguments. -/
theorem value (b : Fin 8) (t : Fin 4096) (d : Fin 280) :
    (U12 m c main_v0 : Vec Ideal S8x4096x280 .f32) (ix3 b t d) = Layer.net (x0 m c) (ws (V0 m c)) b t.val d :=
  Region5.out_7 (scans_2 m c) b t d

end Cert.KernelIdeal.Run

end
-- ==== Proof.RefRows.lean ====
/- What the reference program's layers share: the weights its arguments hold, the two halves of the input projection, and a loop's row of an array, read and written. -/
module

public import proofs.«01_k».proof.Proof.RefRun
public import proofs.«01_k».proof.Proof.Spec
public import Idealize.ShloMosaic.Lib.StableHlo.ReadAt
public import Idealize.ShloMosaic.Lib.Pointwise
public import Idealize.ShloMosaic.Lib.DynamicIndex

@[expose] public section

set_option maxRecDepth 16384

noncomputable section

namespace Cert.ReferenceIdeal.Run

open Idealize.ShloMosaic Idealize.ShloMosaic.TcCoe Idealize.ShloMosaic.Tactic Idealize.ShloMosaic.StableHlo
open Cert.ReferenceIdeal.Gen

/-- The weights the arguments hold. -/
def ws (V : Valuation τ sig (Elt Ideal)) : Fin 3 → Layer.Weights :=
  Layer.weights (V main_arg1) (V main_arg2) (V main_arg3) (V main_arg4) (V main_arg5) (V main_arg6) (V main_arg7) (V main_arg8) (V main_arg9)

/-- The arguments' references. -/
abbrev args : List (Ref sig .tc) := [main_arg0, main_arg1, main_arg2, main_arg3, main_arg4, main_arg5, main_arg6, main_arg7, main_arg8, main_arg9]

/-- Two valuations agree on the arguments. -/
abbrev Same (V W : Valuation τ sig (Elt Ideal)) : Prop := ∀ r ∈ args, V r = W r

theorem ws_congr {V W : Valuation τ sig (Elt Ideal)} (h : Same V W) : ws V = ws W := by
  unfold ws
  rw [h main_arg1 (by decide), h main_arg2 (by decide), h main_arg3 (by decide), h main_arg4 (by decide), h main_arg5 (by decide),
    h main_arg6 (by decide), h main_arg7 (by decide), h main_arg8 (by decide), h main_arg9 (by decide)]

section Projection

variable (X : Vec Ideal S8x4096x280 .f32) (W : Vec Ideal S1120x280 .f32)

/-- The input projection. -/
def xz : Vec Ideal S8x4096x1120 .f32 :=
  Host.dotGeneral (F := Ideal) (φ₁ := .f32) (φ₂ := .f32) dot_S8x4096x280_S1120x280_S8x4096x1120_2_1_01_0_n_n none X W

/-- Its first half, -/
def firstHalf : Vec Ideal S8x4096x560 .f32 := extractStridedSlice S8x4096x560 ![0, 0, 0] (xz X W) slices_S8x4096x1120_S8x4096x560_0_0_0

/-- and its second. -/
def secondHalf : Vec Ideal S8x4096x560 .f32 := extractStridedSlice S8x4096x560 ![0, 0, 560] (xz X W) slices_S8x4096x1120_S8x4096x560_0_0_560

variable {X W} {w : Layer.Weights} {x : Layer.Act 280} (hx : ∀ b (t : Fin 4096) k, X (ix3 b t k) = x b t.val k) (hw : ∀ e k, W (ix2 e k) = w.inw e k)
include hx hw

theorem firstHalf_at (b : Fin 8) (t : Fin 4096) (c : Fin 560) : firstHalf X W (ix3 b t c) = Layer.xin w x b t.val c := by
  pointwise [firstHalf, xz]
  simp only [hx, hw]
  rfl

theorem secondHalf_at (b : Fin 8) (t : Fin 4096) (c : Fin 560) : secondHalf X W (ix3 b t c) = Layer.gate w x b t.val c := by
  pointwise [secondHalf, xz]
  simp only [hx, hw]
  rfl

end Projection

/-! ## A loop's row -/

theorem iv_toInt (k : ℕ) (hk : k < 4096) : (Scf.iv 0#32 1#32 k).toInt = (k : Int) := by
  rw [show Scf.iv 0#32 1#32 k = BitVec.ofNat 32 k by simp [Scf.iv]]
  exact toInt_ofNat_of_lt (by omega)

/-- A counter's value as a start index. -/
theorem start_of {i : Vec Ideal S_ .i32} {k : ℕ} (hi : i = fun _ => Scf.iv 0#32 1#32 k) (hk : k < 4096) : (i (Shape.Idx.first h_S_)).toInt = (k : Int) := by
  rw [hi]
  exact iv_toInt k hk

theorem row560 (X : Vec Ideal S4096x8x560 .f32) (s : Fin 3 → Int) (k : ℕ) (hk : k < 4096) (hs : ∀ a, s a = ((![k, 0, 0] : Fin 3 → ℕ) a : Int)) (b : Fin 8) (c : Fin 560) :
    (shapeCast S8x560 (Host.dynamicSlice S1x8x560 X s sliceFits_S4096x8x560_S1x8x560) shapeCasts_S1x8x560_S8x560 : Vec Ideal S8x560 .f32) (ix2 b c) = X (ix3 ⟨k, hk⟩ b c) := by
  have hf : Shape.Slices S4096x8x560 ![k, 0, 0] S1x8x560 := ⟨rfl, by intro a; fin_cases a <;> simp <;> omega⟩
  rw [show Host.dynamicSlice S1x8x560 X s sliceFits_S4096x8x560_S1x8x560 = extractStridedSlice S1x8x560 ![k, 0, 0] X hf from
    Host.dynamicSlice_eq_extractStridedSlice S1x8x560 X s ![k, 0, 0] _ hf hs]
  pointwise

theorem row16 (X : Vec Ideal S4096x8x16 .f32) (s : Fin 3 → Int) (k : ℕ) (hk : k < 4096) (hs : ∀ a, s a = ((![k, 0, 0] : Fin 3 → ℕ) a : Int)) (b : Fin 8) (n : Fin 16) :
    (shapeCast S8x16 (Host.dynamicSlice S1x8x16 X s sliceFits_S4096x8x16_S1x8x16) shapeCasts_S1x8x16_S8x16 : Vec Ideal S8x16 .f32) (ix2 b n) = X (ix3 ⟨k, hk⟩ b n) := by
  have hf : Shape.Slices S4096x8x16 ![k, 0, 0] S1x8x16 := ⟨rfl, by intro a; fin_cases a <;> simp <;> omega⟩
  rw [show Host.dynamicSlice S1x8x16 X s sliceFits_S4096x8x16_S1x8x16 = extractStridedSlice S1x8x16 ![k, 0, 0] X hf from
    Host.dynamicSlice_eq_extractStridedSlice S1x8x16 X s ![k, 0, 0] _ hf hs]
  pointwise

/-- An array with one row put in. -/
theorem put560 (X : Vec Ideal S4096x8x560 .f32) (y : Vec Ideal S8x560 .f32) (s : Fin 3 → Int) (k : ℕ) (hk : k < 4096) (hs : ∀ a, s a = ((![k, 0, 0] : Fin 3 → ℕ) a : Int)) (t : Fin 4096) (b : Fin 8) (c : Fin 560) :
    (Host.dynamicUpdateSlice X (broadcastInDim S1x8x560 ![1, 2] bcast_S8x560_S1x8x560_1_2 y) s updateFits_S4096x8x560_S1x8x560 : Vec Ideal S4096x8x560 .f32) (ix3 t b c)
      = if t.val = k then y (ix2 b c) else X (ix3 t b c) := by
  rw [Host.dynamicUpdateSlice_apply]
  have h : ∀ a, Host.clampedStart S4096x8x560 S1x8x560 updateFits_S4096x8x560_S1x8x560.1 s a = (![k, 0, 0] : Fin 3 → ℕ) a := fun a =>
    Host.clampedStart_of_le _ _ _ _ (hs a) (by fin_cases a <;> simp <;> omega)
  simp only [h]
  by_cases e : t.val = k
  · rw [dif_pos (by intro a; fin_cases a <;> simp [Shape.Idx.norm] <;> omega), if_pos e]
    pointwise
  · rw [dif_neg (fun hh => e (by have := hh 0; simp at this; omega)), if_neg e]

/-- A start at row `k`, its three parts in turn. -/
theorem starts {s : Fin 3 → Int} {k : ℕ} (h0 : s 0 = (k : Int)) (h1 : s 1 = 0) (h2 : s 2 = 0) : ∀ a, s a = ((![k, 0, 0] : Fin 3 → ℕ) a : Int)
  | 0 => h0
  | 1 => h1
  | 2 => h2

/-- The padding's zero. -/
theorem pad_zero : (FloatOps.sitofp .f32 (0#32 : BitVec 32) : Ideal .f32) = 0 := by
  show ((((0#32 : BitVec 32).toInt : ℤ) : ℝ) : EReal) = 0
  simp

/-! ## What a stretch leaves alone -/

/-- A change of the buffers keeps those outside the lists. -/
abbrev Keeps (f : Valuation τ sig (Elt Ideal) → Valuation τ sig (Elt Ideal)) (L : List (List (Ref sig .tc))) : Prop :=
  ∀ (V : Valuation τ sig (Elt Ideal)) (r : Ref sig .tc), (∀ W ∈ L, r ∉ W) → f V (Proc.devRef .tc r) = V (Proc.devRef .tc r)

theorem Keeps.ops {ops : Ops Ideal} {W : List (Ref sig .tc)} (h : WritesIn ops W) : Keeps (after ops) [W] :=
  fun V _ hr => after_of_writes_sub ops V h (hr W (List.mem_singleton_self W))

theorem Keeps.list {items : List (Ops Ideal)} {Ws : List (List (Ref sig .tc))} (h : Writes items Ws) : Keeps (afterL items) Ws :=
  fun V r hr => kept h r hr V

theorem Keeps.then {f g : Valuation τ sig (Elt Ideal) → Valuation τ sig (Elt Ideal)} {L M : List (List (Ref sig .tc))} (hf : Keeps f L) (hg : Keeps g M) :
    Keeps (fun V => g (f V)) (L ++ M) :=
  fun V r hr => (hg (f V) r fun W hW => hr W (List.mem_append_right L hW)).trans (hf V r fun W hW => hr W (List.mem_append_left M hW))

/-! ## What a loop starts from and what it carries -/

/-- What a layer's loop only reads, time first, and what the layer keeps for after it. -/
structure LoopInputs (w : Layer.Weights) (x : Layer.Act 280) (xcs dts : Vec Ideal S4096x8x560 .f32) (bs cs : Vec Ideal S4096x8x16 .f32) (am : Vec Ideal S560x16 .f32)
    (convs gates : Vec Ideal S8x4096x560 .f32) (skips : Vec Ideal S560 .f32) (ows : Vec Ideal S280x560 .f32) : Prop where
  xc : ∀ b (t : Fin 4096) c, xcs (ix3 t b c) = Layer.xc w x b t.val c
  dt : ∀ b (t : Fin 4096) c, dts (ix3 t b c) = Layer.dt w x b t.val c
  bmat : ∀ b (t : Fin 4096) (n : Fin 16), bs (ix3 t b n) = Layer.bc w x b t.val ⟨n.val, by omega⟩
  cmat : ∀ b (t : Fin 4096) (n : Fin 16), cs (ix3 t b n) = Layer.bc w x b t.val ⟨16 + n.val, by omega⟩
  a : ∀ c n, am (ix2 c n) = 0 - Ideal.exp (w.alog c n)
  conv : ∀ b (t : Fin 4096) c, convs (ix3 b t c) = Layer.xc w x b t.val c
  gate : ∀ b (t : Fin 4096) c, gates (ix3 b t c) = Layer.gate w x b t.val c
  skip : ∀ c, skips (ix1 c) = w.skip c
  ow : ∀ d c, ows (ix2 d c) = w.ow d c

theorem LoopInputs.congr {w : Layer.Weights} {x : Layer.Act 280} {xcs xcs' dts dts' : Vec Ideal S4096x8x560 .f32} {bs bs' cs cs' : Vec Ideal S4096x8x16 .f32}
    {am am' : Vec Ideal S560x16 .f32} {convs convs' gates gates' : Vec Ideal S8x4096x560 .f32} {skips skips' : Vec Ideal S560 .f32} {ows ows' : Vec Ideal S280x560 .f32}
    (h : LoopInputs w x xcs dts bs cs am convs gates skips ows) (h0 : xcs' = xcs) (h1 : dts' = dts) (h2 : bs' = bs) (h3 : cs' = cs) (h4 : am' = am)
    (h5 : convs' = convs) (h6 : gates' = gates) (h7 : skips' = skips) (h8 : ows' = ows) : LoopInputs w x xcs' dts' bs' cs' am' convs' gates' skips' ows' := by
  subst h0 h1 h2 h3 h4 h5 h6 h7 h8
  exact h

/-- A loop whose trips advance the state and put one row each: the state, and the rows so far. -/
theorem recurrence {w : Layer.Weights} {x : Layer.Act 280} {S : ℕ → Vec Ideal S8x560x16 .f32} {Y : ℕ → Vec Ideal S4096x8x560 .f32}
    (h0 : ∀ b d n, S 0 (ix3 b d n) = (0 : EReal))
    (step : ∀ k < 4096, (∀ b d n, S k (ix3 b d n) = Layer.state w x b k n d) →
      (∀ b d n, S (k + 1) (ix3 b d n) = Layer.state w x b (k + 1) n d)
      ∧ ∀ (t : Fin 4096) b d, Y (k + 1) (ix3 t b d) = if t.val = k then Layer.y w x b k d else Y k (ix3 t b d)) :
    ∀ k ≤ 4096, (∀ b d n, S k (ix3 b d n) = Layer.state w x b k n d) ∧ ∀ (t : Fin 4096) b d, t.val < k → Y k (ix3 t b d) = Layer.y w x b t.val d
  | 0, _ => ⟨h0, fun t b d ht => absurd ht (Nat.not_lt_zero _)⟩
  | k + 1, hk => by
    obtain ⟨hs, hy⟩ := recurrence h0 step k (by omega)
    obtain ⟨hs', hy'⟩ := step k (by omega) hs
    refine ⟨hs', fun t b d ht => (hy' t b d).trans ?_⟩
    split
    · next e => rw [e]
    · next e => exact hy t b d (by omega)

end Cert.ReferenceIdeal.Run

end
-- ==== Proof.RefLayer0.lean ====
/- Layer 1 of the reference program: what its loop starts from, what it carries, and the layer's output. -/
module

public import proofs.«01_k».proof.Proof.RefRows

@[expose] public section

set_option maxRecDepth 16384

noncomputable section

namespace Cert.ReferenceIdeal.Run

open Idealize.ShloMosaic Idealize.ShloMosaic.TcCoe Idealize.ShloMosaic.Tactic Idealize.ShloMosaic.StableHlo
open Cert.ReferenceIdeal.Gen

namespace Layer0

/-! ## The stretches before the loop -/

abbrev padOps : List (Ops Ideal) := [part0_1]
abbrev padW : List (List (Ref sig .tc)) := [part0_1_W]
theorem pad_writes : Writes padOps padW := .cons part0_1_writes (.nil)
abbrev convOps : List (Ops Ideal) := [part0_2]
abbrev convW : List (List (Ref sig .tc)) := [part0_2_W]
theorem conv_writes : Writes convOps convW := .cons part0_2_writes (.nil)
abbrev siluOps : List (Ops Ideal) := [part0_3]
abbrev siluW : List (List (Ref sig .tc)) := [part0_3_W]
theorem silu_writes : Writes siluOps siluW := .cons part0_3_writes (.nil)
abbrev projOps : List (Ops Ideal) := [part0_4, part1_0]
abbrev projW : List (List (Ref sig .tc)) := [part0_4_W, part1_0_W]
theorem proj_writes : Writes projOps projW := .cons part0_4_writes (.cons part1_0_writes (.nil))
abbrev softOps : List (Ops Ideal) := [part1_1]
abbrev softW : List (List (Ref sig .tc)) := [part1_1_W]
theorem soft_writes : Writes softOps softW := .cons part1_1_writes (.nil)
abbrev preOps : List (Ops Ideal) := [part1_2]
abbrev preW : List (List (Ref sig .tc)) := [part1_2_W]
theorem pre_writes : Writes preOps preW := .cons part1_2_writes (.nil)
abbrev skipOps : List (Ops Ideal) := [part1_3]
abbrev skipW : List (List (Ref sig .tc)) := [part1_3_W]
theorem skip_writes : Writes skipOps skipW := .cons part1_3_writes (.nil)
abbrev szOps : List (Ops Ideal) := [part1_4]
abbrev szW : List (List (Ref sig .tc)) := [part1_4_W]
theorem sz_writes : Writes szOps szW := .cons part1_4_writes (.nil)

/-- The layer's entry, and the buffers after each stretch from there to the loop. -/
abbrev E (V : Valuation τ sig (Elt Ideal)) := after part0_0 V
abbrev padS (V : Valuation τ sig (Elt Ideal)) := afterL padOps (E V)
abbrev convS (V : Valuation τ sig (Elt Ideal)) := afterL convOps (padS V)
abbrev siluS (V : Valuation τ sig (Elt Ideal)) := afterL siluOps (convS V)
abbrev projS (V : Valuation τ sig (Elt Ideal)) := afterL projOps (siluS V)
abbrev softS (V : Valuation τ sig (Elt Ideal)) := afterL softOps (projS V)
abbrev preS (V : Valuation τ sig (Elt Ideal)) := afterL preOps (softS V)

theorem from_pad : Keeps (afterL padOps) padW := .list pad_writes
theorem from_silu : Keeps (fun V => afterL siluOps (afterL convOps (afterL padOps V))) (padW ++ convW ++ siluW) :=
  (from_pad.then (.list conv_writes)).then (.list silu_writes)
theorem proj_soft : Keeps (fun V => afterL softOps (afterL projOps V)) (projW ++ softW) := Keeps.then (.list proj_writes) (.list soft_writes)
theorem proj_pre : Keeps (fun V => afterL preOps (afterL softOps (afterL projOps V))) (projW ++ softW ++ preW) := proj_soft.then (.list pre_writes)
theorem from_soft : Keeps (fun V => afterL softOps (afterL projOps (afterL siluOps (afterL convOps (afterL padOps V))))) (padW ++ convW ++ siluW ++ (projW ++ softW)) :=
  from_silu.then proj_soft
theorem from_pre : Keeps (fun V => afterL preOps (afterL softOps (afterL projOps (afterL siluOps (afterL convOps (afterL padOps V)))))) (padW ++ convW ++ siluW ++ (projW ++ softW ++ preW)) :=
  from_silu.then proj_pre

/-- The buffers within a trip, after each of its first six stretches. -/
abbrev B0 (V : Valuation τ sig (Elt Ideal)) := after body0_0 V
abbrev B1 (V : Valuation τ sig (Elt Ideal)) := after body0_1 (B0 V)
abbrev B2 (V : Valuation τ sig (Elt Ideal)) := after body0_2 (B1 V)
abbrev B3 (V : Valuation τ sig (Elt Ideal)) := after body0_3 (B2 V)
abbrev B4 (V : Valuation τ sig (Elt Ideal)) := after body0_4 (B3 V)
abbrev B5 (V : Valuation τ sig (Elt Ideal)) := after body0_5 (B4 V)

theorem to_B0 : Keeps B0 [body0_0_W] := .ops body0_0_writes
theorem to_B1 : Keeps B1 [body0_0_W, body0_1_W] := to_B0.then (.ops body0_1_writes)
theorem to_B2 : Keeps B2 [body0_0_W, body0_1_W, body0_2_W] := to_B1.then (.ops body0_2_writes)
theorem to_B3 : Keeps B3 [body0_0_W, body0_1_W, body0_2_W, body0_3_W] := to_B2.then (.ops body0_3_writes)
theorem to_B4 : Keeps B4 [body0_0_W, body0_1_W, body0_2_W, body0_3_W, body0_4_W] := to_B3.then (.ops body0_4_writes)
theorem B2_B3 : Keeps (after body0_3) [body0_3_W] := .ops body0_3_writes
theorem B1_B3 : Keeps (fun V => after body0_3 (after body0_2 V)) [body0_2_W, body0_3_W] := Keeps.then (.ops body0_2_writes) B2_B3
theorem B0_B3 : Keeps (fun V => after body0_3 (after body0_2 (after body0_1 V))) [body0_1_W, body0_2_W, body0_3_W] := Keeps.then (.ops body0_1_writes) B1_B3
theorem B4_B5 : Keeps (after body0_5) [body0_5_W] := .ops body0_5_writes

variable (V : Valuation τ sig (Elt Ideal)) {w : Layer.Weights} {x : Layer.Act 280}

/-! ### The weights -/

theorem inw (e : Fin 1120) (k : Fin 280) : (E V main_v1 : Vec Ideal S1120x280 .f32) (ix2 e k) = (ws V 0).inw e k := by
  unfold ws Layer.weights
  after_reads_at

theorem cw (c : Fin 560) (k : Fin 4) : (E V main_v3 : Vec Ideal S560x4 .f32) (ix2 c k) = (ws V 0).cw c k := by
  unfold ws Layer.weights
  after_reads_at

theorem cb (c : Fin 560) : (E V main_v5 : Vec Ideal S560 .f32) (ix1 c) = (ws V 0).cb c := by
  unfold ws Layer.weights
  after_reads_at

theorem xpw (e : Fin 50) (c : Fin 560) : (E V main_v7 : Vec Ideal S50x560 .f32) (ix2 e c) = (ws V 0).xpw e c := by
  unfold ws Layer.weights
  after_reads_at

theorem dtw (c : Fin 560) (r : Fin 18) : (E V main_v9 : Vec Ideal S560x18 .f32) (ix2 c r) = (ws V 0).dtw c r := by
  unfold ws Layer.weights
  after_reads_at

theorem dtb (c : Fin 560) : (E V main_v11 : Vec Ideal S560 .f32) (ix1 c) = (ws V 0).dtb c := by
  unfold ws Layer.weights
  after_reads_at

theorem alog (c : Fin 560) (n : Fin 16) : (E V main_v13 : Vec Ideal S560x16 .f32) (ix2 c n) = (ws V 0).alog c n := by
  unfold ws Layer.weights
  after_reads_at

theorem skip (c : Fin 560) : (E V main_v15 : Vec Ideal S560 .f32) (ix1 c) = (ws V 0).skip c := by
  unfold ws Layer.weights
  after_reads_at

theorem ow (d : Fin 280) (c : Fin 560) : (E V main_v17 : Vec Ideal S280x560 .f32) (ix2 d c) = (ws V 0).ow d c := by
  unfold ws Layer.weights
  after_reads_at

/-! ### The values, stretch by stretch -/

theorem zero : (E V main_c : Vec Ideal S_ .i32) = constantI S_ 32 0#32 := by
  after_results

section Halves

variable (hx : ∀ b (t : Fin 4096) k, (E V main_arg0 : Vec Ideal S8x4096x280 .f32) (ix3 b t k) = x b t.val k)
  (hw : ∀ (e : Fin 1120) (k : Fin 280), (E V main_v1 : Vec Ideal S1120x280 .f32) (ix2 e k) = w.inw e k)
include hx hw

theorem xin (b : Fin 8) (t : Fin 4096) (c : Fin 560) : (E V main_v19 : Vec Ideal S8x4096x560 .f32) (ix3 b t c) = Layer.xin w x b t.val c := by
  have e : (E V main_v19 : Vec Ideal S8x4096x560 .f32) = firstHalf (E V main_arg0) (E V main_v1) := by
    after_results
    rfl
  exact (congrFun e _).trans (firstHalf_at hx hw b t c)

theorem gate (b : Fin 8) (t : Fin 4096) (c : Fin 560) : (E V main_v20 : Vec Ideal S8x4096x560 .f32) (ix3 b t c) = Layer.gate w x b t.val c := by
  have e : (E V main_v20 : Vec Ideal S8x4096x560 .f32) = secondHalf (E V main_arg0) (E V main_v1) := by
    after_results
    rfl
  exact (congrFun e _).trans (secondHalf_at hx hw b t c)

end Halves

theorem padded (hc : (V main_c : Vec Ideal S_ .i32) = constantI S_ 32 0#32)
    (h : ∀ b (t : Fin 4096) c, (V main_v19 : Vec Ideal S8x4096x560 .f32) (ix3 b t c) = Layer.xin w x b t.val c) (b : Fin 8) (u : Fin 4099) (c : Fin 560) :
    (afterL padOps V main_v21 : Vec Ideal S8x4099x560 .f32) (ix3 b u c) = Layer.padded w x b u.val c := by
  simp only [afterL_cons, afterL_nil]
  after_reads_at
  rw [hc]
  unfold Layer.padded
  simp only [h]
  split <;> split <;> first | rfl | omega | exact pad_zero

theorem conv (h : ∀ b (u : Fin 4099) c, (V main_v21 : Vec Ideal S8x4099x560 .f32) (ix3 b u c) = Layer.padded w x b u.val c)
    (hw : ∀ (c : Fin 560) (k : Fin 4), (V main_v3 : Vec Ideal S560x4 .f32) (ix2 c k) = w.cw c k) (hb : ∀ (c : Fin 560), (V main_v5 : Vec Ideal S560 .f32) (ix1 c) = w.cb c) (b : Fin 8) (t : Fin 4096) (c : Fin 560) :
    (afterL convOps V main_v53 : Vec Ideal S8x4096x560 .f32) (ix3 b t c) = Layer.conv w x b t.val c := by
  simp only [afterL_cons, afterL_nil]
  after_reads_at
  simp only [h, hw, hb, Nat.add_comm _ t.val]
  rfl

theorem xc (h : ∀ b (t : Fin 4096) c, (V main_v53 : Vec Ideal S8x4096x560 .f32) (ix3 b t c) = Layer.conv w x b t.val c) (b : Fin 8) (t : Fin 4096) (c : Fin 560) :
    (afterL siluOps V main_v54 : Vec Ideal S8x4096x560 .f32) (ix3 b t c) = Layer.xc w x b t.val c := by
  simp only [afterL_cons, afterL_nil]
  after_reads_at
  simp only [h]
  rfl

section Projections

variable (h : ∀ b (t : Fin 4096) c, (V main_v54 : Vec Ideal S8x4096x560 .f32) (ix3 b t c) = Layer.xc w x b t.val c) (hw : ∀ (e : Fin 50) (c : Fin 560), (V main_v7 : Vec Ideal S50x560 .f32) (ix2 e c) = w.xpw e c)
include h hw

theorem bmat (b : Fin 8) (t : Fin 4096) (n : Fin 16) : (afterL projOps V main_v57 : Vec Ideal S8x4096x16 .f32) (ix3 b t n) = Layer.bc w x b t.val ⟨n.val, by omega⟩ := by
  simp only [afterL_cons, afterL_nil]
  after_reads_at
  simp only [h, hw]
  rfl

theorem cmat (b : Fin 8) (t : Fin 4096) (n : Fin 16) : (afterL projOps V main_v58 : Vec Ideal S8x4096x16 .f32) (ix3 b t n) = Layer.bc w x b t.val ⟨16 + n.val, by omega⟩ := by
  simp only [afterL_cons, afterL_nil]
  after_reads_at
  simp only [h, hw, Layer.bc, Layer.proj, ← Nat.add_assoc]

theorem pre (hd : ∀ (c : Fin 560) (r : Fin 18), (V main_v9 : Vec Ideal S560x18 .f32) (ix2 c r) = w.dtw c r) (hb : ∀ (c : Fin 560), (V main_v11 : Vec Ideal S560 .f32) (ix1 c) = w.dtb c) (b : Fin 8) (t : Fin 4096) (c : Fin 560) :
    (afterL projOps V main_v62 : Vec Ideal S8x4096x560 .f32) (ix3 b t c) = Layer.pre w x b t.val c := by
  simp only [afterL_cons, afterL_nil]
  after_reads_at
  simp only [h, hw, hd, hb]
  rfl

end Projections

theorem dt (h : ∀ b (t : Fin 4096) c, (V main_v62 : Vec Ideal S8x4096x560 .f32) (ix3 b t c) = Layer.pre w x b t.val c) (b : Fin 8) (t : Fin 4096) (c : Fin 560) :
    (afterL softOps V main_v63 : Vec Ideal S8x4096x560 .f32) (ix3 b t c) = Layer.dt w x b t.val c := by
  rw [Layer.dt_eq]
  simp only [afterL_cons, afterL_nil]
  after_reads_at
  simp only [h]
  simp [Layer.softplus]

/-! ## What the loop starts from -/

theorem start_xc (b : Fin 8) (t : Fin 4096) (c : Fin 560) : (afterL preOps V main_v72_0 : Vec Ideal S4096x8x560 .f32) (ix3 t b c) = (V main_v54 : Vec Ideal S8x4096x560 .f32) (ix3 b t c) := by
  simp only [afterL_cons, afterL_nil]
  after_reads_simp
  simp only [id]
  pointwise

theorem start_dt (b : Fin 8) (t : Fin 4096) (c : Fin 560) : (afterL preOps V main_v72_1 : Vec Ideal S4096x8x560 .f32) (ix3 t b c) = (V main_v63 : Vec Ideal S8x4096x560 .f32) (ix3 b t c) := by
  simp only [afterL_cons, afterL_nil]
  after_reads_simp
  simp only [id]
  pointwise

theorem start_bmat (b : Fin 8) (t : Fin 4096) (n : Fin 16) : (afterL preOps V main_v72_2 : Vec Ideal S4096x8x16 .f32) (ix3 t b n) = (V main_v57 : Vec Ideal S8x4096x16 .f32) (ix3 b t n) := by
  simp only [afterL_cons, afterL_nil]
  after_reads_simp
  simp only [id]
  pointwise

theorem start_cmat (b : Fin 8) (t : Fin 4096) (n : Fin 16) : (afterL preOps V main_v72_3 : Vec Ideal S4096x8x16 .f32) (ix3 t b n) = (V main_v58 : Vec Ideal S8x4096x16 .f32) (ix3 b t n) := by
  simp only [afterL_cons, afterL_nil]
  after_reads_simp
  simp only [id]
  pointwise

theorem start_a (h : ∀ (c : Fin 560) (n : Fin 16), (V main_v13 : Vec Ideal S560x16 .f32) (ix2 c n) = w.alog c n) (c : Fin 560) (n : Fin 16) : (afterL preOps V main_v72_4 : Vec Ideal S560x16 .f32) (ix2 c n) = 0 - Ideal.exp (w.alog c n) := by
  simp only [afterL_cons, afterL_nil]
  after_reads_simp
  simp only [id]
  pointwise
  simp only [h]
  simp

theorem start_state (b : Fin 8) (c : Fin 560) (n : Fin 16) : (afterL preOps V main_v72_6 : Vec Ideal S8x560x16 .f32) (ix3 b c n) = (0 : EReal) := by
  simp only [afterL_cons, afterL_nil]
  after_reads_simp
  simp only [id]
  pointwise

/-- The buffers the loop only reads, and those the layer keeps for after it. -/
abbrev reads : List (Ref sig .tc) := [main_v72_0, main_v72_1, main_v72_2, main_v72_3, main_v72_4, main_v54, main_v20, main_v15, main_v17]

/-- What the loop only reads, and what the layer keeps for after it. -/
abbrev Inputs (w : Layer.Weights) (x : Layer.Act 280) (X : Valuation τ sig (Elt Ideal)) : Prop :=
  LoopInputs w x (X main_v72_0) (X main_v72_1) (X main_v72_2) (X main_v72_3) (X main_v72_4) (X main_v54) (X main_v20) (X main_v15) (X main_v17)

/-- Another valuation that holds the same buffers. -/
theorem Inputs.of_eq {X Y : Valuation τ sig (Elt Ideal)} (h : Inputs w x X) (e : ∀ r ∈ reads, Y r = X r) : Inputs w x Y :=
  LoopInputs.congr h (e main_v72_0 (by decide)) (e main_v72_1 (by decide)) (e main_v72_2 (by decide)) (e main_v72_3 (by decide)) (e main_v72_4 (by decide))
    (e main_v54 (by decide)) (e main_v20 (by decide)) (e main_v15 (by decide)) (e main_v17 (by decide))

/-- The loop's start. -/
theorem inputs (hx : ∀ b (t : Fin 4096) k, (E V main_arg0 : Vec Ideal S8x4096x280 .f32) (ix3 b t k) = x b t.val k) :
    Inputs (ws V 0) x (preS V) := by
  have h19 := xin V hx (inw V)
  have h20 := gate V hx (inw V)
  have h21 := padded (E V) (zero V) h19
  have h53 := conv (padS V) h21 (fun c k => (congrFun (from_pad _ main_v3 (by decide)) _).trans (cw V c k)) (fun c => (congrFun (from_pad _ main_v5 (by decide)) _).trans (cb V c))
  have h54 := xc (convS V) h53
  have hx7 : ∀ (e : Fin 50) (c : Fin 560), ((siluS V) main_v7 : Vec Ideal S50x560 .f32) (ix2 e c) = (ws V 0).xpw e c := fun e c => (congrFun (from_silu _ main_v7 (by decide)) _).trans (xpw V e c)
  have h57 := bmat (siluS V) h54 hx7
  have h58 := cmat (siluS V) h54 hx7
  have h62 := pre (siluS V) h54 hx7 (fun c r => (congrFun (from_silu _ main_v9 (by decide)) _).trans (dtw V c r)) (fun c => (congrFun (from_silu _ main_v11 (by decide)) _).trans (dtb V c))
  have h63 := dt (projS V) h62
  exact {
    xc := fun b t c => (start_xc _ b t c).trans ((congrFun (proj_soft _ main_v54 (by decide)) _).trans (h54 b t c))
    dt := fun b t c => (start_dt _ b t c).trans (h63 b t c)
    bmat := fun b t n => (start_bmat _ b t n).trans ((congrFun (kept soft_writes main_v57 (by decide) _) _).trans (h57 b t n))
    cmat := fun b t n => (start_cmat _ b t n).trans ((congrFun (kept soft_writes main_v58 (by decide) _) _).trans (h58 b t n))
    a := start_a _ (fun c n => (congrFun (from_soft _ main_v13 (by decide)) _).trans (alog V c n))
    conv := fun b t c => (congrFun (proj_pre _ main_v54 (by decide)) _).trans (h54 b t c)
    gate := fun b t c => (congrFun (from_pre _ main_v20 (by decide)) _).trans (h20 b t c)
    skip := fun c => (congrFun (from_pre _ main_v15 (by decide)) _).trans (skip V c)
    ow := fun d c => (congrFun (from_pre _ main_v17 (by decide)) _).trans (ow V d c) }

/-! ## One trip -/

section Trip

variable {k : ℕ} (hk : k < 4096) (hi : (V main_v72_5 : Vec Ideal S_ .i32) = fun _ => Scf.iv 0#32 1#32 k)
include hk hi

theorem row_xc (b : Fin 8) (c : Fin 560) : (after body0_0 V main_while0b_v243 : Vec Ideal S8x560 .f32) (ix2 b c) = (V main_v72_0 : Vec Ideal S4096x8x560 .f32) (ix3 ⟨k, hk⟩ b c) := by
  after_reads_simp
  exact row560 (V main_v72_0) _ k hk (starts (start_of hi hk) rfl rfl) b c

theorem row_dt (b : Fin 8) (c : Fin 560) : (after body0_1 V main_while0b_v244 : Vec Ideal S8x560 .f32) (ix2 b c) = (V main_v72_1 : Vec Ideal S4096x8x560 .f32) (ix3 ⟨k, hk⟩ b c) := by
  after_reads_simp
  exact row560 (V main_v72_1) _ k hk (starts (start_of hi hk) rfl rfl) b c

theorem row_bmat (b : Fin 8) (c : Fin 16) : (after body0_2 V main_while0b_v245 : Vec Ideal S8x16 .f32) (ix2 b c) = (V main_v72_2 : Vec Ideal S4096x8x16 .f32) (ix3 ⟨k, hk⟩ b c) := by
  after_reads_simp
  exact row16 (V main_v72_2) _ k hk (starts (start_of hi hk) rfl rfl) b c

theorem row_cmat (b : Fin 8) (c : Fin 16) : (after body0_3 V main_while0b_v246 : Vec Ideal S8x16 .f32) (ix2 b c) = (V main_v72_3 : Vec Ideal S4096x8x16 .f32) (ix3 ⟨k, hk⟩ b c) := by
  after_reads_simp
  exact row16 (V main_v72_3) _ k hk (starts (start_of hi hk) rfl rfl) b c

theorem row_put (t : Fin 4096) (b : Fin 8) (c : Fin 560) : (after body0_5 V main_while0b_v262 : Vec Ideal S4096x8x560 .f32) (ix3 t b c)
    = if t.val = k then (V main_while0b_v261 : Vec Ideal S8x560 .f32) (ix2 b c) else (V main_v72_7 : Vec Ideal S4096x8x560 .f32) (ix3 t b c) := by
  after_reads_simp
  exact put560 (V main_v72_7) (V main_while0b_v261) _ k hk (starts (start_of hi hk) rfl rfl) t b c

end Trip

section Update

variable {k : ℕ} (hx : ∀ b c, (V main_while0b_v243 : Vec Ideal S8x560 .f32) (ix2 b c) = Layer.xc w x b k c)
  (hd : ∀ b c, (V main_while0b_v244 : Vec Ideal S8x560 .f32) (ix2 b c) = Layer.dt w x b k c)
  (hb : ∀ b (n : Fin 16), (V main_while0b_v245 : Vec Ideal S8x16 .f32) (ix2 b n) = Layer.bc w x b k ⟨n.val, by omega⟩)
  (ha : ∀ c n, (V main_v72_4 : Vec Ideal S560x16 .f32) (ix2 c n) = 0 - Ideal.exp (w.alog c n))
  (hh : ∀ b c n, (V main_v72_6 : Vec Ideal S8x560x16 .f32) (ix3 b c n) = Layer.state w x b k n c)
include hx hd hb ha hh

theorem next_state (b : Fin 8) (c : Fin 560) (n : Fin 16) : (after body0_4 V main_while0b_v260 : Vec Ideal S8x560x16 .f32) (ix3 b c n) = Layer.state w x b (k + 1) n c := by
  after_reads_at
  simp only [hx, hd, hb, ha, hh]
  rfl

theorem next_y (hc : ∀ b (n : Fin 16), (V main_while0b_v246 : Vec Ideal S8x16 .f32) (ix2 b n) = Layer.bc w x b k ⟨16 + n.val, by omega⟩) (b : Fin 8) (c : Fin 560) :
    (after body0_4 V main_while0b_v261 : Vec Ideal S8x560 .f32) (ix2 b c) = Layer.y w x b k c := by
  have e : (after body0_4 V main_while0b_v261 : Vec Ideal S8x560 .f32)
      = Host.dotGeneral (F := Ideal) (φ₁ := .f32) (φ₂ := .f32) dot_S8x560x16_S8x16_S8x560_2_1_1_n_0_0 none (after body0_4 V main_while0b_v260) (V main_while0b_v246) := by
    after_results
  refine (congrFun e _).trans ?_
  pointwise
  simp only [next_state V hx hd hb ha hh, hc]
  show (∑ n : Fin 16, Layer.state w x b (k + 1) n c * Layer.bc w x b k ⟨16 + n.val, by omega⟩ : EReal) = Layer.y w x b k c
  exact Finset.sum_congr rfl fun n _ => EReal.mul_comm _ _

end Update

/-- One trip: the next state, and the trip's row of the output. -/
theorem trip {Y : Valuation τ sig (Elt Ideal)} (h : Inputs w x Y) {k : ℕ} (hk : k < 4096)
    (hi : (Y main_v72_5 : Vec Ideal S_ .i32) = fun _ => Scf.iv 0#32 1#32 k)
    (hh : ∀ b c n, (Y main_v72_6 : Vec Ideal S8x560x16 .f32) (ix3 b c n) = Layer.state w x b k n c) :
    (∀ b c n, (afterL loop0 Y main_v72_6 : Vec Ideal S8x560x16 .f32) (ix3 b c n) = Layer.state w x b (k + 1) n c)
    ∧ ∀ (t : Fin 4096) b c, (afterL loop0 Y main_v72_7 : Vec Ideal S4096x8x560 .f32) (ix3 t b c) = if t.val = k then Layer.y w x b k c else (Y main_v72_7 : Vec Ideal S4096x8x560 .f32) (ix3 t b c) := by
  have h43 : ∀ b c, ((B3 Y) main_while0b_v243 : Vec Ideal S8x560 .f32) (ix2 b c) = Layer.xc w x b k c := fun b c =>
    (congrFun (B0_B3 _ main_while0b_v243 (by decide)) _).trans ((row_xc Y hk hi b c).trans (h.xc b ⟨k, hk⟩ c))
  have h44 : ∀ b c, ((B3 Y) main_while0b_v244 : Vec Ideal S8x560 .f32) (ix2 b c) = Layer.dt w x b k c := fun b c =>
    (congrFun (B1_B3 _ main_while0b_v244 (by decide)) _).trans ((row_dt (B0 Y) hk ((to_B0 _ main_v72_5 (by decide)).trans hi) b c).trans
      ((congrFun (to_B0 _ main_v72_1 (by decide)) _).trans (h.dt b ⟨k, hk⟩ c)))
  have h45 : ∀ b (n : Fin 16), ((B3 Y) main_while0b_v245 : Vec Ideal S8x16 .f32) (ix2 b n) = Layer.bc w x b k ⟨n.val, by omega⟩ := fun b n =>
    (congrFun (B2_B3 _ main_while0b_v245 (by decide)) _).trans ((row_bmat (B1 Y) hk ((to_B1 _ main_v72_5 (by decide)).trans hi) b n).trans
      ((congrFun (to_B1 _ main_v72_2 (by decide)) _).trans (h.bmat b ⟨k, hk⟩ n)))
  have h46 : ∀ b (n : Fin 16), ((B3 Y) main_while0b_v246 : Vec Ideal S8x16 .f32) (ix2 b n) = Layer.bc w x b k ⟨16 + n.val, by omega⟩ := fun b n =>
    (row_cmat (B2 Y) hk ((to_B2 _ main_v72_5 (by decide)).trans hi) b n).trans
      ((congrFun (to_B2 _ main_v72_3 (by decide)) _).trans (h.cmat b ⟨k, hk⟩ n))
  have ha : ∀ c n, ((B3 Y) main_v72_4 : Vec Ideal S560x16 .f32) (ix2 c n) = 0 - Ideal.exp (w.alog c n) := fun c n =>
    (congrFun (to_B3 _ main_v72_4 (by decide)) _).trans (h.a c n)
  have h6 : ∀ b c n, ((B3 Y) main_v72_6 : Vec Ideal S8x560x16 .f32) (ix3 b c n) = Layer.state w x b k n c := fun b c n =>
    (congrFun (to_B3 _ main_v72_6 (by decide)) _).trans (hh b c n)
  have hs := next_state (B3 Y) h43 h44 h45 ha h6
  have hy := next_y (B3 Y) h43 h44 h45 ha h6 h46
  have e6 : ∀ Z : Valuation τ sig (Elt Ideal), (after body0_6 Z main_v72_6 : Vec Ideal S8x560x16 .f32) = Z main_while0b_v260 := fun Z => by
    after_results
    rfl
  have e7 : ∀ Z : Valuation τ sig (Elt Ideal), (after body0_6 Z main_v72_7 : Vec Ideal S4096x8x560 .f32) = Z main_while0b_v262 := fun Z => by
    after_results
    rfl
  constructor
  · intro b c n
    exact (congrFun ((e6 (B5 Y)).trans (B4_B5 _ main_while0b_v260 (by decide))) _).trans (hs b c n)
  · intro t b c
    refine (congrFun (e7 (B5 Y)) _).trans ((row_put (B4 Y) hk ((to_B4 _ main_v72_5 (by decide)).trans hi) t b c).trans ?_)
    refine if_congr Iff.rfl (hy b c) (congrFun (to_B4 _ main_v72_7 (by decide)) _)

/-! ## The loop -/

variable (m : (ℓ : Loc nD τ sig) → Buf (Elt Ideal) ℓ) (c : Dev nD)

/-- The loop's inputs are the same at every trip. -/
theorem inputs_at (h : Inputs w x (R1 m c)) (k : ℕ) : Inputs w x (atTrip cond0 loop0 (R1 m) k c) :=
  Inputs.of_eq h fun r hr => kept_trips cond0_writes loop0_writes r
    ((by decide : ∀ r ∈ reads, r ∉ cond0_W) r hr)
    ((by decide : ∀ r ∈ reads, ∀ W ∈ loop0_W, r ∉ W) r hr) (R1 m) c k

/-- The test writes none of the carried buffers. -/
theorem test_keeps (X : Valuation τ sig (Elt Ideal)) (r : Ref sig .tc) (hr : r ∉ cond0_W) : after cond0 X r = X r :=
  after_of_writes_sub cond0 X cond0_writes hr

/-- The carried state, and the output's rows so far. -/
theorem carried (h : Inputs w x (R1 m c)) (h0 : ∀ b d n, (R1 m c main_v72_6 : Vec Ideal S8x560x16 .f32) (ix3 b d n) = (0 : EReal)) :
    ∀ k ≤ 4096, (∀ b d n, (atTrip cond0 loop0 (R1 m) k c main_v72_6 : Vec Ideal S8x560x16 .f32) (ix3 b d n) = Layer.state w x b k n d)
      ∧ ∀ (t : Fin 4096) b d, t.val < k → (atTrip cond0 loop0 (R1 m) k c main_v72_7 : Vec Ideal S4096x8x560 .f32) (ix3 t b d) = Layer.y w x b t.val d :=
  recurrence h0 fun k hk hs => by
    have hY : Inputs w x (after cond0 (atTrip cond0 loop0 (R1 m) k c)) := Inputs.of_eq (inputs_at m c h k) fun r hr => test_keeps _ r
      ((by decide : ∀ r ∈ reads, r ∉ cond0_W) r hr)
    obtain ⟨hs', hy'⟩ := trip hY hk ((test_keeps _ main_v72_5 (by decide)).trans (ctr0 m c k))
      (fun b d n => (congrFun (test_keeps _ main_v72_6 (by decide)) _).trans (hs b d n))
    rw [atTrip_succ]
    exact ⟨hs', fun t b d => (hy' t b d).trans (if_congr Iff.rfl rfl (congrFun (test_keeps _ main_v72_7 (by decide)) _))⟩

/-! ## After the loop -/

theorem skipped (hy : ∀ b (t : Fin 4096) c, (V main_v72_7 : Vec Ideal S4096x8x560 .f32) (ix3 t b c) = Layer.y w x b t.val c) (hc : ∀ b (t : Fin 4096) c, (V main_v54 : Vec Ideal S8x4096x560 .f32) (ix3 b t c) = Layer.xc w x b t.val c)
    (hs : ∀ (c : Fin 560), (V main_v15 : Vec Ideal S560 .f32) (ix1 c) = w.skip c) (b : Fin 8) (t : Fin 4096) (c : Fin 560) : (afterL skipOps V main_v77 : Vec Ideal S8x4096x560 .f32) (ix3 b t c) = Layer.ys w x b t.val c := by
  simp only [afterL_cons, afterL_nil]
  after_reads_at
  simp only [hy, hc, hs]
  rfl

theorem gated (h : ∀ b (t : Fin 4096) c, (V main_v20 : Vec Ideal S8x4096x560 .f32) (ix3 b t c) = Layer.gate w x b t.val c) (b : Fin 8) (t : Fin 4096) (c : Fin 560) :
    (afterL szOps V main_v78 : Vec Ideal S8x4096x560 .f32) (ix3 b t c) = Layer.silu (Layer.gate w x b t.val c) := by
  simp only [afterL_cons, afterL_nil]
  after_reads_at
  simp only [h]
  rfl

theorem result (hy : ∀ b (t : Fin 4096) c, (V main_v77 : Vec Ideal S8x4096x560 .f32) (ix3 b t c) = Layer.ys w x b t.val c) (hg : ∀ b (t : Fin 4096) c, (V main_v78 : Vec Ideal S8x4096x560 .f32) (ix3 b t c) = Layer.silu (Layer.gate w x b t.val c))
    (ho : ∀ (d : Fin 280) (c : Fin 560), (V main_v17 : Vec Ideal S280x560 .f32) (ix2 d c) = w.ow d c) (b : Fin 8) (t : Fin 4096) (d : Fin 280) : (after part1_5 V main_v80 : Vec Ideal S8x4096x280 .f32) (ix3 b t d) = Layer.out w x b t.val d := by
  after_reads_at
  simp only [hy, hg, ho]
  rfl

/-- The layer's output. -/
theorem output (h : Inputs w x (R1 m c)) (h0 : ∀ b d n, (R1 m c main_v72_6 : Vec Ideal S8x560x16 .f32) (ix3 b d n) = (0 : EReal)) (b : Fin 8) (t : Fin 4096) (d : Fin 280) :
    (after part1_5 (afterL szOps (afterL skipOps (R2 m c))) main_v80 : Vec Ideal S8x4096x280 .f32) (ix3 b t d) = Layer.out w x b t.val d := by
  have hX := inputs_at m c h 4096
  have hE : Inputs w x (R2 m c) := Inputs.of_eq hX fun r hr => test_keeps _ r
    ((by decide : ∀ r ∈ reads, r ∉ cond0_W) r hr)
  have hy := skipped (R2 m c) (fun b t c' => (congrFun (test_keeps _ main_v72_7 (by decide)) _).trans ((carried m c h h0 4096 (le_refl _)).2 t b c' t.isLt)) hE.conv hE.skip
  have hg := gated (afterL skipOps (R2 m c)) (fun b t c' => (congrFun (kept skip_writes main_v20 (by decide) _) _).trans (hE.gate b t c'))
  exact result _ (fun b t c' => (congrFun (kept sz_writes main_v77 (by decide) _) _).trans (hy b t c')) hg
    (fun d c' => (congrFun ((kept sz_writes main_v17 (by decide) _).trans (kept skip_writes main_v17 (by decide) _)) _).trans (hE.ow d c')) b t d

end Layer0

end Cert.ReferenceIdeal.Run

end
-- ==== Proof.RefLayer1.lean ====
/- Layer 2 of the reference program: what its loop starts from, what it carries, and the layer's output. -/
module

public import proofs.«01_k».proof.Proof.RefRows

@[expose] public section

set_option maxRecDepth 16384

noncomputable section

namespace Cert.ReferenceIdeal.Run

open Idealize.ShloMosaic Idealize.ShloMosaic.TcCoe Idealize.ShloMosaic.Tactic Idealize.ShloMosaic.StableHlo
open Cert.ReferenceIdeal.Gen

namespace Layer1

/-! ## The stretches before the loop -/

abbrev padOps : List (Ops Ideal) := [part1_6]
abbrev padW : List (List (Ref sig .tc)) := [part1_6_W]
theorem pad_writes : Writes padOps padW := .cons part1_6_writes (.nil)
abbrev convOps : List (Ops Ideal) := [part1_7, part2_0]
abbrev convW : List (List (Ref sig .tc)) := [part1_7_W, part2_0_W]
theorem conv_writes : Writes convOps convW := .cons part1_7_writes (.cons part2_0_writes (.nil))
abbrev siluOps : List (Ops Ideal) := [part2_1]
abbrev siluW : List (List (Ref sig .tc)) := [part2_1_W]
theorem silu_writes : Writes siluOps siluW := .cons part2_1_writes (.nil)
abbrev projOps : List (Ops Ideal) := [part2_2]
abbrev projW : List (List (Ref sig .tc)) := [part2_2_W]
theorem proj_writes : Writes projOps projW := .cons part2_2_writes (.nil)
abbrev softOps : List (Ops Ideal) := [part2_3]
abbrev softW : List (List (Ref sig .tc)) := [part2_3_W]
theorem soft_writes : Writes softOps softW := .cons part2_3_writes (.nil)
abbrev preOps : List (Ops Ideal) := [part2_4]
abbrev preW : List (List (Ref sig .tc)) := [part2_4_W]
theorem pre_writes : Writes preOps preW := .cons part2_4_writes (.nil)
abbrev skipOps : List (Ops Ideal) := [part3_0]
abbrev skipW : List (List (Ref sig .tc)) := [part3_0_W]
theorem skip_writes : Writes skipOps skipW := .cons part3_0_writes (.nil)
abbrev szOps : List (Ops Ideal) := [part3_1]
abbrev szW : List (List (Ref sig .tc)) := [part3_1_W]
theorem sz_writes : Writes szOps szW := .cons part3_1_writes (.nil)

/-- The layer's entry, and the buffers after each stretch from there to the loop. -/
abbrev E (V : Valuation τ sig (Elt Ideal)) := after part1_5 V
abbrev padS (V : Valuation τ sig (Elt Ideal)) := afterL padOps (E V)
abbrev convS (V : Valuation τ sig (Elt Ideal)) := afterL convOps (padS V)
abbrev siluS (V : Valuation τ sig (Elt Ideal)) := afterL siluOps (convS V)
abbrev projS (V : Valuation τ sig (Elt Ideal)) := afterL projOps (siluS V)
abbrev softS (V : Valuation τ sig (Elt Ideal)) := afterL softOps (projS V)
abbrev preS (V : Valuation τ sig (Elt Ideal)) := afterL preOps (softS V)

theorem from_pad : Keeps (afterL padOps) padW := .list pad_writes
theorem from_silu : Keeps (fun V => afterL siluOps (afterL convOps (afterL padOps V))) (padW ++ convW ++ siluW) :=
  (from_pad.then (.list conv_writes)).then (.list silu_writes)
theorem proj_soft : Keeps (fun V => afterL softOps (afterL projOps V)) (projW ++ softW) := Keeps.then (.list proj_writes) (.list soft_writes)
theorem proj_pre : Keeps (fun V => afterL preOps (afterL softOps (afterL projOps V))) (projW ++ softW ++ preW) := proj_soft.then (.list pre_writes)
theorem from_soft : Keeps (fun V => afterL softOps (afterL projOps (afterL siluOps (afterL convOps (afterL padOps V))))) (padW ++ convW ++ siluW ++ (projW ++ softW)) :=
  from_silu.then proj_soft
theorem from_pre : Keeps (fun V => afterL preOps (afterL softOps (afterL projOps (afterL siluOps (afterL convOps (afterL padOps V)))))) (padW ++ convW ++ siluW ++ (projW ++ softW ++ preW)) :=
  from_silu.then proj_pre

/-- The buffers within a trip, after each of its first six stretches. -/
abbrev B0 (V : Valuation τ sig (Elt Ideal)) := after body1_0 V
abbrev B1 (V : Valuation τ sig (Elt Ideal)) := after body1_1 (B0 V)
abbrev B2 (V : Valuation τ sig (Elt Ideal)) := after body1_2 (B1 V)
abbrev B3 (V : Valuation τ sig (Elt Ideal)) := after body1_3 (B2 V)
abbrev B4 (V : Valuation τ sig (Elt Ideal)) := after body1_4 (B3 V)
abbrev B5 (V : Valuation τ sig (Elt Ideal)) := after body1_5 (B4 V)

theorem to_B0 : Keeps B0 [body1_0_W] := .ops body1_0_writes
theorem to_B1 : Keeps B1 [body1_0_W, body1_1_W] := to_B0.then (.ops body1_1_writes)
theorem to_B2 : Keeps B2 [body1_0_W, body1_1_W, body1_2_W] := to_B1.then (.ops body1_2_writes)
theorem to_B3 : Keeps B3 [body1_0_W, body1_1_W, body1_2_W, body1_3_W] := to_B2.then (.ops body1_3_writes)
theorem to_B4 : Keeps B4 [body1_0_W, body1_1_W, body1_2_W, body1_3_W, body1_4_W] := to_B3.then (.ops body1_4_writes)
theorem B2_B3 : Keeps (after body1_3) [body1_3_W] := .ops body1_3_writes
theorem B1_B3 : Keeps (fun V => after body1_3 (after body1_2 V)) [body1_2_W, body1_3_W] := Keeps.then (.ops body1_2_writes) B2_B3
theorem B0_B3 : Keeps (fun V => after body1_3 (after body1_2 (after body1_1 V))) [body1_1_W, body1_2_W, body1_3_W] := Keeps.then (.ops body1_1_writes) B1_B3
theorem B4_B5 : Keeps (after body1_5) [body1_5_W] := .ops body1_5_writes

variable (V : Valuation τ sig (Elt Ideal)) {w : Layer.Weights} {x : Layer.Act 280}

/-! ### The weights -/

theorem inw (e : Fin 1120) (k : Fin 280) : (E V main_v82 : Vec Ideal S1120x280 .f32) (ix2 e k) = (ws V 1).inw e k := by
  unfold ws Layer.weights
  after_reads_at

theorem cw (c : Fin 560) (k : Fin 4) : (E V main_v84 : Vec Ideal S560x4 .f32) (ix2 c k) = (ws V 1).cw c k := by
  unfold ws Layer.weights
  after_reads_at

theorem cb (c : Fin 560) : (E V main_v86 : Vec Ideal S560 .f32) (ix1 c) = (ws V 1).cb c := by
  unfold ws Layer.weights
  after_reads_at

theorem xpw (e : Fin 50) (c : Fin 560) : (E V main_v88 : Vec Ideal S50x560 .f32) (ix2 e c) = (ws V 1).xpw e c := by
  unfold ws Layer.weights
  after_reads_at

theorem dtw (c : Fin 560) (r : Fin 18) : (E V main_v90 : Vec Ideal S560x18 .f32) (ix2 c r) = (ws V 1).dtw c r := by
  unfold ws Layer.weights
  after_reads_at

theorem dtb (c : Fin 560) : (E V main_v92 : Vec Ideal S560 .f32) (ix1 c) = (ws V 1).dtb c := by
  unfold ws Layer.weights
  after_reads_at

theorem alog (c : Fin 560) (n : Fin 16) : (E V main_v94 : Vec Ideal S560x16 .f32) (ix2 c n) = (ws V 1).alog c n := by
  unfold ws Layer.weights
  after_reads_at

theorem skip (c : Fin 560) : (E V main_v96 : Vec Ideal S560 .f32) (ix1 c) = (ws V 1).skip c := by
  unfold ws Layer.weights
  after_reads_at

theorem ow (d : Fin 280) (c : Fin 560) : (E V main_v98 : Vec Ideal S280x560 .f32) (ix2 d c) = (ws V 1).ow d c := by
  unfold ws Layer.weights
  after_reads_at

/-! ### The values, stretch by stretch -/

theorem zero : (E V main_c_3 : Vec Ideal S_ .i32) = constantI S_ 32 0#32 := by
  after_results

section Halves

variable (hx : ∀ b (t : Fin 4096) k, (E V main_v80 : Vec Ideal S8x4096x280 .f32) (ix3 b t k) = x b t.val k)
  (hw : ∀ (e : Fin 1120) (k : Fin 280), (E V main_v82 : Vec Ideal S1120x280 .f32) (ix2 e k) = w.inw e k)
include hx hw

theorem xin (b : Fin 8) (t : Fin 4096) (c : Fin 560) : (E V main_v100 : Vec Ideal S8x4096x560 .f32) (ix3 b t c) = Layer.xin w x b t.val c := by
  have e : (E V main_v100 : Vec Ideal S8x4096x560 .f32) = firstHalf (E V main_v80) (E V main_v82) := by
    after_results
    rfl
  exact (congrFun e _).trans (firstHalf_at hx hw b t c)

theorem gate (b : Fin 8) (t : Fin 4096) (c : Fin 560) : (E V main_v101 : Vec Ideal S8x4096x560 .f32) (ix3 b t c) = Layer.gate w x b t.val c := by
  have e : (E V main_v101 : Vec Ideal S8x4096x560 .f32) = secondHalf (E V main_v80) (E V main_v82) := by
    after_results
    rfl
  exact (congrFun e _).trans (secondHalf_at hx hw b t c)

end Halves

theorem padded (hc : (V main_c_3 : Vec Ideal S_ .i32) = constantI S_ 32 0#32)
    (h : ∀ b (t : Fin 4096) c, (V main_v100 : Vec Ideal S8x4096x560 .f32) (ix3 b t c) = Layer.xin w x b t.val c) (b : Fin 8) (u : Fin 4099) (c : Fin 560) :
    (afterL padOps V main_v102 : Vec Ideal S8x4099x560 .f32) (ix3 b u c) = Layer.padded w x b u.val c := by
  simp only [afterL_cons, afterL_nil]
  after_reads_at
  rw [hc]
  unfold Layer.padded
  simp only [h]
  split <;> split <;> first | rfl | omega | exact pad_zero

theorem conv (h : ∀ b (u : Fin 4099) c, (V main_v102 : Vec Ideal S8x4099x560 .f32) (ix3 b u c) = Layer.padded w x b u.val c)
    (hw : ∀ (c : Fin 560) (k : Fin 4), (V main_v84 : Vec Ideal S560x4 .f32) (ix2 c k) = w.cw c k) (hb : ∀ (c : Fin 560), (V main_v86 : Vec Ideal S560 .f32) (ix1 c) = w.cb c) (b : Fin 8) (t : Fin 4096) (c : Fin 560) :
    (afterL convOps V main_v134 : Vec Ideal S8x4096x560 .f32) (ix3 b t c) = Layer.conv w x b t.val c := by
  simp only [afterL_cons, afterL_nil]
  after_reads_at
  simp only [h, hw, hb, Nat.add_comm _ t.val]
  rfl

theorem xc (h : ∀ b (t : Fin 4096) c, (V main_v134 : Vec Ideal S8x4096x560 .f32) (ix3 b t c) = Layer.conv w x b t.val c) (b : Fin 8) (t : Fin 4096) (c : Fin 560) :
    (afterL siluOps V main_v135 : Vec Ideal S8x4096x560 .f32) (ix3 b t c) = Layer.xc w x b t.val c := by
  simp only [afterL_cons, afterL_nil]
  after_reads_at
  simp only [h]
  rfl

section Projections

variable (h : ∀ b (t : Fin 4096) c, (V main_v135 : Vec Ideal S8x4096x560 .f32) (ix3 b t c) = Layer.xc w x b t.val c) (hw : ∀ (e : Fin 50) (c : Fin 560), (V main_v88 : Vec Ideal S50x560 .f32) (ix2 e c) = w.xpw e c)
include h hw

theorem bmat (b : Fin 8) (t : Fin 4096) (n : Fin 16) : (afterL projOps V main_v138 : Vec Ideal S8x4096x16 .f32) (ix3 b t n) = Layer.bc w x b t.val ⟨n.val, by omega⟩ := by
  simp only [afterL_cons, afterL_nil]
  after_reads_at
  simp only [h, hw]
  rfl

theorem cmat (b : Fin 8) (t : Fin 4096) (n : Fin 16) : (afterL projOps V main_v139 : Vec Ideal S8x4096x16 .f32) (ix3 b t n) = Layer.bc w x b t.val ⟨16 + n.val, by omega⟩ := by
  simp only [afterL_cons, afterL_nil]
  after_reads_at
  simp only [h, hw, Layer.bc, Layer.proj, ← Nat.add_assoc]

theorem pre (hd : ∀ (c : Fin 560) (r : Fin 18), (V main_v90 : Vec Ideal S560x18 .f32) (ix2 c r) = w.dtw c r) (hb : ∀ (c : Fin 560), (V main_v92 : Vec Ideal S560 .f32) (ix1 c) = w.dtb c) (b : Fin 8) (t : Fin 4096) (c : Fin 560) :
    (afterL projOps V main_v143 : Vec Ideal S8x4096x560 .f32) (ix3 b t c) = Layer.pre w x b t.val c := by
  simp only [afterL_cons, afterL_nil]
  after_reads_at
  simp only [h, hw, hd, hb]
  rfl

end Projections

theorem dt (h : ∀ b (t : Fin 4096) c, (V main_v143 : Vec Ideal S8x4096x560 .f32) (ix3 b t c) = Layer.pre w x b t.val c) (b : Fin 8) (t : Fin 4096) (c : Fin 560) :
    (afterL softOps V main_v144 : Vec Ideal S8x4096x560 .f32) (ix3 b t c) = Layer.dt w x b t.val c := by
  rw [Layer.dt_eq]
  simp only [afterL_cons, afterL_nil]
  after_reads_at
  simp only [h]
  simp [Layer.softplus]

/-! ## What the loop starts from -/

theorem start_xc (b : Fin 8) (t : Fin 4096) (c : Fin 560) : (afterL preOps V main_v153_0 : Vec Ideal S4096x8x560 .f32) (ix3 t b c) = (V main_v135 : Vec Ideal S8x4096x560 .f32) (ix3 b t c) := by
  simp only [afterL_cons, afterL_nil]
  after_reads_simp
  simp only [id]
  pointwise

theorem start_dt (b : Fin 8) (t : Fin 4096) (c : Fin 560) : (afterL preOps V main_v153_1 : Vec Ideal S4096x8x560 .f32) (ix3 t b c) = (V main_v144 : Vec Ideal S8x4096x560 .f32) (ix3 b t c) := by
  simp only [afterL_cons, afterL_nil]
  after_reads_simp
  simp only [id]
  pointwise

theorem start_bmat (b : Fin 8) (t : Fin 4096) (n : Fin 16) : (afterL preOps V main_v153_2 : Vec Ideal S4096x8x16 .f32) (ix3 t b n) = (V main_v138 : Vec Ideal S8x4096x16 .f32) (ix3 b t n) := by
  simp only [afterL_cons, afterL_nil]
  after_reads_simp
  simp only [id]
  pointwise

theorem start_cmat (b : Fin 8) (t : Fin 4096) (n : Fin 16) : (afterL preOps V main_v153_3 : Vec Ideal S4096x8x16 .f32) (ix3 t b n) = (V main_v139 : Vec Ideal S8x4096x16 .f32) (ix3 b t n) := by
  simp only [afterL_cons, afterL_nil]
  after_reads_simp
  simp only [id]
  pointwise

theorem start_a (h : ∀ (c : Fin 560) (n : Fin 16), (V main_v94 : Vec Ideal S560x16 .f32) (ix2 c n) = w.alog c n) (c : Fin 560) (n : Fin 16) : (afterL preOps V main_v153_4 : Vec Ideal S560x16 .f32) (ix2 c n) = 0 - Ideal.exp (w.alog c n) := by
  simp only [afterL_cons, afterL_nil]
  after_reads_simp
  simp only [id]
  pointwise
  simp only [h]
  simp

theorem start_state (b : Fin 8) (c : Fin 560) (n : Fin 16) : (afterL preOps V main_v153_6 : Vec Ideal S8x560x16 .f32) (ix3 b c n) = (0 : EReal) := by
  simp only [afterL_cons, afterL_nil]
  after_reads_simp
  simp only [id]
  pointwise

/-- The buffers the loop only reads, and those the layer keeps for after it. -/
abbrev reads : List (Ref sig .tc) := [main_v153_0, main_v153_1, main_v153_2, main_v153_3, main_v153_4, main_v135, main_v101, main_v96, main_v98]

/-- What the loop only reads, and what the layer keeps for after it. -/
abbrev Inputs (w : Layer.Weights) (x : Layer.Act 280) (X : Valuation τ sig (Elt Ideal)) : Prop :=
  LoopInputs w x (X main_v153_0) (X main_v153_1) (X main_v153_2) (X main_v153_3) (X main_v153_4) (X main_v135) (X main_v101) (X main_v96) (X main_v98)

/-- Another valuation that holds the same buffers. -/
theorem Inputs.of_eq {X Y : Valuation τ sig (Elt Ideal)} (h : Inputs w x X) (e : ∀ r ∈ reads, Y r = X r) : Inputs w x Y :=
  LoopInputs.congr h (e main_v153_0 (by decide)) (e main_v153_1 (by decide)) (e main_v153_2 (by decide)) (e main_v153_3 (by decide)) (e main_v153_4 (by decide))
    (e main_v135 (by decide)) (e main_v101 (by decide)) (e main_v96 (by decide)) (e main_v98 (by decide))

/-- The loop's start. -/
theorem inputs (hx : ∀ b (t : Fin 4096) k, (E V main_v80 : Vec Ideal S8x4096x280 .f32) (ix3 b t k) = x b t.val k) :
    Inputs (ws V 1) x (preS V) := by
  have h19 := xin V hx (inw V)
  have h20 := gate V hx (inw V)
  have h21 := padded (E V) (zero V) h19
  have h53 := conv (padS V) h21 (fun c k => (congrFun (from_pad _ main_v84 (by decide)) _).trans (cw V c k)) (fun c => (congrFun (from_pad _ main_v86 (by decide)) _).trans (cb V c))
  have h54 := xc (convS V) h53
  have hx7 : ∀ (e : Fin 50) (c : Fin 560), ((siluS V) main_v88 : Vec Ideal S50x560 .f32) (ix2 e c) = (ws V 1).xpw e c := fun e c => (congrFun (from_silu _ main_v88 (by decide)) _).trans (xpw V e c)
  have h57 := bmat (siluS V) h54 hx7
  have h58 := cmat (siluS V) h54 hx7
  have h62 := pre (siluS V) h54 hx7 (fun c r => (congrFun (from_silu _ main_v90 (by decide)) _).trans (dtw V c r)) (fun c => (congrFun (from_silu _ main_v92 (by decide)) _).trans (dtb V c))
  have h63 := dt (projS V) h62
  exact {
    xc := fun b t c => (start_xc _ b t c).trans ((congrFun (proj_soft _ main_v135 (by decide)) _).trans (h54 b t c))
    dt := fun b t c => (start_dt _ b t c).trans (h63 b t c)
    bmat := fun b t n => (start_bmat _ b t n).trans ((congrFun (kept soft_writes main_v138 (by decide) _) _).trans (h57 b t n))
    cmat := fun b t n => (start_cmat _ b t n).trans ((congrFun (kept soft_writes main_v139 (by decide) _) _).trans (h58 b t n))
    a := start_a _ (fun c n => (congrFun (from_soft _ main_v94 (by decide)) _).trans (alog V c n))
    conv := fun b t c => (congrFun (proj_pre _ main_v135 (by decide)) _).trans (h54 b t c)
    gate := fun b t c => (congrFun (from_pre _ main_v101 (by decide)) _).trans (h20 b t c)
    skip := fun c => (congrFun (from_pre _ main_v96 (by decide)) _).trans (skip V c)
    ow := fun d c => (congrFun (from_pre _ main_v98 (by decide)) _).trans (ow V d c) }

/-! ## One trip -/

section Trip

variable {k : ℕ} (hk : k < 4096) (hi : (V main_v153_5 : Vec Ideal S_ .i32) = fun _ => Scf.iv 0#32 1#32 k)
include hk hi

theorem row_xc (b : Fin 8) (c : Fin 560) : (after body1_0 V main_while1b_v243 : Vec Ideal S8x560 .f32) (ix2 b c) = (V main_v153_0 : Vec Ideal S4096x8x560 .f32) (ix3 ⟨k, hk⟩ b c) := by
  after_reads_simp
  exact row560 (V main_v153_0) _ k hk (starts (start_of hi hk) rfl rfl) b c

theorem row_dt (b : Fin 8) (c : Fin 560) : (after body1_1 V main_while1b_v244 : Vec Ideal S8x560 .f32) (ix2 b c) = (V main_v153_1 : Vec Ideal S4096x8x560 .f32) (ix3 ⟨k, hk⟩ b c) := by
  after_reads_simp
  exact row560 (V main_v153_1) _ k hk (starts (start_of hi hk) rfl rfl) b c

theorem row_bmat (b : Fin 8) (c : Fin 16) : (after body1_2 V main_while1b_v245 : Vec Ideal S8x16 .f32) (ix2 b c) = (V main_v153_2 : Vec Ideal S4096x8x16 .f32) (ix3 ⟨k, hk⟩ b c) := by
  after_reads_simp
  exact row16 (V main_v153_2) _ k hk (starts (start_of hi hk) rfl rfl) b c

theorem row_cmat (b : Fin 8) (c : Fin 16) : (after body1_3 V main_while1b_v246 : Vec Ideal S8x16 .f32) (ix2 b c) = (V main_v153_3 : Vec Ideal S4096x8x16 .f32) (ix3 ⟨k, hk⟩ b c) := by
  after_reads_simp
  exact row16 (V main_v153_3) _ k hk (starts (start_of hi hk) rfl rfl) b c

theorem row_put (t : Fin 4096) (b : Fin 8) (c : Fin 560) : (after body1_5 V main_while1b_v262 : Vec Ideal S4096x8x560 .f32) (ix3 t b c)
    = if t.val = k then (V main_while1b_v261 : Vec Ideal S8x560 .f32) (ix2 b c) else (V main_v153_7 : Vec Ideal S4096x8x560 .f32) (ix3 t b c) := by
  after_reads_simp
  exact put560 (V main_v153_7) (V main_while1b_v261) _ k hk (starts (start_of hi hk) rfl rfl) t b c

end Trip

section Update

variable {k : ℕ} (hx : ∀ b c, (V main_while1b_v243 : Vec Ideal S8x560 .f32) (ix2 b c) = Layer.xc w x b k c)
  (hd : ∀ b c, (V main_while1b_v244 : Vec Ideal S8x560 .f32) (ix2 b c) = Layer.dt w x b k c)
  (hb : ∀ b (n : Fin 16), (V main_while1b_v245 : Vec Ideal S8x16 .f32) (ix2 b n) = Layer.bc w x b k ⟨n.val, by omega⟩)
  (ha : ∀ c n, (V main_v153_4 : Vec Ideal S560x16 .f32) (ix2 c n) = 0 - Ideal.exp (w.alog c n))
  (hh : ∀ b c n, (V main_v153_6 : Vec Ideal S8x560x16 .f32) (ix3 b c n) = Layer.state w x b k n c)
include hx hd hb ha hh

theorem next_state (b : Fin 8) (c : Fin 560) (n : Fin 16) : (after body1_4 V main_while1b_v260 : Vec Ideal S8x560x16 .f32) (ix3 b c n) = Layer.state w x b (k + 1) n c := by
  after_reads_at
  simp only [hx, hd, hb, ha, hh]
  rfl

theorem next_y (hc : ∀ b (n : Fin 16), (V main_while1b_v246 : Vec Ideal S8x16 .f32) (ix2 b n) = Layer.bc w x b k ⟨16 + n.val, by omega⟩) (b : Fin 8) (c : Fin 560) :
    (after body1_4 V main_while1b_v261 : Vec Ideal S8x560 .f32) (ix2 b c) = Layer.y w x b k c := by
  have e : (after body1_4 V main_while1b_v261 : Vec Ideal S8x560 .f32)
      = Host.dotGeneral (F := Ideal) (φ₁ := .f32) (φ₂ := .f32) dot_S8x560x16_S8x16_S8x560_2_1_1_n_0_0 none (after body1_4 V main_while1b_v260) (V main_while1b_v246) := by
    after_results
  refine (congrFun e _).trans ?_
  pointwise
  simp only [next_state V hx hd hb ha hh, hc]
  show (∑ n : Fin 16, Layer.state w x b (k + 1) n c * Layer.bc w x b k ⟨16 + n.val, by omega⟩ : EReal) = Layer.y w x b k c
  exact Finset.sum_congr rfl fun n _ => EReal.mul_comm _ _

end Update

/-- One trip: the next state, and the trip's row of the output. -/
theorem trip {Y : Valuation τ sig (Elt Ideal)} (h : Inputs w x Y) {k : ℕ} (hk : k < 4096)
    (hi : (Y main_v153_5 : Vec Ideal S_ .i32) = fun _ => Scf.iv 0#32 1#32 k)
    (hh : ∀ b c n, (Y main_v153_6 : Vec Ideal S8x560x16 .f32) (ix3 b c n) = Layer.state w x b k n c) :
    (∀ b c n, (afterL loop1 Y main_v153_6 : Vec Ideal S8x560x16 .f32) (ix3 b c n) = Layer.state w x b (k + 1) n c)
    ∧ ∀ (t : Fin 4096) b c, (afterL loop1 Y main_v153_7 : Vec Ideal S4096x8x560 .f32) (ix3 t b c) = if t.val = k then Layer.y w x b k c else (Y main_v153_7 : Vec Ideal S4096x8x560 .f32) (ix3 t b c) := by
  have h43 : ∀ b c, ((B3 Y) main_while1b_v243 : Vec Ideal S8x560 .f32) (ix2 b c) = Layer.xc w x b k c := fun b c =>
    (congrFun (B0_B3 _ main_while1b_v243 (by decide)) _).trans ((row_xc Y hk hi b c).trans (h.xc b ⟨k, hk⟩ c))
  have h44 : ∀ b c, ((B3 Y) main_while1b_v244 : Vec Ideal S8x560 .f32) (ix2 b c) = Layer.dt w x b k c := fun b c =>
    (congrFun (B1_B3 _ main_while1b_v244 (by decide)) _).trans ((row_dt (B0 Y) hk ((to_B0 _ main_v153_5 (by decide)).trans hi) b c).trans
      ((congrFun (to_B0 _ main_v153_1 (by decide)) _).trans (h.dt b ⟨k, hk⟩ c)))
  have h45 : ∀ b (n : Fin 16), ((B3 Y) main_while1b_v245 : Vec Ideal S8x16 .f32) (ix2 b n) = Layer.bc w x b k ⟨n.val, by omega⟩ := fun b n =>
    (congrFun (B2_B3 _ main_while1b_v245 (by decide)) _).trans ((row_bmat (B1 Y) hk ((to_B1 _ main_v153_5 (by decide)).trans hi) b n).trans
      ((congrFun (to_B1 _ main_v153_2 (by decide)) _).trans (h.bmat b ⟨k, hk⟩ n)))
  have h46 : ∀ b (n : Fin 16), ((B3 Y) main_while1b_v246 : Vec Ideal S8x16 .f32) (ix2 b n) = Layer.bc w x b k ⟨16 + n.val, by omega⟩ := fun b n =>
    (row_cmat (B2 Y) hk ((to_B2 _ main_v153_5 (by decide)).trans hi) b n).trans
      ((congrFun (to_B2 _ main_v153_3 (by decide)) _).trans (h.cmat b ⟨k, hk⟩ n))
  have ha : ∀ c n, ((B3 Y) main_v153_4 : Vec Ideal S560x16 .f32) (ix2 c n) = 0 - Ideal.exp (w.alog c n) := fun c n =>
    (congrFun (to_B3 _ main_v153_4 (by decide)) _).trans (h.a c n)
  have h6 : ∀ b c n, ((B3 Y) main_v153_6 : Vec Ideal S8x560x16 .f32) (ix3 b c n) = Layer.state w x b k n c := fun b c n =>
    (congrFun (to_B3 _ main_v153_6 (by decide)) _).trans (hh b c n)
  have hs := next_state (B3 Y) h43 h44 h45 ha h6
  have hy := next_y (B3 Y) h43 h44 h45 ha h6 h46
  have e6 : ∀ Z : Valuation τ sig (Elt Ideal), (after body1_6 Z main_v153_6 : Vec Ideal S8x560x16 .f32) = Z main_while1b_v260 := fun Z => by
    after_results
    rfl
  have e7 : ∀ Z : Valuation τ sig (Elt Ideal), (after body1_6 Z main_v153_7 : Vec Ideal S4096x8x560 .f32) = Z main_while1b_v262 := fun Z => by
    after_results
    rfl
  constructor
  · intro b c n
    exact (congrFun ((e6 (B5 Y)).trans (B4_B5 _ main_while1b_v260 (by decide))) _).trans (hs b c n)
  · intro t b c
    refine (congrFun (e7 (B5 Y)) _).trans ((row_put (B4 Y) hk ((to_B4 _ main_v153_5 (by decide)).trans hi) t b c).trans ?_)
    refine if_congr Iff.rfl (hy b c) (congrFun (to_B4 _ main_v153_7 (by decide)) _)

/-! ## The loop -/

variable (m : (ℓ : Loc nD τ sig) → Buf (Elt Ideal) ℓ) (c : Dev nD)

/-- The loop's inputs are the same at every trip. -/
theorem inputs_at (h : Inputs w x (R3 m c)) (k : ℕ) : Inputs w x (atTrip cond1 loop1 (R3 m) k c) :=
  Inputs.of_eq h fun r hr => kept_trips cond1_writes loop1_writes r
    ((by decide : ∀ r ∈ reads, r ∉ cond1_W) r hr)
    ((by decide : ∀ r ∈ reads, ∀ W ∈ loop1_W, r ∉ W) r hr) (R3 m) c k

/-- The test writes none of the carried buffers. -/
theorem test_keeps (X : Valuation τ sig (Elt Ideal)) (r : Ref sig .tc) (hr : r ∉ cond1_W) : after cond1 X r = X r :=
  after_of_writes_sub cond1 X cond1_writes hr

/-- The carried state, and the output's rows so far. -/
theorem carried (h : Inputs w x (R3 m c)) (h0 : ∀ b d n, (R3 m c main_v153_6 : Vec Ideal S8x560x16 .f32) (ix3 b d n) = (0 : EReal)) :
    ∀ k ≤ 4096, (∀ b d n, (atTrip cond1 loop1 (R3 m) k c main_v153_6 : Vec Ideal S8x560x16 .f32) (ix3 b d n) = Layer.state w x b k n d)
      ∧ ∀ (t : Fin 4096) b d, t.val < k → (atTrip cond1 loop1 (R3 m) k c main_v153_7 : Vec Ideal S4096x8x560 .f32) (ix3 t b d) = Layer.y w x b t.val d :=
  recurrence h0 fun k hk hs => by
    have hY : Inputs w x (after cond1 (atTrip cond1 loop1 (R3 m) k c)) := Inputs.of_eq (inputs_at m c h k) fun r hr => test_keeps _ r
      ((by decide : ∀ r ∈ reads, r ∉ cond1_W) r hr)
    obtain ⟨hs', hy'⟩ := trip hY hk ((test_keeps _ main_v153_5 (by decide)).trans (ctr1 m c k))
      (fun b d n => (congrFun (test_keeps _ main_v153_6 (by decide)) _).trans (hs b d n))
    rw [atTrip_succ]
    exact ⟨hs', fun t b d => (hy' t b d).trans (if_congr Iff.rfl rfl (congrFun (test_keeps _ main_v153_7 (by decide)) _))⟩

/-! ## After the loop -/

theorem skipped (hy : ∀ b (t : Fin 4096) c, (V main_v153_7 : Vec Ideal S4096x8x560 .f32) (ix3 t b c) = Layer.y w x b t.val c) (hc : ∀ b (t : Fin 4096) c, (V main_v135 : Vec Ideal S8x4096x560 .f32) (ix3 b t c) = Layer.xc w x b t.val c)
    (hs : ∀ (c : Fin 560), (V main_v96 : Vec Ideal S560 .f32) (ix1 c) = w.skip c) (b : Fin 8) (t : Fin 4096) (c : Fin 560) : (afterL skipOps V main_v158 : Vec Ideal S8x4096x560 .f32) (ix3 b t c) = Layer.ys w x b t.val c := by
  simp only [afterL_cons, afterL_nil]
  after_reads_at
  simp only [hy, hc, hs]
  rfl

theorem gated (h : ∀ b (t : Fin 4096) c, (V main_v101 : Vec Ideal S8x4096x560 .f32) (ix3 b t c) = Layer.gate w x b t.val c) (b : Fin 8) (t : Fin 4096) (c : Fin 560) :
    (afterL szOps V main_v159 : Vec Ideal S8x4096x560 .f32) (ix3 b t c) = Layer.silu (Layer.gate w x b t.val c) := by
  simp only [afterL_cons, afterL_nil]
  after_reads_at
  simp only [h]
  rfl

theorem result (hy : ∀ b (t : Fin 4096) c, (V main_v158 : Vec Ideal S8x4096x560 .f32) (ix3 b t c) = Layer.ys w x b t.val c) (hg : ∀ b (t : Fin 4096) c, (V main_v159 : Vec Ideal S8x4096x560 .f32) (ix3 b t c) = Layer.silu (Layer.gate w x b t.val c))
    (ho : ∀ (d : Fin 280) (c : Fin 560), (V main_v98 : Vec Ideal S280x560 .f32) (ix2 d c) = w.ow d c) (b : Fin 8) (t : Fin 4096) (d : Fin 280) : (after part3_2 V main_v161 : Vec Ideal S8x4096x280 .f32) (ix3 b t d) = Layer.out w x b t.val d := by
  after_reads_at
  simp only [hy, hg, ho]
  rfl

/-- The layer's output. -/
theorem output (h : Inputs w x (R3 m c)) (h0 : ∀ b d n, (R3 m c main_v153_6 : Vec Ideal S8x560x16 .f32) (ix3 b d n) = (0 : EReal)) (b : Fin 8) (t : Fin 4096) (d : Fin 280) :
    (after part3_2 (afterL szOps (afterL skipOps (R4 m c))) main_v161 : Vec Ideal S8x4096x280 .f32) (ix3 b t d) = Layer.out w x b t.val d := by
  have hX := inputs_at m c h 4096
  have hE : Inputs w x (R4 m c) := Inputs.of_eq hX fun r hr => test_keeps _ r
    ((by decide : ∀ r ∈ reads, r ∉ cond1_W) r hr)
  have hy := skipped (R4 m c) (fun b t c' => (congrFun (test_keeps _ main_v153_7 (by decide)) _).trans ((carried m c h h0 4096 (le_refl _)).2 t b c' t.isLt)) hE.conv hE.skip
  have hg := gated (afterL skipOps (R4 m c)) (fun b t c' => (congrFun (kept skip_writes main_v101 (by decide) _) _).trans (hE.gate b t c'))
  exact result _ (fun b t c' => (congrFun (kept sz_writes main_v158 (by decide) _) _).trans (hy b t c')) hg
    (fun d c' => (congrFun ((kept sz_writes main_v98 (by decide) _).trans (kept skip_writes main_v98 (by decide) _)) _).trans (hE.ow d c')) b t d

end Layer1

end Cert.ReferenceIdeal.Run

end
-- ==== Proof.RefLayer2.lean ====
/- Layer 3 of the reference program: what its loop starts from, what it carries, and the layer's output. -/
module

public import proofs.«01_k».proof.Proof.RefRows

@[expose] public section

set_option maxRecDepth 16384

noncomputable section

namespace Cert.ReferenceIdeal.Run

open Idealize.ShloMosaic Idealize.ShloMosaic.TcCoe Idealize.ShloMosaic.Tactic Idealize.ShloMosaic.StableHlo
open Cert.ReferenceIdeal.Gen

namespace Layer2

/-! ## The stretches before the loop -/

abbrev padOps : List (Ops Ideal) := [part3_3]
abbrev padW : List (List (Ref sig .tc)) := [part3_3_W]
theorem pad_writes : Writes padOps padW := .cons part3_3_writes (.nil)
abbrev convOps : List (Ops Ideal) := [part3_4, part4_0]
abbrev convW : List (List (Ref sig .tc)) := [part3_4_W, part4_0_W]
theorem conv_writes : Writes convOps convW := .cons part3_4_writes (.cons part4_0_writes (.nil))
abbrev siluOps : List (Ops Ideal) := [part4_1]
abbrev siluW : List (List (Ref sig .tc)) := [part4_1_W]
theorem silu_writes : Writes siluOps siluW := .cons part4_1_writes (.nil)
abbrev projOps : List (Ops Ideal) := [part4_2]
abbrev projW : List (List (Ref sig .tc)) := [part4_2_W]
theorem proj_writes : Writes projOps projW := .cons part4_2_writes (.nil)
abbrev softOps : List (Ops Ideal) := [part4_3]
abbrev softW : List (List (Ref sig .tc)) := [part4_3_W]
theorem soft_writes : Writes softOps softW := .cons part4_3_writes (.nil)
abbrev preOps : List (Ops Ideal) := [part4_4]
abbrev preW : List (List (Ref sig .tc)) := [part4_4_W]
theorem pre_writes : Writes preOps preW := .cons part4_4_writes (.nil)
abbrev skipOps : List (Ops Ideal) := [part4_5]
abbrev skipW : List (List (Ref sig .tc)) := [part4_5_W]
theorem skip_writes : Writes skipOps skipW := .cons part4_5_writes (.nil)
abbrev szOps : List (Ops Ideal) := [part4_6]
abbrev szW : List (List (Ref sig .tc)) := [part4_6_W]
theorem sz_writes : Writes szOps szW := .cons part4_6_writes (.nil)

/-- The layer's entry, and the buffers after each stretch from there to the loop. -/
abbrev E (V : Valuation τ sig (Elt Ideal)) := after part3_2 V
abbrev padS (V : Valuation τ sig (Elt Ideal)) := afterL padOps (E V)
abbrev convS (V : Valuation τ sig (Elt Ideal)) := afterL convOps (padS V)
abbrev siluS (V : Valuation τ sig (Elt Ideal)) := afterL siluOps (convS V)
abbrev projS (V : Valuation τ sig (Elt Ideal)) := afterL projOps (siluS V)
abbrev softS (V : Valuation τ sig (Elt Ideal)) := afterL softOps (projS V)
abbrev preS (V : Valuation τ sig (Elt Ideal)) := afterL preOps (softS V)

theorem from_pad : Keeps (afterL padOps) padW := .list pad_writes
theorem from_silu : Keeps (fun V => afterL siluOps (afterL convOps (afterL padOps V))) (padW ++ convW ++ siluW) :=
  (from_pad.then (.list conv_writes)).then (.list silu_writes)
theorem proj_soft : Keeps (fun V => afterL softOps (afterL projOps V)) (projW ++ softW) := Keeps.then (.list proj_writes) (.list soft_writes)
theorem proj_pre : Keeps (fun V => afterL preOps (afterL softOps (afterL projOps V))) (projW ++ softW ++ preW) := proj_soft.then (.list pre_writes)
theorem from_soft : Keeps (fun V => afterL softOps (afterL projOps (afterL siluOps (afterL convOps (afterL padOps V))))) (padW ++ convW ++ siluW ++ (projW ++ softW)) :=
  from_silu.then proj_soft
theorem from_pre : Keeps (fun V => afterL preOps (afterL softOps (afterL projOps (afterL siluOps (afterL convOps (afterL padOps V)))))) (padW ++ convW ++ siluW ++ (projW ++ softW ++ preW)) :=
  from_silu.then proj_pre

/-- The buffers within a trip, after each of its first six stretches. -/
abbrev B0 (V : Valuation τ sig (Elt Ideal)) := after body2_0 V
abbrev B1 (V : Valuation τ sig (Elt Ideal)) := after body2_1 (B0 V)
abbrev B2 (V : Valuation τ sig (Elt Ideal)) := after body2_2 (B1 V)
abbrev B3 (V : Valuation τ sig (Elt Ideal)) := after body2_3 (B2 V)
abbrev B4 (V : Valuation τ sig (Elt Ideal)) := after body2_4 (B3 V)
abbrev B5 (V : Valuation τ sig (Elt Ideal)) := after body2_5 (B4 V)

theorem to_B0 : Keeps B0 [body2_0_W] := .ops body2_0_writes
theorem to_B1 : Keeps B1 [body2_0_W, body2_1_W] := to_B0.then (.ops body2_1_writes)
theorem to_B2 : Keeps B2 [body2_0_W, body2_1_W, body2_2_W] := to_B1.then (.ops body2_2_writes)
theorem to_B3 : Keeps B3 [body2_0_W, body2_1_W, body2_2_W, body2_3_W] := to_B2.then (.ops body2_3_writes)
theorem to_B4 : Keeps B4 [body2_0_W, body2_1_W, body2_2_W, body2_3_W, body2_4_W] := to_B3.then (.ops body2_4_writes)
theorem B2_B3 : Keeps (after body2_3) [body2_3_W] := .ops body2_3_writes
theorem B1_B3 : Keeps (fun V => after body2_3 (after body2_2 V)) [body2_2_W, body2_3_W] := Keeps.then (.ops body2_2_writes) B2_B3
theorem B0_B3 : Keeps (fun V => after body2_3 (after body2_2 (after body2_1 V))) [body2_1_W, body2_2_W, body2_3_W] := Keeps.then (.ops body2_1_writes) B1_B3
theorem B4_B5 : Keeps (after body2_5) [body2_5_W] := .ops body2_5_writes

variable (V : Valuation τ sig (Elt Ideal)) {w : Layer.Weights} {x : Layer.Act 280}

/-! ### The weights -/

theorem inw (e : Fin 1120) (k : Fin 280) : (E V main_v163 : Vec Ideal S1120x280 .f32) (ix2 e k) = (ws V 2).inw e k := by
  unfold ws Layer.weights
  after_reads_at

theorem cw (c : Fin 560) (k : Fin 4) : (E V main_v165 : Vec Ideal S560x4 .f32) (ix2 c k) = (ws V 2).cw c k := by
  unfold ws Layer.weights
  after_reads_at

theorem cb (c : Fin 560) : (E V main_v167 : Vec Ideal S560 .f32) (ix1 c) = (ws V 2).cb c := by
  unfold ws Layer.weights
  after_reads_at

theorem xpw (e : Fin 50) (c : Fin 560) : (E V main_v169 : Vec Ideal S50x560 .f32) (ix2 e c) = (ws V 2).xpw e c := by
  unfold ws Layer.weights
  after_reads_at

theorem dtw (c : Fin 560) (r : Fin 18) : (E V main_v171 : Vec Ideal S560x18 .f32) (ix2 c r) = (ws V 2).dtw c r := by
  unfold ws Layer.weights
  after_reads_at

theorem dtb (c : Fin 560) : (E V main_v173 : Vec Ideal S560 .f32) (ix1 c) = (ws V 2).dtb c := by
  unfold ws Layer.weights
  after_reads_at

theorem alog (c : Fin 560) (n : Fin 16) : (E V main_v175 : Vec Ideal S560x16 .f32) (ix2 c n) = (ws V 2).alog c n := by
  unfold ws Layer.weights
  after_reads_at

theorem skip (c : Fin 560) : (E V main_v177 : Vec Ideal S560 .f32) (ix1 c) = (ws V 2).skip c := by
  unfold ws Layer.weights
  after_reads_at

theorem ow (d : Fin 280) (c : Fin 560) : (E V main_v179 : Vec Ideal S280x560 .f32) (ix2 d c) = (ws V 2).ow d c := by
  unfold ws Layer.weights
  after_reads_at

/-! ### The values, stretch by stretch -/

theorem zero : (E V main_c_8 : Vec Ideal S_ .i32) = constantI S_ 32 0#32 := by
  after_results

section Halves

variable (hx : ∀ b (t : Fin 4096) k, (E V main_v161 : Vec Ideal S8x4096x280 .f32) (ix3 b t k) = x b t.val k)
  (hw : ∀ (e : Fin 1120) (k : Fin 280), (E V main_v163 : Vec Ideal S1120x280 .f32) (ix2 e k) = w.inw e k)
include hx hw

theorem xin (b : Fin 8) (t : Fin 4096) (c : Fin 560) : (E V main_v181 : Vec Ideal S8x4096x560 .f32) (ix3 b t c) = Layer.xin w x b t.val c := by
  have e : (E V main_v181 : Vec Ideal S8x4096x560 .f32) = firstHalf (E V main_v161) (E V main_v163) := by
    after_results
    rfl
  exact (congrFun e _).trans (firstHalf_at hx hw b t c)

theorem gate (b : Fin 8) (t : Fin 4096) (c : Fin 560) : (E V main_v182 : Vec Ideal S8x4096x560 .f32) (ix3 b t c) = Layer.gate w x b t.val c := by
  have e : (E V main_v182 : Vec Ideal S8x4096x560 .f32) = secondHalf (E V main_v161) (E V main_v163) := by
    after_results
    rfl
  exact (congrFun e _).trans (secondHalf_at hx hw b t c)

end Halves

theorem padded (hc : (V main_c_8 : Vec Ideal S_ .i32) = constantI S_ 32 0#32)
    (h : ∀ b (t : Fin 4096) c, (V main_v181 : Vec Ideal S8x4096x560 .f32) (ix3 b t c) = Layer.xin w x b t.val c) (b : Fin 8) (u : Fin 4099) (c : Fin 560) :
    (afterL padOps V main_v183 : Vec Ideal S8x4099x560 .f32) (ix3 b u c) = Layer.padded w x b u.val c := by
  simp only [afterL_cons, afterL_nil]
  after_reads_at
  rw [hc]
  unfold Layer.padded
  simp only [h]
  split <;> split <;> first | rfl | omega | exact pad_zero

theorem conv (h : ∀ b (u : Fin 4099) c, (V main_v183 : Vec Ideal S8x4099x560 .f32) (ix3 b u c) = Layer.padded w x b u.val c)
    (hw : ∀ (c : Fin 560) (k : Fin 4), (V main_v165 : Vec Ideal S560x4 .f32) (ix2 c k) = w.cw c k) (hb : ∀ (c : Fin 560), (V main_v167 : Vec Ideal S560 .f32) (ix1 c) = w.cb c) (b : Fin 8) (t : Fin 4096) (c : Fin 560) :
    (afterL convOps V main_v215 : Vec Ideal S8x4096x560 .f32) (ix3 b t c) = Layer.conv w x b t.val c := by
  simp only [afterL_cons, afterL_nil]
  after_reads_at
  simp only [h, hw, hb, Nat.add_comm _ t.val]
  rfl

theorem xc (h : ∀ b (t : Fin 4096) c, (V main_v215 : Vec Ideal S8x4096x560 .f32) (ix3 b t c) = Layer.conv w x b t.val c) (b : Fin 8) (t : Fin 4096) (c : Fin 560) :
    (afterL siluOps V main_v216 : Vec Ideal S8x4096x560 .f32) (ix3 b t c) = Layer.xc w x b t.val c := by
  simp only [afterL_cons, afterL_nil]
  after_reads_at
  simp only [h]
  rfl

section Projections

variable (h : ∀ b (t : Fin 4096) c, (V main_v216 : Vec Ideal S8x4096x560 .f32) (ix3 b t c) = Layer.xc w x b t.val c) (hw : ∀ (e : Fin 50) (c : Fin 560), (V main_v169 : Vec Ideal S50x560 .f32) (ix2 e c) = w.xpw e c)
include h hw

theorem bmat (b : Fin 8) (t : Fin 4096) (n : Fin 16) : (afterL projOps V main_v219 : Vec Ideal S8x4096x16 .f32) (ix3 b t n) = Layer.bc w x b t.val ⟨n.val, by omega⟩ := by
  simp only [afterL_cons, afterL_nil]
  after_reads_at
  simp only [h, hw]
  rfl

theorem cmat (b : Fin 8) (t : Fin 4096) (n : Fin 16) : (afterL projOps V main_v220 : Vec Ideal S8x4096x16 .f32) (ix3 b t n) = Layer.bc w x b t.val ⟨16 + n.val, by omega⟩ := by
  simp only [afterL_cons, afterL_nil]
  after_reads_at
  simp only [h, hw, Layer.bc, Layer.proj, ← Nat.add_assoc]

theorem pre (hd : ∀ (c : Fin 560) (r : Fin 18), (V main_v171 : Vec Ideal S560x18 .f32) (ix2 c r) = w.dtw c r) (hb : ∀ (c : Fin 560), (V main_v173 : Vec Ideal S560 .f32) (ix1 c) = w.dtb c) (b : Fin 8) (t : Fin 4096) (c : Fin 560) :
    (afterL projOps V main_v224 : Vec Ideal S8x4096x560 .f32) (ix3 b t c) = Layer.pre w x b t.val c := by
  simp only [afterL_cons, afterL_nil]
  after_reads_at
  simp only [h, hw, hd, hb]
  rfl

end Projections

theorem dt (h : ∀ b (t : Fin 4096) c, (V main_v224 : Vec Ideal S8x4096x560 .f32) (ix3 b t c) = Layer.pre w x b t.val c) (b : Fin 8) (t : Fin 4096) (c : Fin 560) :
    (afterL softOps V main_v225 : Vec Ideal S8x4096x560 .f32) (ix3 b t c) = Layer.dt w x b t.val c := by
  rw [Layer.dt_eq]
  simp only [afterL_cons, afterL_nil]
  after_reads_at
  simp only [h]
  simp [Layer.softplus]

/-! ## What the loop starts from -/

theorem start_xc (b : Fin 8) (t : Fin 4096) (c : Fin 560) : (afterL preOps V main_v234_0 : Vec Ideal S4096x8x560 .f32) (ix3 t b c) = (V main_v216 : Vec Ideal S8x4096x560 .f32) (ix3 b t c) := by
  simp only [afterL_cons, afterL_nil]
  after_reads_simp
  simp only [id]
  pointwise

theorem start_dt (b : Fin 8) (t : Fin 4096) (c : Fin 560) : (afterL preOps V main_v234_1 : Vec Ideal S4096x8x560 .f32) (ix3 t b c) = (V main_v225 : Vec Ideal S8x4096x560 .f32) (ix3 b t c) := by
  simp only [afterL_cons, afterL_nil]
  after_reads_simp
  simp only [id]
  pointwise

theorem start_bmat (b : Fin 8) (t : Fin 4096) (n : Fin 16) : (afterL preOps V main_v234_2 : Vec Ideal S4096x8x16 .f32) (ix3 t b n) = (V main_v219 : Vec Ideal S8x4096x16 .f32) (ix3 b t n) := by
  simp only [afterL_cons, afterL_nil]
  after_reads_simp
  simp only [id]
  pointwise

theorem start_cmat (b : Fin 8) (t : Fin 4096) (n : Fin 16) : (afterL preOps V main_v234_3 : Vec Ideal S4096x8x16 .f32) (ix3 t b n) = (V main_v220 : Vec Ideal S8x4096x16 .f32) (ix3 b t n) := by
  simp only [afterL_cons, afterL_nil]
  after_reads_simp
  simp only [id]
  pointwise

theorem start_a (h : ∀ (c : Fin 560) (n : Fin 16), (V main_v175 : Vec Ideal S560x16 .f32) (ix2 c n) = w.alog c n) (c : Fin 560) (n : Fin 16) : (afterL preOps V main_v234_4 : Vec Ideal S560x16 .f32) (ix2 c n) = 0 - Ideal.exp (w.alog c n) := by
  simp only [afterL_cons, afterL_nil]
  after_reads_simp
  simp only [id]
  pointwise
  simp only [h]
  simp

theorem start_state (b : Fin 8) (c : Fin 560) (n : Fin 16) : (afterL preOps V main_v234_6 : Vec Ideal S8x560x16 .f32) (ix3 b c n) = (0 : EReal) := by
  simp only [afterL_cons, afterL_nil]
  after_reads_simp
  simp only [id]
  pointwise

/-- The buffers the loop only reads, and those the layer keeps for after it. -/
abbrev reads : List (Ref sig .tc) := [main_v234_0, main_v234_1, main_v234_2, main_v234_3, main_v234_4, main_v216, main_v182, main_v177, main_v179]

/-- What the loop only reads, and what the layer keeps for after it. -/
abbrev Inputs (w : Layer.Weights) (x : Layer.Act 280) (X : Valuation τ sig (Elt Ideal)) : Prop :=
  LoopInputs w x (X main_v234_0) (X main_v234_1) (X main_v234_2) (X main_v234_3) (X main_v234_4) (X main_v216) (X main_v182) (X main_v177) (X main_v179)

/-- Another valuation that holds the same buffers. -/
theorem Inputs.of_eq {X Y : Valuation τ sig (Elt Ideal)} (h : Inputs w x X) (e : ∀ r ∈ reads, Y r = X r) : Inputs w x Y :=
  LoopInputs.congr h (e main_v234_0 (by decide)) (e main_v234_1 (by decide)) (e main_v234_2 (by decide)) (e main_v234_3 (by decide)) (e main_v234_4 (by decide))
    (e main_v216 (by decide)) (e main_v182 (by decide)) (e main_v177 (by decide)) (e main_v179 (by decide))

/-- The loop's start. -/
theorem inputs (hx : ∀ b (t : Fin 4096) k, (E V main_v161 : Vec Ideal S8x4096x280 .f32) (ix3 b t k) = x b t.val k) :
    Inputs (ws V 2) x (preS V) := by
  have h19 := xin V hx (inw V)
  have h20 := gate V hx (inw V)
  have h21 := padded (E V) (zero V) h19
  have h53 := conv (padS V) h21 (fun c k => (congrFun (from_pad _ main_v165 (by decide)) _).trans (cw V c k)) (fun c => (congrFun (from_pad _ main_v167 (by decide)) _).trans (cb V c))
  have h54 := xc (convS V) h53
  have hx7 : ∀ (e : Fin 50) (c : Fin 560), ((siluS V) main_v169 : Vec Ideal S50x560 .f32) (ix2 e c) = (ws V 2).xpw e c := fun e c => (congrFun (from_silu _ main_v169 (by decide)) _).trans (xpw V e c)
  have h57 := bmat (siluS V) h54 hx7
  have h58 := cmat (siluS V) h54 hx7
  have h62 := pre (siluS V) h54 hx7 (fun c r => (congrFun (from_silu _ main_v171 (by decide)) _).trans (dtw V c r)) (fun c => (congrFun (from_silu _ main_v173 (by decide)) _).trans (dtb V c))
  have h63 := dt (projS V) h62
  exact {
    xc := fun b t c => (start_xc _ b t c).trans ((congrFun (proj_soft _ main_v216 (by decide)) _).trans (h54 b t c))
    dt := fun b t c => (start_dt _ b t c).trans (h63 b t c)
    bmat := fun b t n => (start_bmat _ b t n).trans ((congrFun (kept soft_writes main_v219 (by decide) _) _).trans (h57 b t n))
    cmat := fun b t n => (start_cmat _ b t n).trans ((congrFun (kept soft_writes main_v220 (by decide) _) _).trans (h58 b t n))
    a := start_a _ (fun c n => (congrFun (from_soft _ main_v175 (by decide)) _).trans (alog V c n))
    conv := fun b t c => (congrFun (proj_pre _ main_v216 (by decide)) _).trans (h54 b t c)
    gate := fun b t c => (congrFun (from_pre _ main_v182 (by decide)) _).trans (h20 b t c)
    skip := fun c => (congrFun (from_pre _ main_v177 (by decide)) _).trans (skip V c)
    ow := fun d c => (congrFun (from_pre _ main_v179 (by decide)) _).trans (ow V d c) }

/-! ## One trip -/

section Trip

variable {k : ℕ} (hk : k < 4096) (hi : (V main_v234_5 : Vec Ideal S_ .i32) = fun _ => Scf.iv 0#32 1#32 k)
include hk hi

theorem row_xc (b : Fin 8) (c : Fin 560) : (after body2_0 V main_while2b_v243 : Vec Ideal S8x560 .f32) (ix2 b c) = (V main_v234_0 : Vec Ideal S4096x8x560 .f32) (ix3 ⟨k, hk⟩ b c) := by
  after_reads_simp
  exact row560 (V main_v234_0) _ k hk (starts (start_of hi hk) rfl rfl) b c

theorem row_dt (b : Fin 8) (c : Fin 560) : (after body2_1 V main_while2b_v244 : Vec Ideal S8x560 .f32) (ix2 b c) = (V main_v234_1 : Vec Ideal S4096x8x560 .f32) (ix3 ⟨k, hk⟩ b c) := by
  after_reads_simp
  exact row560 (V main_v234_1) _ k hk (starts (start_of hi hk) rfl rfl) b c

theorem row_bmat (b : Fin 8) (c : Fin 16) : (after body2_2 V main_while2b_v245 : Vec Ideal S8x16 .f32) (ix2 b c) = (V main_v234_2 : Vec Ideal S4096x8x16 .f32) (ix3 ⟨k, hk⟩ b c) := by
  after_reads_simp
  exact row16 (V main_v234_2) _ k hk (starts (start_of hi hk) rfl rfl) b c

theorem row_cmat (b : Fin 8) (c : Fin 16) : (after body2_3 V main_while2b_v246 : Vec Ideal S8x16 .f32) (ix2 b c) = (V main_v234_3 : Vec Ideal S4096x8x16 .f32) (ix3 ⟨k, hk⟩ b c) := by
  after_reads_simp
  exact row16 (V main_v234_3) _ k hk (starts (start_of hi hk) rfl rfl) b c

theorem row_put (t : Fin 4096) (b : Fin 8) (c : Fin 560) : (after body2_5 V main_while2b_v262 : Vec Ideal S4096x8x560 .f32) (ix3 t b c)
    = if t.val = k then (V main_while2b_v261 : Vec Ideal S8x560 .f32) (ix2 b c) else (V main_v234_7 : Vec Ideal S4096x8x560 .f32) (ix3 t b c) := by
  after_reads_simp
  exact put560 (V main_v234_7) (V main_while2b_v261) _ k hk (starts (start_of hi hk) rfl rfl) t b c

end Trip

section Update

variable {k : ℕ} (hx : ∀ b c, (V main_while2b_v243 : Vec Ideal S8x560 .f32) (ix2 b c) = Layer.xc w x b k c)
  (hd : ∀ b c, (V main_while2b_v244 : Vec Ideal S8x560 .f32) (ix2 b c) = Layer.dt w x b k c)
  (hb : ∀ b (n : Fin 16), (V main_while2b_v245 : Vec Ideal S8x16 .f32) (ix2 b n) = Layer.bc w x b k ⟨n.val, by omega⟩)
  (ha : ∀ c n, (V main_v234_4 : Vec Ideal S560x16 .f32) (ix2 c n) = 0 - Ideal.exp (w.alog c n))
  (hh : ∀ b c n, (V main_v234_6 : Vec Ideal S8x560x16 .f32) (ix3 b c n) = Layer.state w x b k n c)
include hx hd hb ha hh

theorem next_state (b : Fin 8) (c : Fin 560) (n : Fin 16) : (after body2_4 V main_while2b_v260 : Vec Ideal S8x560x16 .f32) (ix3 b c n) = Layer.state w x b (k + 1) n c := by
  after_reads_at
  simp only [hx, hd, hb, ha, hh]
  rfl

theorem next_y (hc : ∀ b (n : Fin 16), (V main_while2b_v246 : Vec Ideal S8x16 .f32) (ix2 b n) = Layer.bc w x b k ⟨16 + n.val, by omega⟩) (b : Fin 8) (c : Fin 560) :
    (after body2_4 V main_while2b_v261 : Vec Ideal S8x560 .f32) (ix2 b c) = Layer.y w x b k c := by
  have e : (after body2_4 V main_while2b_v261 : Vec Ideal S8x560 .f32)
      = Host.dotGeneral (F := Ideal) (φ₁ := .f32) (φ₂ := .f32) dot_S8x560x16_S8x16_S8x560_2_1_1_n_0_0 none (after body2_4 V main_while2b_v260) (V main_while2b_v246) := by
    after_results
  refine (congrFun e _).trans ?_
  pointwise
  simp only [next_state V hx hd hb ha hh, hc]
  show (∑ n : Fin 16, Layer.state w x b (k + 1) n c * Layer.bc w x b k ⟨16 + n.val, by omega⟩ : EReal) = Layer.y w x b k c
  exact Finset.sum_congr rfl fun n _ => EReal.mul_comm _ _

end Update

/-- One trip: the next state, and the trip's row of the output. -/
theorem trip {Y : Valuation τ sig (Elt Ideal)} (h : Inputs w x Y) {k : ℕ} (hk : k < 4096)
    (hi : (Y main_v234_5 : Vec Ideal S_ .i32) = fun _ => Scf.iv 0#32 1#32 k)
    (hh : ∀ b c n, (Y main_v234_6 : Vec Ideal S8x560x16 .f32) (ix3 b c n) = Layer.state w x b k n c) :
    (∀ b c n, (afterL loop2 Y main_v234_6 : Vec Ideal S8x560x16 .f32) (ix3 b c n) = Layer.state w x b (k + 1) n c)
    ∧ ∀ (t : Fin 4096) b c, (afterL loop2 Y main_v234_7 : Vec Ideal S4096x8x560 .f32) (ix3 t b c) = if t.val = k then Layer.y w x b k c else (Y main_v234_7 : Vec Ideal S4096x8x560 .f32) (ix3 t b c) := by
  have h43 : ∀ b c, ((B3 Y) main_while2b_v243 : Vec Ideal S8x560 .f32) (ix2 b c) = Layer.xc w x b k c := fun b c =>
    (congrFun (B0_B3 _ main_while2b_v243 (by decide)) _).trans ((row_xc Y hk hi b c).trans (h.xc b ⟨k, hk⟩ c))
  have h44 : ∀ b c, ((B3 Y) main_while2b_v244 : Vec Ideal S8x560 .f32) (ix2 b c) = Layer.dt w x b k c := fun b c =>
    (congrFun (B1_B3 _ main_while2b_v244 (by decide)) _).trans ((row_dt (B0 Y) hk ((to_B0 _ main_v234_5 (by decide)).trans hi) b c).trans
      ((congrFun (to_B0 _ main_v234_1 (by decide)) _).trans (h.dt b ⟨k, hk⟩ c)))
  have h45 : ∀ b (n : Fin 16), ((B3 Y) main_while2b_v245 : Vec Ideal S8x16 .f32) (ix2 b n) = Layer.bc w x b k ⟨n.val, by omega⟩ := fun b n =>
    (congrFun (B2_B3 _ main_while2b_v245 (by decide)) _).trans ((row_bmat (B1 Y) hk ((to_B1 _ main_v234_5 (by decide)).trans hi) b n).trans
      ((congrFun (to_B1 _ main_v234_2 (by decide)) _).trans (h.bmat b ⟨k, hk⟩ n)))
  have h46 : ∀ b (n : Fin 16), ((B3 Y) main_while2b_v246 : Vec Ideal S8x16 .f32) (ix2 b n) = Layer.bc w x b k ⟨16 + n.val, by omega⟩ := fun b n =>
    (row_cmat (B2 Y) hk ((to_B2 _ main_v234_5 (by decide)).trans hi) b n).trans
      ((congrFun (to_B2 _ main_v234_3 (by decide)) _).trans (h.cmat b ⟨k, hk⟩ n))
  have ha : ∀ c n, ((B3 Y) main_v234_4 : Vec Ideal S560x16 .f32) (ix2 c n) = 0 - Ideal.exp (w.alog c n) := fun c n =>
    (congrFun (to_B3 _ main_v234_4 (by decide)) _).trans (h.a c n)
  have h6 : ∀ b c n, ((B3 Y) main_v234_6 : Vec Ideal S8x560x16 .f32) (ix3 b c n) = Layer.state w x b k n c := fun b c n =>
    (congrFun (to_B3 _ main_v234_6 (by decide)) _).trans (hh b c n)
  have hs := next_state (B3 Y) h43 h44 h45 ha h6
  have hy := next_y (B3 Y) h43 h44 h45 ha h6 h46
  have e6 : ∀ Z : Valuation τ sig (Elt Ideal), (after body2_6 Z main_v234_6 : Vec Ideal S8x560x16 .f32) = Z main_while2b_v260 := fun Z => by
    after_results
    rfl
  have e7 : ∀ Z : Valuation τ sig (Elt Ideal), (after body2_6 Z main_v234_7 : Vec Ideal S4096x8x560 .f32) = Z main_while2b_v262 := fun Z => by
    after_results
    rfl
  constructor
  · intro b c n
    exact (congrFun ((e6 (B5 Y)).trans (B4_B5 _ main_while2b_v260 (by decide))) _).trans (hs b c n)
  · intro t b c
    refine (congrFun (e7 (B5 Y)) _).trans ((row_put (B4 Y) hk ((to_B4 _ main_v234_5 (by decide)).trans hi) t b c).trans ?_)
    refine if_congr Iff.rfl (hy b c) (congrFun (to_B4 _ main_v234_7 (by decide)) _)

/-! ## The loop -/

variable (m : (ℓ : Loc nD τ sig) → Buf (Elt Ideal) ℓ) (c : Dev nD)

/-- The loop's inputs are the same at every trip. -/
theorem inputs_at (h : Inputs w x (R5 m c)) (k : ℕ) : Inputs w x (atTrip cond2 loop2 (R5 m) k c) :=
  Inputs.of_eq h fun r hr => kept_trips cond2_writes loop2_writes r
    ((by decide : ∀ r ∈ reads, r ∉ cond2_W) r hr)
    ((by decide : ∀ r ∈ reads, ∀ W ∈ loop2_W, r ∉ W) r hr) (R5 m) c k

/-- The test writes none of the carried buffers. -/
theorem test_keeps (X : Valuation τ sig (Elt Ideal)) (r : Ref sig .tc) (hr : r ∉ cond2_W) : after cond2 X r = X r :=
  after_of_writes_sub cond2 X cond2_writes hr

/-- The carried state, and the output's rows so far. -/
theorem carried (h : Inputs w x (R5 m c)) (h0 : ∀ b d n, (R5 m c main_v234_6 : Vec Ideal S8x560x16 .f32) (ix3 b d n) = (0 : EReal)) :
    ∀ k ≤ 4096, (∀ b d n, (atTrip cond2 loop2 (R5 m) k c main_v234_6 : Vec Ideal S8x560x16 .f32) (ix3 b d n) = Layer.state w x b k n d)
      ∧ ∀ (t : Fin 4096) b d, t.val < k → (atTrip cond2 loop2 (R5 m) k c main_v234_7 : Vec Ideal S4096x8x560 .f32) (ix3 t b d) = Layer.y w x b t.val d :=
  recurrence h0 fun k hk hs => by
    have hY : Inputs w x (after cond2 (atTrip cond2 loop2 (R5 m) k c)) := Inputs.of_eq (inputs_at m c h k) fun r hr => test_keeps _ r
      ((by decide : ∀ r ∈ reads, r ∉ cond2_W) r hr)
    obtain ⟨hs', hy'⟩ := trip hY hk ((test_keeps _ main_v234_5 (by decide)).trans (ctr2 m c k))
      (fun b d n => (congrFun (test_keeps _ main_v234_6 (by decide)) _).trans (hs b d n))
    rw [atTrip_succ]
    exact ⟨hs', fun t b d => (hy' t b d).trans (if_congr Iff.rfl rfl (congrFun (test_keeps _ main_v234_7 (by decide)) _))⟩

/-! ## After the loop -/

theorem skipped (hy : ∀ b (t : Fin 4096) c, (V main_v234_7 : Vec Ideal S4096x8x560 .f32) (ix3 t b c) = Layer.y w x b t.val c) (hc : ∀ b (t : Fin 4096) c, (V main_v216 : Vec Ideal S8x4096x560 .f32) (ix3 b t c) = Layer.xc w x b t.val c)
    (hs : ∀ (c : Fin 560), (V main_v177 : Vec Ideal S560 .f32) (ix1 c) = w.skip c) (b : Fin 8) (t : Fin 4096) (c : Fin 560) : (afterL skipOps V main_v239 : Vec Ideal S8x4096x560 .f32) (ix3 b t c) = Layer.ys w x b t.val c := by
  simp only [afterL_cons, afterL_nil]
  after_reads_at
  simp only [hy, hc, hs]
  rfl

theorem gated (h : ∀ b (t : Fin 4096) c, (V main_v182 : Vec Ideal S8x4096x560 .f32) (ix3 b t c) = Layer.gate w x b t.val c) (b : Fin 8) (t : Fin 4096) (c : Fin 560) :
    (afterL szOps V main_v240 : Vec Ideal S8x4096x560 .f32) (ix3 b t c) = Layer.silu (Layer.gate w x b t.val c) := by
  simp only [afterL_cons, afterL_nil]
  after_reads_at
  simp only [h]
  rfl

theorem result (hy : ∀ b (t : Fin 4096) c, (V main_v239 : Vec Ideal S8x4096x560 .f32) (ix3 b t c) = Layer.ys w x b t.val c) (hg : ∀ b (t : Fin 4096) c, (V main_v240 : Vec Ideal S8x4096x560 .f32) (ix3 b t c) = Layer.silu (Layer.gate w x b t.val c))
    (ho : ∀ (d : Fin 280) (c : Fin 560), (V main_v179 : Vec Ideal S280x560 .f32) (ix2 d c) = w.ow d c) (b : Fin 8) (t : Fin 4096) (d : Fin 280) : (after part4_7 V main_v242 : Vec Ideal S8x4096x280 .f32) (ix3 b t d) = Layer.out w x b t.val d := by
  after_reads_at
  simp only [hy, hg, ho]
  rfl

/-- The layer's output. -/
theorem output (h : Inputs w x (R5 m c)) (h0 : ∀ b d n, (R5 m c main_v234_6 : Vec Ideal S8x560x16 .f32) (ix3 b d n) = (0 : EReal)) (b : Fin 8) (t : Fin 4096) (d : Fin 280) :
    (after part4_7 (afterL szOps (afterL skipOps (R6 m c))) main_v242 : Vec Ideal S8x4096x280 .f32) (ix3 b t d) = Layer.out w x b t.val d := by
  have hX := inputs_at m c h 4096
  have hE : Inputs w x (R6 m c) := Inputs.of_eq hX fun r hr => test_keeps _ r
    ((by decide : ∀ r ∈ reads, r ∉ cond2_W) r hr)
  have hy := skipped (R6 m c) (fun b t c' => (congrFun (test_keeps _ main_v234_7 (by decide)) _).trans ((carried m c h h0 4096 (le_refl _)).2 t b c' t.isLt)) hE.conv hE.skip
  have hg := gated (afterL skipOps (R6 m c)) (fun b t c' => (congrFun (kept skip_writes main_v182 (by decide) _) _).trans (hE.gate b t c'))
  exact result _ (fun b t c' => (congrFun (kept sz_writes main_v239 (by decide) _) _).trans (hy b t c')) hg
    (fun d c' => (congrFun ((kept sz_writes main_v179 (by decide) _).trans (kept skip_writes main_v179 (by decide) _)) _).trans (hE.ow d c')) b t d

end Layer2

end Cert.ReferenceIdeal.Run

end
-- ==== Proof.RefValue.lean ====
/- What the reference program computes, as a function of its arguments. -/
module

public import proofs.«01_k».proof.Proof.RefLayer0
public import proofs.«01_k».proof.Proof.RefLayer1
public import proofs.«01_k».proof.Proof.RefLayer2

@[expose] public section

set_option maxRecDepth 16384

noncomputable section

namespace Cert.ReferenceIdeal.Run

open Idealize.ShloMosaic Idealize.ShloMosaic.TcCoe Idealize.ShloMosaic.StableHlo
open Cert.ReferenceIdeal.Gen

variable (m : (ℓ : Loc nD τ sig) → Buf (Elt Ideal) ℓ) (c : Dev nD)

/-- The buffers when the first layer's gate has been applied, -/
abbrev V1 : Valuation τ sig (Elt Ideal) := afterL Layer0.szOps (afterL Layer0.skipOps (R2 m c))
/-- and the second's. -/
abbrev V2 : Valuation τ sig (Elt Ideal) := afterL Layer1.szOps (afterL Layer1.skipOps (R4 m c))

theorem untouched : ∀ r ∈ args, Untouched r := by decide +kernel

theorem same_1 : Same (V1 m c) (launchContents m c) := fun r hr => by
  obtain ⟨⟨hp, h1, -, -⟩, ⟨c0, l0⟩, -, -, -⟩ := untouched r hr
  rw [V1, kept Layer0.sz_writes r (fun W hW => h1 W (by revert W; decide)), kept Layer0.skip_writes r (fun W hW => h1 W (by revert W; decide)), R2,
    after_of_writes_sub cond0 _ cond0_writes c0, kept_trips cond0_writes loop0_writes r c0 l0, R1, kept pre0_writes r hp]

theorem same_2 : Same (V2 m c) (launchContents m c) := fun r hr => by
  obtain ⟨⟨hp, h1, h2, -⟩, ⟨c0, l0⟩, ⟨c1, l1⟩, -, -⟩ := untouched r hr
  rw [V2, kept Layer1.sz_writes r (fun W hW => h2 W (by revert W; decide)), kept Layer1.skip_writes r (fun W hW => h2 W (by revert W; decide)), R4,
    after_of_writes_sub cond1 _ cond1_writes c1, kept_trips cond1_writes loop1_writes r c1 l1, R3, kept mid1_writes r h1, R2,
    after_of_writes_sub cond0 _ cond0_writes c0, kept_trips cond0_writes loop0_writes r c0 l0, R1, kept pre0_writes r hp]

/-! The loops' starts, layer by layer. -/

theorem start_0 : R1 m c = afterL Layer0.preOps (afterL Layer0.softOps (afterL Layer0.projOps (afterL Layer0.siluOps (afterL Layer0.convOps (afterL Layer0.padOps (after part0_0 (launchContents m c))))))) := by
  simp only [R1, afterL_cons, afterL_nil]

theorem start_1 : R3 m c = afterL Layer1.preOps (afterL Layer1.softOps (afterL Layer1.projOps (afterL Layer1.siluOps (afterL Layer1.convOps (afterL Layer1.padOps (after part1_5 (V1 m c))))))) := by
  simp only [R3, afterL_cons, afterL_nil]

theorem start_2 : R5 m c = afterL Layer2.preOps (afterL Layer2.softOps (afterL Layer2.projOps (afterL Layer2.siluOps (afterL Layer2.convOps (afterL Layer2.padOps (after part3_2 (V2 m c))))))) := by
  simp only [R5, afterL_cons, afterL_nil]

theorem end_2 : R7 m c = after part4_7 (afterL Layer2.szOps (afterL Layer2.skipOps (R6 m c))) := by
  simp only [R7, afterL_cons, afterL_nil]

/-- The input. -/
abbrev x0 : Layer.Act 280 := Layer.act (launchContents m c main_arg0)
/-- The arguments' weights. -/
abbrev W0 : Fin 3 → Layer.Weights := ws (launchContents m c)

theorem layer_0 (b : Fin 8) (t : Fin 4096) (d : Fin 280) :
    (after part1_5 (V1 m c) main_v80 : Vec Ideal S8x4096x280 .f32) (ix3 b t d) = Layer.out (W0 m c 0) (x0 m c) b t.val d := by
  have h : Layer0.Inputs (W0 m c 0) (x0 m c) (R1 m c) := by
    rw [start_0]
    exact Layer0.inputs (launchContents m c) (x := x0 m c) fun b t k =>
      (congrFun (after_of_writes_sub part0_0 _ part0_0_writes (r := main_arg0) (by decide)) _).trans (Layer.act_at _ b t k).symm
  exact Layer0.output m c h (fun b d n => by rw [start_0]; exact Layer0.start_state _ b d n) b t d

theorem layer_1 (b : Fin 8) (t : Fin 4096) (d : Fin 280) :
    (after part3_2 (V2 m c) main_v161 : Vec Ideal S8x4096x280 .f32) (ix3 b t d) = Layer.out (W0 m c 1) (Layer.out (W0 m c 0) (x0 m c)) b t.val d := by
  have h : Layer1.Inputs (ws (V1 m c) 1) (Layer.out (W0 m c 0) (x0 m c)) (R3 m c) := by
    rw [start_1]
    exact Layer1.inputs (V1 m c) (layer_0 m c)
  rw [ws_congr (same_1 m c)] at h
  exact Layer1.output m c h (fun b d n => by rw [start_1]; exact Layer1.start_state _ b d n) b t d

/-- The reference's output is the three layers' of its arguments. -/
theorem value (b : Fin 8) (t : Fin 4096) (d : Fin 280) :
    (R7 m c main_v242 : Vec Ideal S8x4096x280 .f32) (ix3 b t d) = Layer.net (x0 m c) (W0 m c) b t.val d := by
  have h : Layer2.Inputs (ws (V2 m c) 2) (Layer.out (W0 m c 1) (Layer.out (W0 m c 0) (x0 m c))) (R5 m c) := by
    rw [start_2]
    exact Layer2.inputs (V2 m c) (layer_1 m c)
  rw [ws_congr (same_2 m c)] at h
  rw [end_2]
  exact Layer2.output m c h (fun b d n => by rw [start_2]; exact Layer2.start_state _ b d n) b t d

end Cert.ReferenceIdeal.Run

end
-- ==== Proof.Algebraic.lean ====
/- The two programs compute the same: each one's output is the three layers' of its arguments. -/
module

public import proofs.«01_k».proof.Defs
public import proofs.«01_k».proof.Proof.KerValue
public import proofs.«01_k».proof.Proof.RefValue

@[expose] public section

set_option maxRecDepth 16384

noncomputable section

namespace Cert.Proof

open Idealize.ShloMosaic Idealize.ShloMosaic.TcCoe Idealize.SL.Sem

/-- Two arrays that agree at every batch, time and channel. -/
theorem ext3 {n0 n1 n2 : ℕ} {f g : (⟨3, ![n0, n1, n2]⟩ : Shape).Idx → EReal} (h : ∀ a b c, f (ix3 a b c) = g (ix3 a b c)) : f = g := by
  funext i
  rw [← ix3_eta i]
  exact h _ _ _

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

theorem kernel_args (c : Dev Cert.KernelIdeal.nD) {μ : (ℓ : Loc Cert.KernelIdeal.nD Cert.KernelIdeal.τ Cert.KernelIdeal.sig) → Buf (Elt Ideal) ℓ}
    (h : ∀ b : Ref Cert.KernelIdeal.sig .tc, (Proc.devRef (τ := Cert.KernelIdeal.τ) .tc b).isScoped = false →
      μ ((c.tc : Thread Cert.KernelIdeal.nD Cert.KernelIdeal.τ).loc b) = Cert.KernelIdeal.Run.U12 m c b) :
    ∀ b ∈ Cert.KernelIdeal.Run.args, μ ((c.tc : Thread Cert.KernelIdeal.nD Cert.KernelIdeal.τ).loc b) = m ((c.tc : Thread Cert.KernelIdeal.nD Cert.KernelIdeal.τ).loc b) :=
  fun b hb => (h b ((by decide : ∀ b ∈ Cert.KernelIdeal.Run.args, (Proc.devRef (τ := Cert.KernelIdeal.τ) .tc b).isScoped = false) b hb)).trans
    (Cert.KernelIdeal.Run.U12_of m c b ((by decide +kernel : ∀ b ∈ Cert.KernelIdeal.Run.args, ∀ l ∈ Cert.KernelIdeal.Run.written, b ∉ l) b hb))

theorem reference_args (c : Dev Cert.ReferenceIdeal.nD) {μ : (ℓ : Loc Cert.ReferenceIdeal.nD Cert.ReferenceIdeal.τ Cert.ReferenceIdeal.sig) → Buf (Elt Ideal) ℓ}
    (h : ∀ b : Ref Cert.ReferenceIdeal.sig .tc, (Proc.devRef (τ := Cert.ReferenceIdeal.τ) .tc b).isScoped = false →
      μ ((c.tc : Thread Cert.ReferenceIdeal.nD Cert.ReferenceIdeal.τ).loc b) = Cert.ReferenceIdeal.Run.R7 m' c b) :
    ∀ b ∈ Cert.ReferenceIdeal.Run.args, μ ((c.tc : Thread Cert.ReferenceIdeal.nD Cert.ReferenceIdeal.τ).loc b) = m' ((c.tc : Thread Cert.ReferenceIdeal.nD Cert.ReferenceIdeal.τ).loc b) :=
  fun b hb => (h b ((by decide : ∀ b ∈ Cert.ReferenceIdeal.Run.args, (Proc.devRef (τ := Cert.ReferenceIdeal.τ) .tc b).isScoped = false) b hb)).trans
    (Cert.ReferenceIdeal.Run.R7_of m' c b (Cert.ReferenceIdeal.Run.untouched b hb))

theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Run.U12 m c Cert.KernelIdeal.main_v0, ?_, ?_⟩
  · refine (θ_run _ _ _).mono (fun r h c => ?_) (Cert.KernelIdeal.Run.run m g)
    have k := kernel_args m c (h.1 c)
    exact ⟨h.1 c _ rfl, k _ (by decide), k _ (by decide), k _ (by decide), k _ (by decide), k _ (by decide), k _ (by decide), k _ (by decide),
      k _ (by decide), k _ (by decide), k _ (by decide)⟩
  · refine (θ_run _ _ _).mono (fun r h c => ?_) (Cert.ReferenceIdeal.Run.run m' g')
    have k := reference_args m' c (h.1 c)
    refine ⟨(h.1 c _ rfl).trans ?_, k _ (by decide), k _ (by decide), k _ (by decide), k _ (by decide), k _ (by decide), k _ (by decide), k _ (by decide),
      k _ (by decide), k _ (by decide), k _ (by decide)⟩
    obtain ⟨h0, h1, h2, h3, h4, h5, h6, h7, h8, h9⟩ := hargs c
    have hx : Cert.ReferenceIdeal.Run.x0 m' c = Cert.KernelIdeal.Run.x0 m c := congrArg Layer.act h0
    have hw : Cert.ReferenceIdeal.Run.W0 m' c = Cert.KernelIdeal.Run.ws (Cert.KernelIdeal.Gen.V0 m c) := Layer.weights_congr h1 h2 h3 h4 h5 h6 h7 h8 h9
    exact ext3 (n0 := 8) (n1 := 4096) (n2 := 280) fun b t d =>
      (Cert.ReferenceIdeal.Run.value m' c b t d).trans (by rw [hx, hw]; exact (Cert.KernelIdeal.Run.value m c b t d).symm)

end Cert.Proof

end
-- ==== Proof.lean ====
/- The certificate's claim: every conjunct, from the runs of the programs. -/
module

public import proofs.«01_k».proof.Defs
public import proofs.«01_k».proof.Proof.Run
public import proofs.«01_k».proof.Proof.Compiled.Run
public import proofs.«01_k».proof.Proof.RefRun
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  fun m g _ => Cert.Kernel.Run.frame m g, fun m g _ => Cert.KernelIdeal.Run.frame m g,
    fun m g _ => Cert.ReferenceIdeal.Run.frame m g, trivial, algebraic⟩

end Cert.Proof

end
